-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_and_keys [hPre_finite_queries_and_keys : Cert.Pre_finite_queries_and_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_queries_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_and_keys [hPre_finite_queries_and_keys : Cert.Pre_finite_queries_and_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnAll (m : (ℓ : Loc Cert.FfnAll.nD Cert.FfnAll.τ Cert.FfnAll.sig) → Buf (Elt Bits) ℓ) : Prop :=
  True

def Pre_FfnAllIdeal (m : (ℓ : Loc Cert.FfnAllIdeal.nD Cert.FfnAllIdeal.τ Cert.FfnAllIdeal.sig) → Buf (Elt Ideal) ℓ) : Prop :=
  True

def Pre_FfnAllRefIdeal (m : (ℓ : Loc Cert.FfnAllRefIdeal.nD Cert.FfnAllRefIdeal.τ Cert.FfnAllRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_MlstmOut (m : (ℓ : Loc Cert.MlstmOut.nD Cert.MlstmOut.τ Cert.MlstmOut.sig) → Buf (Elt Bits) ℓ) : Prop :=
  True

def Pre_MlstmOutIdeal (m : (ℓ : Loc Cert.MlstmOutIdeal.nD Cert.MlstmOutIdeal.τ Cert.MlstmOutIdeal.sig) → Buf (Elt Ideal) ℓ) : Prop :=
  True

def Pre_MlstmOutRefIdeal (m : (ℓ : Loc Cert.MlstmOutRefIdeal.nD Cert.MlstmOutRefIdeal.τ Cert.MlstmOutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_queries_and_keys [hAttnIdeal : Cert.AttnIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_and_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_queries_and_keys [hAttnRefIdeal : Cert.AttnRefIdeal.Facts] [hPre_finite_queries_and_keys : Cert.Pre_finite_queries_and_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_and_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnAll [hFfnAll : Cert.FfnAll.Facts] : Prop :=
  ∀ (m : (ℓ : Loc Cert.FfnAll.nD Cert.FfnAll.τ Cert.FfnAll.sig) → Buf (Elt Bits) ℓ) (g : Dev Cert.FfnAll.nD → PrngReg), Pre_FfnAll m →
    θ_run (Cert.FfnAll.defs (F := Bits)) (onTc (τ := Cert.FfnAll.τ) (Cert.FfnAll.main (F := Bits))) ⟨m, fun _ => 0, g⟩ (fun r => (∀ c : Dev Cert.FfnAll.nD,
      r.2.mem ((c.tc : Thread Cert.FfnAll.nD Cert.FfnAll.τ).loc Cert.FfnAll.main_arg0) = m ((c.tc : Thread Cert.FfnAll.nD Cert.FfnAll.τ).loc Cert.FfnAll.main_arg0)
      ∧ r.2.mem ((c.tc : Thread Cert.FfnAll.nD Cert.FfnAll.τ).loc Cert.FfnAll.main_arg1) = m ((c.tc : Thread Cert.FfnAll.nD Cert.FfnAll.τ).loc Cert.FfnAll.main_arg1)
      ∧ r.2.mem ((c.tc : Thread Cert.FfnAll.nD Cert.FfnAll.τ).loc Cert.FfnAll.main_arg2) = m ((c.tc : Thread Cert.FfnAll.nD Cert.FfnAll.τ).loc Cert.FfnAll.main_arg2)
      ∧ r.2.mem ((c.tc : Thread Cert.FfnAll.nD Cert.FfnAll.τ).loc Cert.FfnAll.main_arg3) = m ((c.tc : Thread Cert.FfnAll.nD Cert.FfnAll.τ).loc Cert.FfnAll.main_arg3)
      ∧ r.2.mem ((c.tc : Thread Cert.FfnAll.nD Cert.FfnAll.τ).loc Cert.FfnAll.main_arg4) = m ((c.tc : Thread Cert.FfnAll.nD Cert.FfnAll.τ).loc Cert.FfnAll.main_arg4)
      ∧ r.2.mem ((c.tc : Thread Cert.FfnAll.nD Cert.FfnAll.τ).loc Cert.FfnAll.main_arg5) = m ((c.tc : Thread Cert.FfnAll.nD Cert.FfnAll.τ).loc Cert.FfnAll.main_arg5))
      ∧ r.2.sem = fun _ => 0)

def quiescent_FfnAllIdeal [hFfnAllIdeal : Cert.FfnAllIdeal.Facts] : Prop :=
  ∀ (m : (ℓ : Loc Cert.FfnAllIdeal.nD Cert.FfnAllIdeal.τ Cert.FfnAllIdeal.sig) → Buf (Elt Ideal) ℓ) (g : Dev Cert.FfnAllIdeal.nD → PrngReg), Pre_FfnAllIdeal m →
    θ_run (Cert.FfnAllIdeal.defs (F := Ideal)) (onTc (τ := Cert.FfnAllIdeal.τ) (Cert.FfnAllIdeal.main (F := Ideal))) ⟨m, fun _ => 0, g⟩ (fun r => (∀ c : Dev Cert.FfnAllIdeal.nD,
      r.2.mem ((c.tc : Thread Cert.FfnAllIdeal.nD Cert.FfnAllIdeal.τ).loc Cert.FfnAllIdeal.main_arg0) = m ((c.tc : Thread Cert.FfnAllIdeal.nD Cert.FfnAllIdeal.τ).loc Cert.FfnAllIdeal.main_arg0)
      ∧ r.2.mem ((c.tc : Thread Cert.FfnAllIdeal.nD Cert.FfnAllIdeal.τ).loc Cert.FfnAllIdeal.main_arg1) = m ((c.tc : Thread Cert.FfnAllIdeal.nD Cert.FfnAllIdeal.τ).loc Cert.FfnAllIdeal.main_arg1)
      ∧ r.2.mem ((c.tc : Thread Cert.FfnAllIdeal.nD Cert.FfnAllIdeal.τ).loc Cert.FfnAllIdeal.main_arg2) = m ((c.tc : Thread Cert.FfnAllIdeal.nD Cert.FfnAllIdeal.τ).loc Cert.FfnAllIdeal.main_arg2)
      ∧ r.2.mem ((c.tc : Thread Cert.FfnAllIdeal.nD Cert.FfnAllIdeal.τ).loc Cert.FfnAllIdeal.main_arg3) = m ((c.tc : Thread Cert.FfnAllIdeal.nD Cert.FfnAllIdeal.τ).loc Cert.FfnAllIdeal.main_arg3)
      ∧ r.2.mem ((c.tc : Thread Cert.FfnAllIdeal.nD Cert.FfnAllIdeal.τ).loc Cert.FfnAllIdeal.main_arg4) = m ((c.tc : Thread Cert.FfnAllIdeal.nD Cert.FfnAllIdeal.τ).loc Cert.FfnAllIdeal.main_arg4)
      ∧ r.2.mem ((c.tc : Thread Cert.FfnAllIdeal.nD Cert.FfnAllIdeal.τ).loc Cert.FfnAllIdeal.main_arg5) = m ((c.tc : Thread Cert.FfnAllIdeal.nD Cert.FfnAllIdeal.τ).loc Cert.FfnAllIdeal.main_arg5))
      ∧ r.2.sem = fun _ => 0)

def quiescent_FfnAllRefIdeal [hFfnAllRefIdeal : Cert.FfnAllRefIdeal.Facts] : Prop :=
  ∀ (m : (ℓ : Loc Cert.FfnAllRefIdeal.nD Cert.FfnAllRefIdeal.τ Cert.FfnAllRefIdeal.sig) → Buf (Elt Ideal) ℓ) (g : Dev Cert.FfnAllRefIdeal.nD → PrngReg), Pre_FfnAllRefIdeal m →
    θ_run (Cert.FfnAllRefIdeal.defs (F := Ideal)) (onTc (τ := Cert.FfnAllRefIdeal.τ) (Cert.FfnAllRefIdeal.main (F := Ideal))) ⟨m, fun _ => 0, g⟩ (fun r => (∀ c : Dev Cert.FfnAllRefIdeal.nD,
      r.2.mem ((c.tc : Thread Cert.FfnAllRefIdeal.nD Cert.FfnAllRefIdeal.τ).loc Cert.FfnAllRefIdeal.main_arg0) = m ((c.tc : Thread Cert.FfnAllRefIdeal.nD Cert.FfnAllRefIdeal.τ).loc Cert.FfnAllRefIdeal.main_arg0)
      ∧ r.2.mem ((c.tc : Thread Cert.FfnAllRefIdeal.nD Cert.FfnAllRefIdeal.τ).loc Cert.FfnAllRefIdeal.main_arg1) = m ((c.tc : Thread Cert.FfnAllRefIdeal.nD Cert.FfnAllRefIdeal.τ).loc Cert.FfnAllRefIdeal.main_arg1)
      ∧ r.2.mem ((c.tc : Thread Cert.FfnAllRefIdeal.nD Cert.FfnAllRefIdeal.τ).loc Cert.FfnAllRefIdeal.main_arg2) = m ((c.tc : Thread Cert.FfnAllRefIdeal.nD Cert.FfnAllRefIdeal.τ).loc Cert.FfnAllRefIdeal.main_arg2)
      ∧ r.2.mem ((c.tc : Thread Cert.FfnAllRefIdeal.nD Cert.FfnAllRefIdeal.τ).loc Cert.FfnAllRefIdeal.main_arg3) = m ((c.tc : Thread Cert.FfnAllRefIdeal.nD Cert.FfnAllRefIdeal.τ).loc Cert.FfnAllRefIdeal.main_arg3)
      ∧ r.2.mem ((c.tc : Thread Cert.FfnAllRefIdeal.nD Cert.FfnAllRefIdeal.τ).loc Cert.FfnAllRefIdeal.main_arg4) = m ((c.tc : Thread Cert.FfnAllRefIdeal.nD Cert.FfnAllRefIdeal.τ).loc Cert.FfnAllRefIdeal.main_arg4)
      ∧ r.2.mem ((c.tc : Thread Cert.FfnAllRefIdeal.nD Cert.FfnAllRefIdeal.τ).loc Cert.FfnAllRefIdeal.main_arg5) = m ((c.tc : Thread Cert.FfnAllRefIdeal.nD Cert.FfnAllRefIdeal.τ).loc Cert.FfnAllRefIdeal.main_arg5))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_MlstmOut [hMlstmOut : Cert.MlstmOut.Facts] : Prop :=
  ∀ (m : (ℓ : Loc Cert.MlstmOut.nD Cert.MlstmOut.τ Cert.MlstmOut.sig) → Buf (Elt Bits) ℓ) (g : Dev Cert.MlstmOut.nD → PrngReg), Pre_MlstmOut m →
    θ_run (Cert.MlstmOut.defs (F := Bits)) (onTc (τ := Cert.MlstmOut.τ) (Cert.MlstmOut.main (F := Bits))) ⟨m, fun _ => 0, g⟩ (fun r => (∀ c : Dev Cert.MlstmOut.nD,
      r.2.mem ((c.tc : Thread Cert.MlstmOut.nD Cert.MlstmOut.τ).loc Cert.MlstmOut.main_arg0) = m ((c.tc : Thread Cert.MlstmOut.nD Cert.MlstmOut.τ).loc Cert.MlstmOut.main_arg0)
      ∧ r.2.mem ((c.tc : Thread Cert.MlstmOut.nD Cert.MlstmOut.τ).loc Cert.MlstmOut.main_arg1) = m ((c.tc : Thread Cert.MlstmOut.nD Cert.MlstmOut.τ).loc Cert.MlstmOut.main_arg1)
      ∧ r.2.mem ((c.tc : Thread Cert.MlstmOut.nD Cert.MlstmOut.τ).loc Cert.MlstmOut.main_arg2) = m ((c.tc : Thread Cert.MlstmOut.nD Cert.MlstmOut.τ).loc Cert.MlstmOut.main_arg2)
      ∧ r.2.mem ((c.tc : Thread Cert.MlstmOut.nD Cert.MlstmOut.τ).loc Cert.MlstmOut.main_arg3) = m ((c.tc : Thread Cert.MlstmOut.nD Cert.MlstmOut.τ).loc Cert.MlstmOut.main_arg3)
      ∧ r.2.mem ((c.tc : Thread Cert.MlstmOut.nD Cert.MlstmOut.τ).loc Cert.MlstmOut.main_arg4) = m ((c.tc : Thread Cert.MlstmOut.nD Cert.MlstmOut.τ).loc Cert.MlstmOut.main_arg4)
      ∧ r.2.mem ((c.tc : Thread Cert.MlstmOut.nD Cert.MlstmOut.τ).loc Cert.MlstmOut.main_arg5) = m ((c.tc : Thread Cert.MlstmOut.nD Cert.MlstmOut.τ).loc Cert.MlstmOut.main_arg5)
      ∧ r.2.mem ((c.tc : Thread Cert.MlstmOut.nD Cert.MlstmOut.τ).loc Cert.MlstmOut.main_arg6) = m ((c.tc : Thread Cert.MlstmOut.nD Cert.MlstmOut.τ).loc Cert.MlstmOut.main_arg6)
      ∧ r.2.mem ((c.tc : Thread Cert.MlstmOut.nD Cert.MlstmOut.τ).loc Cert.MlstmOut.main_arg7) = m ((c.tc : Thread Cert.MlstmOut.nD Cert.MlstmOut.τ).loc Cert.MlstmOut.main_arg7)
      ∧ r.2.mem ((c.tc : Thread Cert.MlstmOut.nD Cert.MlstmOut.τ).loc Cert.MlstmOut.main_arg8) = m ((c.tc : Thread Cert.MlstmOut.nD Cert.MlstmOut.τ).loc Cert.MlstmOut.main_arg8))
      ∧ r.2.sem = fun _ => 0)

def quiescent_MlstmOutIdeal [hMlstmOutIdeal : Cert.MlstmOutIdeal.Facts] : Prop :=
  ∀ (m : (ℓ : Loc Cert.MlstmOutIdeal.nD Cert.MlstmOutIdeal.τ Cert.MlstmOutIdeal.sig) → Buf (Elt Ideal) ℓ) (g : Dev Cert.MlstmOutIdeal.nD → PrngReg), Pre_MlstmOutIdeal m →
    θ_run (Cert.MlstmOutIdeal.defs (F := Ideal)) (onTc (τ := Cert.MlstmOutIdeal.τ) (Cert.MlstmOutIdeal.main (F := Ideal))) ⟨m, fun _ => 0, g⟩ (fun r => (∀ c : Dev Cert.MlstmOutIdeal.nD,
      r.2.mem ((c.tc : Thread Cert.MlstmOutIdeal.nD Cert.MlstmOutIdeal.τ).loc Cert.MlstmOutIdeal.main_arg0) = m ((c.tc : Thread Cert.MlstmOutIdeal.nD Cert.MlstmOutIdeal.τ).loc Cert.MlstmOutIdeal.main_arg0)
      ∧ r.2.mem ((c.tc : Thread Cert.MlstmOutIdeal.nD Cert.MlstmOutIdeal.τ).loc Cert.MlstmOutIdeal.main_arg1) = m ((c.tc : Thread Cert.MlstmOutIdeal.nD Cert.MlstmOutIdeal.τ).loc Cert.MlstmOutIdeal.main_arg1)
      ∧ r.2.mem ((c.tc : Thread Cert.MlstmOutIdeal.nD Cert.MlstmOutIdeal.τ).loc Cert.MlstmOutIdeal.main_arg2) = m ((c.tc : Thread Cert.MlstmOutIdeal.nD Cert.MlstmOutIdeal.τ).loc Cert.MlstmOutIdeal.main_arg2)
      ∧ r.2.mem ((c.tc : Thread Cert.MlstmOutIdeal.nD Cert.MlstmOutIdeal.τ).loc Cert.MlstmOutIdeal.main_arg3) = m ((c.tc : Thread Cert.MlstmOutIdeal.nD Cert.MlstmOutIdeal.τ).loc Cert.MlstmOutIdeal.main_arg3)
      ∧ r.2.mem ((c.tc : Thread Cert.MlstmOutIdeal.nD Cert.MlstmOutIdeal.τ).loc Cert.MlstmOutIdeal.main_arg4) = m ((c.tc : Thread Cert.MlstmOutIdeal.nD Cert.MlstmOutIdeal.τ).loc Cert.MlstmOutIdeal.main_arg4)
      ∧ r.2.mem ((c.tc : Thread Cert.MlstmOutIdeal.nD Cert.MlstmOutIdeal.τ).loc Cert.MlstmOutIdeal.main_arg5) = m ((c.tc : Thread Cert.MlstmOutIdeal.nD Cert.MlstmOutIdeal.τ).loc Cert.MlstmOutIdeal.main_arg5)
      ∧ r.2.mem ((c.tc : Thread Cert.MlstmOutIdeal.nD Cert.MlstmOutIdeal.τ).loc Cert.MlstmOutIdeal.main_arg6) = m ((c.tc : Thread Cert.MlstmOutIdeal.nD Cert.MlstmOutIdeal.τ).loc Cert.MlstmOutIdeal.main_arg6)
      ∧ r.2.mem ((c.tc : Thread Cert.MlstmOutIdeal.nD Cert.MlstmOutIdeal.τ).loc Cert.MlstmOutIdeal.main_arg7) = m ((c.tc : Thread Cert.MlstmOutIdeal.nD Cert.MlstmOutIdeal.τ).loc Cert.MlstmOutIdeal.main_arg7)
      ∧ r.2.mem ((c.tc : Thread Cert.MlstmOutIdeal.nD Cert.MlstmOutIdeal.τ).loc Cert.MlstmOutIdeal.main_arg8) = m ((c.tc : Thread Cert.MlstmOutIdeal.nD Cert.MlstmOutIdeal.τ).loc Cert.MlstmOutIdeal.main_arg8))
      ∧ r.2.sem = fun _ => 0)

def quiescent_MlstmOutRefIdeal [hMlstmOutRefIdeal : Cert.MlstmOutRefIdeal.Facts] : Prop :=
  ∀ (m : (ℓ : Loc Cert.MlstmOutRefIdeal.nD Cert.MlstmOutRefIdeal.τ Cert.MlstmOutRefIdeal.sig) → Buf (Elt Ideal) ℓ) (g : Dev Cert.MlstmOutRefIdeal.nD → PrngReg), Pre_MlstmOutRefIdeal m →
    θ_run (Cert.MlstmOutRefIdeal.defs (F := Ideal)) (onTc (τ := Cert.MlstmOutRefIdeal.τ) (Cert.MlstmOutRefIdeal.main (F := Ideal))) ⟨m, fun _ => 0, g⟩ (fun r => (∀ c : Dev Cert.MlstmOutRefIdeal.nD,
      r.2.mem ((c.tc : Thread Cert.MlstmOutRefIdeal.nD Cert.MlstmOutRefIdeal.τ).loc Cert.MlstmOutRefIdeal.main_arg0) = m ((c.tc : Thread Cert.MlstmOutRefIdeal.nD Cert.MlstmOutRefIdeal.τ).loc Cert.MlstmOutRefIdeal.main_arg0)
      ∧ r.2.mem ((c.tc : Thread Cert.MlstmOutRefIdeal.nD Cert.MlstmOutRefIdeal.τ).loc Cert.MlstmOutRefIdeal.main_arg1) = m ((c.tc : Thread Cert.MlstmOutRefIdeal.nD Cert.MlstmOutRefIdeal.τ).loc Cert.MlstmOutRefIdeal.main_arg1)
      ∧ r.2.mem ((c.tc : Thread Cert.MlstmOutRefIdeal.nD Cert.MlstmOutRefIdeal.τ).loc Cert.MlstmOutRefIdeal.main_arg2) = m ((c.tc : Thread Cert.MlstmOutRefIdeal.nD Cert.MlstmOutRefIdeal.τ).loc Cert.MlstmOutRefIdeal.main_arg2)
      ∧ r.2.mem ((c.tc : Thread Cert.MlstmOutRefIdeal.nD Cert.MlstmOutRefIdeal.τ).loc Cert.MlstmOutRefIdeal.main_arg3) = m ((c.tc : Thread Cert.MlstmOutRefIdeal.nD Cert.MlstmOutRefIdeal.τ).loc Cert.MlstmOutRefIdeal.main_arg3)
      ∧ r.2.mem ((c.tc : Thread Cert.MlstmOutRefIdeal.nD Cert.MlstmOutRefIdeal.τ).loc Cert.MlstmOutRefIdeal.main_arg4) = m ((c.tc : Thread Cert.MlstmOutRefIdeal.nD Cert.MlstmOutRefIdeal.τ).loc Cert.MlstmOutRefIdeal.main_arg4)
      ∧ r.2.mem ((c.tc : Thread Cert.MlstmOutRefIdeal.nD Cert.MlstmOutRefIdeal.τ).loc Cert.MlstmOutRefIdeal.main_arg5) = m ((c.tc : Thread Cert.MlstmOutRefIdeal.nD Cert.MlstmOutRefIdeal.τ).loc Cert.MlstmOutRefIdeal.main_arg5)
      ∧ r.2.mem ((c.tc : Thread Cert.MlstmOutRefIdeal.nD Cert.MlstmOutRefIdeal.τ).loc Cert.MlstmOutRefIdeal.main_arg6) = m ((c.tc : Thread Cert.MlstmOutRefIdeal.nD Cert.MlstmOutRefIdeal.τ).loc Cert.MlstmOutRefIdeal.main_arg6)
      ∧ r.2.mem ((c.tc : Thread Cert.MlstmOutRefIdeal.nD Cert.MlstmOutRefIdeal.τ).loc Cert.MlstmOutRefIdeal.main_arg7) = m ((c.tc : Thread Cert.MlstmOutRefIdeal.nD Cert.MlstmOutRefIdeal.τ).loc Cert.MlstmOutRefIdeal.main_arg7)
      ∧ r.2.mem ((c.tc : Thread Cert.MlstmOutRefIdeal.nD Cert.MlstmOutRefIdeal.τ).loc Cert.MlstmOutRefIdeal.main_arg8) = m ((c.tc : Thread Cert.MlstmOutRefIdeal.nD Cert.MlstmOutRefIdeal.τ).loc Cert.MlstmOutRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_Attn_AttnIdeal : Prop :=
  True

def algebraic_AttnIdeal_AttnRefIdeal_pre_finite_queries_and_keys [hAttnIdeal : Cert.AttnIdeal.Facts] [hAttnRefIdeal : Cert.AttnRefIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_and_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v31) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v50) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnAll_FfnAllIdeal : Prop :=
  True

def algebraic_FfnAllIdeal_FfnAllRefIdeal [hFfnAllIdeal : Cert.FfnAllIdeal.Facts] [hFfnAllRefIdeal : Cert.FfnAllRefIdeal.Facts] : Prop :=
  ∀ (m : (ℓ : Loc Cert.FfnAllIdeal.nD Cert.FfnAllIdeal.τ Cert.FfnAllIdeal.sig) → Buf (Elt Ideal) ℓ) (g : Dev Cert.FfnAllIdeal.nD → PrngReg)
    (m' : (ℓ : Loc Cert.FfnAllRefIdeal.nD Cert.FfnAllRefIdeal.τ Cert.FfnAllRefIdeal.sig) → Buf (Elt Ideal) ℓ) (g' : Dev Cert.FfnAllRefIdeal.nD → PrngReg), Pre_FfnAllIdeal m →
    (∀ c : Dev Cert.FfnAllIdeal.nD,
      m' ((c.tc : Thread Cert.FfnAllRefIdeal.nD Cert.FfnAllRefIdeal.τ).loc Cert.FfnAllRefIdeal.main_arg0) = m ((c.tc : Thread Cert.FfnAllIdeal.nD Cert.FfnAllIdeal.τ).loc Cert.FfnAllIdeal.main_arg0)
      ∧ m' ((c.tc : Thread Cert.FfnAllRefIdeal.nD Cert.FfnAllRefIdeal.τ).loc Cert.FfnAllRefIdeal.main_arg1) = m ((c.tc : Thread Cert.FfnAllIdeal.nD Cert.FfnAllIdeal.τ).loc Cert.FfnAllIdeal.main_arg1)
      ∧ m' ((c.tc : Thread Cert.FfnAllRefIdeal.nD Cert.FfnAllRefIdeal.τ).loc Cert.FfnAllRefIdeal.main_arg2) = m ((c.tc : Thread Cert.FfnAllIdeal.nD Cert.FfnAllIdeal.τ).loc Cert.FfnAllIdeal.main_arg2)
      ∧ m' ((c.tc : Thread Cert.FfnAllRefIdeal.nD Cert.FfnAllRefIdeal.τ).loc Cert.FfnAllRefIdeal.main_arg3) = m ((c.tc : Thread Cert.FfnAllIdeal.nD Cert.FfnAllIdeal.τ).loc Cert.FfnAllIdeal.main_arg3)
      ∧ m' ((c.tc : Thread Cert.FfnAllRefIdeal.nD Cert.FfnAllRefIdeal.τ).loc Cert.FfnAllRefIdeal.main_arg4) = m ((c.tc : Thread Cert.FfnAllIdeal.nD Cert.FfnAllIdeal.τ).loc Cert.FfnAllIdeal.main_arg4)
      ∧ m' ((c.tc : Thread Cert.FfnAllRefIdeal.nD Cert.FfnAllRefIdeal.τ).loc Cert.FfnAllRefIdeal.main_arg5) = m ((c.tc : Thread Cert.FfnAllIdeal.nD Cert.FfnAllIdeal.τ).loc Cert.FfnAllIdeal.main_arg5)) →
    ∃ (v0 : (c : Dev Cert.FfnAllIdeal.nD) → Buf (Elt Ideal) ((c.tc : Thread Cert.FfnAllIdeal.nD Cert.FfnAllIdeal.τ).loc Cert.FfnAllIdeal.main_v5)),
      θ_run (Cert.FfnAllIdeal.defs (F := Ideal)) (onTc (τ := Cert.FfnAllIdeal.τ) (Cert.FfnAllIdeal.main (F := Ideal))) ⟨m, fun _ => 0, g⟩ (fun r => ∀ c : Dev Cert.FfnAllIdeal.nD,
          r.2.mem ((c.tc : Thread Cert.FfnAllIdeal.nD Cert.FfnAllIdeal.τ).loc Cert.FfnAllIdeal.main_v5) = v0 c
          ∧ r.2.mem ((c.tc : Thread Cert.FfnAllIdeal.nD Cert.FfnAllIdeal.τ).loc Cert.FfnAllIdeal.main_arg0) = m ((c.tc : Thread Cert.FfnAllIdeal.nD Cert.FfnAllIdeal.τ).loc Cert.FfnAllIdeal.main_arg0)
          ∧ r.2.mem ((c.tc : Thread Cert.FfnAllIdeal.nD Cert.FfnAllIdeal.τ).loc Cert.FfnAllIdeal.main_arg1) = m ((c.tc : Thread Cert.FfnAllIdeal.nD Cert.FfnAllIdeal.τ).loc Cert.FfnAllIdeal.main_arg1)
          ∧ r.2.mem ((c.tc : Thread Cert.FfnAllIdeal.nD Cert.FfnAllIdeal.τ).loc Cert.FfnAllIdeal.main_arg2) = m ((c.tc : Thread Cert.FfnAllIdeal.nD Cert.FfnAllIdeal.τ).loc Cert.FfnAllIdeal.main_arg2)
          ∧ r.2.mem ((c.tc : Thread Cert.FfnAllIdeal.nD Cert.FfnAllIdeal.τ).loc Cert.FfnAllIdeal.main_arg3) = m ((c.tc : Thread Cert.FfnAllIdeal.nD Cert.FfnAllIdeal.τ).loc Cert.FfnAllIdeal.main_arg3)
          ∧ r.2.mem ((c.tc : Thread Cert.FfnAllIdeal.nD Cert.FfnAllIdeal.τ).loc Cert.FfnAllIdeal.main_arg4) = m ((c.tc : Thread Cert.FfnAllIdeal.nD Cert.FfnAllIdeal.τ).loc Cert.FfnAllIdeal.main_arg4)
          ∧ r.2.mem ((c.tc : Thread Cert.FfnAllIdeal.nD Cert.FfnAllIdeal.τ).loc Cert.FfnAllIdeal.main_arg5) = m ((c.tc : Thread Cert.FfnAllIdeal.nD Cert.FfnAllIdeal.τ).loc Cert.FfnAllIdeal.main_arg5))
      ∧ θ_run (Cert.FfnAllRefIdeal.defs (F := Ideal)) (onTc (τ := Cert.FfnAllRefIdeal.τ) (Cert.FfnAllRefIdeal.main (F := Ideal))) ⟨m', fun _ => 0, g'⟩ (fun r => ∀ c : Dev Cert.FfnAllRefIdeal.nD,
          r.2.mem ((c.tc : Thread Cert.FfnAllRefIdeal.nD Cert.FfnAllRefIdeal.τ).loc Cert.FfnAllRefIdeal.main_v107) = v0 c
          ∧ r.2.mem ((c.tc : Thread Cert.FfnAllRefIdeal.nD Cert.FfnAllRefIdeal.τ).loc Cert.FfnAllRefIdeal.main_arg0) = m' ((c.tc : Thread Cert.FfnAllRefIdeal.nD Cert.FfnAllRefIdeal.τ).loc Cert.FfnAllRefIdeal.main_arg0)
          ∧ r.2.mem ((c.tc : Thread Cert.FfnAllRefIdeal.nD Cert.FfnAllRefIdeal.τ).loc Cert.FfnAllRefIdeal.main_arg1) = m' ((c.tc : Thread Cert.FfnAllRefIdeal.nD Cert.FfnAllRefIdeal.τ).loc Cert.FfnAllRefIdeal.main_arg1)
          ∧ r.2.mem ((c.tc : Thread Cert.FfnAllRefIdeal.nD Cert.FfnAllRefIdeal.τ).loc Cert.FfnAllRefIdeal.main_arg2) = m' ((c.tc : Thread Cert.FfnAllRefIdeal.nD Cert.FfnAllRefIdeal.τ).loc Cert.FfnAllRefIdeal.main_arg2)
          ∧ r.2.mem ((c.tc : Thread Cert.FfnAllRefIdeal.nD Cert.FfnAllRefIdeal.τ).loc Cert.FfnAllRefIdeal.main_arg3) = m' ((c.tc : Thread Cert.FfnAllRefIdeal.nD Cert.FfnAllRefIdeal.τ).loc Cert.FfnAllRefIdeal.main_arg3)
          ∧ r.2.mem ((c.tc : Thread Cert.FfnAllRefIdeal.nD Cert.FfnAllRefIdeal.τ).loc Cert.FfnAllRefIdeal.main_arg4) = m' ((c.tc : Thread Cert.FfnAllRefIdeal.nD Cert.FfnAllRefIdeal.τ).loc Cert.FfnAllRefIdeal.main_arg4)
          ∧ r.2.mem ((c.tc : Thread Cert.FfnAllRefIdeal.nD Cert.FfnAllRefIdeal.τ).loc Cert.FfnAllRefIdeal.main_arg5) = m' ((c.tc : Thread Cert.FfnAllRefIdeal.nD Cert.FfnAllRefIdeal.τ).loc Cert.FfnAllRefIdeal.main_arg5))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v29) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v63) = v0 c
          ∧ r.2.mem ((c.tc : Thread Cert.InprojRefIdeal.nD Cert.InprojRefIdeal.τ).loc Cert.InprojRefIdeal.main_v64) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_MlstmOut_MlstmOutIdeal : Prop :=
  True

def algebraic_MlstmOutIdeal_MlstmOutRefIdeal [hMlstmOutIdeal : Cert.MlstmOutIdeal.Facts] [hMlstmOutRefIdeal : Cert.MlstmOutRefIdeal.Facts] : Prop :=
  ∀ (m : (ℓ : Loc Cert.MlstmOutIdeal.nD Cert.MlstmOutIdeal.τ Cert.MlstmOutIdeal.sig) → Buf (Elt Ideal) ℓ) (g : Dev Cert.MlstmOutIdeal.nD → PrngReg)
    (m' : (ℓ : Loc Cert.MlstmOutRefIdeal.nD Cert.MlstmOutRefIdeal.τ Cert.MlstmOutRefIdeal.sig) → Buf (Elt Ideal) ℓ) (g' : Dev Cert.MlstmOutRefIdeal.nD → PrngReg), Pre_MlstmOutIdeal m →
    (∀ c : Dev Cert.MlstmOutIdeal.nD,
      m' ((c.tc : Thread Cert.MlstmOutRefIdeal.nD Cert.MlstmOutRefIdeal.τ).loc Cert.MlstmOutRefIdeal.main_arg0) = m ((c.tc : Thread Cert.MlstmOutIdeal.nD Cert.MlstmOutIdeal.τ).loc Cert.MlstmOutIdeal.main_arg0)
      ∧ m' ((c.tc : Thread Cert.MlstmOutRefIdeal.nD Cert.MlstmOutRefIdeal.τ).loc Cert.MlstmOutRefIdeal.main_arg1) = m ((c.tc : Thread Cert.MlstmOutIdeal.nD Cert.MlstmOutIdeal.τ).loc Cert.MlstmOutIdeal.main_arg1)
      ∧ m' ((c.tc : Thread Cert.MlstmOutRefIdeal.nD Cert.MlstmOutRefIdeal.τ).loc Cert.MlstmOutRefIdeal.main_arg2) = m ((c.tc : Thread Cert.MlstmOutIdeal.nD Cert.MlstmOutIdeal.τ).loc Cert.MlstmOutIdeal.main_arg2)
      ∧ m' ((c.tc : Thread Cert.MlstmOutRefIdeal.nD Cert.MlstmOutRefIdeal.τ).loc Cert.MlstmOutRefIdeal.main_arg3) = m ((c.tc : Thread Cert.MlstmOutIdeal.nD Cert.MlstmOutIdeal.τ).loc Cert.MlstmOutIdeal.main_arg3)
      ∧ m' ((c.tc : Thread Cert.MlstmOutRefIdeal.nD Cert.MlstmOutRefIdeal.τ).loc Cert.MlstmOutRefIdeal.main_arg4) = m ((c.tc : Thread Cert.MlstmOutIdeal.nD Cert.MlstmOutIdeal.τ).loc Cert.MlstmOutIdeal.main_arg4)
      ∧ m' ((c.tc : Thread Cert.MlstmOutRefIdeal.nD Cert.MlstmOutRefIdeal.τ).loc Cert.MlstmOutRefIdeal.main_arg5) = m ((c.tc : Thread Cert.MlstmOutIdeal.nD Cert.MlstmOutIdeal.τ).loc Cert.MlstmOutIdeal.main_arg5)
      ∧ m' ((c.tc : Thread Cert.MlstmOutRefIdeal.nD Cert.MlstmOutRefIdeal.τ).loc Cert.MlstmOutRefIdeal.main_arg6) = m ((c.tc : Thread Cert.MlstmOutIdeal.nD Cert.MlstmOutIdeal.τ).loc Cert.MlstmOutIdeal.main_arg6)
      ∧ m' ((c.tc : Thread Cert.MlstmOutRefIdeal.nD Cert.MlstmOutRefIdeal.τ).loc Cert.MlstmOutRefIdeal.main_arg7) = m ((c.tc : Thread Cert.MlstmOutIdeal.nD Cert.MlstmOutIdeal.τ).loc Cert.MlstmOutIdeal.main_arg7)
      ∧ m' ((c.tc : Thread Cert.MlstmOutRefIdeal.nD Cert.MlstmOutRefIdeal.τ).loc Cert.MlstmOutRefIdeal.main_arg8) = m ((c.tc : Thread Cert.MlstmOutIdeal.nD Cert.MlstmOutIdeal.τ).loc Cert.MlstmOutIdeal.main_arg8)) →
    ∃ (v0 : (c : Dev Cert.MlstmOutIdeal.nD) → Buf (Elt Ideal) ((c.tc : Thread Cert.MlstmOutIdeal.nD Cert.MlstmOutIdeal.τ).loc Cert.MlstmOutIdeal.main_v6)),
      θ_run (Cert.MlstmOutIdeal.defs (F := Ideal)) (onTc (τ := Cert.MlstmOutIdeal.τ) (Cert.MlstmOutIdeal.main (F := Ideal))) ⟨m, fun _ => 0, g⟩ (fun r => ∀ c : Dev Cert.MlstmOutIdeal.nD,
          r.2.mem ((c.tc : Thread Cert.MlstmOutIdeal.nD Cert.MlstmOutIdeal.τ).loc Cert.MlstmOutIdeal.main_v6) = v0 c
          ∧ r.2.mem ((c.tc : Thread Cert.MlstmOutIdeal.nD Cert.MlstmOutIdeal.τ).loc Cert.MlstmOutIdeal.main_arg0) = m ((c.tc : Thread Cert.MlstmOutIdeal.nD Cert.MlstmOutIdeal.τ).loc Cert.MlstmOutIdeal.main_arg0)
          ∧ r.2.mem ((c.tc : Thread Cert.MlstmOutIdeal.nD Cert.MlstmOutIdeal.τ).loc Cert.MlstmOutIdeal.main_arg1) = m ((c.tc : Thread Cert.MlstmOutIdeal.nD Cert.MlstmOutIdeal.τ).loc Cert.MlstmOutIdeal.main_arg1)
          ∧ r.2.mem ((c.tc : Thread Cert.MlstmOutIdeal.nD Cert.MlstmOutIdeal.τ).loc Cert.MlstmOutIdeal.main_arg2) = m ((c.tc : Thread Cert.MlstmOutIdeal.nD Cert.MlstmOutIdeal.τ).loc Cert.MlstmOutIdeal.main_arg2)
          ∧ r.2.mem ((c.tc : Thread Cert.MlstmOutIdeal.nD Cert.MlstmOutIdeal.τ).loc Cert.MlstmOutIdeal.main_arg3) = m ((c.tc : Thread Cert.MlstmOutIdeal.nD Cert.MlstmOutIdeal.τ).loc Cert.MlstmOutIdeal.main_arg3)
          ∧ r.2.mem ((c.tc : Thread Cert.MlstmOutIdeal.nD Cert.MlstmOutIdeal.τ).loc Cert.MlstmOutIdeal.main_arg4) = m ((c.tc : Thread Cert.MlstmOutIdeal.nD Cert.MlstmOutIdeal.τ).loc Cert.MlstmOutIdeal.main_arg4)
          ∧ r.2.mem ((c.tc : Thread Cert.MlstmOutIdeal.nD Cert.MlstmOutIdeal.τ).loc Cert.MlstmOutIdeal.main_arg5) = m ((c.tc : Thread Cert.MlstmOutIdeal.nD Cert.MlstmOutIdeal.τ).loc Cert.MlstmOutIdeal.main_arg5)
          ∧ r.2.mem ((c.tc : Thread Cert.MlstmOutIdeal.nD Cert.MlstmOutIdeal.τ).loc Cert.MlstmOutIdeal.main_arg6) = m ((c.tc : Thread Cert.MlstmOutIdeal.nD Cert.MlstmOutIdeal.τ).loc Cert.MlstmOutIdeal.main_arg6)
          ∧ r.2.mem ((c.tc : Thread Cert.MlstmOutIdeal.nD Cert.MlstmOutIdeal.τ).loc Cert.MlstmOutIdeal.main_arg7) = m ((c.tc : Thread Cert.MlstmOutIdeal.nD Cert.MlstmOutIdeal.τ).loc Cert.MlstmOutIdeal.main_arg7)
          ∧ r.2.mem ((c.tc : Thread Cert.MlstmOutIdeal.nD Cert.MlstmOutIdeal.τ).loc Cert.MlstmOutIdeal.main_arg8) = m ((c.tc : Thread Cert.MlstmOutIdeal.nD Cert.MlstmOutIdeal.τ).loc Cert.MlstmOutIdeal.main_arg8))
      ∧ θ_run (Cert.MlstmOutRefIdeal.defs (F := Ideal)) (onTc (τ := Cert.MlstmOutRefIdeal.τ) (Cert.MlstmOutRefIdeal.main (F := Ideal))) ⟨m', fun _ => 0, g'⟩ (fun r => ∀ c : Dev Cert.MlstmOutRefIdeal.nD,
          r.2.mem ((c.tc : Thread Cert.MlstmOutRefIdeal.nD Cert.MlstmOutRefIdeal.τ).loc Cert.MlstmOutRefIdeal.main_v112) = v0 c
          ∧ r.2.mem ((c.tc : Thread Cert.MlstmOutRefIdeal.nD Cert.MlstmOutRefIdeal.τ).loc Cert.MlstmOutRefIdeal.main_arg0) = m' ((c.tc : Thread Cert.MlstmOutRefIdeal.nD Cert.MlstmOutRefIdeal.τ).loc Cert.MlstmOutRefIdeal.main_arg0)
          ∧ r.2.mem ((c.tc : Thread Cert.MlstmOutRefIdeal.nD Cert.MlstmOutRefIdeal.τ).loc Cert.MlstmOutRefIdeal.main_arg1) = m' ((c.tc : Thread Cert.MlstmOutRefIdeal.nD Cert.MlstmOutRefIdeal.τ).loc Cert.MlstmOutRefIdeal.main_arg1)
          ∧ r.2.mem ((c.tc : Thread Cert.MlstmOutRefIdeal.nD Cert.MlstmOutRefIdeal.τ).loc Cert.MlstmOutRefIdeal.main_arg2) = m' ((c.tc : Thread Cert.MlstmOutRefIdeal.nD Cert.MlstmOutRefIdeal.τ).loc Cert.MlstmOutRefIdeal.main_arg2)
          ∧ r.2.mem ((c.tc : Thread Cert.MlstmOutRefIdeal.nD Cert.MlstmOutRefIdeal.τ).loc Cert.MlstmOutRefIdeal.main_arg3) = m' ((c.tc : Thread Cert.MlstmOutRefIdeal.nD Cert.MlstmOutRefIdeal.τ).loc Cert.MlstmOutRefIdeal.main_arg3)
          ∧ r.2.mem ((c.tc : Thread Cert.MlstmOutRefIdeal.nD Cert.MlstmOutRefIdeal.τ).loc Cert.MlstmOutRefIdeal.main_arg4) = m' ((c.tc : Thread Cert.MlstmOutRefIdeal.nD Cert.MlstmOutRefIdeal.τ).loc Cert.MlstmOutRefIdeal.main_arg4)
          ∧ r.2.mem ((c.tc : Thread Cert.MlstmOutRefIdeal.nD Cert.MlstmOutRefIdeal.τ).loc Cert.MlstmOutRefIdeal.main_arg5) = m' ((c.tc : Thread Cert.MlstmOutRefIdeal.nD Cert.MlstmOutRefIdeal.τ).loc Cert.MlstmOutRefIdeal.main_arg5)
          ∧ r.2.mem ((c.tc : Thread Cert.MlstmOutRefIdeal.nD Cert.MlstmOutRefIdeal.τ).loc Cert.MlstmOutRefIdeal.main_arg6) = m' ((c.tc : Thread Cert.MlstmOutRefIdeal.nD Cert.MlstmOutRefIdeal.τ).loc Cert.MlstmOutRefIdeal.main_arg6)
          ∧ r.2.mem ((c.tc : Thread Cert.MlstmOutRefIdeal.nD Cert.MlstmOutRefIdeal.τ).loc Cert.MlstmOutRefIdeal.main_arg7) = m' ((c.tc : Thread Cert.MlstmOutRefIdeal.nD Cert.MlstmOutRefIdeal.τ).loc Cert.MlstmOutRefIdeal.main_arg7)
          ∧ r.2.mem ((c.tc : Thread Cert.MlstmOutRefIdeal.nD Cert.MlstmOutRefIdeal.τ).loc Cert.MlstmOutRefIdeal.main_arg8) = m' ((c.tc : Thread Cert.MlstmOutRefIdeal.nD Cert.MlstmOutRefIdeal.τ).loc Cert.MlstmOutRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v19_0)) (v1 : (c : Dev Cert.QkvIdeal.nD) → Buf (Elt Ideal) ((c.tc : Thread Cert.QkvIdeal.nD Cert.QkvIdeal.τ).loc Cert.QkvIdeal.main_v19_1)) (v2 : (c : Dev Cert.QkvIdeal.nD) → Buf (Elt Ideal) ((c.tc : Thread Cert.QkvIdeal.nD Cert.QkvIdeal.τ).loc Cert.QkvIdeal.main_v19_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v19_0) = v0 c
          ∧ r.2.mem ((c.tc : Thread Cert.QkvIdeal.nD Cert.QkvIdeal.τ).loc Cert.QkvIdeal.main_v19_1) = v1 c
          ∧ r.2.mem ((c.tc : Thread Cert.QkvIdeal.nD Cert.QkvIdeal.τ).loc Cert.QkvIdeal.main_v19_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v150) = v0 c
          ∧ r.2.mem ((c.tc : Thread Cert.QkvRefIdeal.nD Cert.QkvRefIdeal.τ).loc Cert.QkvRefIdeal.main_v175) = v1 c
          ∧ r.2.mem ((c.tc : Thread Cert.QkvRefIdeal.nD Cert.QkvRefIdeal.τ).loc Cert.QkvRefIdeal.main_v179) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hFfnAll : Cert.FfnAll.Facts) (hFfnAllIdeal : Cert.FfnAllIdeal.Facts) (hFfnAllRefIdeal : Cert.FfnAllRefIdeal.Facts) (hAttnOut : Cert.AttnOut.Facts) (hAttnOutIdeal : Cert.AttnOutIdeal.Facts) (hAttnOutRefIdeal : Cert.AttnOutRefIdeal.Facts) (hInproj : Cert.Inproj.Facts) (hInprojIdeal : Cert.InprojIdeal.Facts) (hInprojRefIdeal : Cert.InprojRefIdeal.Facts) (hMlstmOut : Cert.MlstmOut.Facts) (hMlstmOutIdeal : Cert.MlstmOutIdeal.Facts) (hMlstmOutRefIdeal : Cert.MlstmOutRefIdeal.Facts) (hQkv : Cert.Qkv.Facts) (hQkvIdeal : Cert.QkvIdeal.Facts) (hQkvRefIdeal : Cert.QkvRefIdeal.Facts) (hPre_finite_queries_and_keys : Cert.Pre_finite_queries_and_keys.Facts),
    quiescent_Attn (hAttn := hAttn)
    ∧ quiescent_AttnIdeal (hAttnIdeal := hAttnIdeal)
    ∧ quiescent_AttnIdeal_pre_finite_queries_and_keys (hAttnIdeal := hAttnIdeal) (hPre_finite_queries_and_keys := hPre_finite_queries_and_keys)
    ∧ quiescent_AttnRefIdeal (hAttnRefIdeal := hAttnRefIdeal)
    ∧ quiescent_AttnRefIdeal_pre_finite_queries_and_keys (hAttnRefIdeal := hAttnRefIdeal) (hPre_finite_queries_and_keys := hPre_finite_queries_and_keys)
    ∧ quiescent_Ffn (hFfn := hFfn)
    ∧ quiescent_FfnIdeal (hFfnIdeal := hFfnIdeal)
    ∧ quiescent_FfnRefIdeal (hFfnRefIdeal := hFfnRefIdeal)
    ∧ quiescent_FfnAll (hFfnAll := hFfnAll)
    ∧ quiescent_FfnAllIdeal (hFfnAllIdeal := hFfnAllIdeal)
    ∧ quiescent_FfnAllRefIdeal (hFfnAllRefIdeal := hFfnAllRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_Inproj (hInproj := hInproj)
    ∧ quiescent_InprojIdeal (hInprojIdeal := hInprojIdeal)
    ∧ quiescent_InprojRefIdeal (hInprojRefIdeal := hInprojRefIdeal)
    ∧ quiescent_MlstmOut (hMlstmOut := hMlstmOut)
    ∧ quiescent_MlstmOutIdeal (hMlstmOutIdeal := hMlstmOutIdeal)
    ∧ quiescent_MlstmOutRefIdeal (hMlstmOutRefIdeal := hMlstmOutRefIdeal)
    ∧ quiescent_Qkv (hQkv := hQkv)
    ∧ quiescent_QkvIdeal (hQkvIdeal := hQkvIdeal)
    ∧ quiescent_QkvRefIdeal (hQkvRefIdeal := hQkvRefIdeal)
    ∧ preserves_Attn_AttnIdeal
    ∧ algebraic_AttnIdeal_AttnRefIdeal_pre_finite_queries_and_keys (hAttnIdeal := hAttnIdeal) (hAttnRefIdeal := hAttnRefIdeal) (hPre_finite_queries_and_keys := hPre_finite_queries_and_keys)
    ∧ preserves_Ffn_FfnIdeal
    ∧ algebraic_FfnIdeal_FfnRefIdeal (hFfnIdeal := hFfnIdeal) (hFfnRefIdeal := hFfnRefIdeal)
    ∧ preserves_FfnAll_FfnAllIdeal
    ∧ algebraic_FfnAllIdeal_FfnAllRefIdeal (hFfnAllIdeal := hFfnAllIdeal) (hFfnAllRefIdeal := hFfnAllRefIdeal)
    ∧ preserves_AttnOut_AttnOutIdeal
    ∧ algebraic_AttnOutIdeal_AttnOutRefIdeal (hAttnOutIdeal := hAttnOutIdeal) (hAttnOutRefIdeal := hAttnOutRefIdeal)
    ∧ preserves_Inproj_InprojIdeal
    ∧ algebraic_InprojIdeal_InprojRefIdeal (hInprojIdeal := hInprojIdeal) (hInprojRefIdeal := hInprojRefIdeal)
    ∧ preserves_MlstmOut_MlstmOutIdeal
    ∧ algebraic_MlstmOutIdeal_MlstmOutRefIdeal (hMlstmOutIdeal := hMlstmOutIdeal) (hMlstmOutRefIdeal := hMlstmOutRefIdeal)
    ∧ preserves_Qkv_QkvIdeal
    ∧ algebraic_QkvIdeal_QkvRefIdeal (hQkvIdeal := hQkvIdeal) (hQkvRefIdeal := hQkvRefIdeal)
-- ==== Pre_finite_queries_and_keys.lean ====
abbrev S17408x2048 : Shape := ⟨2, ![17408, 2048]⟩
abbrev S17408x512 : Shape := ⟨2, ![17408, 512]⟩
abbrev S_ : Shape := ⟨0, ![]⟩

class Facts : Prop where
  bitsLt_bf16_f32 : FTy.bits .bf16 < FTy.bits .f32
  bcast_S_S17408x2048 : S_.BroadcastsInDim S17408x2048 (![] : Fin 0 → Fin S17408x2048.rank)
  bcast_S_S17408x512 : S_.BroadcastsInDim S17408x512 (![] : Fin 0 → Fin S17408x512.rank)

variable [Facts]

def fn {F : FTy → Type} [FloatOps F] (main_arg0 : FVec F S17408x2048 .bf16) (main_arg1 : FVec F S17408x512 .bf16) (main_arg2 : FVec F S17408x512 .bf16) : IVec S17408x2048 1 × IVec S17408x512 1 :=
  let main_v0 : FVec F S17408x2048 .f32 := (extf .f32 · bitsLt_bf16_f32) main_arg0
  let main_v1 : FVec F S17408x2048 .f32 := Host.absf main_v0
  let main_cst : FVec F S_ .f32 := constant S_ .f32 0x7F800000#32
  let main_v2 : FVec F S17408x2048 .f32 := broadcastInDim S17408x2048 ![] bcast_S_S17408x2048 main_cst
  let main_v3 : IVec S17408x2048 1 := cmpf .olt main_v1 main_v2
  let main_v4 : FVec F S17408x512 .f32 := (extf .f32 · bitsLt_bf16_f32) main_arg1
  let main_v5 : FVec F S17408x512 .f32 := Host.absf main_v4
  let main_cst_0 : FVec F S_ .f32 := constant S_ .f32 0x7F800000#32
  let main_v6 : FVec F S17408x512 .f32 := broadcastInDim S17408x512 ![] bcast_S_S17408x512 main_cst_0
  let main_v7 : IVec S17408x512 1 := cmpf .olt main_v5 main_v6
  (main_v3, main_v7)
-- ==== Attn.lean ====
abbrev S17408x2048 : Shape := ⟨2, ![17408, 2048]⟩
abbrev S17408x512 : Shape := ⟨2, ![17408, 512]⟩
abbrev S16384x2048 : Shape := ⟨2, ![16384, 2048]⟩
abbrev S256x512 : Shape := ⟨2, ![256, 512]⟩
abbrev S4096x128 : Shape := ⟨2, ![4096, 128]⟩
abbrev S256x128 : Shape := ⟨2, ![256, 128]⟩
abbrev S1024x1 : Shape := ⟨2, ![1024, 1]⟩
abbrev S1024x128 : Shape := ⟨2, ![1024, 128]⟩
abbrev S512x128 : Shape := ⟨2, ![512, 128]⟩
abbrev S1024x512 : Shape := ⟨2, ![1024, 512]⟩
abbrev S1024 : Shape := ⟨1, ![1024]⟩
abbrev S1024x256 : Shape := ⟨2, ![1024, 256]⟩

abbrev nBuf : Space → Nat
  | .hbm => 4
  | .vmem => 15
  | .smem => 0
  | _ => 0

abbrev bufTy : (tb : Table) → Fin (tcTables nBuf tb) → BufTy
  | .hbm, ⟨0, _⟩ => ⟨S17408x2048, .bf16⟩
  | .hbm, ⟨1, _⟩ => ⟨S17408x512, .bf16⟩
  | .hbm, ⟨2, _⟩ => ⟨S17408x512, .bf16⟩
  | .hbm, ⟨3, _⟩ => ⟨S16384x2048, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v65 : BitVec 32 := Scalar.muli arg12 c512_i32
  v65
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v65 : BitVec 32 := Scalar.muli arg12 c512_i32
  let v66 : BitVec 32 := v65
  let v67 : Index := Scalar.indexCast v66
  let c0_46 : Index := 0#32
  ![v67.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S17408x2048 : Shape := ⟨2, ![17408, 2048]⟩
abbrev S17408x512 : Shape := ⟨2, ![17408, 512]⟩
abbrev S16384x2048 : Shape := ⟨2, ![16384, 2048]⟩
abbrev S4x4096x4x4x128 : Shape := ⟨5, ![4, 4096, 4, 4, 128]⟩
abbrev S16384x512 : Shape := ⟨2, ![16384, 512]⟩
abbrev S4x4096x4x128 : Shape := ⟨4, ![4, 4096, 4, 128]⟩
abbrev S1024x512 : Shape := ⟨2, ![1024, 512]⟩
abbrev S4x256x4x128 : Shape := ⟨4, ![4, 256, 4, 128]⟩
abbrev S4x4352x4x128 : Shape := ⟨4, ![4, 4352, 4, 128]⟩
abbrev S4x4x4352x4096x4 : Shape := ⟨5, ![4, 4, 4352, 4096, 4]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩

abbrev nBuf : Space → Nat
  | .hbm => 38
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S17408x512, .bf16⟩
  | .hbm, ⟨2, _⟩ => ⟨S17408x512, .bf16⟩
  | .hbm, ⟨3, _⟩ => ⟨S17408x2048, .f32⟩
  | .hbm, ⟨4, _⟩ => ⟨S17408x512, .f32⟩
  | .hbm, ⟨5, _⟩ => ⟨S17408x512, .f32⟩
  | .hbm, ⟨6, _⟩ => ⟨S16384x2048, .f32⟩
  | .hbm, ⟨7, _⟩ => ⟨S4x4096x4x4x128, .f32⟩
  | .hbm, ⟨8, _⟩ => ⟨S16384x512, .f32⟩
  | .hbm, ⟨9, _⟩ => ⟨S4x4096x4x128, .f32⟩
  | .hbm, ⟨10, _⟩ => ⟨S1024x512, .f32⟩
  | .hbm, ⟨11, _⟩ => ⟨S4x256x4x128, .f32⟩
  | .hbm, ⟨12, _⟩ => ⟨S4x4352x4x128, .f32⟩
  | .hbm, ⟨13, _⟩ => ⟨S16384x512, .f32⟩
  | .hbm, ⟨14, _⟩ => ⟨S4x4096x4x128, .f32⟩
  | .hbm, ⟨15, _⟩ => ⟨S1024x512, .f32⟩
  | .hbm, ⟨16, _⟩ => ⟨S4x256x4x128, .f32⟩
  | .hbm, ⟨17, _⟩ => ⟨S4x4352x4x128, .f32⟩
  | .hbm, ⟨18, _⟩ => ⟨S4x4x4352x4096x4, .f32⟩
  | .hbm, ⟨19, _⟩ => ⟨S4x4x4x4096x4352, .f32⟩
  | .hbm, ⟨20, _⟩ => ⟨S_, .f32⟩
  | .hbm, ⟨21, _⟩ => ⟨S4x4x4x4096, .f32⟩
  | .hbm, ⟨22, _⟩ => ⟨S_, .f32⟩
  | .hbm, ⟨23, _⟩ => ⟨S4x4x4x4096, .f32⟩
  | .hbm, ⟨24, _⟩ => ⟨S4x4x4x4096, .f32⟩
  | .hbm, ⟨25, _⟩ => ⟨S4x4x4x4096x1, .f32⟩
  | .hbm, ⟨26, _⟩ => ⟨S4x4x4x4096x4352, .f32⟩
  | .hbm, ⟨27, _⟩ => ⟨S4x4x4x4096x4352, .f32⟩
  | .hbm, ⟨28, _⟩ => ⟨S4x4x4x4096x4352, .f32⟩
  | .hbm, ⟨29, _⟩ => ⟨S_, .f32⟩
  | .hbm, ⟨30, _⟩ => ⟨S4x4x4x4096, .f32⟩
  | .hbm, ⟨31, _⟩ => ⟨S4x4x4x4096x1, .f32⟩
  | .hbm, ⟨32, _⟩ => ⟨S4x4x4x4096x4352, .f32⟩
  | .hbm, ⟨33, _⟩ => ⟨S4x4x4x4096x4352, .f32⟩
  | .hbm, ⟨34, _⟩ => ⟨S4x4x128x4x4096, .f32⟩
  | .hbm, ⟨35, _⟩ => ⟨S4x4096x4x4x128, .f32⟩
  | .hbm, ⟨36, _⟩ => ⟨S16384x2048, .f32⟩
  | .hbm, ⟨37, _⟩ => ⟨S16384x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Ffn.lean ====
abbrev S16384x2048 : Shape := ⟨2, ![16384, 2048]⟩
abbrev S8x12288 : Shape := ⟨2, ![8, 12288]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S8x1x12288 : Shape := ⟨3, ![8, 1, 12288]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S8x12288, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S1x2048, .f32⟩
  | .hbm, ⟨7, _⟩ => ⟨S1x2048, .f32⟩
  | .hbm, ⟨8, _⟩ => ⟨S8x1x12288, .f32⟩
  | .hbm, ⟨9, _⟩ => ⟨S2048x11264, .bf16⟩
  | .hbm, ⟨10, _⟩ => ⟨S5632x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c4_i32_5 : BitVec 32 := 4#32
  let c0_i32_6 : BitVec 32 := 0#32
  ![v18.toNat, c0_i32_4.toNat, c4_i32_5.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnIdeal.lean ====
abbrev S16384x2048 : Shape := ⟨2, ![16384, 2048]⟩
abbrev S8x12288 : Shape := ⟨2, ![8, 12288]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S8x1x12288 : Shape := ⟨3, ![8, 1, 12288]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S8x12288, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S1x2048, .f32⟩
  | .hbm, ⟨7, _⟩ => ⟨S1x2048, .f32⟩
  | .hbm, ⟨8, _⟩ => ⟨S8x1x12288, .f32⟩
  | .hbm, ⟨9, _⟩ => ⟨S2048x11264, .bf16⟩
  | .hbm, ⟨10, _⟩ => ⟨S5632x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c4_i32_5 : BitVec 32 := 4#32
  let c0_i32_6 : BitVec 32 := 0#32
  ![v18.toNat, c0_i32_4.toNat, c4_i32_5.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S16384x2048 : Shape := ⟨2, ![16384, 2048]⟩
abbrev S8x12288 : Shape := ⟨2, ![8, 12288]⟩
abbrev S2048 : Shape := ⟨1, ![2048]⟩
abbrev S2048x11264 : Shape := ⟨2, ![2048, 11264]⟩
abbrev S5632x2048 : Shape := ⟨2, ![5632, 2048]⟩
abbrev S4x4096x2048 : Shape := ⟨3, ![4, 4096, 2048]⟩
abbrev S4x12288 : Shape := ⟨2, ![4, 12288]⟩
abbrev S4x1x12288 : Shape := ⟨3, ![4, 1, 12288]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11264 : Shape := ⟨3, ![4, 4096, 11264]⟩
abbrev S4x4096x5632 : Shape := ⟨3, ![4, 4096, 5632]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x12288, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S4x4096x2048, .f32⟩
  | .hbm, ⟨7, _⟩ => ⟨S4x12288, .f32⟩
  | .hbm, ⟨8, _⟩ => ⟨S4x1x12288, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x11264, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S_, .f32⟩
  | .hbm, ⟨44, _⟩ => ⟨S4x4096x5632, .f32⟩
  | .hbm, ⟨45, _⟩ => ⟨S4x4096x5632, .f32⟩
  | .hbm, ⟨46, _⟩ => ⟨S_, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x2048, .f32⟩
  | .hbm, ⟨64, _⟩ => ⟨S4x4096x2048, .f32⟩
  | .hbm, ⟨65, _⟩ => ⟨S1x1x2048, .f32⟩
  | .hbm, ⟨66, _⟩ => ⟨S4x4096x2048, .f32⟩
  | .hbm, ⟨67, _⟩ => ⟨S4x4096x2048, .f32⟩
  | .hbm, ⟨68, _⟩ => ⟨S4x4096x2048, .f32⟩
  | .hbm, ⟨69, _⟩ => ⟨S4x4096x2048, .f32⟩
  | .hbm, ⟨70, _⟩ => ⟨S4x4096x2048, .f32⟩
  | .hbm, ⟨71, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== FfnAll.lean ====
abbrev S17408x2048 : Shape := ⟨2, ![17408, 2048]⟩
abbrev S8x12288 : Shape := ⟨2, ![8, 12288]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S8x1x12288 : Shape := ⟨3, ![8, 1, 12288]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 20
  | .smem => 0
  | _ => 0

abbrev bufTy : (tb : Table) → Fin (tcTables nBuf tb) → BufTy
  | .hbm, ⟨0, _⟩ => ⟨S17408x2048, .f32⟩
  | .hbm, ⟨1, _⟩ => ⟨S8x12288, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S1x2048, .f32⟩
  | .hbm, ⟨7, _⟩ => ⟨S1x2048, .f32⟩
  | .hbm, ⟨8, _⟩ => ⟨S8x1x12288, .f32⟩
  | .hbm, ⟨9, _⟩ => ⟨S2048x11264, .bf16⟩
  | .hbm, ⟨10, _⟩ => ⟨S5632x2048, .bf16⟩
  | .hbm, ⟨11, _⟩ => ⟨S17408x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![34, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c4_i32_5 : BitVec 32 := 4#32
  let c0_i32_6 : BitVec 32 := 0#32
  ![v18.toNat, c0_i32_4.toNat, c4_i32_5.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnAllRefIdeal.lean ====
abbrev S17408x2048 : Shape := ⟨2, ![17408, 2048]⟩
abbrev S8x12288 : Shape := ⟨2, ![8, 12288]⟩
abbrev S2048 : Shape := ⟨1, ![2048]⟩
abbrev S2048x11264 : Shape := ⟨2, ![2048, 11264]⟩
abbrev S5632x2048 : Shape := ⟨2, ![5632, 2048]⟩
abbrev S16384x2048 : Shape := ⟨2, ![16384, 2048]⟩
abbrev S4x4096x2048 : Shape := ⟨3, ![4, 4096, 2048]⟩
abbrev S1024x2048 : Shape := ⟨2, ![1024, 2048]⟩
abbrev S4x256x2048 : Shape := ⟨3, ![4, 256, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x12288 : Shape := ⟨2, ![1, 12288]⟩
abbrev S12288 : Shape := ⟨1, ![12288]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11264 : Shape := ⟨3, ![4, 4096, 11264]⟩
abbrev S4x4096x5632 : Shape := ⟨3, ![4, 4096, 5632]⟩
abbrev S4x256 : Shape := ⟨2, ![4, 256]⟩
abbrev S4x256x1 : Shape := ⟨3, ![4, 256, 1]⟩
abbrev S4x256x11264 : Shape := ⟨3, ![4, 256, 11264]⟩
abbrev S4x256x5632 : Shape := ⟨3, ![4, 256, 5632]⟩

abbrev nBuf : Space → Nat
  | .hbm => 144
  | .vmem => 0
  | .smem => 0
  | _ => 0

abbrev hbmTy0_0 (i : Nat) : BufTy := match i % 128 with
  | 0 => ⟨S17408x2048, .f32⟩
  | 1 => ⟨S8x12288, .f32⟩
  | 2 => ⟨S2048, .f32⟩
  | 3 => ⟨S2048, .f32⟩
  | 4 => ⟨S2048x11264, .f32⟩
  | 5 => ⟨S5632x2048, .f32⟩
  | 6 => ⟨S16384x2048, .f32⟩
  | 7 => ⟨S4x4096x2048, .f32⟩
  | 8 => ⟨S1024x2048, .f32⟩
  | 9 => ⟨S4x256x2048, .f32⟩
  | 10 => ⟨S4x12288, .f32⟩
  | 11 => ⟨S4x1x12288, .f32⟩
  | 12 => ⟨S4x1x2048, .f32⟩
  | 13 => ⟨S4x1x2048, .f32⟩
  | 14 => ⟨S4x1x2048, .f32⟩
  | 15 => ⟨S4x1x2048, .f32⟩
  | 16 => ⟨S4x1x2048, .f32⟩
  | 17 => ⟨S4x1x2048, .f32⟩
  | 18 => ⟨S1x12288, .f32⟩
  | 19 => ⟨S12288, .f32⟩
  | 20 => ⟨S2048, .f32⟩
  | 21 => ⟨S2048, .f32⟩
  | 22 => ⟨S2048, .f32⟩
  | 23 => ⟨S2048, .f32⟩
  | 24 => ⟨S2048, .f32⟩
  | 25 => ⟨S2048, .f32⟩
  | 26 => ⟨S4x4096x2048, .f32⟩
  | 27 => ⟨S_, .f32⟩
  | 28 => ⟨S4x4096, .f32⟩
  | 29 => ⟨S4x4096x1, .f32⟩
  | 30 => ⟨S_, .f32⟩
  | 31 => ⟨S4x4096x1, .f32⟩
  | 32 => ⟨S4x4096x1, .f32⟩
  | 33 => ⟨S_, .f32⟩
  | 34 => ⟨S4x4096x1, .f32⟩
  | 35 => ⟨S4x4096x1, .f32⟩
  | 36 => ⟨S4x4096x1, .f32⟩
  | 37 => ⟨S4x4096x2048, .f32⟩
  | 38 => ⟨S4x4096x2048, .f32⟩
  | 39 => ⟨S1x1x2048, .f32⟩
  | 40 => ⟨S4x4096x2048, .f32⟩
  | 41 => ⟨S4x4096x2048, .f32⟩
  | 42 => ⟨S_, .f32⟩
  | 43 => ⟨S4x1x2048, .f32⟩
  | 44 => ⟨S4x1x2048, .f32⟩
  | 45 => ⟨S4x4096x2048, .f32⟩
  | 46 => ⟨S4x4096x2048, .f32⟩
  | 47 => ⟨S4x4096x2048, .f32⟩
  | 48 => ⟨S4x4096x2048, .f32⟩
  | 49 => ⟨S4x4096x11264, .f32⟩
  | 50 => ⟨S4x4096x5632, .f32⟩
  | 51 => ⟨S4x4096x5632, .f32⟩
  | 52 => ⟨S4x4096x5632, .f32⟩
  | 53 => ⟨S4x4096x5632, .f32⟩
  | 54 => ⟨S_, .f32⟩
  | 55 => ⟨S4x4096x5632, .f32⟩
  | 56 => ⟨S4x4096x5632, .f32⟩
  | 57 => ⟨S_, .f32⟩
  | 58 => ⟨S4x4096x5632, .f32⟩
  | 59 => ⟨S4x4096x5632, .f32⟩
  | 60 => ⟨S4x4096x5632, .f32⟩
  | 61 => ⟨S4x4096x5632, .f32⟩
  | 62 => ⟨S4x4096x2048, .f32⟩
  | 63 => ⟨S4x256x2048, .f32⟩
  | 64 => ⟨S_, .f32⟩
  | 65 => ⟨S4x256, .f32⟩
  | 66 => ⟨S4x256x1, .f32⟩
  | 67 => ⟨S_, .f32⟩
  | 68 => ⟨S4x256x1, .f32⟩
  | 69 => ⟨S4x256x1, .f32⟩
  | 70 => ⟨S_, .f32⟩
  | 71 => ⟨S4x256x1, .f32⟩
  | 72 => ⟨S4x256x1, .f32⟩
  | 73 => ⟨S4x256x1, .f32⟩
  | 74 => ⟨S4x256x2048, .f32⟩
  | 75 => ⟨S4x256x2048, .f32⟩
  | 76 => ⟨S1x1x2048, .f32⟩
  | 77 => ⟨S4x256x2048, .f32⟩
  | 78 => ⟨S4x256x2048, .f32⟩
  | 79 => ⟨S_, .f32⟩
  | 80 => ⟨S2048, .f32⟩
  | 81 => ⟨S2048, .f32⟩
  | 82 => ⟨S1x1x2048, .f32⟩
  | 83 => ⟨S4x256x2048, .f32⟩
  | 84 => ⟨S4x256x2048, .f32⟩
  | 85 => ⟨S1x1x2048, .f32⟩
  | 86 => ⟨S4x256x2048, .f32⟩
  | 87 => ⟨S4x256x2048, .f32⟩
  | 88 => ⟨S4x256x11264, .f32⟩
  | 89 => ⟨S4x256x5632, .f32⟩
  | 90 => ⟨S4x256x5632, .f32⟩
  | 91 => ⟨S4x256x5632, .f32⟩
  | 92 => ⟨S4x256x5632, .f32⟩
  | 93 => ⟨S_, .f32⟩
  | 94 => ⟨S4x256x5632, .f32⟩
  | 95 => ⟨S4x256x5632, .f32⟩
  | 96 => ⟨S_, .f32⟩
  | 97 => ⟨S4x256x5632, .f32⟩
  | 98 => ⟨S4x256x5632, .f32⟩
  | 99 => ⟨S4x256x5632, .f32⟩
  | 100 => ⟨S4x256x5632, .f32⟩
  | 101 => ⟨S4x256x2048, .f32⟩
  | 102 => ⟨S4x4096x2048, .f32⟩
  | 103 => ⟨S_, .f32⟩
  | 104 => ⟨S4x4096, .f32⟩
  | 105 => ⟨S4x4096x1, .f32⟩
  | 106 => ⟨S_, .f32⟩
  | 107 => ⟨S4x4096x1, .f32⟩
  | 108 => ⟨S4x4096x1, .f32⟩
  | 109 => ⟨S_, .f32⟩
  | 110 => ⟨S4x4096x1, .f32⟩
  | 111 => ⟨S4x4096x1, .f32⟩
  | 112 => ⟨S4x4096x1, .f32⟩
  | 113 => ⟨S4x4096x2048, .f32⟩
  | 114 => ⟨S4x4096x2048, .f32⟩
  | 115 => ⟨S1x1x2048, .f32⟩
  | 116 => ⟨S4x4096x2048, .f32⟩
  | 117 => ⟨S4x4096x2048, .f32⟩
  | 118 => ⟨S4x4096x2048, .f32⟩
  | 119 => ⟨S4x4096x2048, .f32⟩
  | 120 => ⟨S4x4096x2048, .f32⟩
  | 121 => ⟨S4x256x2048, .f32⟩
  | 122 => ⟨S_, .f32⟩
  | 123 => ⟨S4x256, .f32⟩
  | 124 => ⟨S4x256x1, .f32⟩
  | 125 => ⟨S_, .f32⟩
  | 126 => ⟨S4x256x1, .f32⟩
  | 127 => ⟨S4x256x1, .f32⟩
  | _ => ⟨S17408x2048, .f32⟩

abbrev hbmTy0_1 (i : Nat) : BufTy := match i % 128 with
  | 0 => ⟨S_, .f32⟩
  | 1 => ⟨S4x256x1, .f32⟩
  | 2 => ⟨S4x256x1, .f32⟩
  | 3 => ⟨S4x256x1, .f32⟩
  | 4 => ⟨S4x256x2048, .f32⟩
  | 5 => ⟨S4x256x2048, .f32⟩
  | 6 => ⟨S1x1x2048, .f32⟩
  | 7 => ⟨S4x256x2048, .f32⟩
  | 8 => ⟨S4x256x2048, .f32⟩
  | 9 => ⟨S1x1x2048, .f32⟩
  | 10 => ⟨S4x256x2048, .f32⟩
  | 11 => ⟨S4x256x2048, .f32⟩
  | 12 => ⟨S4x256x2048, .f32⟩
  | 13 => ⟨S16384x2048, .f32⟩
  | 14 => ⟨S1024x2048, .f32⟩
  | 15 => ⟨S17408x2048, .f32⟩
  | _ => ⟨S17408x2048, .f32⟩

abbrev hbmTy (i : Nat) : BufTy := match i / 128 with
  | 0 => hbmTy0_0 i
  | 1 => hbmTy0_1 i
  | _ => ⟨S17408x2048, .f32⟩

abbrev bufTy : (tb : Table) → Fin (tcTables nBuf tb) → BufTy
  | .hbm, ⟨i, _⟩ => hbmTy i
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_7 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_cst_9 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_10 : Ref sig .tc := ⟨.hbm, 122, rfl⟩
abbrev main_v89 : Ref sig .tc := ⟨.hbm, 123, rfl⟩
abbrev main_v90 : Ref sig .tc := ⟨.hbm, 124, rfl⟩
abbrev main_cst_11 : Ref sig .tc := ⟨.hbm, 125, rfl⟩
abbrev main_v91 : Ref sig .tc := ⟨.hbm, 126, rfl⟩
abbrev main_v92 : Ref sig .tc := ⟨.hbm, 127, rfl⟩
abbrev main_cst_12 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]
-- ==== AttnOut.lean ====
abbrev S16384x2048 : Shape := ⟨2, ![16384, 2048]⟩
abbrev S17408x2048 : Shape := ⟨2, ![17408, 2048]⟩
abbrev S8x12288 : Shape := ⟨2, ![8, 12288]⟩
abbrev S2048 : Shape := ⟨1, ![2048]⟩
abbrev S2048x2048 : Shape := ⟨2, ![2048, 2048]⟩
abbrev S1x2048 : Shape := ⟨2, ![1, 2048]⟩
abbrev S8x1x12288 : Shape := ⟨3, ![8, 1, 12288]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S17408x2048, .f32⟩
  | .hbm, ⟨2, _⟩ => ⟨S8x12288, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S8x1x12288, .f32⟩
  | .hbm, ⟨7, _⟩ => ⟨S2048x2048, .bf16⟩
  | .hbm, ⟨8, _⟩ => ⟨S16384x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S256x2048, .f32⟩
  | .local _ .vmem, ⟨9, _⟩ => ⟨S256x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c2_i32 : BitVec 32 := 2#32
  let c0_i32_5 : BitVec 32 := 0#32
  ![v18.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnOutRefIdeal.lean ====
abbrev S16384x2048 : Shape := ⟨2, ![16384, 2048]⟩
abbrev S17408x2048 : Shape := ⟨2, ![17408, 2048]⟩
abbrev S8x12288 : Shape := ⟨2, ![8, 12288]⟩
abbrev S2048 : Shape := ⟨1, ![2048]⟩
abbrev S2048x2048 : Shape := ⟨2, ![2048, 2048]⟩
abbrev S4x12288 : Shape := ⟨2, ![4, 12288]⟩
abbrev S4x1x12288 : Shape := ⟨3, ![4, 1, 12288]⟩
abbrev S4x1x2048 : Shape := ⟨3, ![4, 1, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S17408x2048, .f32⟩
  | .hbm, ⟨2, _⟩ => ⟨S8x12288, .f32⟩
  | .hbm, ⟨3, _⟩ => ⟨S2048, .f32⟩
  | .hbm, ⟨4, _⟩ => ⟨S2048x2048, .f32⟩
  | .hbm, ⟨5, _⟩ => ⟨S4x12288, .f32⟩
  | .hbm, ⟨6, _⟩ => ⟨S4x1x12288, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S16384x2048, .f32⟩
  | .hbm, ⟨14, _⟩ => ⟨S4x4096x2048, .f32⟩
  | .hbm, ⟨15, _⟩ => ⟨S4x4096x2048, .f32⟩
  | .hbm, ⟨16, _⟩ => ⟨S16384x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Inproj.lean ====
abbrev S4x4096x2048 : Shape := ⟨3, ![4, 4096, 2048]⟩
abbrev S4x256x2048 : Shape := ⟨3, ![4, 256, 2048]⟩
abbrev S8x12288 : Shape := ⟨2, ![8, 12288]⟩
abbrev S2048 : Shape := ⟨1, ![2048]⟩
abbrev S2048x6176 : Shape := ⟨2, ![2048, 6176]⟩
abbrev S2048x6144 : Shape := ⟨2, ![2048, 6144]⟩
abbrev S2048x32 : Shape := ⟨2, ![2048, 32]⟩
abbrev S_ : Shape := ⟨0, ![]⟩
abbrev S2048x128 : Shape := ⟨2, ![2048, 128]⟩
abbrev S16384x2048 : Shape := ⟨2, ![16384, 2048]⟩
abbrev S1024x2048 : Shape := ⟨2, ![1024, 2048]⟩
abbrev S1x2048 : Shape := ⟨2, ![1, 2048]⟩
abbrev S8x1x12288 : Shape := ⟨3, ![8, 1, 12288]⟩
abbrev S17408x6144 : Shape := ⟨2, ![17408, 6144]⟩
abbrev S17408x128 : Shape := ⟨2, ![17408, 128]⟩
abbrev S512x2048 : Shape := ⟨2, ![512, 2048]⟩
abbrev S1x1x2048 : Shape := ⟨3, ![1, 1, 2048]⟩
abbrev S2048x2048 : Shape := ⟨2, ![2048, 2048]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S8x12288, .f32⟩
  | .hbm, ⟨3, _⟩ => ⟨S2048, .f32⟩
  | .hbm, ⟨4, _⟩ => ⟨S2048x6176, .f32⟩
  | .hbm, ⟨5, _⟩ => ⟨S2048x6144, .f32⟩
  | .hbm, ⟨6, _⟩ => ⟨S2048x6144, .bf16⟩
  | .hbm, ⟨7, _⟩ => ⟨S2048x32, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S16384x2048, .f32⟩
  | .hbm, ⟨13, _⟩ => ⟨S1024x2048, .f32⟩
  | .hbm, ⟨14, _⟩ => ⟨S1x2048, .f32⟩
  | .hbm, ⟨15, _⟩ => ⟨S8x1x12288, .f32⟩
  | .hbm, ⟨16, _⟩ => ⟨S17408x6144, .bf16⟩
  | .hbm, ⟨17, _⟩ => ⟨S17408x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x2048, .bf16⟩
  | .local _ .vmem, ⟨10, _⟩ => ⟨S2048x2048, .bf16⟩
  | .local _ .vmem, ⟨11, _⟩ => ⟨S2048x128, .bf16⟩
  | .local _ .vmem, ⟨12, _⟩ => ⟨S512x2048, .bf16⟩
  | .local _ .vmem, ⟨13, _⟩ => ⟨S512x2048, .bf16⟩
  | .local _ .vmem, ⟨14, _⟩ => ⟨S512x128, .f32⟩
  | .local _ .vmem, ⟨15, _⟩ => ⟨S512x128, .f32⟩
  | .local _ .vmem, ⟨16, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![34, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c1_i32_5 : BitVec 32 := 1#32
  let c0_i32_6 : BitVec 32 := 0#32
  ![v18.toNat, c0_i32_4.toNat, c1_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InprojRefIdeal.lean ====
abbrev S4x4096x2048 : Shape := ⟨3, ![4, 4096, 2048]⟩
abbrev S4x256x2048 : Shape := ⟨3, ![4, 256, 2048]⟩
abbrev S8x12288 : Shape := ⟨2, ![8, 12288]⟩
abbrev S2048 : Shape := ⟨1, ![2048]⟩
abbrev S2048x6176 : Shape := ⟨2, ![2048, 6176]⟩
abbrev S4x12288 : Shape := ⟨2, ![4, 12288]⟩
abbrev S4x1x12288 : Shape := ⟨3, ![4, 1, 12288]⟩
abbrev S4x1x2048 : Shape := ⟨3, ![4, 1, 2048]⟩
abbrev S1x12288 : Shape := ⟨2, ![1, 12288]⟩
abbrev S12288 : Shape := ⟨1, ![12288]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6176 : Shape := ⟨3, ![4, 4096, 6176]⟩
abbrev S4x256 : Shape := ⟨2, ![4, 256]⟩
abbrev S4x256x1 : Shape := ⟨3, ![4, 256, 1]⟩
abbrev S4x256x6176 : Shape := ⟨3, ![4, 256, 6176]⟩
abbrev S16384x6176 : Shape := ⟨2, ![16384, 6176]⟩
abbrev S1024x6176 : Shape := ⟨2, ![1024, 6176]⟩
abbrev S17408x6176 : Shape := ⟨2, ![17408, 6176]⟩
abbrev S17408x6144 : Shape := ⟨2, ![17408, 6144]⟩
abbrev S17408x32 : Shape := ⟨2, ![17408, 32]⟩
abbrev S17408x128 : Shape := ⟨2, ![17408, 128]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S8x12288, .f32⟩
  | .hbm, ⟨3, _⟩ => ⟨S2048, .f32⟩
  | .hbm, ⟨4, _⟩ => ⟨S2048x6176, .f32⟩
  | .hbm, ⟨5, _⟩ => ⟨S4x12288, .f32⟩
  | .hbm, ⟨6, _⟩ => ⟨S4x1x12288, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S1x12288, .f32⟩
  | .hbm, ⟨14, _⟩ => ⟨S12288, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S4x4096x2048, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x1x2048, .f32⟩
  | .hbm, ⟨39, _⟩ => ⟨S4x1x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x6176, .f32⟩
  | .hbm, ⟨45, _⟩ => ⟨S4x256x2048, .f32⟩
  | .hbm, ⟨46, _⟩ => ⟨S_, .f32⟩
  | .hbm, ⟨47, _⟩ => ⟨S4x256, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S4x256x1, .f32⟩
  | .hbm, ⟨56, _⟩ => ⟨S4x256x2048, .f32⟩
  | .hbm, ⟨57, _⟩ => ⟨S4x256x2048, .f32⟩
  | .hbm, ⟨58, _⟩ => ⟨S1x1x2048, .f32⟩
  | .hbm, ⟨59, _⟩ => ⟨S4x256x2048, .f32⟩
  | .hbm, ⟨60, _⟩ => ⟨S4x256x2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S1x1x2048, .f32⟩
  | .hbm, ⟨65, _⟩ => ⟨S4x256x2048, .f32⟩
  | .hbm, ⟨66, _⟩ => ⟨S4x256x2048, .f32⟩
  | .hbm, ⟨67, _⟩ => ⟨S1x1x2048, .f32⟩
  | .hbm, ⟨68, _⟩ => ⟨S4x256x2048, .f32⟩
  | .hbm, ⟨69, _⟩ => ⟨S4x256x2048, .f32⟩
  | .hbm, ⟨70, _⟩ => ⟨S4x256x6176, .f32⟩
  | .hbm, ⟨71, _⟩ => ⟨S16384x6176, .f32⟩
  | .hbm, ⟨72, _⟩ => ⟨S1024x6176, .f32⟩
  | .hbm, ⟨73, _⟩ => ⟨S17408x6176, .f32⟩
  | .hbm, ⟨74, _⟩ => ⟨S17408x6144, .f32⟩
  | .hbm, ⟨75, _⟩ => ⟨S17408x32, .f32⟩
  | .hbm, ⟨76, _⟩ => ⟨S17408x6144, .bf16⟩
  | .hbm, ⟨77, _⟩ => ⟨S_, .i32⟩
  | .hbm, ⟨78, _⟩ => ⟨S_, .f32⟩
  | .hbm, ⟨79, _⟩ => ⟨S17408x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_c : Ref sig .tc := ⟨.hbm, 77, rfl⟩
abbrev main_call0_v0 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== MlstmOut.lean ====
abbrev S17408x2048 : Shape := ⟨2, ![17408, 2048]⟩
abbrev S17408x6144 : Shape := ⟨2, ![17408, 6144]⟩
abbrev S4x4096x2048 : Shape := ⟨3, ![4, 4096, 2048]⟩
abbrev S4x256x2048 : Shape := ⟨3, ![4, 256, 2048]⟩
abbrev S8x12288 : Shape := ⟨2, ![8, 12288]⟩
abbrev S2048 : Shape := ⟨1, ![2048]⟩
abbrev S2048x2048 : Shape := ⟨2, ![2048, 2048]⟩
abbrev S16384x2048 : Shape := ⟨2, ![16384, 2048]⟩
abbrev S1024x2048 : Shape := ⟨2, ![1024, 2048]⟩
abbrev S1x2048 : Shape := ⟨2, ![1, 2048]⟩
abbrev S8x1x12288 : Shape := ⟨3, ![8, 1, 12288]⟩
abbrev S256x2048 : Shape := ⟨2, ![256, 2048]⟩
abbrev S1x1x2048 : Shape := ⟨3, ![1, 1, 2048]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 16
  | .vmem => 18
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S17408x6144, .bf16⟩
  | .hbm, ⟨3, _⟩ => ⟨S4x4096x2048, .f32⟩
  | .hbm, ⟨4, _⟩ => ⟨S4x256x2048, .f32⟩
  | .hbm, ⟨5, _⟩ => ⟨S8x12288, .f32⟩
  | .hbm, ⟨6, _⟩ => ⟨S2048, .f32⟩
  | .hbm, ⟨7, _⟩ => ⟨S2048, .f32⟩
  | .hbm, ⟨8, _⟩ => ⟨S2048x2048, .f32⟩
  | .hbm, ⟨9, _⟩ => ⟨S16384x2048, .f32⟩
  | .hbm, ⟨10, _⟩ => ⟨S1024x2048, .f32⟩
  | .hbm, ⟨11, _⟩ => ⟨S1x2048, .f32⟩
  | .hbm, ⟨12, _⟩ => ⟨S1x2048, .f32⟩
  | .hbm, ⟨13, _⟩ => ⟨S8x1x12288, .f32⟩
  | .hbm, ⟨14, _⟩ => ⟨S2048x2048, .bf16⟩
  | .hbm, ⟨15, _⟩ => ⟨S17408x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x1x2048, .f32⟩
  | .local _ .vmem, ⟨13, _⟩ => ⟨S1x1x2048, .f32⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c2_i32 : BitVec 32 := 2#32
  let c0_i32_5 : BitVec 32 := 0#32
  ![v18.toNat, c0_i32_4.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlstmOutRefIdeal.lean ====
abbrev S17408x2048 : Shape := ⟨2, ![17408, 2048]⟩
abbrev S17408x6144 : Shape := ⟨2, ![17408, 6144]⟩
abbrev S4x4096x2048 : Shape := ⟨3, ![4, 4096, 2048]⟩
abbrev S4x256x2048 : Shape := ⟨3, ![4, 256, 2048]⟩
abbrev S8x12288 : Shape := ⟨2, ![8, 12288]⟩
abbrev S2048 : Shape := ⟨1, ![2048]⟩
abbrev S2048x2048 : Shape := ⟨2, ![2048, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x12288 : Shape := ⟨2, ![1, 12288]⟩
abbrev S12288 : Shape := ⟨1, ![12288]⟩
abbrev S16384x2048 : Shape := ⟨2, ![16384, 2048]⟩
abbrev S4x4096x8x256 : Shape := ⟨4, ![4, 4096, 8, 256]⟩
abbrev S4x8x4096x256 : Shape := ⟨4, ![4, 8, 4096, 256]⟩
abbrev S_ : Shape := ⟨0, ![]⟩
abbrev S4x8x4096 : Shape := ⟨3, ![4, 8, 4096]⟩
abbrev S4x8x4096x1 : Shape := ⟨4, ![4, 8, 4096, 1]⟩
abbrev S1x8x1x256 : Shape := ⟨4, ![1, 8, 1, 256]⟩
abbrev S1024x2048 : Shape := ⟨2, ![1024, 2048]⟩
abbrev S4x256x8x256 : Shape := ⟨4, ![4, 256, 8, 256]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x4096 : Shape := ⟨2, ![4, 4096]⟩
abbrev S4x4096x1 : Shape := ⟨3, ![4, 4096, 1]⟩
abbrev S1x1x2048 : Shape := ⟨3, ![1, 1, 2048]⟩
abbrev S4x256 : Shape := ⟨2, ![4, 256]⟩
abbrev S4x256x1 : Shape := ⟨3, ![4, 256, 1]⟩

abbrev nBuf : Space → Nat
  | .hbm => 138
  | .vmem => 0
  | .smem => 0
  | _ => 0

abbrev hbmTy0_0 (i : Nat) : BufTy := match i % 128 with
  | 0 => ⟨S17408x2048, .f32⟩
  | 1 => ⟨S17408x2048, .f32⟩
  | 2 => ⟨S17408x6144, .bf16⟩
  | 3 => ⟨S4x4096x2048, .f32⟩
  | 4 => ⟨S4x256x2048, .f32⟩
  | 5 => ⟨S8x12288, .f32⟩
  | 6 => ⟨S2048, .f32⟩
  | 7 => ⟨S2048, .f32⟩
  | 8 => ⟨S2048x2048, .f32⟩
  | 9 => ⟨S4x12288, .f32⟩
  | 10 => ⟨S4x1x12288, .f32⟩
  | 11 => ⟨S4x1x2048, .f32⟩
  | 12 => ⟨S4x1x2048, .f32⟩
  | 13 => ⟨S4x1x2048, .f32⟩
  | 14 => ⟨S4x1x2048, .f32⟩
  | 15 => ⟨S4x1x2048, .f32⟩
  | 16 => ⟨S4x1x2048, .f32⟩
  | 17 => ⟨S1x12288, .f32⟩
  | 18 => ⟨S12288, .f32⟩
  | 19 => ⟨S2048, .f32⟩
  | 20 => ⟨S2048, .f32⟩
  | 21 => ⟨S2048, .f32⟩
  | 22 => ⟨S2048, .f32⟩
  | 23 => ⟨S2048, .f32⟩
  | 24 => ⟨S2048, .f32⟩
  | 25 => ⟨S17408x2048, .f32⟩
  | 26 => ⟨S17408x2048, .bf16⟩
  | 27 => ⟨S17408x2048, .f32⟩
  | 28 => ⟨S16384x2048, .f32⟩
  | 29 => ⟨S4x4096x2048, .f32⟩
  | 30 => ⟨S16384x2048, .f32⟩
  | 31 => ⟨S4x4096x2048, .f32⟩
  | 32 => ⟨S4x4096x8x256, .f32⟩
  | 33 => ⟨S4x8x4096x256, .f32⟩
  | 34 => ⟨S4x8x4096x256, .f32⟩
  | 35 => ⟨S_, .f32⟩
  | 36 => ⟨S4x8x4096, .f32⟩
  | 37 => ⟨S4x8x4096x1, .f32⟩
  | 38 => ⟨S_, .f32⟩
  | 39 => ⟨S4x8x4096x1, .f32⟩
  | 40 => ⟨S4x8x4096x1, .f32⟩
  | 41 => ⟨S_, .f32⟩
  | 42 => ⟨S4x8x4096x1, .f32⟩
  | 43 => ⟨S4x8x4096x1, .f32⟩
  | 44 => ⟨S4x8x4096x1, .f32⟩
  | 45 => ⟨S4x8x4096x256, .f32⟩
  | 46 => ⟨S4x8x4096x256, .f32⟩
  | 47 => ⟨S1x8x1x256, .f32⟩
  | 48 => ⟨S4x8x4096x256, .f32⟩
  | 49 => ⟨S4x8x4096x256, .f32⟩
  | 50 => ⟨S4x4096x8x256, .f32⟩
  | 51 => ⟨S4x4096x2048, .f32⟩
  | 52 => ⟨S4x4096x2048, .f32⟩
  | 53 => ⟨S4x4096x2048, .f32⟩
  | 54 => ⟨S_, .f32⟩
  | 55 => ⟨S4x4096x2048, .f32⟩
  | 56 => ⟨S4x4096x2048, .f32⟩
  | 57 => ⟨S_, .f32⟩
  | 58 => ⟨S4x4096x2048, .f32⟩
  | 59 => ⟨S4x4096x2048, .f32⟩
  | 60 => ⟨S4x4096x2048, .f32⟩
  | 61 => ⟨S4x4096x2048, .f32⟩
  | 62 => ⟨S1024x2048, .f32⟩
  | 63 => ⟨S4x256x2048, .f32⟩
  | 64 => ⟨S1024x2048, .f32⟩
  | 65 => ⟨S4x256x2048, .f32⟩
  | 66 => ⟨S4x256x8x256, .f32⟩
  | 67 => ⟨S4x8x256x256, .f32⟩
  | 68 => ⟨S4x8x256x256, .f32⟩
  | 69 => ⟨S_, .f32⟩
  | 70 => ⟨S4x8x256, .f32⟩
  | 71 => ⟨S4x8x256x1, .f32⟩
  | 72 => ⟨S_, .f32⟩
  | 73 => ⟨S4x8x256x1, .f32⟩
  | 74 => ⟨S4x8x256x1, .f32⟩
  | 75 => ⟨S_, .f32⟩
  | 76 => ⟨S4x8x256x1, .f32⟩
  | 77 => ⟨S4x8x256x1, .f32⟩
  | 78 => ⟨S4x8x256x1, .f32⟩
  | 79 => ⟨S4x8x256x256, .f32⟩
  | 80 => ⟨S4x8x256x256, .f32⟩
  | 81 => ⟨S1x8x1x256, .f32⟩
  | 82 => ⟨S4x8x256x256, .f32⟩
  | 83 => ⟨S4x8x256x256, .f32⟩
  | 84 => ⟨S4x256x8x256, .f32⟩
  | 85 => ⟨S4x256x2048, .f32⟩
  | 86 => ⟨S4x256x2048, .f32⟩
  | 87 => ⟨S4x256x2048, .f32⟩
  | 88 => ⟨S_, .f32⟩
  | 89 => ⟨S4x256x2048, .f32⟩
  | 90 => ⟨S4x256x2048, .f32⟩
  | 91 => ⟨S_, .f32⟩
  | 92 => ⟨S4x256x2048, .f32⟩
  | 93 => ⟨S4x256x2048, .f32⟩
  | 94 => ⟨S4x256x2048, .f32⟩
  | 95 => ⟨S4x256x2048, .f32⟩
  | 96 => ⟨S4x4096x2048, .f32⟩
  | 97 => ⟨S_, .f32⟩
  | 98 => ⟨S4x4096, .f32⟩
  | 99 => ⟨S4x4096x1, .f32⟩
  | 100 => ⟨S_, .f32⟩
  | 101 => ⟨S4x4096x1, .f32⟩
  | 102 => ⟨S4x4096x1, .f32⟩
  | 103 => ⟨S_, .f32⟩
  | 104 => ⟨S4x4096x1, .f32⟩
  | 105 => ⟨S4x4096x1, .f32⟩
  | 106 => ⟨S4x4096x1, .f32⟩
  | 107 => ⟨S4x4096x2048, .f32⟩
  | 108 => ⟨S4x4096x2048, .f32⟩
  | 109 => ⟨S1x1x2048, .f32⟩
  | 110 => ⟨S4x4096x2048, .f32⟩
  | 111 => ⟨S4x4096x2048, .f32⟩
  | 112 => ⟨S4x4096x2048, .f32⟩
  | 113 => ⟨S4x4096x2048, .f32⟩
  | 114 => ⟨S4x4096x2048, .f32⟩
  | 115 => ⟨S4x256x2048, .f32⟩
  | 116 => ⟨S_, .f32⟩
  | 117 => ⟨S4x256, .f32⟩
  | 118 => ⟨S4x256x1, .f32⟩
  | 119 => ⟨S_, .f32⟩
  | 120 => ⟨S4x256x1, .f32⟩
  | 121 => ⟨S4x256x1, .f32⟩
  | 122 => ⟨S_, .f32⟩
  | 123 => ⟨S4x256x1, .f32⟩
  | 124 => ⟨S4x256x1, .f32⟩
  | 125 => ⟨S4x256x1, .f32⟩
  | 126 => ⟨S4x256x2048, .f32⟩
  | 127 => ⟨S4x256x2048, .f32⟩
  | _ => ⟨S17408x2048, .f32⟩

abbrev hbmTy0_1 (i : Nat) : BufTy := match i % 128 with
  | 0 => ⟨S1x1x2048, .f32⟩
  | 1 => ⟨S4x256x2048, .f32⟩
  | 2 => ⟨S4x256x2048, .f32⟩
  | 3 => ⟨S1x1x2048, .f32⟩
  | 4 => ⟨S4x256x2048, .f32⟩
  | 5 => ⟨S4x256x2048, .f32⟩
  | 6 => ⟨S4x256x2048, .f32⟩
  | 7 => ⟨S16384x2048, .f32⟩
  | 8 => ⟨S1024x2048, .f32⟩
  | 9 => ⟨S17408x2048, .f32⟩
  | _ => ⟨S17408x2048, .f32⟩

abbrev hbmTy (i : Nat) : BufTy := match i / 128 with
  | 0 => hbmTy0_0 i
  | 1 => hbmTy0_1 i
  | _ => ⟨S17408x2048, .f32⟩

abbrev bufTy : (tb : Table) → Fin (tcTables nBuf tb) → BufTy
  | .hbm, ⟨i, _⟩ => hbmTy i
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_12 : Ref sig .tc := ⟨.hbm, 116, rfl⟩
abbrev main_v94 : Ref sig .tc := ⟨.hbm, 117, rfl⟩
abbrev main_v95 : Ref sig .tc := ⟨.hbm, 118, rfl⟩
abbrev main_cst_13 : Ref sig .tc := ⟨.hbm, 119, rfl⟩
abbrev main_v96 : Ref sig .tc := ⟨.hbm, 120, rfl⟩
abbrev main_v97 : Ref sig .tc := ⟨.hbm, 121, rfl⟩
abbrev main_cst_14 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩

abbrev nD : Nat := 1
abbrev τ : Topo := Topo.v7x

variable {F : FTy → Type} [FloatOps F]
-- ==== Qkv.lean ====
abbrev S17408x2048 : Shape := ⟨2, ![17408, 2048]⟩
abbrev S8x12288 : Shape := ⟨2, ![8, 12288]⟩
abbrev S2048 : Shape := ⟨1, ![2048]⟩
abbrev S128 : Shape := ⟨1, ![128]⟩
abbrev S4096x64 : Shape := ⟨2, ![4096, 64]⟩
abbrev S2048x3072 : Shape := ⟨2, ![2048, 3072]⟩
abbrev S2 : Shape := ⟨1, ![2]⟩
abbrev S4096x64x2 : Shape := ⟨3, ![4096, 64, 2]⟩
abbrev S4096x128 : Shape := ⟨2, ![4096, 128]⟩
abbrev S1x2 : Shape := ⟨2, ![1, 2]⟩
abbrev S64x2 : Shape := ⟨2, ![64, 2]⟩
abbrev S1x128 : Shape := ⟨2, ![1, 128]⟩
abbrev S_ : Shape := ⟨0, ![]⟩
abbrev S512x128 : Shape := ⟨2, ![512, 128]⟩
abbrev S4608x128 : Shape := ⟨2, ![4608, 128]⟩
abbrev S1x2048 : Shape := ⟨2, ![1, 2048]⟩
abbrev S8x1x12288 : Shape := ⟨3, ![8, 1, 12288]⟩
abbrev S17408x512 : Shape := ⟨2, ![17408, 512]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 33
  | .vmem => 22
  | .smem => 0
  | _ => 0

abbrev bufTy : (tb : Table) → Fin (tcTables nBuf tb) → BufTy
  | .hbm, ⟨0, _⟩ => ⟨S17408x2048, .f32⟩
  | .hbm, ⟨1, _⟩ => ⟨S8x12288, .f32⟩
  | .hbm, ⟨2, _⟩ => ⟨S2048, .f32⟩
  | .hbm, ⟨3, _⟩ => ⟨S128, .f32⟩
  | .hbm, ⟨4, _⟩ => ⟨S128, .f32⟩
  | .hbm, ⟨5, _⟩ => ⟨S4096x64, .f32⟩
  | .hbm, ⟨6, _⟩ => ⟨S4096x64, .f32⟩
  | .hbm, ⟨7, _⟩ => ⟨S2048x3072, .f32⟩
  | .hbm, ⟨8, _⟩ => ⟨S2, .f32⟩
  | .hbm, ⟨9, _⟩ => ⟨S4096x64x2, .f32⟩
  | .hbm, ⟨10, _⟩ => ⟨S4096x128, .f32⟩
  | .hbm, ⟨11, _⟩ => ⟨S4096x64x2, .f32⟩
  | .hbm, ⟨12, _⟩ => ⟨S4096x128, .f32⟩
  | .hbm, ⟨13, _⟩ => ⟨S1x2, .f32⟩
  | .hbm, ⟨14, _⟩ => ⟨S64x2, .f32⟩
  | .hbm, ⟨15, _⟩ => ⟨S128, .f32⟩
  | .hbm, ⟨16, _⟩ => ⟨S1x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S512x128, .f32⟩
  | .hbm, ⟨21, _⟩ => ⟨S4608x128, .f32⟩
  | .hbm, ⟨22, _⟩ => ⟨S_, .f32⟩
  | .hbm, ⟨23, _⟩ => ⟨S512x128, .f32⟩
  | .hbm, ⟨24, _⟩ => ⟨S4608x128, .f32⟩
  | .hbm, ⟨25, _⟩ => ⟨S1x2048, .f32⟩
  | .hbm, ⟨26, _⟩ => ⟨S8x1x12288, .f32⟩
  | .hbm, ⟨27, _⟩ => ⟨S1x128, .f32⟩
  | .hbm, ⟨28, _⟩ => ⟨S1x128, .f32⟩
  | .hbm, ⟨29, _⟩ => ⟨S2048x3072, .bf16⟩
  | .hbm, ⟨30, _⟩ => ⟨S17408x2048, .bf16⟩
  | .hbm, ⟨31, _⟩ => ⟨S17408x512, .bf16⟩
  | .hbm, ⟨32, _⟩ => ⟨S17408x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S2048x512, .bf16⟩
  | .local _ .vmem, ⟨14, _⟩ => ⟨S2048x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![34, 6], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .eq arg1 c4_i32_5
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== QkvRefIdeal.lean ====
abbrev S17408x2048 : Shape := ⟨2, ![17408, 2048]⟩
abbrev S8x12288 : Shape := ⟨2, ![8, 12288]⟩
abbrev S2048 : Shape := ⟨1, ![2048]⟩
abbrev S128 : Shape := ⟨1, ![128]⟩
abbrev S4096x64 : Shape := ⟨2, ![4096, 64]⟩
abbrev S2048x3072 : Shape := ⟨2, ![2048, 3072]⟩
abbrev S4x12288 : Shape := ⟨2, ![4, 12288]⟩
abbrev S4x1x12288 : Shape := ⟨3, ![4, 1, 12288]⟩
abbrev S4x1x2048 : Shape := ⟨3, ![4, 1, 2048]⟩
abbrev S1x12288 : Shape := ⟨2, ![1, 12288]⟩
abbrev S12288 : Shape := ⟨1, ![12288]⟩
abbrev S16384x2048 : Shape := ⟨2, ![16384, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x3072 : Shape := ⟨3, ![4, 4096, 3072]⟩
abbrev S4x4096x512 : Shape := ⟨3, ![4, 4096, 512]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1024x2048 : Shape := ⟨2, ![1024, 2048]⟩
abbrev S4x256x2048 : Shape := ⟨3, ![4, 256, 2048]⟩
abbrev S4x256 : Shape := ⟨2, ![4, 256]⟩
abbrev S4x256x1 : Shape := ⟨3, ![4, 256, 1]⟩
abbrev S4x256x3072 : Shape := ⟨3, ![4, 256, 3072]⟩
abbrev S4x256x512 : Shape := ⟨3, ![4, 256, 512]⟩
abbrev S4x256x16x128 : Shape := ⟨4, ![4, 256, 16, 128]⟩
abbrev S4x256x16 : Shape := ⟨3, ![4, 256, 16]⟩
abbrev S4x256x16x1 : Shape := ⟨4, ![4, 256, 16, 1]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4096x16x64x2 : Shape := ⟨5, ![4, 4096, 16, 64, 2]⟩
abbrev S4x4096x16x64x1 : Shape := ⟨5, ![4, 4096, 16, 64, 1]⟩
abbrev S4x4096x16x64 : Shape := ⟨4, ![4, 4096, 16, 64]⟩
abbrev S1x4096x1x64 : Shape := ⟨4, ![1, 4096, 1, 64]⟩
abbrev S4x4096x4x64x2 : Shape := ⟨5, ![4, 4096, 4, 64, 2]⟩
abbrev S4x4096x4x64x1 : Shape := ⟨5, ![4, 4096, 4, 64, 1]⟩
abbrev S4x4096x4x64 : Shape := ⟨4, ![4, 4096, 4, 64]⟩
abbrev S16384x512 : Shape := ⟨2, ![16384, 512]⟩
abbrev S1024x512 : Shape := ⟨2, ![1024, 512]⟩
abbrev S17408x512 : Shape := ⟨2, ![17408, 512]⟩

abbrev nBuf : Space → Nat
  | .hbm => 209
  | .vmem => 0
  | .smem => 0
  | _ => 0

abbrev hbmTy0_0 (i : Nat) : BufTy := match i % 128 with
  | 0 => ⟨S17408x2048, .f32⟩
  | 1 => ⟨S8x12288, .f32⟩
  | 2 => ⟨S2048, .f32⟩
  | 3 => ⟨S128, .f32⟩
  | 4 => ⟨S128, .f32⟩
  | 5 => ⟨S4096x64, .f32⟩
  | 6 => ⟨S4096x64, .f32⟩
  | 7 => ⟨S2048x3072, .f32⟩
  | 8 => ⟨S4x12288, .f32⟩
  | 9 => ⟨S4x1x12288, .f32⟩
  | 10 => ⟨S4x1x2048, .f32⟩
  | 11 => ⟨S4x1x2048, .f32⟩
  | 12 => ⟨S4x1x2048, .f32⟩
  | 13 => ⟨S4x1x2048, .f32⟩
  | 14 => ⟨S4x1x2048, .f32⟩
  | 15 => ⟨S4x1x2048, .f32⟩
  | 16 => ⟨S1x12288, .f32⟩
  | 17 => ⟨S12288, .f32⟩
  | 18 => ⟨S2048, .f32⟩
  | 19 => ⟨S2048, .f32⟩
  | 20 => ⟨S2048, .f32⟩
  | 21 => ⟨S2048, .f32⟩
  | 22 => ⟨S2048, .f32⟩
  | 23 => ⟨S2048, .f32⟩
  | 24 => ⟨S16384x2048, .f32⟩
  | 25 => ⟨S4x4096x2048, .f32⟩
  | 26 => ⟨S4x4096x2048, .f32⟩
  | 27 => ⟨S_, .f32⟩
  | 28 => ⟨S4x4096, .f32⟩
  | 29 => ⟨S4x4096x1, .f32⟩
  | 30 => ⟨S_, .f32⟩
  | 31 => ⟨S4x4096x1, .f32⟩
  | 32 => ⟨S4x4096x1, .f32⟩
  | 33 => ⟨S_, .f32⟩
  | 34 => ⟨S4x4096x1, .f32⟩
  | 35 => ⟨S4x4096x1, .f32⟩
  | 36 => ⟨S4x4096x1, .f32⟩
  | 37 => ⟨S4x4096x2048, .f32⟩
  | 38 => ⟨S4x4096x2048, .f32⟩
  | 39 => ⟨S1x1x2048, .f32⟩
  | 40 => ⟨S4x4096x2048, .f32⟩
  | 41 => ⟨S4x4096x2048, .f32⟩
  | 42 => ⟨S_, .f32⟩
  | 43 => ⟨S4x1x2048, .f32⟩
  | 44 => ⟨S4x1x2048, .f32⟩
  | 45 => ⟨S4x4096x2048, .f32⟩
  | 46 => ⟨S4x4096x2048, .f32⟩
  | 47 => ⟨S4x4096x2048, .f32⟩
  | 48 => ⟨S4x4096x2048, .f32⟩
  | 49 => ⟨S4x4096x3072, .f32⟩
  | 50 => ⟨S4x4096x2048, .f32⟩
  | 51 => ⟨S4x4096x512, .f32⟩
  | 52 => ⟨S4x4096x512, .f32⟩
  | 53 => ⟨S4x4096x16x128, .f32⟩
  | 54 => ⟨S4x4096x16x128, .f32⟩
  | 55 => ⟨S_, .f32⟩
  | 56 => ⟨S4x4096x16, .f32⟩
  | 57 => ⟨S4x4096x16x1, .f32⟩
  | 58 => ⟨S_, .f32⟩
  | 59 => ⟨S4x4096x16x1, .f32⟩
  | 60 => ⟨S4x4096x16x1, .f32⟩
  | 61 => ⟨S_, .f32⟩
  | 62 => ⟨S4x4096x16x1, .f32⟩
  | 63 => ⟨S4x4096x16x1, .f32⟩
  | 64 => ⟨S4x4096x16x1, .f32⟩
  | 65 => ⟨S4x4096x16x128, .f32⟩
  | 66 => ⟨S4x4096x16x128, .f32⟩
  | 67 => ⟨S1x1x1x128, .f32⟩
  | 68 => ⟨S4x4096x16x128, .f32⟩
  | 69 => ⟨S4x4096x16x128, .f32⟩
  | 70 => ⟨S4x4096x4x128, .f32⟩
  | 71 => ⟨S4x4096x4x128, .f32⟩
  | 72 => ⟨S_, .f32⟩
  | 73 => ⟨S4x4096x4, .f32⟩
  | 74 => ⟨S4x4096x4x1, .f32⟩
  | 75 => ⟨S_, .f32⟩
  | 76 => ⟨S4x4096x4x1, .f32⟩
  | 77 => ⟨S4x4096x4x1, .f32⟩
  | 78 => ⟨S_, .f32⟩
  | 79 => ⟨S4x4096x4x1, .f32⟩
  | 80 => ⟨S4x4096x4x1, .f32⟩
  | 81 => ⟨S4x4096x4x1, .f32⟩
  | 82 => ⟨S4x4096x4x128, .f32⟩
  | 83 => ⟨S4x4096x4x128, .f32⟩
  | 84 => ⟨S1x1x1x128, .f32⟩
  | 85 => ⟨S4x4096x4x128, .f32⟩
  | 86 => ⟨S4x4096x4x128, .f32⟩
  | 87 => ⟨S1024x2048, .f32⟩
  | 88 => ⟨S4x256x2048, .f32⟩
  | 89 => ⟨S4x256x2048, .f32⟩
  | 90 => ⟨S_, .f32⟩
  | 91 => ⟨S4x256, .f32⟩
  | 92 => ⟨S4x256x1, .f32⟩
  | 93 => ⟨S_, .f32⟩
  | 94 => ⟨S4x256x1, .f32⟩
  | 95 => ⟨S4x256x1, .f32⟩
  | 96 => ⟨S_, .f32⟩
  | 97 => ⟨S4x256x1, .f32⟩
  | 98 => ⟨S4x256x1, .f32⟩
  | 99 => ⟨S4x256x1, .f32⟩
  | 100 => ⟨S4x256x2048, .f32⟩
  | 101 => ⟨S4x256x2048, .f32⟩
  | 102 => ⟨S1x1x2048, .f32⟩
  | 103 => ⟨S4x256x2048, .f32⟩
  | 104 => ⟨S4x256x2048, .f32⟩
  | 105 => ⟨S_, .f32⟩
  | 106 => ⟨S2048, .f32⟩
  | 107 => ⟨S2048, .f32⟩
  | 108 => ⟨S1x1x2048, .f32⟩
  | 109 => ⟨S4x256x2048, .f32⟩
  | 110 => ⟨S4x256x2048, .f32⟩
  | 111 => ⟨S1x1x2048, .f32⟩
  | 112 => ⟨S4x256x2048, .f32⟩
  | 113 => ⟨S4x256x2048, .f32⟩
  | 114 => ⟨S4x256x3072, .f32⟩
  | 115 => ⟨S4x256x2048, .f32⟩
  | 116 => ⟨S4x256x512, .f32⟩
  | 117 => ⟨S4x256x512, .f32⟩
  | 118 => ⟨S4x256x16x128, .f32⟩
  | 119 => ⟨S4x256x16x128, .f32⟩
  | 120 => ⟨S_, .f32⟩
  | 121 => ⟨S4x256x16, .f32⟩
  | 122 => ⟨S4x256x16x1, .f32⟩
  | 123 => ⟨S_, .f32⟩
  | 124 => ⟨S4x256x16x1, .f32⟩
  | 125 => ⟨S4x256x16x1, .f32⟩
  | 126 => ⟨S_, .f32⟩
  | 127 => ⟨S4x256x16x1, .f32⟩
  | _ => ⟨S17408x2048, .f32⟩

abbrev hbmTy0_1 (i : Nat) : BufTy := match i % 128 with
  | 0 => ⟨S4x256x16x1, .f32⟩
  | 1 => ⟨S4x256x16x1, .f32⟩
  | 2 => ⟨S4x256x16x128, .f32⟩
  | 3 => ⟨S4x256x16x128, .f32⟩
  | 4 => ⟨S1x1x1x128, .f32⟩
  | 5 => ⟨S4x256x16x128, .f32⟩
  | 6 => ⟨S4x256x16x128, .f32⟩
  | 7 => ⟨S4x256x4x128, .f32⟩
  | 8 => ⟨S4x256x4x128, .f32⟩
  | 9 => ⟨S_, .f32⟩
  | 10 => ⟨S4x256x4, .f32⟩
  | 11 => ⟨S4x256x4x1, .f32⟩
  | 12 => ⟨S_, .f32⟩
  | 13 => ⟨S4x256x4x1, .f32⟩
  | 14 => ⟨S4x256x4x1, .f32⟩
  | 15 => ⟨S_, .f32⟩
  | 16 => ⟨S4x256x4x1, .f32⟩
  | 17 => ⟨S4x256x4x1, .f32⟩
  | 18 => ⟨S4x256x4x1, .f32⟩
  | 19 => ⟨S4x256x4x128, .f32⟩
  | 20 => ⟨S4x256x4x128, .f32⟩
  | 21 => ⟨S1x1x1x128, .f32⟩
  | 22 => ⟨S4x256x4x128, .f32⟩
  | 23 => ⟨S4x256x4x128, .f32⟩
  | 24 => ⟨S4x4096x16x64x2, .f32⟩
  | 25 => ⟨S4x4096x16x64x1, .f32⟩
  | 26 => ⟨S4x4096x16x64, .f32⟩
  | 27 => ⟨S4x4096x16x64x1, .f32⟩
  | 28 => ⟨S4x4096x16x64, .f32⟩
  | 29 => ⟨S1x4096x1x64, .f32⟩
  | 30 => ⟨S1x4096x1x64, .f32⟩
  | 31 => ⟨S4x4096x16x64, .f32⟩
  | 32 => ⟨S4x4096x16x64, .f32⟩
  | 33 => ⟨S4x4096x16x64, .f32⟩
  | 34 => ⟨S4x4096x16x64, .f32⟩
  | 35 => ⟨S4x4096x16x64, .f32⟩
  | 36 => ⟨S4x4096x16x64, .f32⟩
  | 37 => ⟨S4x4096x16x64, .f32⟩
  | 38 => ⟨S4x4096x16x64, .f32⟩
  | 39 => ⟨S4x4096x16x64, .f32⟩
  | 40 => ⟨S4x4096x16x64, .f32⟩
  | 41 => ⟨S4x4096x16x64x1, .f32⟩
  | 42 => ⟨S4x4096x16x64x1, .f32⟩
  | 43 => ⟨S4x4096x16x64x2, .f32⟩
  | 44 => ⟨S4x4096x16x128, .f32⟩
  | 45 => ⟨S16384x2048, .f32⟩
  | 46 => ⟨S1024x2048, .f32⟩
  | 47 => ⟨S17408x2048, .f32⟩
  | 48 => ⟨S_, .f32⟩
  | 49 => ⟨S17408x2048, .f32⟩
  | 50 => ⟨S17408x2048, .f32⟩
  | 51 => ⟨S17408x2048, .bf16⟩
  | 52 => ⟨S4x4096x4x64x2, .f32⟩
  | 53 => ⟨S4x4096x4x64x1, .f32⟩
  | 54 => ⟨S4x4096x4x64, .f32⟩
  | 55 => ⟨S4x4096x4x64x1, .f32⟩
  | 56 => ⟨S4x4096x4x64, .f32⟩
  | 57 => ⟨S1x4096x1x64, .f32⟩
  | 58 => ⟨S1x4096x1x64, .f32⟩
  | 59 => ⟨S4x4096x4x64, .f32⟩
  | 60 => ⟨S4x4096x4x64, .f32⟩
  | 61 => ⟨S4x4096x4x64, .f32⟩
  | 62 => ⟨S4x4096x4x64, .f32⟩
  | 63 => ⟨S4x4096x4x64, .f32⟩
  | 64 => ⟨S4x4096x4x64, .f32⟩
  | 65 => ⟨S4x4096x4x64, .f32⟩
  | 66 => ⟨S4x4096x4x64, .f32⟩
  | 67 => ⟨S4x4096x4x64, .f32⟩
  | 68 => ⟨S4x4096x4x64, .f32⟩
  | 69 => ⟨S4x4096x4x64x1, .f32⟩
  | 70 => ⟨S4x4096x4x64x1, .f32⟩
  | 71 => ⟨S4x4096x4x64x2, .f32⟩
  | 72 => ⟨S4x4096x4x128, .f32⟩
  | 73 => ⟨S16384x512, .f32⟩
  | 74 => ⟨S1024x512, .f32⟩
  | 75 => ⟨S17408x512, .f32⟩
  | 76 => ⟨S17408x512, .bf16⟩
  | 77 => ⟨S16384x512, .f32⟩
  | 78 => ⟨S1024x512, .f32⟩
  | 79 => ⟨S17408x512, .f32⟩
  | 80 => ⟨S17408x512, .bf16⟩
  | _ => ⟨S17408x2048, .f32⟩

abbrev hbmTy (i : Nat) : BufTy := match i / 128 with
  | 0 => hbmTy0_0 i
  | 1 => hbmTy0_1 i
  | _ => ⟨S17408x2048, .f32⟩

abbrev bufTy : (tb : Table) → Fin (tcTables nBuf tb) → BufTy
  | .hbm, ⟨i, _⟩ => hbmTy i
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_cst_11 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_13 : Ref sig .tc := ⟨.hbm, 120, rfl⟩
abbrev main_v98 : Ref sig .tc := ⟨.hbm, 121, rfl⟩
abbrev main_v99 : Ref sig .tc := ⟨.hbm, 122, rfl⟩
abbrev main_cst_14 : Ref sig .tc := ⟨.hbm, 123, rfl⟩
abbrev main_v100 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_16 : Ref sig .tc := ⟨.hbm, 137, rfl⟩
abbrev main_v112 : Ref sig .tc := ⟨.hbm, 138, rfl⟩
abbrev main_v113 : Ref sig .tc := ⟨.hbm, 139, rfl⟩
abbrev main_cst_17 : Ref sig .tc := ⟨.hbm, 140, rfl⟩
abbrev main_v114 : Ref sig .tc := ⟨.hbm, 141, rfl⟩
abbrev main_v115 : Ref sig .tc := ⟨.hbm, 142, rfl⟩
abbrev main_cst_18 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_19 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩

abbrev nD : Nat := 1
abbrev τ : Topo := Topo.v7x

variable {F : FTy → Type} [FloatOps F]
-- ==== Proof.Online.lean ====
/- The arithmetic of a softmax-weighted sum taken block by block over the extended reals: a running maximum, a running
   sum of exponentials and a running weighted sum, rescaled whenever the maximum grows, end at the maximum, the sum and
   the weighted sum of all the scores. Nothing here names a program. -/
module

public import Idealize.ShloMosaic.PureOps.Ideal

@[expose] public section

noncomputable section

namespace Cert.Online

open Idealize.ShloMosaic

/-- The largest of the first `n` scores (`⊥` where there is none). -/
def top (s : ℕ → EReal) (n : ℕ) : EReal := (Finset.range n).sup s

/-- The sum over the first `n` scores of the exponential of the score below their maximum, weighted by `w`. -/
def mass (s w : ℕ → EReal) (n : ℕ) : EReal := ∑ j ∈ Finset.range n, Ideal.exp (s j - top s n) * w j

/-- A score that is a real number. -/
def Fin' (x : EReal) : Prop := ∃ r : ℝ, x = r

theorem top_add (s : ℕ → EReal) (n b : ℕ) :
    top s (n + b) = max (top s n) ((Finset.univ : Finset (Fin b)).sup fun i => s (n + i)) := by
  unfold top
  apply le_antisymm
  · refine Finset.sup_le fun j hj => ?_
    rcases lt_or_ge j n with h | h
    · exact le_max_of_le_left (Finset.le_sup (f := s) (Finset.mem_range.2 h))
    · have hb : j - n < b := by have := Finset.mem_range.1 hj; omega
      have e : s j = (fun i : Fin b => s (n + i)) ⟨j - n, hb⟩ := by
        show s j = s (n + (j - n)); congr 1; omega
      rw [e]
      exact le_max_of_le_right (Finset.le_sup (f := fun i : Fin b => s (n + i)) (Finset.mem_univ _))
  · refine max_le (Finset.sup_mono (Finset.range_mono (Nat.le_add_right _ _))) (Finset.sup_le fun i _ => ?_)
    exact Finset.le_sup (f := s) (Finset.mem_range.2 (by have := i.isLt; omega))

/-- The maximum of at least one real score is one of the scores, so real. -/
theorem top_real {s : ℕ → EReal} (hs : ∀ j, Fin' (s j)) {n : ℕ} (hn : 0 < n) : Fin' (top s n) := by
  obtain ⟨j, -, hj⟩ := Finset.exists_mem_eq_sup (Finset.range n) ⟨0, Finset.mem_range.2 hn⟩ s
  obtain ⟨r, hr⟩ := hs j
  exact ⟨r, by rw [top, hj, hr]⟩

theorem exp_nonneg (x : EReal) : 0 ≤ Ideal.exp x := by
  induction x with
  | bot => simp
  | top => simp
  | coe r => rw [Ideal.exp_coe]; exact_mod_cast (Real.exp_pos r).le

/-- A nonnegative finite factor goes through a finite sum. -/
theorem mul_sum {ι : Type} (S : Finset ι) {c : EReal} (h0 : 0 ≤ c) (ht : c ≠ ⊤) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top h0 ht, ih]

/-- Rescaling: taking a score below one maximum and that maximum below another is taking the score below the other. -/
theorem exp_step {a b x : EReal} (ha : Fin' a) (hb : Fin' b) (hx : Fin' x) :
    Ideal.exp (a - b) * Ideal.exp (x - a) = Ideal.exp (x - b) := by
  obtain ⟨a, rfl⟩ := ha; obtain ⟨b, rfl⟩ := hb; obtain ⟨x, rfl⟩ := hx
  rw [← EReal.coe_sub, ← EReal.coe_sub, ← EReal.coe_sub, Ideal.exp_coe, Ideal.exp_coe, Ideal.exp_coe, ← EReal.coe_mul,
    ← Real.exp_add]
  congr 2; ring

theorem exp_real {a b : EReal} (ha : Fin' a) (hb : Fin' b) : ∃ r : ℝ, 0 < r ∧ Ideal.exp (a - b) = r := by
  obtain ⟨a, rfl⟩ := ha; obtain ⟨b, rfl⟩ := hb
  exact ⟨_, Real.exp_pos _, by rw [← EReal.coe_sub, Ideal.exp_coe]⟩

/-- ONE BLOCK: the mass of the first `n` scores rescaled to the new maximum, plus the block's own terms at the new
    maximum, is the mass of the first `n + b` scores. -/
theorem mass_add {s : ℕ → EReal} (w : ℕ → EReal) (hs : ∀ j, Fin' (s j)) (n b : ℕ) (hb : 0 < b) :
    mass s w (n + b) = Ideal.exp (top s n - top s (n + b)) * mass s w n
      + ∑ i : Fin b, Ideal.exp (s (n + i) - top s (n + b)) * w (n + i) := by
  have hT := top_real hs (n := n + b) (by omega)
  rw [mass, Finset.sum_range_add, Finset.sum_range (fun i => Ideal.exp (s (n + i) - top s (n + b)) * w (n + i))]
  congr 1
  rcases Nat.eq_zero_or_pos n with rfl | hn
  · simp [mass]
  · have hS := top_real hs hn
    obtain ⟨r, hr, he⟩ := exp_real hS hT
    rw [mass, mul_sum _ (exp_nonneg _) (by rw [he]; exact EReal.coe_ne_top r)]
    refine Finset.sum_congr rfl fun j _ => ?_
    rw [← mul_assoc, exp_step hS hT (hs j)]

/-- A finite sum of reals, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The sum of the exponentials of at least one real score below the maximum is a positive real. -/
theorem mass_one_real {s : ℕ → EReal} (hs : ∀ j, Fin' (s j)) {n : ℕ} (hn : 0 < n) :
    ∃ r : ℝ, 0 < r ∧ mass s (fun _ => 1) n = r := by
  have hT := top_real hs hn
  have h : ∀ j, ∃ r : ℝ, 0 < r ∧ Ideal.exp (s j - top s n) = r := fun j => exp_real (hs j) hT
  choose f hf he using h
  refine ⟨∑ j ∈ Finset.range n, f j, Finset.sum_pos (fun j _ => hf j) ⟨0, Finset.mem_range.2 hn⟩, ?_⟩
  simp only [mass, he, mul_one, coe_sum]

/-- The weighted mass times the reciprocal of the sum of the exponentials is the sum of the weights at the quotients. -/
theorem mass_div {s : ℕ → EReal} (w : ℕ → EReal) (hs : ∀ j, Fin' (s j)) {n : ℕ} (hn : 0 < n) :
    mass s w n * Ideal.div 1 (mass s (fun _ => 1) n)
      = ∑ j ∈ Finset.range n, w j * Ideal.div (Ideal.exp (s j - top s n)) (mass s (fun _ => 1) n) := by
  obtain ⟨r, hr, he⟩ := mass_one_real hs hn
  rw [he, Ideal.div_coe hr.ne', one_mul, mul_comm, mass,
    mul_sum _ (by exact_mod_cast (one_div_pos.2 hr).le) (EReal.coe_ne_top _)]
  refine Finset.sum_congr rfl fun j _ => ?_
  rw [Ideal.div_coe hr.ne', mul_comm, mul_assoc, mul_left_comm, mul_comm (w j)]

/-- A sum of products of reals is a real. -/
theorem real_sum_mul {ι : Type} (S : Finset ι) {f g : ι → EReal} (hf : ∀ i, Fin' (f i)) (hg : ∀ i, Fin' (g i)) :
    Fin' (∑ i ∈ S, f i * g i) := by
  choose a ha using hf
  choose b hb using hg
  exact ⟨∑ i ∈ S, a i * b i, by simp only [ha, hb, coe_sum, EReal.coe_mul]⟩

end Cert.Online

end
-- ==== Proof.AttnPay.lean ====
module
public import proofs.«01_k».proof.Proof.Gen.AttnIdeal.Skeleton
public import proofs.«01_k».proof.Proof.Online
public import Idealize.ShloMosaic.Lib.Pipeline.ValueKit
public import Idealize.ShloMosaic.Lib.Pointwise
@[expose] public section
set_option maxRecDepth 16384
noncomputable section

/-! What each value that the attention kernel stores is, at one position, in exact arithmetic. -/

namespace Cert.AttnIdeal.Blk
open Cert.AttnIdeal Cert.AttnIdeal.Gen Idealize.ShloMosaic

/-- The single-precision pattern of −∞ denotes the least extended real. -/
theorem ofBits_neg_inf : Ideal.ofBits .f32 0xFF800000#32 = ⊥ := by
  simp [Ideal.ofBits, Ideal.ieee]

/-- A maximum folded from −∞ is the supremum. -/
theorem fold_neg_inf {n : ℕ} (f : Fin n → EReal) :
    Finset.fold max (Ideal.ofBits .f32 0xFF800000#32) f Finset.univ = Finset.univ.sup f := by
  rw [ofBits_neg_inf]; rfl

section latent
variable (v0 v1 v2 v3 : Vec Ideal S256x128 .bf16) (v68 v70 : Vec Ideal S512x128 .bf16)

/-- A score against a block of 512 latent keys is a dot product. -/
theorem pay7 (r : Fin 1024) (j : Fin 512) :
    k0_pay7 (F := Ideal) v0 v1 v2 v3 v68 (ix2 r j) = ∑ d : Fin 128, k0_pay3 (F := Ideal) v0 v1 v2 v3 (ix2 r d) * v68 (ix2 j d) := by
  unfold k0_pay7
  generalize k0_pay3 (F := Ideal) v0 v1 v2 v3 = Q
  pointwise

/-- The new running maximum of a row. -/
theorem pay8 (v72 : Vec Ideal S1024x1 .f32) (r : Fin 1024) :
    k0_pay8 (F := Ideal) v0 v1 v2 v3 v68 v72 (ix2 r 0)
      = max (v72 (ix2 r 0)) (Finset.univ.sup fun j : Fin 512 => k0_pay7 (F := Ideal) v0 v1 v2 v3 v68 (ix2 r j)) := by
  unfold k0_pay8
  generalize k0_pay7 (F := Ideal) v0 v1 v2 v3 v68 = Q
  pointwise
  rw [fold_neg_inf]

/-- The factor that rescales what a row has summed so far. -/
theorem pay9 (v72 : Vec Ideal S1024x1 .f32) (r : Fin 1024) :
    k0_pay9 (F := Ideal) v0 v1 v2 v3 v68 v72 (ix2 r 0)
      = Ideal.exp (v72 (ix2 r 0) - k0_pay8 (F := Ideal) v0 v1 v2 v3 v68 v72 (ix2 r 0)) := by
  unfold k0_pay9
  generalize k0_pay8 (F := Ideal) v0 v1 v2 v3 v68 v72 = Q
  pointwise

/-- The exponential weight of one key. -/
theorem pay10 (v72 : Vec Ideal S1024x1 .f32) (r : Fin 1024) (j : Fin 512) :
    k0_pay10 (F := Ideal) v0 v1 v2 v3 v68 v72 (ix2 r j)
      = Ideal.exp (k0_pay7 (F := Ideal) v0 v1 v2 v3 v68 (ix2 r j) - k0_pay8 (F := Ideal) v0 v1 v2 v3 v68 v72 (ix2 r 0)) := by
  unfold k0_pay10
  generalize k0_pay8 (F := Ideal) v0 v1 v2 v3 v68 v72 = Q
  generalize k0_pay7 (F := Ideal) v0 v1 v2 v3 v68 = Q'
  pointwise

/-- The new running sum of the weights of a row. -/
theorem pay11 (v72 v81 : Vec Ideal S1024x1 .f32) (r : Fin 1024) :
    k0_pay11 (F := Ideal) v0 v1 v2 v3 v68 v72 v81 (ix2 r 0)
      = k0_pay9 (F := Ideal) v0 v1 v2 v3 v68 v72 (ix2 r 0) * v81 (ix2 r 0)
        + ∑ j : Fin 512, k0_pay10 (F := Ideal) v0 v1 v2 v3 v68 v72 (ix2 r j) := by
  unfold k0_pay11
  generalize k0_pay9 (F := Ideal) v0 v1 v2 v3 v68 v72 = Q
  generalize k0_pay10 (F := Ideal) v0 v1 v2 v3 v68 v72 = Q'
  pointwise

/-- The new running weighted sum of the values. -/
theorem pay12 (v72 : Vec Ideal S1024x1 .f32) (v89 : Vec Ideal S1024x128 .f32) (r : Fin 1024) (d : Fin 128) :
    k0_pay12 (F := Ideal) v0 v1 v2 v3 v68 v70 v72 v89 (ix2 r d)
      = k0_pay9 (F := Ideal) v0 v1 v2 v3 v68 v72 (ix2 r 0) * v89 (ix2 r d)
        + ∑ j : Fin 512, k0_pay10 (F := Ideal) v0 v1 v2 v3 v68 v72 (ix2 r j) * v70 (ix2 j d) := by
  unfold k0_pay12
  generalize k0_pay9 (F := Ideal) v0 v1 v2 v3 v68 v72 = Q
  generalize k0_pay10 (F := Ideal) v0 v1 v2 v3 v68 v72 = Q'
  pointwise

/-- The maximum that is stored is the new running maximum. -/
theorem pay13 (v72 : Vec Ideal S1024x1 .f32) (r : Fin 1024) :
    k0_pay13 (F := Ideal) v0 v1 v2 v3 v68 v72 (ix2 r 0) = k0_pay8 (F := Ideal) v0 v1 v2 v3 v68 v72 (ix2 r 0) := by
  unfold k0_pay13
  generalize k0_pay8 (F := Ideal) v0 v1 v2 v3 v68 v72 = Q
  pointwise

end latent

section context
variable (v0 v1 v2 v3 v18 v19 : Vec Ideal S256x128 .bf16)

/-- A score against one of the 256 context keys is a dot product. -/
theorem pay14 (r : Fin 1024) (j : Fin 256) :
    k0_pay14 (F := Ideal) v0 v1 v2 v3 v18 (ix2 r j) = ∑ d : Fin 128, k0_pay3 (F := Ideal) v0 v1 v2 v3 (ix2 r d) * v18 (ix2 j d) := by
  unfold k0_pay14
  generalize k0_pay3 (F := Ideal) v0 v1 v2 v3 = Q
  pointwise

/-- The largest score of a row against the context keys. -/
theorem pay15 (r : Fin 1024) :
    k0_pay15 (F := Ideal) v0 v1 v2 v3 v18 (ix2 r 0)
      = Finset.univ.sup fun j : Fin 256 => k0_pay14 (F := Ideal) v0 v1 v2 v3 v18 (ix2 r j) := by
  unfold k0_pay15
  generalize k0_pay14 (F := Ideal) v0 v1 v2 v3 v18 = Q
  pointwise
  rw [fold_neg_inf]

variable (v20 : FVec Ideal S1024x256 .f32) (v21 : Vec Ideal S1024x1 .f32) (v23 : FVec Ideal S1024x1 .f32)

/-- The last running maximum of a row. -/
theorem pay16 (r : Fin 1024) : k0_pay16 (F := Ideal) v21 v23 (ix2 r 0) = max (v21 (ix2 r 0)) (v23 (ix2 r 0)) := by
  pointwise [k0_pay16]

/-- The last rescaling factor of a row. -/
theorem pay17 (r : Fin 1024) :
    k0_pay17 (F := Ideal) v21 v23 (ix2 r 0) = Ideal.exp (v21 (ix2 r 0) - k0_pay16 (F := Ideal) v21 v23 (ix2 r 0)) := by
  unfold k0_pay17
  generalize k0_pay16 (F := Ideal) v21 v23 = Q
  pointwise

/-- The exponential weight of one context key. -/
theorem pay18 (r : Fin 1024) (j : Fin 256) :
    k0_pay18 (F := Ideal) v20 v21 v23 (ix2 r j) = Ideal.exp (v20 (ix2 r j) - k0_pay16 (F := Ideal) v21 v23 (ix2 r 0)) := by
  unfold k0_pay18
  generalize k0_pay16 (F := Ideal) v21 v23 = Q
  pointwise

/-- The sum of all weights of a row. -/
theorem pay19 (v30 : Vec Ideal S1024x1 .f32) (r : Fin 1024) :
    k0_pay19 (F := Ideal) v20 v21 v23 v30 (ix2 r 0)
      = k0_pay17 (F := Ideal) v21 v23 (ix2 r 0) * v30 (ix2 r 0) + ∑ j : Fin 256, k0_pay18 (F := Ideal) v20 v21 v23 (ix2 r j) := by
  unfold k0_pay19
  generalize k0_pay17 (F := Ideal) v21 v23 = Q
  generalize k0_pay18 (F := Ideal) v20 v21 v23 = Q'
  pointwise

/-- The weighted sum of all values. -/
theorem pay20 (v38 : Vec Ideal S1024x128 .f32) (r : Fin 1024) (d : Fin 128) :
    k0_pay20 (F := Ideal) v19 v20 v21 v23 v38 (ix2 r d)
      = k0_pay17 (F := Ideal) v21 v23 (ix2 r 0) * v38 (ix2 r d)
        + ∑ j : Fin 256, k0_pay18 (F := Ideal) v20 v21 v23 (ix2 r j) * v19 (ix2 j d) := by
  unfold k0_pay20
  generalize k0_pay17 (F := Ideal) v21 v23 = Q
  generalize k0_pay18 (F := Ideal) v20 v21 v23 = Q'
  pointwise

/-- The quotient that is written: the weighted sum times the reciprocal of the sum of weights. -/
theorem pay22 (v50 : Vec Ideal S1024x128 .f32) (v51 : Vec Ideal S1024x1 .f32) (r : Fin 1024) (d : Fin 128) :
    k0_pay22 (F := Ideal) v50 v51 (ix2 r d) = v50 (ix2 r d) * Ideal.div 1 (v51 (ix2 r 0)) := by
  pointwise [k0_pay22]

end context

/-- The four groups of 256 query rows lie below each other. -/
theorem pay3 (v0 v1 v2 v3 : Vec Ideal S256x128 .bf16) (g : Fin 4) (r : Fin 256) (d : Fin 128) (h : g.val * 256 + r.val < 1024) :
    k0_pay3 (F := Ideal) v0 v1 v2 v3 (ix2 ⟨g.val * 256 + r.val, h⟩ d) = (![v0, v1, v2, v3] g) (ix2 r d) := by
  pointwise [k0_pay3]
  have hr := r.isLt
  fin_cases g <;> simp <;> (repeat' split) <;> first | rfl | omega | (congr 2; apply Fin.ext; simp; omega)

/-- The initial maxima are −∞, the initial sums zero. -/
theorem pay4 (r : Fin 1024) : k0_pay4 (F := Ideal) (ix2 r 0) = ⊥ := by
  pointwise [k0_pay4]; exact ofBits_neg_inf
theorem pay5 (r : Fin 1024) : k0_pay5 (F := Ideal) (ix2 r 0) = 0 := by pointwise [k0_pay5]
theorem pay6 (r : Fin 1024) (d : Fin 128) : k0_pay6 (F := Ideal) (ix2 r d) = 0 := by pointwise [k0_pay6]

end Cert.AttnIdeal.Blk
end
-- ==== Proof.AttnLoop.lean ====
module
public import proofs.«01_k».proof.Proof.Gen.AttnIdeal.Value
public import proofs.«01_k».proof.Proof.AttnPay
@[expose] public section
set_option maxRecDepth 16384
noncomputable section

/-! The loop of the attention kernel over the eight blocks of latent keys: what its three carried
arrays hold after each trip. -/

namespace Cert.AttnIdeal.Blk
open Cert.AttnIdeal Cert.AttnIdeal.Gen Idealize.ShloMosaic Idealize.ShloMosaic.TcCoe Idealize.SL.Sem
open Cert.Online

/-- Reading back a view after one store over all of it gives what was stored. -/
theorem read_whole_store {S : Shape} {e : EltTy} {sig : RefSig} {κ : Kind} {sp : Space} (v : View sig κ sp S e)
    {off : Fin S.rank → Nat} (h : off = fun _ => 0) (inb : ∀ a, off a + S.size a ≤ S.size a) (w : S.Idx → Elt Ideal e)
    (f : v.ty.Contents (Elt Ideal)) (L : List (View.Piece (Elt Ideal) S e)) :
    v.read (Elt Ideal) (v.writes (Elt Ideal) f ((⟨Rect.unit off S.size inb, w⟩ : View.Piece (Elt Ideal) S e) :: L)) = w := by
  rw [View.read_writes_eq_canon _ _ _ fun y => ⟨_, List.mem_cons_self, View.mem_set_unit_zero h inb y⟩,
    View.canon_cons_unit_zero h]

/-- The eight trips. -/
theorem trips_eq : k0_t1_loop.trips = 8 := by decide +kernel

/-- The offset that trip `k` loads its keys and values at. -/
theorem off_eq : ∀ k : Fin k0_t1_loop.trips, (BitVec.toNat (Scalar.indexCast (Scalar.muli (Scf.iv 0#32 1#32 k.val) 512#32))) = 512 * k.val := by
  decide +kernel

/-- Rows `512 k` to `512 k + 511` of a latent array. -/
def part (x : Vec Ideal S4096x128 .bf16) (k : ℕ) : Vec Ideal S512x128 .bf16 :=
  fun y => x (ix2 ⟨(512 * k + (y 0).val) % 4096, Nat.mod_lt _ (by decide)⟩ (y 1))

/-- A load at trip `k` reads block `k`. -/
theorem ld_part (x : Vec Ideal S4096x128 .bf16) (k : ℕ) (hk : k < 8) (o : ℕ) (ho : o = 512 * k)
    (inb : ∀ a, (![o, 0] : Fin 2 → ℕ) a + S512x128.size a ≤ S4096x128.size a) :
    View.ld x (Rect.unit ![o, 0] S512x128.size inb) = part x k := by
  subst ho
  funext y
  unfold part
  refine congrArg x (funext fun a => Fin.ext ?_)
  have h0 : (y 0).val < 512 := (y 0).isLt
  match a with
  | ⟨0, _⟩ => show 512 * k + 1 * (y 0).val = (512 * k + (y 0).val) % 4096; omega
  | ⟨1, _⟩ => show 0 + 1 * (y 1).val = (y 1).val; omega

section
variable (c : Dev nD) (t : Fin cfg0.N) (v0 v1 v2 v3 : Vec Ideal S256x128 .bf16) (x4 x6 : Vec Ideal S4096x128 .bf16)
  (k : Fin k0_t1_loop.trips)
  (f9 : BufTy.Contents (Elt Ideal) (Memref.view scM0_0).ty) (f10 : BufTy.Contents (Elt Ideal) (Memref.view scM0_1).ty)
  (f11 : BufTy.Contents (Elt Ideal) (Memref.view scM0_2).ty)

/-- The stores of trip `k`, over what it finds in the three carried arrays. -/
abbrev trip := tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) v0 v1 v2 v3 ((hs0_1 t).unread x4) ((hs0_3 t).unread x6) k f9 f10 f11

/-- The stores of the trips before `k`, last first. -/
abbrev trips (n : ℕ) := pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) v0 v1 v2 v3 ((hs0_1 t).unread x4) ((hs0_3 t).unread x6) f9 f10 f11 n

/-- What trip `k` leaves in the running maxima. -/
theorem trip_max (L) : (Memref.view scM0_0).read (Elt Ideal) ((Memref.view scM0_0).writes (Elt Ideal) f9 ((trip c t v0 v1 v2 v3 x4 x6 k f9 f10 f11).1 ++ L))
    = k0_pay13 (F := Ideal) v0 v1 v2 v3 (part x4 k.val) ((Memref.view scM0_0).read (Elt Ideal) f9) := by
  have hk : k.val < 8 := lt_of_lt_of_eq k.isLt trips_eq
  unfold trip tripL_k0_t1 trip_k0_t1
  sl_unfold_words
  dsimp only
  simp only [View.readAt_eq_ld, Memref.IsWhole.read_unread]
  rw [List.singleton_append, read_whole_store _ (by decide)]
  exact congr (congrArg _ (ld_part x4 k.val hk _ (off_eq k) (k0_off1_inb k))) (View.ld_unit_zero (by decide) _ _)

/-- What trip `k` leaves in the running sums of weights. -/
theorem trip_sum (L) : (Memref.view scM0_1).read (Elt Ideal) ((Memref.view scM0_1).writes (Elt Ideal) f10 ((trip c t v0 v1 v2 v3 x4 x6 k f9 f10 f11).2.1 ++ L))
    = k0_pay11 (F := Ideal) v0 v1 v2 v3 (part x4 k.val) ((Memref.view scM0_0).read (Elt Ideal) f9) ((Memref.view scM0_1).read (Elt Ideal) f10) := by
  have hk : k.val < 8 := lt_of_lt_of_eq k.isLt trips_eq
  unfold trip tripL_k0_t1 trip_k0_t1
  sl_unfold_words
  dsimp only
  simp only [View.readAt_eq_ld, Memref.IsWhole.read_unread]
  rw [List.singleton_append, read_whole_store _ (by decide)]
  exact congr (congr (congrArg _ (ld_part x4 k.val hk _ (off_eq k) (k0_off1_inb k))) (View.ld_unit_zero (by decide) _ _)) (View.ld_unit_zero (by decide) _ _)

/-- What trip `k` leaves in the running weighted sums. -/
theorem trip_acc (L) : (Memref.view scM0_2).read (Elt Ideal) ((Memref.view scM0_2).writes (Elt Ideal) f11 ((trip c t v0 v1 v2 v3 x4 x6 k f9 f10 f11).2.2 ++ L))
    = k0_pay12 (F := Ideal) v0 v1 v2 v3 (part x4 k.val) (part x6 k.val) ((Memref.view scM0_0).read (Elt Ideal) f9) ((Memref.view scM0_2).read (Elt Ideal) f11) := by
  have hk : k.val < 8 := lt_of_lt_of_eq k.isLt trips_eq
  unfold trip tripL_k0_t1 trip_k0_t1
  sl_unfold_words
  dsimp only
  simp only [View.readAt_eq_ld, Memref.IsWhole.read_unread]
  rw [List.singleton_append, read_whole_store _ (by decide)]
  exact congr (congr (congr (congrArg _ (ld_part x4 k.val hk _ (off_eq k) (k0_off1_inb k))) (ld_part x6 k.val hk _ (off_eq k) (k0_off1_inb k)))
    (View.ld_unit_zero (by decide) _ _)) (View.ld_unit_zero (by decide) _ _)

end

/-- The score of query row `r` against key `n`: the 4096 latent keys first, then the 256 context keys. -/
def score (Q : FVec Ideal S1024x128 .bf16) (x4 : Vec Ideal S4096x128 .bf16) (x5 : Vec Ideal S256x128 .bf16) (r : Fin 1024) (n : ℕ) : EReal :=
  if h : n < 4096 then ∑ d : Fin 128, Q (ix2 r d) * x4 (ix2 ⟨n, h⟩ d)
  else ∑ d : Fin 128, Q (ix2 r d) * x5 (ix2 ⟨(n - 4096) % 256, Nat.mod_lt _ (by decide)⟩ d)

/-- Component `d` of value `n`: the 4096 latent values first, then the 256 context values. -/
def value (x6 : Vec Ideal S4096x128 .bf16) (x7 : Vec Ideal S256x128 .bf16) (d : Fin 128) (n : ℕ) : EReal :=
  if h : n < 4096 then x6 (ix2 ⟨n, h⟩ d) else x7 (ix2 ⟨(n - 4096) % 256, Nat.mod_lt _ (by decide)⟩ d)

section
variable (c : Dev nD) (t : Fin cfg0.N) (v0 v1 v2 v3 : Vec Ideal S256x128 .bf16) (x4 x6 : Vec Ideal S4096x128 .bf16)
  (x5 x7 : Vec Ideal S256x128 .bf16)

/-- The scores that trip `k` computes. -/
theorem pay7_score (k : ℕ) (hk : k < 8) (r : Fin 1024) (j : Fin 512) :
    k0_pay7 (F := Ideal) v0 v1 v2 v3 (part x4 k) (ix2 r j) = score (k0_pay3 (F := Ideal) v0 v1 v2 v3) x4 x5 r (512 * k + j.val) := by
  have hj := j.isLt
  rw [pay7]; unfold score part
  rw [dif_pos (by omega)]
  refine Finset.sum_congr rfl fun d _ => ?_
  congr 2
  refine congrArg (ix2 · d) (Fin.ext ?_)
  show (512 * k + j.val) % 4096 = 512 * k + j.val
  omega

/-- The scores of the context step. -/
theorem pay14_score (r : Fin 1024) (j : Fin 256) :
    k0_pay14 (F := Ideal) v0 v1 v2 v3 x5 (ix2 r j) = score (k0_pay3 (F := Ideal) v0 v1 v2 v3) x4 x5 r (4096 + j.val) := by
  have hj := j.isLt
  rw [pay14]; unfold score
  have e : (⟨(4096 + j.val - 4096) % 256, Nat.mod_lt _ (by decide)⟩ : Fin 256) = j := Fin.ext (by dsimp only; omega)
  rw [dif_neg (by omega), e]

variable (f9 : BufTy.Contents (Elt Ideal) (Memref.view scM0_0).ty) (f10 : BufTy.Contents (Elt Ideal) (Memref.view scM0_1).ty)
  (f11 : BufTy.Contents (Elt Ideal) (Memref.view scM0_2).ty)

/-- After `k` trips the carried arrays hold, for each query row, the largest of the first `512 k` scores, the sum of their
    exponential weights, and the weighted sum of the values. -/
theorem trips_state (hs : ∀ r n, Fin' (score (k0_pay3 (F := Ideal) v0 v1 v2 v3) x4 x5 r n))
    (h9 : ∀ r, (Memref.view scM0_0).read (Elt Ideal) f9 (ix2 r 0) = ⊥) (h10 : ∀ r, (Memref.view scM0_1).read (Elt Ideal) f10 (ix2 r 0) = 0)
    (h11 : ∀ r d, (Memref.view scM0_2).read (Elt Ideal) f11 (ix2 r d) = 0) (k : ℕ) (hk : k ≤ 8) :
    (∀ r, (Memref.view scM0_0).read (Elt Ideal) ((Memref.view scM0_0).writes (Elt Ideal) f9 (trips c t v0 v1 v2 v3 x4 x6 f9 f10 f11 k).1) (ix2 r 0)
        = top (score (k0_pay3 (F := Ideal) v0 v1 v2 v3) x4 x5 r) (512 * k))
    ∧ (∀ r, (Memref.view scM0_1).read (Elt Ideal) ((Memref.view scM0_1).writes (Elt Ideal) f10 (trips c t v0 v1 v2 v3 x4 x6 f9 f10 f11 k).2.1) (ix2 r 0)
        = mass (score (k0_pay3 (F := Ideal) v0 v1 v2 v3) x4 x5 r) (fun _ => 1) (512 * k))
    ∧ (∀ r d, (Memref.view scM0_2).read (Elt Ideal) ((Memref.view scM0_2).writes (Elt Ideal) f11 (trips c t v0 v1 v2 v3 x4 x6 f9 f10 f11 k).2.2) (ix2 r d)
        = mass (score (k0_pay3 (F := Ideal) v0 v1 v2 v3) x4 x5 r) (value x6 x7 d) (512 * k)) := by
  induction k with
  | zero =>
    refine ⟨fun r => ?_, fun r => ?_, fun r d => ?_⟩
    · exact (h9 r).trans rfl
    · exact (h10 r).trans rfl
    · exact (h11 r d).trans rfl
  | succ k ih =>
    obtain ⟨i9, i10, i11⟩ := ih (by omega)
    have hk' : k < k0_t1_loop.trips := by rw [trips_eq]; omega
    have e := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) v0 v1 v2 v3 ((hs0_1 t).unread x4) ((hs0_3 t).unread x6) f9 f10 f11 ⟨k, hk'⟩
    generalize hG9 : (Memref.view scM0_0).writes (Elt Ideal) f9 (trips c t v0 v1 v2 v3 x4 x6 f9 f10 f11 k).1 = g9 at i9
    generalize hG10 : (Memref.view scM0_1).writes (Elt Ideal) f10 (trips c t v0 v1 v2 v3 x4 x6 f9 f10 f11 k).2.1 = g10 at i10
    generalize hG11 : (Memref.view scM0_2).writes (Elt Ideal) f11 (trips c t v0 v1 v2 v3 x4 x6 f9 f10 f11 k).2.2 = g11 at i11
    have e8 : ∀ r, k0_pay8 (F := Ideal) v0 v1 v2 v3 (part x4 k) ((Memref.view scM0_0).read (Elt Ideal) g9) (ix2 r 0)
        = top (score (k0_pay3 (F := Ideal) v0 v1 v2 v3) x4 x5 r) (512 * k + 512) := fun r => by
      rw [pay8, i9, top_add]
      simp only [pay7_score v0 v1 v2 v3 x4 x5 k (by omega)]
    refine ⟨fun r => ?_, fun r => ?_, fun r d => ?_⟩
    · rw [show (trips c t v0 v1 v2 v3 x4 x6 f9 f10 f11 (k + 1)).1 = _ from congrArg (·.1) e]
      dsimp only
      rw [View.writes_append, hG9, hG10, hG11]
      have := trip_max c t v0 v1 v2 v3 x4 x6 ⟨k, hk'⟩ g9 g10 g11 []
      rw [List.append_nil] at this
      rw [this, pay13, e8]; rfl
    · rw [show (trips c t v0 v1 v2 v3 x4 x6 f9 f10 f11 (k + 1)).2.1 = _ from congrArg (·.2.1) e]
      dsimp only
      rw [View.writes_append, hG9, hG10, hG11]
      have := trip_sum c t v0 v1 v2 v3 x4 x6 ⟨k, hk'⟩ g9 g10 g11 []
      rw [List.append_nil] at this
      rw [this, pay11, pay9, i9, i10, e8]
      simp only [pay10, pay7_score v0 v1 v2 v3 x4 x5 k (by omega), e8]
      rw [show 512 * (k + 1) = 512 * k + 512 from rfl, mass_add _ (hs r) _ _ (by decide)]
      simp only [mul_one]
    · rw [show (trips c t v0 v1 v2 v3 x4 x6 f9 f10 f11 (k + 1)).2.2 = _ from congrArg (·.2.2) e]
      dsimp only
      rw [View.writes_append, hG9, hG10, hG11]
      have := trip_acc c t v0 v1 v2 v3 x4 x6 ⟨k, hk'⟩ g9 g10 g11 []
      rw [List.append_nil] at this
      rw [this, pay12, pay9, i9, i11, e8]
      simp only [pay10, pay7_score v0 v1 v2 v3 x4 x5 k (by omega), e8]
      rw [show 512 * (k + 1) = 512 * k + 512 from rfl, mass_add _ (hs r) _ _ (by decide)]
      congr 1
      refine Finset.sum_congr rfl fun j _ => ?_
      have hj := j.isLt
      unfold value part
      rw [dif_pos (by omega)]
      congr 2
      refine congrArg (ix2 · d) (Fin.ext ?_)
      show (512 * k + j.val) % 4096 = 512 * k + j.val
      omega

end

end Cert.AttnIdeal.Blk
end
-- ==== Proof.AttnBlk.lean ====
module
public import proofs.«01_k».proof.Proof.AttnLoop
@[expose] public section
set_option maxRecDepth 16384
noncomputable section

/-! What the attention kernel writes back at one grid point. -/

namespace Cert.AttnIdeal.Blk
open Cert.AttnIdeal Cert.AttnIdeal.Gen Idealize.ShloMosaic Idealize.ShloMosaic.TcCoe Idealize.SL.Sem
open Cert.Online

/-- Softmax attention of a row with scores `s` over 4352 keys whose values are `w`. -/
def attend (s w : ℕ → EReal) : EReal :=
  ∑ j ∈ Finset.range 4352, w j * Ideal.div (Ideal.exp (s j - top s 4352)) (mass s (fun _ => 1) 4352)

/-- The context step after the loop, and the quotient. -/
theorem last_step (v0 v1 v2 v3 : Vec Ideal S256x128 .bf16) (x4 x6 : Vec Ideal S4096x128 .bf16) (x5 x7 : Vec Ideal S256x128 .bf16)
    (v21 v30 : Vec Ideal S1024x1 .f32) (v38 : Vec Ideal S1024x128 .f32)
    (hs : ∀ r n, Fin' (score (k0_pay3 (F := Ideal) v0 v1 v2 v3) x4 x5 r n)) (r : Fin 1024) (d : Fin 128)
    (h21 : v21 (ix2 r 0) = top (score (k0_pay3 (F := Ideal) v0 v1 v2 v3) x4 x5 r) 4096)
    (h30 : v30 (ix2 r 0) = mass (score (k0_pay3 (F := Ideal) v0 v1 v2 v3) x4 x5 r) (fun _ => 1) 4096)
    (h38 : v38 (ix2 r d) = mass (score (k0_pay3 (F := Ideal) v0 v1 v2 v3) x4 x5 r) (value x6 x7 d) 4096) :
    k0_pay22 (F := Ideal) (k0_pay20 (F := Ideal) x7 (k0_pay14 (F := Ideal) v0 v1 v2 v3 x5) v21 (k0_pay15 (F := Ideal) v0 v1 v2 v3 x5) v38)
        (k0_pay19 (F := Ideal) (k0_pay14 (F := Ideal) v0 v1 v2 v3 x5) v21 (k0_pay15 (F := Ideal) v0 v1 v2 v3 x5) v30) (ix2 r d)
      = attend (score (k0_pay3 (F := Ideal) v0 v1 v2 v3) x4 x5 r) (value x6 x7 d) := by
  have e16 : k0_pay16 (F := Ideal) v21 (k0_pay15 (F := Ideal) v0 v1 v2 v3 x5) (ix2 r 0)
      = top (score (k0_pay3 (F := Ideal) v0 v1 v2 v3) x4 x5 r) (4096 + 256) := by
    rw [pay16, pay15, h21, top_add]
    simp only [pay14_score v0 v1 v2 v3 x4 x5]
  have e7 : ∀ j : Fin 256, value x6 x7 d (4096 + j.val) = x7 (ix2 j d) := fun j => by
    have hj := j.isLt
    have e : (⟨(4096 + j.val - 4096) % 256, Nat.mod_lt _ (by decide)⟩ : Fin 256) = j := Fin.ext (by dsimp only; omega)
    unfold value
    rw [dif_neg (by omega), e]
  rw [pay22, pay20, pay19, pay17, h21, h30, h38]
  simp only [pay18, e16, pay14_score v0 v1 v2 v3 x4 x5, ← e7]
  rw [← mass_add _ (hs r) _ _ (by decide)]
  have := mass_add (s := score (k0_pay3 (F := Ideal) v0 v1 v2 v3) x4 x5 r) (fun _ => 1) (hs r) 4096 256 (by decide)
  simp only [mul_one] at this
  rw [← this]
  exact mass_div _ (hs r) (by decide)

/-- A covered load of stores `L` after stores `L'` reads `L` over what `L'` left. -/
theorem readCov_append {S : Shape} {e : EltTy} {sig : RefSig} {κ : Kind} {sp : Space} (v : View sig κ sp S e)
    {off : Fin S.rank → Nat} (h : off = fun _ => 0) (inb : ∀ a, off a + S.size a ≤ S.size a)
    (L L' : List (View.Piece (Elt Ideal) S e)) :
    v.readCov (L ++ L') (Rect.unit off S.size inb).toLoadRect = v.read (Elt Ideal) (v.writes (Elt Ideal) (v.writes (Elt Ideal) v.junk L') L) := by
  unfold View.readCov
  rw [View.writes_append]
  exact View.ld_unit_zero h inb _

/-- The query rows of a block: its four groups of 128 columns below each other. -/
abbrev rows (x3 : Vec Ideal S256x512 .bf16) : FVec Ideal S1024x128 .bf16 :=
  k0_pay3 (F := Ideal) (View.ld x3 (Rect.unit ![0, 0] ![256, 128] inb_S256x512_S256x128_0_0))
    (View.ld x3 (Rect.unit ![0, 128] ![256, 128] inb_S256x512_S256x128_0_128))
    (View.ld x3 (Rect.unit ![0, 256] ![256, 128] inb_S256x512_S256x128_0_256))
    (View.ld x3 (Rect.unit ![0, 384] ![256, 128] inb_S256x512_S256x128_0_384))

/-- Row `256 g + i` of the query rows is row `i` of the block, at the columns of group `g`. -/
theorem rows_apply (x3 : Vec Ideal S256x512 .bf16) (g : Fin 4) (i : Fin 256) (d : Fin 128) :
    rows x3 (ix2 ⟨g.val * 256 + i.val, by omega⟩ d) = x3 (ix2 i ⟨g.val * 128 + d.val, by omega⟩) := by
  rw [rows, pay3]
  fin_cases g <;> refine congrArg x3 (funext fun a => Fin.ext ?_) <;>
    match a with
    | ⟨0, _⟩ => show 0 + 1 * i.val = i.val; omega
    | ⟨1, _⟩ => first
      | (show 0 + 1 * d.val = 0 * 128 + d.val; omega) | (show 128 + 1 * d.val = 1 * 128 + d.val; omega)
      | (show 256 + 1 * d.val = 2 * 128 + d.val; omega) | (show 384 + 1 * d.val = 3 * 128 + d.val; omega)

section
variable (c : Dev nD) (t : Fin cfg0.N) (x3 : Vec Ideal S256x512 .bf16) (x4 x6 : Vec Ideal S4096x128 .bf16)
  (x5 x7 : Vec Ideal S256x128 .bf16)

/-- All stores of the loop at grid point `t`, from the carried arrays as they are initialised. -/
abbrev loop := trips c t (View.ld x3 (Rect.unit ![0, 0] ![256, 128] inb_S256x512_S256x128_0_0))
  (View.ld x3 (Rect.unit ![0, 128] ![256, 128] inb_S256x512_S256x128_0_128))
  (View.ld x3 (Rect.unit ![0, 256] ![256, 128] inb_S256x512_S256x128_0_256))
  (View.ld x3 (Rect.unit ![0, 384] ![256, 128] inb_S256x512_S256x128_0_384)) x4 x6
  ((View.whole cc0_scratch0).writes (Elt Ideal) (View.whole cc0_scratch0).junk [⟨Rect.unit ![0, 0] ![1024, 1] inb_S1024x1_S1024x1_0_0, k0_pay4 (F := Ideal)⟩])
  ((View.whole cc0_scratch1).writes (Elt Ideal) (View.whole cc0_scratch1).junk [⟨Rect.unit ![0, 0] ![1024, 1] inb_S1024x1_S1024x1_0_0, k0_pay5 (F := Ideal)⟩])
  ((View.whole cc0_scratch2).writes (Elt Ideal) (View.whole cc0_scratch2).junk [⟨Rect.unit ![0, 0] ![1024, 128] inb_S1024x128_S1024x128_0_0, k0_pay6 (F := Ideal)⟩])
  (Scf.trips 0#32 (Scalar.addi 0#32 8#32) 1#32)

/-- The running maxima after the loop. -/
abbrev maxs : Vec Ideal S1024x1 .f32 := (View.whole cc0_scratch0).readCov ((loop c t x3 x4 x6).1 ++ [⟨Rect.unit ![0, 0] ![1024, 1] inb_S1024x1_S1024x1_0_0, k0_pay4 (F := Ideal)⟩])
  (Rect.unit ![0, 0] ![1024, 1] inb_S1024x1_S1024x1_0_0).toLoadRect
/-- The running sums of weights after the loop. -/
abbrev sums : Vec Ideal S1024x1 .f32 := (View.whole cc0_scratch1).readCov ((loop c t x3 x4 x6).2.1 ++ [⟨Rect.unit ![0, 0] ![1024, 1] inb_S1024x1_S1024x1_0_0, k0_pay5 (F := Ideal)⟩])
  (Rect.unit ![0, 0] ![1024, 1] inb_S1024x1_S1024x1_0_0).toLoadRect
/-- The running weighted sums after the loop. -/
abbrev accs : Vec Ideal S1024x128 .f32 := (View.whole cc0_scratch2).readCov ((loop c t x3 x4 x6).2.2 ++ [⟨Rect.unit ![0, 0] ![1024, 128] inb_S1024x128_S1024x128_0_0, k0_pay6 (F := Ideal)⟩])
  (Rect.unit ![0, 0] ![1024, 128] inb_S1024x128_S1024x128_0_0).toLoadRect

/-- The quotient that the four stores write parts of. -/
abbrev quot : FVec Ideal S1024x128 .bf16 :=
  k0_pay22 (F := Ideal)
    (k0_pay20 (F := Ideal) x7
      (k0_pay14 (F := Ideal) (View.ld x3 (Rect.unit ![0, 0] ![256, 128] inb_S256x512_S256x128_0_0))
        (View.ld x3 (Rect.unit ![0, 128] ![256, 128] inb_S256x512_S256x128_0_128))
        (View.ld x3 (Rect.unit ![0, 256] ![256, 128] inb_S256x512_S256x128_0_256))
        (View.ld x3 (Rect.unit ![0, 384] ![256, 128] inb_S256x512_S256x128_0_384)) x5)
      (maxs c t x3 x4 x6)
      (k0_pay15 (F := Ideal) (View.ld x3 (Rect.unit ![0, 0] ![256, 128] inb_S256x512_S256x128_0_0))
        (View.ld x3 (Rect.unit ![0, 128] ![256, 128] inb_S256x512_S256x128_0_128))
        (View.ld x3 (Rect.unit ![0, 256] ![256, 128] inb_S256x512_S256x128_0_256))
        (View.ld x3 (Rect.unit ![0, 384] ![256, 128] inb_S256x512_S256x128_0_384)) x5)
      (accs c t x3 x4 x6))
    (k0_pay19 (F := Ideal)
      (k0_pay14 (F := Ideal) (View.ld x3 (Rect.unit ![0, 0] ![256, 128] inb_S256x512_S256x128_0_0))
        (View.ld x3 (Rect.unit ![0, 128] ![256, 128] inb_S256x512_S256x128_0_128))
        (View.ld x3 (Rect.unit ![0, 256] ![256, 128] inb_S256x512_S256x128_0_256))
        (View.ld x3 (Rect.unit ![0, 384] ![256, 128] inb_S256x512_S256x128_0_384)) x5)
      (maxs c t x3 x4 x6)
      (k0_pay15 (F := Ideal) (View.ld x3 (Rect.unit ![0, 0] ![256, 128] inb_S256x512_S256x128_0_0))
        (View.ld x3 (Rect.unit ![0, 128] ![256, 128] inb_S256x512_S256x128_0_128))
        (View.ld x3 (Rect.unit ![0, 256] ![256, 128] inb_S256x512_S256x128_0_256))
        (View.ld x3 (Rect.unit ![0, 384] ![256, 128] inb_S256x512_S256x128_0_384)) x5)
      (sums c t x3 x4 x6))

/-- Each row of the quotient is the softmax attention of that query row. -/
theorem quot_apply (hs : ∀ r n, Fin' (score (rows x3) x4 x5 r n)) (r : Fin 1024) (d : Fin 128) :
    quot c t x3 x4 x6 x5 x7 (ix2 r d) = attend (score (rows x3) x4 x5 r) (value x6 x7 d) := by
  have e8 : Scf.trips 0#32 (Scalar.addi 0#32 8#32) 1#32 = 8 := by decide +kernel
  have st := trips_state c t (View.ld x3 (Rect.unit ![0, 0] ![256, 128] inb_S256x512_S256x128_0_0))
    (View.ld x3 (Rect.unit ![0, 128] ![256, 128] inb_S256x512_S256x128_0_128))
    (View.ld x3 (Rect.unit ![0, 256] ![256, 128] inb_S256x512_S256x128_0_256))
    (View.ld x3 (Rect.unit ![0, 384] ![256, 128] inb_S256x512_S256x128_0_384)) x4 x6 x5 x7
    ((View.whole cc0_scratch0).writes (Elt Ideal) (View.whole cc0_scratch0).junk [⟨Rect.unit ![0, 0] ![1024, 1] inb_S1024x1_S1024x1_0_0, k0_pay4 (F := Ideal)⟩])
    ((View.whole cc0_scratch1).writes (Elt Ideal) (View.whole cc0_scratch1).junk [⟨Rect.unit ![0, 0] ![1024, 1] inb_S1024x1_S1024x1_0_0, k0_pay5 (F := Ideal)⟩])
    ((View.whole cc0_scratch2).writes (Elt Ideal) (View.whole cc0_scratch2).junk [⟨Rect.unit ![0, 0] ![1024, 128] inb_S1024x128_S1024x128_0_0, k0_pay6 (F := Ideal)⟩])
    hs
    (fun r => (congrFun (read_whole_store (View.whole cc0_scratch0) (by decide) inb_S1024x1_S1024x1_0_0 _ _ []) _).trans (pay4 r))
    (fun r => (congrFun (read_whole_store (View.whole cc0_scratch1) (by decide) inb_S1024x1_S1024x1_0_0 _ _ []) _).trans (pay5 r))
    (fun r d => (congrFun (read_whole_store (View.whole cc0_scratch2) (by decide) inb_S1024x128_S1024x128_0_0 _ _ []) _).trans (pay6 r d))
    8 le_rfl
  obtain ⟨s9, s10, s11⟩ := st
  refine last_step _ _ _ _ x4 x6 x5 x7 _ _ _ hs r d ?_ ?_ ?_
  · have := congrFun (readCov_append (View.whole cc0_scratch0) (by decide) inb_S1024x1_S1024x1_0_0 (loop c t x3 x4 x6).1 [⟨Rect.unit ![0, 0] ![1024, 1] inb_S1024x1_S1024x1_0_0, k0_pay4 (F := Ideal)⟩]) (ix2 r 0)
    refine this.trans ?_
    rw [loop, e8]
    exact s9 r
  · have := congrFun (readCov_append (View.whole cc0_scratch1) (by decide) inb_S1024x1_S1024x1_0_0 (loop c t x3 x4 x6).2.1 [⟨Rect.unit ![0, 0] ![1024, 1] inb_S1024x1_S1024x1_0_0, k0_pay5 (F := Ideal)⟩]) (ix2 r 0)
    refine this.trans ?_
    rw [loop, e8]
    exact s10 r
  · have := congrFun (readCov_append (View.whole cc0_scratch2) (by decide) inb_S1024x128_S1024x128_0_0 (loop c t x3 x4 x6).2.2 [⟨Rect.unit ![0, 0] ![1024, 128] inb_S1024x128_S1024x128_0_0, k0_pay6 (F := Ideal)⟩]) (ix2 r d)
    refine this.trans ?_
    rw [loop, e8]
    exact s11 r d

/-- Row `i`, column `j` of the block that is written: query row `256 (j / 128) + i`, component `j mod 128`. -/
def block : Vec Ideal S256x512 .bf16 := fun y =>
  attend (score (rows x3) x4 x5 ⟨(y 1).val / 128 * 256 + (y 0).val, by
    have h0 : (y 0).val < 256 := (y 0).isLt
    have h1 : (y 1).val < 512 := (y 1).isLt
    omega⟩) (value x6 x7 ⟨(y 1).val % 128, Nat.mod_lt _ (by decide)⟩)

/-- One of the four stores: rows `256 g` to `256 g + 255` of the quotient, at the columns of group `g`. -/
theorem store_apply (hs : ∀ r n, Fin' (score (rows x3) x4 x5 r n)) (g : ℕ) (hg : g < 4) (x : S256x128.Idx) (y : S256x512.Idx)
    (e0 : (y 0).val = (x 0).val) (e1 : (y 1).val = g * 128 + (x 1).val) (h) :
    quot c t x3 x4 x6 x5 x7 (ix2 ⟨g * 256 + (x 0).val, h⟩ (x 1)) = block x3 x4 x6 x5 x7 y := by
  have h1 : (x 1).val < 128 := (x 1).isLt
  refine (quot_apply c t x3 x4 x6 x5 x7 hs _ (x 1)).trans ?_
  unfold block
  congr 2
  · refine Fin.ext ?_
    show g * 256 + (x 0).val = (y 1).val / 128 * 256 + (y 0).val
    rw [e0, e1, show (g * 128 + (x 1).val) / 128 = g by omega]
  · refine Fin.ext ?_
    show (x 1).val = (y 1).val % 128
    omega

end

/-- The four slices of the quotient that are stored. -/
theorem pay23 (v50 : Vec Ideal S1024x128 .f32) (v51 : Vec Ideal S1024x1 .f32) (x : S256x128.Idx) :
    k0_pay23 (F := Ideal) v50 v51 x = k0_pay22 (F := Ideal) v50 v51 (ix2 ⟨0 * 256 + (x 0).val, by have h : (x 0).val < 256 := (x 0).isLt; omega⟩ (x 1)) := by
  unfold k0_pay23
  refine congrArg (k0_pay22 (F := Ideal) v50 v51) (funext fun a => Fin.ext ?_)
  match a with
  | ⟨0, _⟩ => show 0 + (x 0).val = 0 * 256 + (x 0).val; omega
  | ⟨1, _⟩ => show 0 + (x 1).val = (x 1).val; omega
theorem pay24 (v50 : Vec Ideal S1024x128 .f32) (v51 : Vec Ideal S1024x1 .f32) (x : S256x128.Idx) :
    k0_pay24 (F := Ideal) v50 v51 x = k0_pay22 (F := Ideal) v50 v51 (ix2 ⟨1 * 256 + (x 0).val, by have h : (x 0).val < 256 := (x 0).isLt; omega⟩ (x 1)) := by
  unfold k0_pay24
  refine congrArg (k0_pay22 (F := Ideal) v50 v51) (funext fun a => Fin.ext ?_)
  match a with
  | ⟨0, _⟩ => show 256 + (x 0).val = 1 * 256 + (x 0).val; omega
  | ⟨1, _⟩ => show 0 + (x 1).val = (x 1).val; omega
theorem pay1 (v56 : FVec Ideal S1024x128 .bf16) (x : S256x128.Idx) :
    k0_pay1 (F := Ideal) v56 x = v56 (ix2 ⟨2 * 256 + (x 0).val, by have h : (x 0).val < 256 := (x 0).isLt; omega⟩ (x 1)) := by
  unfold k0_pay1
  refine congrArg v56 (funext fun a => Fin.ext ?_)
  match a with
  | ⟨0, _⟩ => show 512 + (x 0).val = 2 * 256 + (x 0).val; omega
  | ⟨1, _⟩ => show 0 + (x 1).val = (x 1).val; omega
theorem pay2 (v56 : FVec Ideal S1024x128 .bf16) (x : S256x128.Idx) :
    k0_pay2 (F := Ideal) v56 x = v56 (ix2 ⟨3 * 256 + (x 0).val, by have h : (x 0).val < 256 := (x 0).isLt; omega⟩ (x 1)) := by
  unfold k0_pay2
  refine congrArg v56 (funext fun a => Fin.ext ?_)
  match a with
  | ⟨0, _⟩ => show 768 + (x 0).val = 3 * 256 + (x 0).val; omega
  | ⟨1, _⟩ => show 0 + (x 1).val = (x 1).val; omega

variable (m : (ℓ : Loc nD τ sig) → Buf (Elt Ideal) ℓ)

/-- What grid point `t` writes back: the attention of its query block over the keys and values of its head and batch. -/
theorem out_eq (c : Dev nD) (t : Fin cfg0.N) (hs : ∀ r n, Fin' (score (rows (iblk m c 0 t)) (X0_1 m c t) (iblk m c 2 t) r n)) :
    outsAt0 m c t = block (iblk m c 0 t) (X0_1 m c t) (X0_3 m c t) (iblk m c 2 t) (iblk m c 4 t) := by
  funext y
  unfold outsAt0
  frame_out
  refine View.canon_apply_of_pieces (block (iblk m c 0 t) (X0_1 m c t) (X0_3 m c t) (iblk m c 2 t) (iblk m c 4 t)) _ ?_ y ?_
  · intro p hp
    simp only [List.mem_cons, List.not_mem_nil, or_false] at hp
    rcases hp with rfl | rfl | rfl | rfl
    · exact fun x => (pay2 _ x).trans (store_apply c t _ _ _ _ _ hs 3 (by decide) x _ (by show 0 + 1 * (x 0).val = (x 0).val; omega)
        (by show 384 + 1 * (x 1).val = 3 * 128 + (x 1).val; omega) _)
    · exact fun x => (pay1 _ x).trans (store_apply c t _ _ _ _ _ hs 2 (by decide) x _ (by show 0 + 1 * (x 0).val = (x 0).val; omega)
        (by show 256 + 1 * (x 1).val = 2 * 128 + (x 1).val; omega) _)
    · exact fun x => (pay24 _ _ x).trans (store_apply c t _ _ _ _ _ hs 1 (by decide) x _ (by show 0 + 1 * (x 0).val = (x 0).val; omega)
        (by show 128 + 1 * (x 1).val = 1 * 128 + (x 1).val; omega) _)
    · exact fun x => (pay23 _ _ x).trans (store_apply c t _ _ _ _ _ hs 0 (by decide) x _ (by show 0 + 1 * (x 0).val = (x 0).val; omega)
        (by show 0 + 1 * (x 1).val = 0 * 128 + (x 1).val; omega) _)
  · have h0 : (y 0).val < 256 := (y 0).isLt
    have h1 : (y 1).val < 512 := (y 1).isLt
    have hq : (y 1).val / 128 = 3 ∨ (y 1).val / 128 = 2 ∨ (y 1).val / 128 = 1 ∨ (y 1).val / 128 = 0 := by omega
    have mem : ∀ (o : ℕ) (inb : ∀ a, (![0, o] : Fin 2 → ℕ) a + S256x128.size a ≤ S256x512.size a), (y 1).val / 128 * 128 = o →
        y ∈ (Rect.unit (s := S256x512) ![0, o] S256x128.size inb).set := fun o inb e => by
      refine Rect.mem_set_unit.mpr fun a => ?_
      match a with
      | ⟨0, _⟩ => exact ⟨Nat.zero_le _, by show (y 0).val < 0 + 256; omega⟩
      | ⟨1, _⟩ => exact ⟨by show o ≤ (y 1).val; omega, by show (y 1).val < o + 128; omega⟩
    rcases hq with h | h | h | h
    · exact ⟨_, List.mem_cons_self, mem 384 inb_S256x512_S256x128_0_384 (by rw [h])⟩
    · exact ⟨_, List.mem_cons_of_mem _ List.mem_cons_self, mem 256 inb_S256x512_S256x128_0_256 (by rw [h])⟩
    · exact ⟨_, List.mem_cons_of_mem _ (List.mem_cons_of_mem _ List.mem_cons_self), mem 128 inb_S256x512_S256x128_0_128 (by rw [h])⟩
    · exact ⟨_, List.mem_cons_of_mem _ (List.mem_cons_of_mem _ (List.mem_cons_of_mem _ List.mem_cons_self)), mem 0 inb_S256x512_S256x128_0_0 (by rw [h])⟩

end Cert.AttnIdeal.Blk
end
-- ==== Proof.AttnArr.lean ====
module
public import proofs.«01_k».proof.Proof.AttnBlk
public import proofs.«01_k».proof.Proof.Gen.AttnIdeal.Value
@[expose] public section
set_option maxRecDepth 16384
noncomputable section

/-! The array the attention kernel leaves, as a function of the query, key and value arrays. -/

namespace Cert.AttnIdeal.Arr
open Cert.AttnIdeal Cert.AttnIdeal.Gen Idealize.ShloMosaic Idealize.ShloMosaic.TcCoe Idealize.SL.Sem
open Cert.Online Cert.AttnIdeal.Blk

/-- The row of the key and value arrays that key `n` of query row `R` lies in: the latent rows of the row's batch, then its
    context rows. -/
def keyRow (R n : ℕ) : ℕ := if n < 4096 then R / 4096 * 4096 + n else 16384 + R / 4096 * 256 + (n - 4096) % 256

theorem keyRow_lt {R : ℕ} (h : R < 16384) (n : ℕ) : keyRow R n < 17408 := by
  unfold keyRow; split <;> omega

/-- The score of key `n` for the query in row `R` and the head of column `C`. -/
def gscore (Q : Vec Ideal S17408x2048 .bf16) (K : Vec Ideal S17408x512 .bf16) (R : Fin 16384) (C : Fin 2048) (n : ℕ) : EReal :=
  ∑ d : Fin 128, Q (ix2 ⟨R.val, by omega⟩ ⟨C.val / 128 * 128 + d.val, by omega⟩)
    * K (ix2 ⟨keyRow R.val n, keyRow_lt R.isLt n⟩ ⟨C.val / 512 * 128 + d.val, by omega⟩)

/-- The component of value `n` that enters row `R`, column `C` of the result. -/
def gvalue (V : Vec Ideal S17408x512 .bf16) (R : Fin 16384) (C : Fin 2048) (n : ℕ) : EReal :=
  V (ix2 ⟨keyRow R.val n, keyRow_lt R.isLt n⟩ ⟨C.val / 512 * 128 + C.val % 128, by omega⟩)

/-- Grouped softmax attention over latent and context keys, element by element. -/
def G (Q : Vec Ideal S17408x2048 .bf16) (K V : Vec Ideal S17408x512 .bf16) : Vec Ideal S16384x2048 .bf16 := fun i =>
  attend (gscore Q K (i 0) (i 1)) (gvalue V (i 0) (i 1))

/-- The block each window takes at a grid point. -/
theorem idx : ∀ t : Fin cfg0.N,
    win0_0.index t = ![t.val / 64 * 16 + t.val % 16, t.val / 16 % 4] ∧ win0_1.index t = ![t.val / 64, t.val / 16 % 4]
    ∧ win0_2.index t = ![64 + t.val / 64, t.val / 16 % 4] ∧ win0_3.index t = ![t.val / 64, t.val / 16 % 4]
    ∧ win0_4.index t = ![64 + t.val / 64, t.val / 16 % 4] ∧ win0_5.index t = ![t.val / 64 * 16 + t.val % 16, t.val / 16 % 4] :=
  (by decide +kernel : ∀ t : Fin grid0.N, _)

theorem N_eq : cfg0.N = 256 := by decide +kernel

section
variable (m : (ℓ : Loc nD τ sig) → Buf (Elt Ideal) ℓ) (c : Dev nD) (t : Fin cfg0.N)

theorem blk0 (i : Fin 256) (e : Fin 512) (h0 h1) : (iblk m c 0 t : Vec Ideal S256x512 .bf16) (ix2 i e)
    = (m ((c : Thread nD τ).loc main_arg0) : Vec Ideal S17408x2048 .bf16)
      (ix2 ⟨(t.val / 64 * 16 + t.val % 16) * 256 + i.val, h0⟩ ⟨t.val / 16 % 4 * 512 + e.val, h1⟩) := by
  obtain ⟨e0, -⟩ := idx t
  blk_ext [iblk, V, e0]

theorem blk1 (i : Fin 4096) (e : Fin 128) (h0 h1) : (X0_1 m c t : Vec Ideal S4096x128 .bf16) (ix2 i e)
    = (m ((c : Thread nD τ).loc main_arg1) : Vec Ideal S17408x512 .bf16)
      (ix2 ⟨t.val / 64 * 4096 + i.val, h0⟩ ⟨t.val / 16 % 4 * 128 + e.val, h1⟩) := by
  obtain ⟨-, e0, -⟩ := idx t
  unfold X0_1 Pipeline.Window.fill
  rw [dif_pos (moved0_1 t _)]
  blk_ext [iblk, V, e0]

theorem blk2 (i : Fin 256) (e : Fin 128) (h0 h1) : (iblk m c 2 t : Vec Ideal S256x128 .bf16) (ix2 i e)
    = (m ((c : Thread nD τ).loc main_arg1) : Vec Ideal S17408x512 .bf16)
      (ix2 ⟨(64 + t.val / 64) * 256 + i.val, h0⟩ ⟨t.val / 16 % 4 * 128 + e.val, h1⟩) := by
  obtain ⟨-, -, e0, -⟩ := idx t
  blk_ext [iblk, V, e0]

theorem blk3 (i : Fin 4096) (e : Fin 128) (h0 h1) : (X0_3 m c t : Vec Ideal S4096x128 .bf16) (ix2 i e)
    = (m ((c : Thread nD τ).loc main_arg2) : Vec Ideal S17408x512 .bf16)
      (ix2 ⟨t.val / 64 * 4096 + i.val, h0⟩ ⟨t.val / 16 % 4 * 128 + e.val, h1⟩) := by
  obtain ⟨-, -, -, e0, -⟩ := idx t
  unfold X0_3 Pipeline.Window.fill
  rw [dif_pos (moved0_3 t _)]
  blk_ext [iblk, V, e0]

theorem blk4 (i : Fin 256) (e : Fin 128) (h0 h1) : (iblk m c 4 t : Vec Ideal S256x128 .bf16) (ix2 i e)
    = (m ((c : Thread nD τ).loc main_arg2) : Vec Ideal S17408x512 .bf16)
      (ix2 ⟨(64 + t.val / 64) * 256 + i.val, h0⟩ ⟨t.val / 16 % 4 * 128 + e.val, h1⟩) := by
  obtain ⟨-, -, -, -, e0, -⟩ := idx t
  blk_ext [iblk, V, e0]

/-- A row of the regrouped query block at its place in the query array. -/
theorem rows_at (r : Fin 1024) (d : Fin 128) (h0 h1) : rows (iblk m c 0 t) (ix2 r d)
    = (m ((c : Thread nD τ).loc main_arg0) : Vec Ideal S17408x2048 .bf16)
      (ix2 ⟨(t.val / 64 * 16 + t.val % 16) * 256 + r.val % 256, h0⟩ ⟨t.val / 16 % 4 * 512 + (r.val / 256 * 128 + d.val), h1⟩) := by
  have h := rows_apply (iblk m c 0 t) ⟨r.val / 256, by omega⟩ ⟨r.val % 256, by omega⟩ d
  rw [blk0 m c t _ _ h0 h1] at h
  rw [← h]
  refine congrArg (fun r' => rows (iblk m c 0 t) (ix2 r' d)) (Fin.ext ?_)
  show r.val = r.val / 256 * 256 + r.val % 256
  omega

theorem t_lt : t.val < 256 := lt_of_lt_of_eq t.isLt N_eq

/-- The scores of one grid point are the scores of its rows. -/
theorem score_at (r : Fin 1024) (R : Fin 16384) (C : Fin 2048) (hR : R.val = (t.val / 64 * 16 + t.val % 16) * 256 + r.val % 256)
    (hC : C.val / 128 = t.val / 16 % 4 * 4 + r.val / 256) (n : ℕ) :
    score (rows (iblk m c 0 t)) (X0_1 m c t) (iblk m c 2 t) r n
      = gscore (m ((c : Thread nD τ).loc main_arg0)) (m ((c : Thread nD τ).loc main_arg1)) R C n := by
  have ht := t_lt t
  have hr := r.isLt
  unfold score gscore
  split
  · next h =>
    refine Finset.sum_congr rfl fun d _ => ?_
    have hd := d.isLt
    rw [rows_at m c t r d (by omega) (by omega), blk1 m c t ⟨n, h⟩ d (by dsimp only; omega) (by omega)]
    refine congr (congrArg HMul.hMul (congrArg _ ?_)) (congrArg _ ?_) <;> refine funext fun a => Fin.ext ?_ <;>
      match a with
      | ⟨0, _⟩ => simp only [ix2, keyRow, if_pos h]; omega
      | ⟨1, _⟩ => simp only [ix2]; omega
  · next h =>
    refine Finset.sum_congr rfl fun d _ => ?_
    have hd := d.isLt
    rw [rows_at m c t r d (by omega) (by omega), blk2 m c t ⟨(n - 4096) % 256, by omega⟩ d (by dsimp only; omega) (by omega)]
    refine congr (congrArg HMul.hMul (congrArg _ ?_)) (congrArg _ ?_) <;> refine funext fun a => Fin.ext ?_ <;>
      match a with
      | ⟨0, _⟩ => simp only [ix2, keyRow, if_neg h]; omega
      | ⟨1, _⟩ => simp only [ix2]; omega

/-- The values of one grid point are the values of its rows. -/
theorem value_at (d : Fin 128) (R : Fin 16384) (C : Fin 2048) (hR : R.val / 4096 = t.val / 64)
    (hC : C.val / 512 = t.val / 16 % 4) (hd : C.val % 128 = d.val) (n : ℕ) :
    value (X0_3 m c t) (iblk m c 4 t) d n = gvalue (m ((c : Thread nD τ).loc main_arg2)) R C n := by
  have ht := t_lt t
  have hd' := d.isLt
  unfold value gvalue
  split
  · next h =>
    rw [blk3 m c t ⟨n, h⟩ d (by dsimp only; omega) (by omega)]
    refine congrArg _ (funext fun a => Fin.ext ?_)
    match a with
      | ⟨0, _⟩ => simp only [ix2, keyRow, if_pos h]; omega
      | ⟨1, _⟩ => simp only [ix2]; omega
  · next h =>
    rw [blk4 m c t ⟨(n - 4096) % 256, by omega⟩ d (by dsimp only; omega) (by omega)]
    refine congrArg _ (funext fun a => Fin.ext ?_)
    match a with
      | ⟨0, _⟩ => simp only [ix2, keyRow, if_neg h]; omega
      | ⟨1, _⟩ => simp only [ix2]; omega

/-- Scores of finite queries and keys are finite. -/
theorem fin_score (hq : ∀ i, Fin' ((m ((c : Thread nD τ).loc main_arg0) : Vec Ideal S17408x2048 .bf16) i))
    (hk : ∀ i, Fin' ((m ((c : Thread nD τ).loc main_arg1) : Vec Ideal S17408x512 .bf16) i)) (r : Fin 1024) (n : ℕ) :
    Fin' (score (rows (iblk m c 0 t)) (X0_1 m c t) (iblk m c 2 t) r n) := by
  have ht := t_lt t
  have hr := r.isLt
  rw [score_at m c t r ⟨(t.val / 64 * 16 + t.val % 16) * 256 + r.val % 256, by omega⟩
    ⟨t.val / 16 % 4 * 512 + r.val / 256 * 128, by omega⟩ rfl (by dsimp only; omega) n]
  exact real_sum_mul _ (fun _ => hq _) (fun _ => hk _)

/-- The array the kernel leaves is attention over the three arrays. -/
theorem arr_eq (hq : ∀ i, Fin' ((m ((c : Thread nD τ).loc main_arg0) : Vec Ideal S17408x2048 .bf16) i))
    (hk : ∀ i, Fin' ((m ((c : Thread nD τ).loc main_arg1) : Vec Ideal S17408x512 .bf16) i)) :
    (dats m 0 c).arrAt 5 cfg0.N
      = G (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht := t_lt t
  obtain ⟨-, -, -, -, -, e5⟩ := idx t
  have e0 : ((((cfg0.win 5).blk t).view.emb y) (0 : Fin 2) : ℕ) = (t.val / 64 * 16 + t.val % 16) * 256 + (y (0 : Fin 2)).val := by
    blk_simp [e5]
  have e1 : ((((cfg0.win 5).blk t).view.emb y) (1 : Fin 2) : ℕ) = t.val / 16 % 4 * 512 + (y (1 : Fin 2)).val := by
    blk_simp [e5]
  blk_simp
  rw [after0_5, out_eq m c t (fin_score m c t hq hk)]
  have h0 : (y (0 : Fin 2)).val < 256 := (y 0).isLt
  have h1 : (y (1 : Fin 2)).val < 512 := (y 1).isLt
  unfold block G
  refine congr (congrArg attend (funext fun n => ?_)) (funext fun n => ?_)
  · refine score_at m c t _ _ _ (e0.trans ?_) ?_ n
    · dsimp only; omega
    · rw [e1]; dsimp only; omega
  · refine value_at m c t _ _ _ ?_ ?_ ?_ n
    · rw [e0]; omega
    · rw [e1]; omega
    · rw [e1]; dsimp only; omega

end
end Cert.AttnIdeal.Arr
-- ==== Proof.AttnRef.lean ====
module
public import proofs.«01_k».proof.Proof.AttnArr
public import proofs.«01_k».proof.Proof.Gen.AttnRefIdeal.Read
@[expose] public section
set_option maxRecDepth 16384
noncomputable section

/-! The result of the attention reference, element by element. -/

namespace Cert.AttnRefIdeal.Val
open Cert.AttnRefIdeal Cert.AttnRefIdeal.Gen Cert.AttnRefIdeal.Read Idealize.ShloMosaic Idealize.ShloMosaic.TcCoe Idealize.SL.Sem
open Cert.Online
open Cert.AttnIdeal.Arr (keyRow keyRow_lt gscore gvalue G)
open Cert.AttnIdeal.Blk (attend)

variable (x0 : Vec Ideal S17408x2048 .bf16) (x1 x2 : Vec Ideal S17408x512 .bf16)

theorem top_univ (S : ℕ → EReal) (n : ℕ) : top S n = Finset.univ.sup fun k : Fin n => S k.val :=
  le_antisymm
    (Finset.sup_le fun j hj => Finset.le_sup (f := fun k : Fin n => S k.val) (Finset.mem_univ ⟨j, Finset.mem_range.1 hj⟩))
    (Finset.sup_le fun k _ => Finset.le_sup (f := S) (Finset.mem_range.2 k.isLt))

theorem latent_keys (b : Fin 4) (n : Fin 4096) (h : Fin 4) (d : Fin 128) (e0 e1) :
    val_main_v6 (F := Ideal) x1 (ix4 b n h d) = x1 (ix2 ⟨b.val * 4096 + n.val, e0⟩ ⟨h.val * 128 + d.val, e1⟩) := by
  rw [val_main_v6_apply, val_main_v5_apply]
  refine congrArg x1 (funext fun a => Fin.ext ?_)
  match a with
  | ⟨0, _⟩ => simp only [ix2, ix4]; dsimp; omega
  | ⟨1, _⟩ => simp only [ix2, ix4]; dsimp; omega

theorem context_keys (b : Fin 4) (n : Fin 256) (h : Fin 4) (d : Fin 128) (e0 e1) :
    val_main_v8 (F := Ideal) x1 (ix4 b n h d) = x1 (ix2 ⟨16384 + b.val * 256 + n.val, e0⟩ ⟨h.val * 128 + d.val, e1⟩) := by
  rw [val_main_v8_apply, val_main_v7_apply]
  refine congrArg x1 (funext fun a => Fin.ext ?_)
  match a with
  | ⟨0, _⟩ => simp only [ix2, ix4]; dsimp; omega
  | ⟨1, _⟩ => simp only [ix2, ix4]; dsimp; omega

/-- Key `n` of a query row in batch `b`. -/
theorem keys (b : Fin 4) (n : Fin 4352) (h : Fin 4) (d : Fin 128) (R : Fin 16384) (hR : R.val / 4096 = b.val) (e1) :
    val_main_v9 (F := Ideal) x1 (ix4 b n h d) = x1 (ix2 ⟨keyRow R.val n.val, keyRow_lt R.isLt n.val⟩ ⟨h.val * 128 + d.val, e1⟩) := by
  have hn := n.isLt
  have h6 := latent_keys x1 b
  have h8 := context_keys x1 b
  unfold val_main_v9
  generalize val_main_v6 (F := Ideal) x1 = p at h6
  generalize val_main_v8 (F := Ideal) x1 = q at h8
  pointwise
  split
  · next hlt =>
    refine (h6 ⟨n.val, hlt⟩ h d (by dsimp only; omega) e1).trans (congrArg x1 (funext fun a => Fin.ext ?_))
    match a with
    | ⟨0, _⟩ => simp only [ix2, keyRow, if_pos hlt]; omega
    | ⟨1, _⟩ => rfl
  · next hlt =>
    refine (h8 ⟨n.val - 4096, by omega⟩ h d (by dsimp only; omega) e1).trans (congrArg x1 (funext fun a => Fin.ext ?_))
    match a with
    | ⟨0, _⟩ =>
      show 16384 + b.val * 256 + (n.val - 4096) = keyRow R.val n.val
      unfold keyRow; rw [if_neg hlt]; omega
    | ⟨1, _⟩ => simp only [ix2]

/-- The values are laid out as the keys are. -/
theorem values_keys : val_main_v14 (F := Ideal) x2 = val_main_v9 (F := Ideal) x2 := rfl

theorem queries (b : Fin 4) (s : Fin 4096) (h g : Fin 4) (d : Fin 128) (R : Fin 16384) (C : Fin 2048)
    (hR : R.val = b.val * 4096 + s.val) (hC : C.val / 128 = h.val * 4 + g.val) (e0 e1) :
    val_main_v4 (F := Ideal) x0 (ix5 b s h g d) = x0 (ix2 ⟨R.val, e0⟩ ⟨C.val / 128 * 128 + d.val, e1⟩) := by
  rw [val_main_v4_apply, val_main_v3_apply]
  refine congrArg x0 (funext fun a => Fin.ext ?_)
  match a with
  | ⟨0, _⟩ => simp only [ix2, ix5]; dsimp; omega
  | ⟨1, _⟩ => simp only [ix2, ix5]; dsimp; omega

/-- The reference's scores. -/
theorem scores (b h g : Fin 4) (s : Fin 4096) (n : Fin 4352) (R : Fin 16384) (C : Fin 2048)
    (hR : R.val = b.val * 4096 + s.val) (hC : C.val / 128 = h.val * 4 + g.val) :
    val_main_v16 (F := Ideal) x0 x1 (ix5 b h g s n) = gscore x0 x1 R C n.val := by
  have hR' := R.isLt
  have hC' := C.isLt
  rw [val_main_v16_apply, val_main_v15_apply]
  unfold gscore
  refine Finset.sum_congr rfl fun d _ => ?_
  rw [mul_comm]
  refine congr (congrArg HMul.hMul ?_) ?_
  · refine Eq.trans ?_ (queries x0 b s h g d R C hR hC (by omega) (by omega))
    refine congrArg _ (funext fun a => ?_)
    match a with
    | ⟨0, _⟩ => rfl
    | ⟨1, _⟩ => rfl
    | ⟨2, _⟩ => rfl
    | ⟨3, _⟩ => rfl
    | ⟨4, _⟩ => rfl
  · refine Eq.trans ?_ ((keys x1 b n h d R (by omega) (by omega)).trans ?_)
    · refine congrArg _ (funext fun a => ?_)
      match a with
      | ⟨0, _⟩ => rfl
      | ⟨1, _⟩ => rfl
      | ⟨2, _⟩ => rfl
      | ⟨3, _⟩ => rfl
    · refine congrArg x1 (funext fun a => Fin.ext ?_)
      match a with
      | ⟨0, _⟩ => rfl
      | ⟨1, _⟩ => simp only [ix2]; omega

/-- The reference's row maxima. -/
theorem maxima (S : ℕ → EReal) (b h g : Fin 4) (s : Fin 4096)
    (hS : ∀ n : Fin 4352, val_main_v16 (F := Ideal) x0 x1 (ix5 b h g s n) = S n.val) :
    val_main_v19 (F := Ideal) x0 x1 (ix4 b h g s) = top S 4352 := by
  rw [val_main_v19_apply, val_main_v18_apply, val_main_cst_0_apply]
  unfold val_main_v17 val_main_cst
  generalize val_main_v16 (F := Ideal) x0 x1 = p at hS
  pointwise
  simp only [Cert.AttnIdeal.Blk.fold_neg_inf, Cert.AttnIdeal.Blk.ofBits_neg_inf, hS]
  rw [top_univ]
  simp

/-- The reference's exponentials. -/
theorem exps (S : ℕ → EReal) (b h g : Fin 4) (s : Fin 4096) (n : Fin 4352)
    (hS : ∀ n : Fin 4352, val_main_v16 (F := Ideal) x0 x1 (ix5 b h g s n) = S n.val) :
    val_main_v23 (F := Ideal) x0 x1 (ix5 b h g s n) = Ideal.exp (S n.val - top S 4352) := by
  have hm := maxima x0 x1 S b h g s hS
  rw [val_main_v23_apply, val_main_v22_apply, val_main_v21_apply, val_main_v20_apply, hS]
  refine congrArg (fun z => Ideal.exp (S n.val - z)) (Eq.trans (congrArg _ (funext fun a => ?_)) hm)
  match a with
  | ⟨0, _⟩ => rfl
  | ⟨1, _⟩ => rfl
  | ⟨2, _⟩ => rfl
  | ⟨3, _⟩ => rfl

/-- The reference's row sums. -/
theorem sums (S : ℕ → EReal) (b h g : Fin 4) (s : Fin 4096)
    (hS : ∀ n : Fin 4352, val_main_v16 (F := Ideal) x0 x1 (ix5 b h g s n) = S n.val) :
    val_main_v24 (F := Ideal) x0 x1 (ix4 b h g s) = mass S (fun _ => 1) 4352 := by
  rw [val_main_v24_apply, val_main_cst_1_apply]
  unfold mass
  rw [Finset.sum_range]
  refine (congrArg (· + _) Ideal.ofBits_zero_f32).trans ((zero_add _).trans (Finset.sum_congr rfl fun k _ => ?_))
  rw [mul_one, ← exps x0 x1 S b h g s k hS]
  refine congrArg _ (funext fun a => ?_)
  match a with
  | ⟨0, _⟩ => rfl
  | ⟨1, _⟩ => rfl
  | ⟨2, _⟩ => rfl
  | ⟨3, _⟩ => rfl
  | ⟨4, _⟩ => rfl

/-- The reference's attention weights. -/
theorem weights (S : ℕ → EReal) (b h g : Fin 4) (s : Fin 4096) (n : Fin 4352)
    (hS : ∀ n : Fin 4352, val_main_v16 (F := Ideal) x0 x1 (ix5 b h g s n) = S n.val) :
    val_main_v27 (F := Ideal) x0 x1 (ix5 b h g s n)
      = Ideal.div (Ideal.exp (S n.val - top S 4352)) (mass S (fun _ => 1) 4352) := by
  rw [val_main_v27_apply, exps x0 x1 S b h g s n hS, val_main_v26_apply, val_main_v25_apply]
  refine congrArg (Ideal.div _) (Eq.trans (congrArg _ (funext fun a => ?_)) (sums x0 x1 S b h g s hS))
  match a with
  | ⟨0, _⟩ => rfl
  | ⟨1, _⟩ => rfl
  | ⟨2, _⟩ => rfl
  | ⟨3, _⟩ => rfl

/-- The reference's result is attention over the three arrays. -/
theorem result : val_main_v31 (F := Ideal) x0 x1 x2 = G x0 x1 x2 := by
  funext i
  have h0 : (i 0).val < 16384 := (i 0).isLt
  have h1 : (i 1).val < 2048 := (i 1).isLt
  rw [val_main_v31_apply]
  refine Eq.trans (show _ = val_main_v30 (F := Ideal) x0 x1 x2 i from rfl) ?_
  rw [val_main_v30_apply, val_main_v29_apply, val_main_v28_apply]
  unfold G attend
  rw [Finset.sum_range]
  refine Finset.sum_congr rfl fun n _ => ?_
  have hs := scores x0 x1 ⟨(i 0).val / 4096, by omega⟩ ⟨(i 1).val / 512, by omega⟩ ⟨(i 1).val / 128 % 4, by omega⟩
    ⟨(i 0).val % 4096, by omega⟩
  refine congr (congrArg HMul.hMul ?_) ?_
  · rw [values_keys]
    refine Eq.trans (congrArg _ (funext fun a => Fin.ext ?_))
      ((keys x2 ⟨(i 0).val / 4096, by omega⟩ n ⟨(i 1).val / 512, by omega⟩ ⟨(i 1).val % 128, by omega⟩ (i 0) rfl (by dsimp only; omega)).trans rfl)
    match a with
    | ⟨0, _⟩ => simp only [ix4]; dsimp; omega
    | ⟨1, _⟩ => rfl
    | ⟨2, _⟩ => simp only [ix4]; dsimp; omega
    | ⟨3, _⟩ => simp only [ix4]; dsimp; omega
  · refine Eq.trans (congrArg _ (funext fun a => Fin.ext ?_))
      (weights x0 x1 _ ⟨(i 0).val / 4096, by omega⟩ ⟨(i 1).val / 512, by omega⟩ ⟨(i 1).val / 128 % 4, by omega⟩
        ⟨(i 0).val % 4096, by omega⟩ n fun n => hs n (i 0) (i 1) (by dsimp only; omega) (by dsimp only; omega))
    match a with
    | ⟨0, _⟩ => simp only [ix5]; dsimp; omega
    | ⟨1, _⟩ => simp only [ix5]; dsimp; omega
    | ⟨2, _⟩ => simp only [ix5]; dsimp; omega
    | ⟨3, _⟩ => simp only [ix5]; dsimp; omega
    | ⟨4, _⟩ => rfl

end Cert.AttnRefIdeal.Val
-- ==== Proof.AttnClaim.lean ====
module
public import proofs.«01_k».proof.Defs
public import proofs.«01_k».proof.Proof.AttnRef
public import proofs.«01_k».proof.Proof.Gen.AttnRefIdeal.Run
@[expose] public section
set_option maxRecDepth 16384
noncomputable section

/-! The attention call and its reference leave equal results, for finite queries and keys. -/

namespace Cert.AttnProof
open Idealize.ShloMosaic Idealize.ShloMosaic.TcCoe Idealize.SL.Sem
open Cert.Online

/-- The side conditions of the precondition's text. -/
theorem preFacts : Cert.Pre_finite_queries_and_keys.Facts where
  bitsLt_bf16_f32 := by decide
  bcast_S_S17408x2048 := by decide
  bcast_S_S17408x512 := by decide

/-- An entry whose absolute value is below plus infinity is a real number. -/
theorem fin_of (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

/-- The precondition says that every query and every key is a real number. -/
theorem finite (m : (ℓ : Loc Cert.AttnIdeal.nD Cert.AttnIdeal.τ Cert.AttnIdeal.sig) → Buf (Elt Ideal) ℓ)
    (h : Cert.Pre_AttnIdeal_finite_queries_and_keys (hPre_finite_queries_and_keys := preFacts) m) (c : Dev Cert.AttnIdeal.nD) :
    (∀ i, Fin' ((m ((c : Thread Cert.AttnIdeal.nD Cert.AttnIdeal.τ).loc Cert.AttnIdeal.main_arg0) : Vec Ideal Cert.AttnIdeal.S17408x2048 .bf16) i))
    ∧ (∀ i, Fin' ((m ((c : Thread Cert.AttnIdeal.nD Cert.AttnIdeal.τ).loc Cert.AttnIdeal.main_arg1) : Vec Ideal Cert.AttnIdeal.S17408x512 .bf16) i)) := by
  obtain ⟨h0, h1⟩ := h c
  exact ⟨fun i => fin_of _ (congrFun h0 i), fun i => fin_of _ (congrFun h1 i)⟩

theorem algebraic : Cert.algebraic_AttnIdeal_AttnRefIdeal_pre_finite_queries_and_keys
    (hAttnIdeal := Cert.AttnIdeal.Gen.facts) (hAttnRefIdeal := Cert.AttnRefIdeal.Gen.facts) (hPre_finite_queries_and_keys := preFacts) := by
  intro m g m' g' hp hm
  refine ⟨fun c => Cert.AttnIdeal.Arr.G (m ((c : Thread Cert.AttnIdeal.nD Cert.AttnIdeal.τ).loc Cert.AttnIdeal.main_arg0))
    (m ((c : Thread Cert.AttnIdeal.nD Cert.AttnIdeal.τ).loc Cert.AttnIdeal.main_arg1))
    (m ((c : Thread Cert.AttnIdeal.nD Cert.AttnIdeal.τ).loc Cert.AttnIdeal.main_arg2)), ?_, ?_⟩
  · exact (θ_run _ _ _).mono (fun r h c => ⟨(h c).1.trans (Cert.AttnIdeal.Arr.arr_eq m c (finite m hp c).1 (finite m hp c).2), (h c).2⟩)
      (Cert.AttnIdeal.Value.run_blocks m g)
  · refine (θ_run _ _ _).mono (fun r h c => ⟨(h c).1.trans ?_, (h c).2⟩) (Cert.AttnRefIdeal.Value.run m' g')
    obtain ⟨e0, e1, e2⟩ := hm c
    rw [Cert.AttnRefIdeal.Read.val_main_v31_eq, Cert.AttnRefIdeal.Val.result]
    exact congr (congr (congrArg Cert.AttnIdeal.Arr.G e0) e1) e2

end Cert.AttnProof
-- ==== Proof.FfnBlk.lean ====
module
public import proofs.«01_k».proof.Proof.Gen.FfnIdeal.Frame
public import Idealize.ShloMosaic.Lib.Pipeline.ValueKit
public import Idealize.ShloMosaic.Lib.Pipeline.ReadBack
public import Idealize.ShloMosaic.Lib.Pointwise
@[expose] public section
set_option maxRecDepth 16384
noncomputable section

/-! What the feed-forward kernel's scratch arrays and output block hold after each grid point. -/

namespace Cert.FfnIdeal.Blk
open Cert.FfnIdeal Cert.FfnIdeal.Gen Idealize.ShloMosaic Idealize.ShloMosaic.TcCoe Idealize.SL.Sem

variable (m : (ℓ : Loc nD τ sig) → Buf (Elt Ideal) ℓ) (c : Dev nD) (t : Fin cfg0.N)

/-- The state the point before left. -/
abbrev prev := outsAt0 m c (t.val - 1) (Nat.lt_of_le_of_lt (Nat.sub_le _ _) t.isLt)

theorem first_h (h0 : t.val % 11 = 0) (h1 : ¬t.val % 11 = 10) :
    (outsAt0 m c t.val t.isLt).2.1 = k0_pay1 (F := Ideal) (iblk m c 0 t) (iblk m c 1 t) (iblk m c 2 t) (iblk m c 3 t) := by
  rw [outsAt0_A m c t h0 h1]
  dsimp only
  frame_out

theorem first_acc (h0 : t.val % 11 = 0) (h1 : ¬t.val % 11 = 10) :
    (outsAt0 m c t.val t.isLt).2.2 = k0_pay3 (F := Ideal) (k0_pay1 (F := Ideal) (iblk m c 0 t) (iblk m c 1 t) (iblk m c 2 t) (iblk m c 3 t))
      (iblk m c 6 t) (iblk m c 7 t) (k0_pay2 (F := Ideal)) (iblk m c 8 t) := by
  rw [outsAt0_A m c t h0 h1]
  dsimp only
  frame_out

theorem mid_h (h0 : ¬t.val % 11 = 0) (h1 : ¬t.val % 11 = 10) :
    (outsAt0 m c t.val t.isLt).2.1 = (prev m c t).2.1 := by
  rw [outsAt0_B m c t h0 h1]
  rfl

theorem mid_acc (h0 : ¬t.val % 11 = 0) (h1 : ¬t.val % 11 = 10) :
    (outsAt0 m c t.val t.isLt).2.2 = k0_pay3 (F := Ideal) (prev m c t).2.1 (iblk m c 6 t) (iblk m c 7 t) (prev m c t).2.2 (iblk m c 8 t) := by
  rw [outsAt0_B m c t h0 h1]
  dsimp only
  frame_out
  simp only [read_unread_whole]

theorem last_out (h0 : ¬t.val % 11 = 0) (h1 : t.val % 11 = 10) :
    (outsAt0 m c t.val t.isLt).1 = k0_pay4 (F := Ideal) (iblk m c 0 t)
      (k0_pay3 (F := Ideal) (prev m c t).2.1 (iblk m c 6 t) (iblk m c 7 t) (prev m c t).2.2 (iblk m c 8 t)) (iblk m c 5 t) (iblk m c 4 t) := by
  rw [outsAt0_C m c t h0 h1]
  dsimp only
  frame_out
  simp only [read_unread_whole]

end Cert.FfnIdeal.Blk
-- ==== Proof.FfnPay.lean ====
module
public import proofs.«01_k».proof.Proof.Gen.FfnIdeal.Skeleton
public import Idealize.ShloMosaic.Lib.Pipeline.ValueKit
public import Idealize.ShloMosaic.Lib.Pointwise
@[expose] public section
set_option maxRecDepth 16384
noncomputable section

/-! The arithmetic of one grid point of the feed-forward kernel, element by element. -/

namespace Cert.FfnIdeal.Blk
open Cert.FfnIdeal Cert.FfnIdeal.Gen Idealize.ShloMosaic Idealize.ShloMosaic.TcCoe Idealize.SL.Sem

/-- The inverse root mean square of a row of 2048 entries. -/
def irms (f : Fin 2048 → EReal) : EReal :=
  Ideal.rsqrt (Ideal.div (∑ k, f k * f k) (Ideal.ofBits .f32 0x45000000#32) + Ideal.ofBits .f32 0x358637BD#32)

/-- A number times its logistic. -/
def swish (g : EReal) : EReal := g * Ideal.div 1 (1 + Ideal.exp (-g))

/-- The modulated norm of a block of rows. -/
theorem pay1 (v31 : Vec Ideal S512x2048 .f32) (v32 : Vec Ideal S1x2048 .f32) (v34 v36 : Vec Ideal S1x1x2048 .f32) (r : Fin 512) (d : Fin 2048) :
    k0_pay1 (F := Ideal) v31 v32 v34 v36 (ix2 r d)
      = v31 (ix2 r d) * irms (fun k => v31 (ix2 r k)) * (v32 (ix2 0 d) * (1 + v36 (ix3 0 0 d))) + v34 (ix3 0 0 d) := by
  unfold k0_pay1 irms
  pointwise [Ideal.ofBits_one_f32, Ideal.ofBits_zero_f32]

theorem pay2 (i : S512x2048.Idx) : k0_pay2 (F := Ideal) i = 0 := by
  unfold k0_pay2
  pointwise [Ideal.ofBits_zero_f32]

/-- One block of hidden columns: the accumulator after it. -/
theorem pay3 (v3 : Vec Ideal S512x2048 .bf16) (v4 v7 : Vec Ideal S2048x512 .bf16) (v20 : Vec Ideal S512x2048 .f32)
    (v21 : Vec Ideal S512x2048 .bf16) (r : Fin 512) (e : Fin 2048) :
    k0_pay3 (F := Ideal) v3 v4 v7 v20 v21 (ix2 r e)
      = v20 (ix2 r e) + ∑ j : Fin 512, swish (∑ d : Fin 2048, v3 (ix2 r d) * v4 (ix2 d j)) * (∑ d : Fin 2048, v3 (ix2 r d) * v7 (ix2 d j))
          * v21 (ix2 j e) := by
  unfold k0_pay3 swish
  pointwise [Ideal.ofBits_one_f32, Ideal.ofBits_zero_f32, zero_sub]

/-- The norm of the accumulator and the gated residual. -/
theorem pay4 (v31 v32 : Vec Ideal S512x2048 .f32) (v33 : Vec Ideal S1x2048 .f32) (v35 : Vec Ideal S1x1x2048 .f32) (r : Fin 512) (e : Fin 2048) :
    k0_pay4 (F := Ideal) v31 v32 v33 v35 (ix2 r e)
      = v31 (ix2 r e) + v35 (ix3 0 0 e) * (v32 (ix2 r e) * irms (fun k => v32 (ix2 r k)) * v33 (ix2 0 e)) := by
  unfold k0_pay4 irms
  pointwise [Ideal.ofBits_one_f32, Ideal.ofBits_zero_f32]

end Cert.FfnIdeal.Blk
-- ==== Proof.FfnArr.lean ====
module
public import proofs.«01_k».proof.Proof.FfnBlk
public import proofs.«01_k».proof.Proof.FfnPay
@[expose] public section
set_option maxRecDepth 16384
noncomputable section

/-! The array the feed-forward kernel leaves, as a function of its arguments. -/

namespace Cert.FfnIdeal.Arr
open Cert.FfnIdeal Cert.FfnIdeal.Gen Idealize.ShloMosaic Idealize.ShloMosaic.TcCoe Idealize.SL.Sem
open Cert.FfnIdeal.Blk

/-- The modulated norm of row `R` of the residual stream. -/
def hin (X : Vec Ideal S16384x2048 .f32) (M : Vec Ideal S8x12288 .f32) (gp : Vec Ideal S2048 .f32) (R : Fin 16384) (d : Fin 2048) : EReal :=
  X (ix2 R d) * irms (fun k => X (ix2 R k))
    * (gp (ix1 d) * (1 + M (ix2 ⟨R.val / 4096, by omega⟩ ⟨8192 + d.val, by omega⟩))) + M (ix2 ⟨R.val / 4096, by omega⟩ ⟨6144 + d.val, by omega⟩)

/-- A row's product with column `n` of the projection into the hidden layer. -/
def proj (h : Fin 2048 → EReal) (Wi : Vec Ideal S2048x11264 .f32) (n : ℕ) : EReal :=
  ∑ d, h d * Wi (ix2 d ⟨n % 11264, Nat.mod_lt _ (by decide)⟩)

/-- Hidden unit `n` times its weight for output column `e`. -/
def unit (h : Fin 2048 → EReal) (Wi : Vec Ideal S2048x11264 .f32) (Wo : Vec Ideal S5632x2048 .f32) (e : Fin 2048) (n : ℕ) : EReal :=
  swish (proj h Wi n) * proj h Wi (5632 + n) * Wo (ix2 ⟨n % 5632, Nat.mod_lt _ (by decide)⟩ e)

/-- The first `N` hidden units' part of output column `e`. -/
def mix (h : Fin 2048 → EReal) (Wi : Vec Ideal S2048x11264 .f32) (Wo : Vec Ideal S5632x2048 .f32) (N : ℕ) (e : Fin 2048) : EReal :=
  ∑ n ∈ Finset.range N, unit h Wi Wo e n

/-- The feed-forward layer, element by element. -/
def G (X : Vec Ideal S16384x2048 .f32) (M : Vec Ideal S8x12288 .f32) (gp gq : Vec Ideal S2048 .f32) (Wi : Vec Ideal S2048x11264 .f32)
    (Wo : Vec Ideal S5632x2048 .f32) : Vec Ideal S16384x2048 .f32 := fun i =>
  X (ix2 (i 0) (i 1)) + M (ix2 ⟨(i 0).val / 4096, by have h : (i 0).val < 16384 := (i 0).isLt; omega⟩
      ⟨10240 + (i 1).val, by have h : (i 1).val < 2048 := (i 1).isLt; omega⟩)
    * (mix (hin X M gp (i 0)) Wi Wo 5632 (i 1) * irms (mix (hin X M gp (i 0)) Wi Wo 5632) * gq (ix1 (i 1)))

/-- The block each window takes at a grid point. -/
theorem idx : ∀ t : Fin cfg0.N,
    win0_0.index t = ![t.val / 11, 0] ∧ win0_1.index t = ![0, 0] ∧ win0_2.index t = ![t.val / 88, 0, 3]
    ∧ win0_3.index t = ![t.val / 88, 0, 4] ∧ win0_4.index t = ![t.val / 88, 0, 5] ∧ win0_5.index t = ![0, 0]
    ∧ win0_6.index t = ![0, t.val % 11] ∧ win0_7.index t = ![0, 11 + t.val % 11] ∧ win0_8.index t = ![t.val % 11, 0]
    ∧ win0_9.index t = ![t.val / 11, 0] :=
  (by decide +kernel : ∀ t : Fin grid0.N, _)

section
variable (m : (ℓ : Loc nD τ sig) → Buf (Elt Ideal) ℓ) (c : Dev nD) (t : Fin cfg0.N)

theorem t_lt : t.val < 352 := lt_of_lt_of_eq t.isLt N_0

theorem blk0 (i : Fin 512) (e : Fin 2048) (h0) : (iblk m c 0 t : Vec Ideal S512x2048 .f32) (ix2 i e)
    = (m ((c : Thread nD τ).loc main_arg0) : Vec Ideal S16384x2048 .f32) (ix2 ⟨t.val / 11 * 512 + i.val, h0⟩ e) := by
  obtain ⟨e0, -⟩ := idx t
  blk_ext [iblk, V_main_arg0, e0]

theorem blk1 (e : Fin 2048) : (iblk m c 1 t : Vec Ideal S1x2048 .f32) (ix2 0 e)
    = (m ((c : Thread nD τ).loc main_arg2) : Vec Ideal S2048 .f32) (ix1 e) := by
  obtain ⟨-, e0, -⟩ := idx t
  blk_ext! [iblk, V, e0]

theorem blk6 (i : Fin 2048) (e : Fin 512) (h0) : (iblk m c 6 t : Vec Ideal S2048x512 .bf16) (ix2 i e)
    = (m ((c : Thread nD τ).loc main_arg4) : Vec Ideal S2048x11264 .f32) (ix2 i ⟨t.val % 11 * 512 + e.val, h0⟩) := by
  obtain ⟨-, -, -, -, -, -, e0, -⟩ := idx t
  blk_ext! [iblk, V, e0]

theorem blk2 (e : Fin 2048) (h0 h1) : (iblk m c 2 t : Vec Ideal S1x1x2048 .f32) (ix3 0 0 e)
    = (m ((c : Thread nD τ).loc main_arg1) : Vec Ideal S8x12288 .f32) (ix2 ⟨t.val / 88, h0⟩ ⟨6144 + e.val, h1⟩) := by
  obtain ⟨-, -, e0, -⟩ := idx t
  blk_ext! [iblk, V, e0]
theorem blk3 (e : Fin 2048) (h0 h1) : (iblk m c 3 t : Vec Ideal S1x1x2048 .f32) (ix3 0 0 e)
    = (m ((c : Thread nD τ).loc main_arg1) : Vec Ideal S8x12288 .f32) (ix2 ⟨t.val / 88, h0⟩ ⟨8192 + e.val, h1⟩) := by
  obtain ⟨-, -, -, e0, -⟩ := idx t
  blk_ext! [iblk, V, e0]

theorem blk4 (e : Fin 2048) (h0 h1) : (iblk m c 4 t : Vec Ideal S1x1x2048 .f32) (ix3 0 0 e)
    = (m ((c : Thread nD τ).loc main_arg1) : Vec Ideal S8x12288 .f32) (ix2 ⟨t.val / 88, h0⟩ ⟨10240 + e.val, h1⟩) := by
  obtain ⟨-, -, -, -, e0, -⟩ := idx t
  blk_ext! [iblk, V, e0]

theorem blk5 (e : Fin 2048) : (iblk m c 5 t : Vec Ideal S1x2048 .f32) (ix2 0 e)
    = (m ((c : Thread nD τ).loc main_arg3) : Vec Ideal S2048 .f32) (ix1 e) := by
  obtain ⟨-, -, -, -, -, e0, -⟩ := idx t
  blk_ext! [iblk, V, e0]

theorem blk7 (i : Fin 2048) (e : Fin 512) (h0) : (iblk m c 7 t : Vec Ideal S2048x512 .bf16) (ix2 i e)
    = (m ((c : Thread nD τ).loc main_arg4) : Vec Ideal S2048x11264 .f32) (ix2 i ⟨(11 + t.val % 11) * 512 + e.val, h0⟩) := by
  obtain ⟨-, -, -, -, -, -, -, e0, -⟩ := idx t
  blk_ext! [iblk, V, e0]

theorem blk8 (i : Fin 512) (e : Fin 2048) (h0) : (iblk m c 8 t : Vec Ideal S512x2048 .bf16) (ix2 i e)
    = (m ((c : Thread nD τ).loc main_arg5) : Vec Ideal S5632x2048 .f32) (ix2 ⟨t.val % 11 * 512 + i.val, h0⟩ e) := by
  obtain ⟨-, -, -, -, -, -, -, -, e0, -⟩ := idx t
  blk_ext! [iblk, V, e0]

/-- The modulated norm a grid point stores is that of its rows. -/
theorem hin_at (r : Fin 512) (R : Fin 16384) (hR : R.val = t.val / 11 * 512 + r.val) (d : Fin 2048) :
    k0_pay1 (F := Ideal) (iblk m c 0 t) (iblk m c 1 t) (iblk m c 2 t) (iblk m c 3 t) (ix2 r d)
      = hin (m ((c : Thread nD τ).loc main_arg0)) (m ((c : Thread nD τ).loc main_arg1)) (m ((c : Thread nD τ).loc main_arg2)) R d := by
  have ht := t_lt t
  have hr := r.isLt
  have hb : R.val / 4096 = t.val / 88 := by omega
  have hx : ∀ k : Fin 2048, (iblk m c 0 t : Vec Ideal S512x2048 .f32) (ix2 r k)
      = (m ((c : Thread nD τ).loc main_arg0) : Vec Ideal S16384x2048 .f32) (ix2 R k) := fun k =>
    (blk0 m c t r k (by omega)).trans (congrArg (fun R' : Fin 16384 => (m ((c : Thread nD τ).loc main_arg0) : Vec Ideal S16384x2048 .f32) (ix2 R' k))
      (Fin.ext hR.symm))
  rw [pay1, blk1, blk2 m c t d (by omega) (by omega), blk3 m c t d (by omega) (by omega)]
  unfold hin
  simp only [hx, hb]

/-- One grid point adds its 512 hidden units. -/
theorem acc_at (r : Fin 512) (H : Vec Ideal S512x2048 .bf16) (A : Vec Ideal S512x2048 .f32) (h : Fin 2048 → EReal)
    (hh : ∀ d, H (ix2 r d) = h d) (e : Fin 2048)
    (ha : A (ix2 r e) = mix h (m ((c : Thread nD τ).loc main_arg4)) (m ((c : Thread nD τ).loc main_arg5)) (512 * (t.val % 11)) e) :
    k0_pay3 (F := Ideal) H (iblk m c 6 t) (iblk m c 7 t) A (iblk m c 8 t) (ix2 r e)
      = mix h (m ((c : Thread nD τ).loc main_arg4)) (m ((c : Thread nD τ).loc main_arg5)) (512 * (t.val % 11 + 1)) e := by
  have ht : t.val % 11 < 11 := Nat.mod_lt _ (by decide)
  rw [pay3, ha]
  unfold mix
  rw [Nat.mul_add, Nat.mul_one, Finset.sum_range_add, Finset.sum_range (fun x => unit h _ _ e (512 * (t.val % 11) + x))]
  refine congrArg _ (Finset.sum_congr rfl fun j _ => ?_)
  have hj := j.isLt
  rw [blk8 m c t j e (by omega)]
  simp only [hh, blk6 m c t _ j (by omega), blk7 m c t _ j (by omega)]
  unfold unit proj
  refine congr (congrArg HMul.hMul (congr (congrArg HMul.hMul (congrArg swish ?_)) ?_)) ?_
  · refine Finset.sum_congr rfl fun d _ => congrArg _ (congrArg _ (congrArg (ix2 d) (Fin.ext ?_)))
    dsimp only; omega
  · refine Finset.sum_congr rfl fun d _ => congrArg _ (congrArg _ (congrArg (ix2 d) (Fin.ext ?_)))
    dsimp only; omega
  · refine congrArg _ (congrArg (fun z => ix2 z e) (Fin.ext ?_))
    dsimp only; omega

/-- The scratch arrays after a grid point that is not the last of its block of rows. -/
theorem state : ∀ (n : ℕ) (hn : n < cfg0.N), ¬n % 11 = 10 → ∀ (r : Fin 512) (R : Fin 16384), R.val = n / 11 * 512 + r.val →
    (∀ d, (outsAt0 m c n hn).2.1 (ix2 r d)
      = hin (m ((c : Thread nD τ).loc main_arg0)) (m ((c : Thread nD τ).loc main_arg1)) (m ((c : Thread nD τ).loc main_arg2)) R d)
    ∧ ∀ e, (outsAt0 m c n hn).2.2 (ix2 r e)
      = mix (hin (m ((c : Thread nD τ).loc main_arg0)) (m ((c : Thread nD τ).loc main_arg1)) (m ((c : Thread nD τ).loc main_arg2)) R)
        (m ((c : Thread nD τ).loc main_arg4)) (m ((c : Thread nD τ).loc main_arg5)) (512 * (n % 11 + 1)) e := by
  intro n
  induction n with
  | zero =>
    intro hn h1 r R hR
    refine ⟨fun d => ?_, fun e => ?_⟩
    · exact (congrFun (first_h m c ⟨0, hn⟩ rfl h1) (ix2 r d)).trans (hin_at m c ⟨0, hn⟩ r R hR d)
    · refine (congrFun (first_acc m c ⟨0, hn⟩ rfl h1) (ix2 r e)).trans
        (acc_at m c ⟨0, hn⟩ r _ _ _ (fun d => hin_at m c ⟨0, hn⟩ r R hR d) e ((pay2 _).trans ?_))
      unfold mix; rfl
  | succ n ih =>
    intro hn h1 r R hR
    by_cases h0 : (n + 1) % 11 = 0
    · refine ⟨fun d => ?_, fun e => ?_⟩
      · exact (congrFun (first_h m c ⟨n + 1, hn⟩ h0 h1) (ix2 r d)).trans (hin_at m c ⟨n + 1, hn⟩ r R hR d)
      · refine (congrFun (first_acc m c ⟨n + 1, hn⟩ h0 h1) (ix2 r e)).trans
          (acc_at m c ⟨n + 1, hn⟩ r _ _ _ (fun d => hin_at m c ⟨n + 1, hn⟩ r R hR d) e ((pay2 _).trans ?_))
        dsimp only; rw [h0]; unfold mix; rfl
    · obtain ⟨hh, ha⟩ := ih (Nat.lt_of_succ_lt hn) (by omega) r R (by omega)
      refine ⟨fun d => ?_, fun e => ?_⟩
      · exact (congrFun (mid_h m c ⟨n + 1, hn⟩ h0 h1) (ix2 r d)).trans (hh d)
      · refine (congrFun (mid_acc m c ⟨n + 1, hn⟩ h0 h1) (ix2 r e)).trans
          (acc_at m c ⟨n + 1, hn⟩ r _ _ _ hh e ((ha e).trans ?_))
        dsimp only
        rw [show n % 11 + 1 = (n + 1) % 11 by omega]

/-- The block the last grid point of a block of rows stores. -/
theorem out_at (h1 : t.val % 11 = 10) (r : Fin 512) (e : Fin 2048) (R : Fin 16384) (hR : R.val = t.val / 11 * 512 + r.val) :
    (outsAt0 m c t.val t.isLt).1 (ix2 r e)
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R e) := by
  have ht := t_lt t
  have hr := r.isLt
  have hb : R.val / 4096 = t.val / 88 := by omega
  obtain ⟨hh, ha⟩ := state m c (t.val - 1) (Nat.lt_of_le_of_lt (Nat.sub_le _ _) t.isLt) (by omega) r R (by omega)
  have acc := fun e => acc_at m c t r _ _ _ hh e ((ha e).trans (by rw [show (t.val - 1) % 11 + 1 = t.val % 11 by omega]))
  rw [last_out m c t (by omega) h1, pay4, blk5, blk4 m c t e (by omega) (by omega), blk0 m c t r e (by omega)]
  simp only [acc]
  rw [h1]
  unfold G
  have hRe : (⟨t.val / 11 * 512 + r.val, by omega⟩ : Fin 16384) = R := Fin.ext hR.symm
  rw [hRe]
  simp only [ix2, hb]

/-- The array the kernel leaves. -/
theorem arr_eq : (dats m 0 c).arrAt 9 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  have ht := t_lt t
  obtain ⟨-, -, -, -, -, -, -, -, -, e9⟩ := idx t
  have e0 : ((((cfg0.win 9).blk t).view.emb y) (0 : Fin 2) : ℕ) = t.val / 11 * 512 + (y (0 : Fin 2)).val := by
    blk_simp [e9]
  have e1 : ((((cfg0.win 9).blk t).view.emb y) (1 : Fin 2) : ℕ) = (y (1 : Fin 2)).val := by
    blk_simp [e9]
  have h0 : (y (0 : Fin 2)).val < 512 := (y 0).isLt
  have h1 : (y (1 : Fin 2)).val < 2048 := (y 1).isLt
  blk_simp
  rw [after0_9]
  have key := out_at m c t ((flush0_9 t).1 hf) ⟨(y (0 : Fin 2)).val, h0⟩ ⟨(y (1 : Fin 2)).val, h1⟩
    ⟨t.val / 11 * 512 + (y (0 : Fin 2)).val, by omega⟩ rfl
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

end
end Cert.FfnIdeal.Arr
-- ==== Proof.FfnRef.lean ====
module
public import proofs.«01_k».proof.Proof.FfnArr
public import proofs.«01_k».proof.Proof.Gen.FfnRefIdeal.Read
@[expose] public section
set_option maxRecDepth 16384
noncomputable section

/-! The result of the feed-forward reference, element by element. -/

namespace Cert.FfnRefIdeal.Val
open Cert.FfnRefIdeal Cert.FfnRefIdeal.Gen Cert.FfnRefIdeal.Read Idealize.ShloMosaic Idealize.ShloMosaic.TcCoe Idealize.SL.Sem
open Cert.FfnIdeal.Arr (hin proj unit mix G)
open Cert.FfnIdeal.Blk (irms swish)

variable (x0 : Vec Ideal S16384x2048 .f32) (x1 : Vec Ideal S8x12288 .f32) (x2 x3 : Vec Ideal S2048 .f32)
  (x4 : Vec Ideal S2048x11264 .f32) (x5 : Vec Ideal S5632x2048 .f32)

theorem rows (b : Fin 4) (s : Fin 4096) (d : Fin 2048) (R : Fin 16384) (hR : R.val = b.val * 4096 + s.val) :
    val_main_v0 (F := Ideal) x0 (ix3 b s d) = x0 (ix2 R d) := by
  rw [val_main_v0_apply]
  refine congrArg x0 (funext fun a => Fin.ext ?_)
  match a with
  | ⟨0, _⟩ => simp only [ix2, ix3]; dsimp; omega
  | ⟨1, _⟩ => simp only [ix2, ix3]; dsimp; omega

theorem shift (b : Fin 4) (d : Fin 2048) (R : Fin 16384) (hR : R.val / 4096 = b.val) :
    val_main_v6 (F := Ideal) x1 (ix3 b 0 d) = x1 (ix2 ⟨R.val / 4096, by omega⟩ ⟨6144 + d.val, by omega⟩) := by
  rw [val_main_v6_apply, val_main_v2_apply, val_main_v1_apply]
  refine congrArg x1 (funext fun a => Fin.ext ?_)
  match a with
  | ⟨0, _⟩ => exact hR.symm
  | ⟨1, _⟩ => simp only [ix2, ix3]

theorem scale (b : Fin 4) (d : Fin 2048) (R : Fin 16384) (hR : R.val / 4096 = b.val) :
    val_main_v7 (F := Ideal) x1 (ix3 b 0 d) = x1 (ix2 ⟨R.val / 4096, by omega⟩ ⟨8192 + d.val, by omega⟩) := by
  rw [val_main_v7_apply, val_main_v2_apply, val_main_v1_apply]
  refine congrArg x1 (funext fun a => Fin.ext ?_)
  match a with
  | ⟨0, _⟩ => exact hR.symm
  | ⟨1, _⟩ => simp only [ix2, ix3]

theorem gate (b : Fin 4) (d : Fin 2048) (R : Fin 16384) (hR : R.val / 4096 = b.val) :
    val_main_v8 (F := Ideal) x1 (ix3 b 0 d) = x1 (ix2 ⟨R.val / 4096, by omega⟩ ⟨10240 + d.val, by omega⟩) := by
  rw [val_main_v8_apply, val_main_v2_apply, val_main_v1_apply]
  refine congrArg x1 (funext fun a => Fin.ext ?_)
  match a with
  | ⟨0, _⟩ => exact hR.symm
  | ⟨1, _⟩ => simp only [ix2, ix3]

/-- The inverse root mean square of a row. -/
theorem norm (b : Fin 4) (s : Fin 4096) (R : Fin 16384) (hR : R.val = b.val * 4096 + s.val) :
    val_main_v16 (F := Ideal) x0 (ix3 b s 0) = irms (fun k => x0 (ix2 R k)) := by
  have h0 := fun d => rows x0 b s d R hR
  unfold val_main_v16 val_main_v15 val_main_v14 val_main_v13 val_main_v12 val_main_v11 val_main_v10 val_main_v9 irms
  generalize val_main_v0 (F := Ideal) x0 = p at h0
  pointwise [h0, val_main_cst, val_main_cst_0, val_main_cst_1, Ideal.ofBits_zero_f32, zero_add]

/-- The modulated norm of a row. -/
theorem input (b : Fin 4) (s : Fin 4096) (d : Fin 2048) (R : Fin 16384) (hR : R.val = b.val * 4096 + s.val) :
    val_main_v27 (F := Ideal) x0 x1 x2 (ix3 b s d) = hin x0 x1 x2 R d := by
  have h0 := rows x0 b s d R hR
  have hn := norm x0 b s R hR
  have hs := shift x1 b d R (by omega)
  have hc := scale x1 b d R (by omega)
  unfold val_main_v27 val_main_v26 val_main_v25 val_main_v24 val_main_v23 val_main_v22 val_main_v21 val_main_v20 val_main_v19
    val_main_v18 val_main_v17 hin
  generalize val_main_v0 (F := Ideal) x0 = p at h0
  generalize val_main_v16 (F := Ideal) x0 = q at hn
  generalize val_main_v6 (F := Ideal) x1 = u at hs
  generalize val_main_v7 (F := Ideal) x1 = v at hc
  pointwise [h0, hn, hs, hc, val_main_cst_2, Ideal.ofBits_one_f32]
  rw [← mul_assoc]

/-- The projection into the hidden layer. -/
theorem hidden (b : Fin 4) (s : Fin 4096) (n : Fin 11264) (R : Fin 16384) (hR : R.val = b.val * 4096 + s.val) :
    val_main_v28 (F := Ideal) x0 x1 x2 x4 (ix3 b s n) = proj (hin x0 x1 x2 R) x4 n.val := by
  have h0 := fun d => input x0 x1 x2 b s d R hR
  unfold val_main_v28 proj
  generalize val_main_v27 (F := Ideal) x0 x1 x2 = p at h0
  pointwise [h0, Nat.mod_eq_of_lt n.isLt]

/-- The hidden units. -/
theorem units (b : Fin 4) (s : Fin 4096) (n : Fin 5632) (R : Fin 16384) (hR : R.val = b.val * 4096 + s.val) :
    val_main_v32 (F := Ideal) x0 x1 x2 x4 (ix3 b s n)
      = swish (proj (hin x0 x1 x2 R) x4 n.val) * proj (hin x0 x1 x2 R) x4 (5632 + n.val) := by
  have h0 := hidden x0 x1 x2 x4 b s ⟨n.val, by omega⟩ R hR
  have h1 := hidden x0 x1 x2 x4 b s ⟨5632 + n.val, by omega⟩ R hR
  unfold val_main_v32 val_main_v31 val_main_call0_v5 val_main_call0_v4 val_main_call0_v3 val_main_call0_v2 val_main_call0_v1
    val_main_call0_v0 val_main_v30 val_main_v29 swish
  generalize val_main_v28 (F := Ideal) x0 x1 x2 x4 = p at h0 h1
  pointwise [h0, h1, val_main_call0_cst, val_main_call0_cst_0, Ideal.ofBits_one_f32]

/-- The product with the output weights. -/
theorem mixed (b : Fin 4) (s : Fin 4096) (e : Fin 2048) (R : Fin 16384) (hR : R.val = b.val * 4096 + s.val) :
    val_main_v33 (F := Ideal) x0 x1 x2 x4 x5 (ix3 b s e) = mix (hin x0 x1 x2 R) x4 x5 5632 e := by
  have h0 := fun n => units x0 x1 x2 x4 b s n R hR
  unfold val_main_v33 mix
  generalize val_main_v32 (F := Ideal) x0 x1 x2 x4 = p at h0
  rw [Finset.sum_range]
  pointwise [h0]
  refine Finset.sum_congr rfl fun n _ => ?_
  unfold unit
  simp only [Nat.mod_eq_of_lt n.isLt]

/-- The inverse root mean square of a row of the product. -/
theorem norm_mixed (b : Fin 4) (s : Fin 4096) (R : Fin 16384) (hR : R.val = b.val * 4096 + s.val) :
    val_main_v41 (F := Ideal) x0 x1 x2 x4 x5 (ix3 b s 0) = irms (mix (hin x0 x1 x2 R) x4 x5 5632) := by
  have h0 := fun d => mixed x0 x1 x2 x4 x5 b s d R hR
  unfold val_main_v41 val_main_v40 val_main_v39 val_main_v38 val_main_v37 val_main_v36 val_main_v35 val_main_v34 irms
  generalize val_main_v33 (F := Ideal) x0 x1 x2 x4 x5 = p at h0
  pointwise [h0, val_main_cst_3, val_main_cst_4, val_main_cst_5, Ideal.ofBits_zero_f32, zero_add]

/-- The reference's result is the feed-forward layer. -/
theorem result : val_main_v50 (F := Ideal) x0 x1 x2 x3 x4 x5 = G x0 x1 x2 x3 x4 x5 := by
  funext i
  have i0 : (i 0).val < 16384 := (i 0).isLt
  have i1 : (i 1).val < 2048 := (i 1).isLt
  have hR : (i 0).val = (i 0).val / 4096 * 4096 + (i 0).val % 4096 := by omega
  have h0 := rows x0 ⟨(i 0).val / 4096, by omega⟩ ⟨(i 0).val % 4096, by omega⟩ (i 1) (i 0) hR
  have hm := mixed x0 x1 x2 x4 x5 ⟨(i 0).val / 4096, by omega⟩ ⟨(i 0).val % 4096, by omega⟩ (i 1) (i 0) hR
  have hn := norm_mixed x0 x1 x2 x4 x5 ⟨(i 0).val / 4096, by omega⟩ ⟨(i 0).val % 4096, by omega⟩ (i 0) hR
  have hg := gate x1 ⟨(i 0).val / 4096, by omega⟩ (i 1) (i 0) rfl
  rw [val_main_v50_apply]
  refine Eq.trans (congrArg _ (show _ = ix3 (⟨(i 0).val / 4096, by omega⟩ : Fin 4) (⟨(i 0).val % 4096, by omega⟩ : Fin 4096) (i 1) from
    funext fun a => Fin.ext ?_)) ?_
  · match a with
    | ⟨0, _⟩ => simp only [ix3]; dsimp; omega
    | ⟨1, _⟩ => simp only [ix3]; dsimp; omega
    | ⟨2, _⟩ => simp only [ix3]; dsimp; omega
  unfold val_main_v49 val_main_v48 val_main_v47 val_main_v46 val_main_v45 val_main_v44 val_main_v43 val_main_v42 G
  generalize val_main_v0 (F := Ideal) x0 = p at h0
  generalize val_main_v33 (F := Ideal) x0 x1 x2 x4 x5 = q at hm
  generalize val_main_v41 (F := Ideal) x0 x1 x2 x4 x5 = u at hn
  generalize val_main_v8 (F := Ideal) x1 = v at hg
  pointwise [h0, hm, hn, hg]

end Cert.FfnRefIdeal.Val
-- ==== Proof.FfnClaim.lean ====
module
public import proofs.«01_k».proof.Defs
public import proofs.«01_k».proof.Proof.FfnRef
public import proofs.«01_k».proof.Proof.Gen.FfnRefIdeal.Run
@[expose] public section
set_option maxRecDepth 16384
noncomputable section

/-! The feed-forward call and its reference leave equal results. -/

namespace Cert.FfnProof
open Idealize.ShloMosaic Idealize.ShloMosaic.TcCoe Idealize.SL.Sem

/-- From memories with equal arguments, the kernel and the reference run and leave the same array, the feed-forward layer of the
    arguments, with the arguments kept. -/
theorem algebraic : Cert.algebraic_FfnIdeal_FfnRefIdeal
    (hFfnIdeal := Cert.FfnIdeal.Gen.facts) (hFfnRefIdeal := Cert.FfnRefIdeal.Gen.facts) := by
  intro m g m' g' _ hm
  refine ⟨fun c => Cert.FfnIdeal.Arr.G (m ((c : Thread Cert.FfnIdeal.nD Cert.FfnIdeal.τ).loc Cert.FfnIdeal.main_arg0))
    (m ((c : Thread Cert.FfnIdeal.nD Cert.FfnIdeal.τ).loc Cert.FfnIdeal.main_arg1))
    (m ((c : Thread Cert.FfnIdeal.nD Cert.FfnIdeal.τ).loc Cert.FfnIdeal.main_arg2))
    (m ((c : Thread Cert.FfnIdeal.nD Cert.FfnIdeal.τ).loc Cert.FfnIdeal.main_arg3))
    (m ((c : Thread Cert.FfnIdeal.nD Cert.FfnIdeal.τ).loc Cert.FfnIdeal.main_arg4))
    (m ((c : Thread Cert.FfnIdeal.nD Cert.FfnIdeal.τ).loc Cert.FfnIdeal.main_arg5)), ?_, ?_⟩
  · exact (θ_run _ _ _).mono (fun r h c => ⟨((h.1 c).1 9).trans (Cert.FfnIdeal.Arr.arr_eq m c), h.2 c⟩)
      (θ_run_and (Cert.FfnIdeal.Gen.run_main m g) (Cert.FfnIdeal.Gen.unchanged m g))
  · refine (θ_run _ _ _).mono (fun r h c => ⟨(h c).1.trans ?_, (h c).2⟩) (Cert.FfnRefIdeal.Value.run m' g')
    obtain ⟨e0, e1, e2, e3, e4, e5⟩ := hm c
    rw [Cert.FfnRefIdeal.Read.val_main_v50_eq, Cert.FfnRefIdeal.Val.result]
    exact congr (congr (congr (congr (congr (congrArg Cert.FfnIdeal.Arr.G e0) e1) e2) e3) e4) e5

end Cert.FfnProof
-- ==== Proof.FfnAllBlk.lean ====
module
public import proofs.«01_k».proof.Proof.Gen.FfnAllIdeal.Frame
public import Idealize.ShloMosaic.Lib.Pipeline.ValueKit
public import Idealize.ShloMosaic.Lib.Pipeline.ReadBack
public import Idealize.ShloMosaic.Lib.Pointwise
@[expose] public section
set_option maxRecDepth 16384
noncomputable section

/-! What the first layer's feed-forward kernel's scratch arrays and output block hold after each grid point. -/

namespace Cert.FfnAllIdeal.Blk
open Cert.FfnAllIdeal Cert.FfnAllIdeal.Gen Idealize.ShloMosaic Idealize.ShloMosaic.TcCoe Idealize.SL.Sem

variable (m : (ℓ : Loc nD τ sig) → Buf (Elt Ideal) ℓ) (c : Dev nD) (t : Fin cfg0.N)

/-- The state the point before left. -/
abbrev prev := outsAt0 m c (t.val - 1) (Nat.lt_of_le_of_lt (Nat.sub_le _ _) t.isLt)

theorem first_h (h0 : t.val % 11 = 0) (h1 : ¬t.val % 11 = 10) :
    (outsAt0 m c t.val t.isLt).2.1 = k0_pay1 (F := Ideal) (iblk m c 0 t) (iblk m c 1 t) (iblk m c 2 t) (iblk m c 3 t) := by
  rw [outsAt0_A m c t h0 h1]
  dsimp only
  frame_out

theorem first_acc (h0 : t.val % 11 = 0) (h1 : ¬t.val % 11 = 10) :
    (outsAt0 m c t.val t.isLt).2.2 = k0_pay3 (F := Ideal) (k0_pay1 (F := Ideal) (iblk m c 0 t) (iblk m c 1 t) (iblk m c 2 t) (iblk m c 3 t))
      (iblk m c 6 t) (iblk m c 7 t) (k0_pay2 (F := Ideal)) (iblk m c 8 t) := by
  rw [outsAt0_A m c t h0 h1]
  dsimp only
  frame_out

theorem mid_h (h0 : ¬t.val % 11 = 0) (h1 : ¬t.val % 11 = 10) :
    (outsAt0 m c t.val t.isLt).2.1 = (prev m c t).2.1 := by
  rw [outsAt0_B m c t h0 h1]
  rfl

theorem mid_acc (h0 : ¬t.val % 11 = 0) (h1 : ¬t.val % 11 = 10) :
    (outsAt0 m c t.val t.isLt).2.2 = k0_pay3 (F := Ideal) (prev m c t).2.1 (iblk m c 6 t) (iblk m c 7 t) (prev m c t).2.2 (iblk m c 8 t) := by
  rw [outsAt0_B m c t h0 h1]
  dsimp only
  frame_out
  simp only [read_unread_whole]

theorem last_out (h0 : ¬t.val % 11 = 0) (h1 : t.val % 11 = 10) :
    (outsAt0 m c t.val t.isLt).1 = k0_pay4 (F := Ideal) (iblk m c 0 t)
      (k0_pay3 (F := Ideal) (prev m c t).2.1 (iblk m c 6 t) (iblk m c 7 t) (prev m c t).2.2 (iblk m c 8 t)) (iblk m c 5 t) (iblk m c 4 t) := by
  rw [outsAt0_C m c t h0 h1]
  dsimp only
  frame_out
  simp only [read_unread_whole]

end Cert.FfnAllIdeal.Blk
-- ==== Proof.FfnAllPay.lean ====
module
public import proofs.«01_k».proof.Proof.Gen.FfnAllIdeal.Skeleton
public import Idealize.ShloMosaic.Lib.Pipeline.ValueKit
public import Idealize.ShloMosaic.Lib.Pointwise
@[expose] public section
set_option maxRecDepth 16384
noncomputable section

/-! The arithmetic of one grid point of the first layer's feed-forward kernel, element by element. -/

namespace Cert.FfnAllIdeal.Blk
open Cert.FfnAllIdeal Cert.FfnAllIdeal.Gen Idealize.ShloMosaic Idealize.ShloMosaic.TcCoe Idealize.SL.Sem

/-- The inverse root mean square of a row of 2048 entries. -/
def irms (f : Fin 2048 → EReal) : EReal :=
  Ideal.rsqrt (Ideal.div (∑ k, f k * f k) (Ideal.ofBits .f32 0x45000000#32) + Ideal.ofBits .f32 0x358637BD#32)

/-- A number times its logistic. -/
def swish (g : EReal) : EReal := g * Ideal.div 1 (1 + Ideal.exp (-g))

/-- The modulated norm of a block of rows. -/
theorem pay1 (v31 : Vec Ideal S512x2048 .f32) (v32 : Vec Ideal S1x2048 .f32) (v34 v36 : Vec Ideal S1x1x2048 .f32) (r : Fin 512) (d : Fin 2048) :
    k0_pay1 (F := Ideal) v31 v32 v34 v36 (ix2 r d)
      = v31 (ix2 r d) * irms (fun k => v31 (ix2 r k)) * (v32 (ix2 0 d) * (1 + v36 (ix3 0 0 d))) + v34 (ix3 0 0 d) := by
  unfold k0_pay1 irms
  pointwise [Ideal.ofBits_one_f32, Ideal.ofBits_zero_f32]

theorem pay2 (i : S512x2048.Idx) : k0_pay2 (F := Ideal) i = 0 := by
  unfold k0_pay2
  pointwise [Ideal.ofBits_zero_f32]

/-- One block of hidden columns: the accumulator after it. -/
theorem pay3 (v3 : Vec Ideal S512x2048 .bf16) (v4 v7 : Vec Ideal S2048x512 .bf16) (v20 : Vec Ideal S512x2048 .f32)
    (v21 : Vec Ideal S512x2048 .bf16) (r : Fin 512) (e : Fin 2048) :
    k0_pay3 (F := Ideal) v3 v4 v7 v20 v21 (ix2 r e)
      = v20 (ix2 r e) + ∑ j : Fin 512, swish (∑ d : Fin 2048, v3 (ix2 r d) * v4 (ix2 d j)) * (∑ d : Fin 2048, v3 (ix2 r d) * v7 (ix2 d j))
          * v21 (ix2 j e) := by
  unfold k0_pay3 swish
  pointwise [Ideal.ofBits_one_f32, Ideal.ofBits_zero_f32, zero_sub]

/-- The norm of the accumulator and the gated residual. -/
theorem pay4 (v31 v32 : Vec Ideal S512x2048 .f32) (v33 : Vec Ideal S1x2048 .f32) (v35 : Vec Ideal S1x1x2048 .f32) (r : Fin 512) (e : Fin 2048) :
    k0_pay4 (F := Ideal) v31 v32 v33 v35 (ix2 r e)
      = v31 (ix2 r e) + v35 (ix3 0 0 e) * (v32 (ix2 r e) * irms (fun k => v32 (ix2 r k)) * v33 (ix2 0 e)) := by
  unfold k0_pay4 irms
  pointwise [Ideal.ofBits_one_f32, Ideal.ofBits_zero_f32]

end Cert.FfnAllIdeal.Blk
-- ==== Proof.FfnAllArr.lean ====
module
public import proofs.«01_k».proof.Proof.FfnAllBlk
public import proofs.«01_k».proof.Proof.FfnAllPay
@[expose] public section
set_option maxRecDepth 16384
noncomputable section

/-! The array the first layer's feed-forward kernel leaves, as a function of its arguments. -/

namespace Cert.FfnAllIdeal.Arr
open Cert.FfnAllIdeal Cert.FfnAllIdeal.Gen Idealize.ShloMosaic Idealize.ShloMosaic.TcCoe Idealize.SL.Sem
open Cert.FfnAllIdeal.Blk

/-- The modulated norm of row `R` of the residual stream. -/
def hin (X : Vec Ideal S17408x2048 .f32) (M : Vec Ideal S8x12288 .f32) (gp : Vec Ideal S2048 .f32) (R : Fin 17408) (d : Fin 2048) : EReal :=
  X (ix2 R d) * irms (fun k => X (ix2 R k))
    * (gp (ix1 d) * (1 + M (ix2 ⟨R.val / 4096, by omega⟩ ⟨8192 + d.val, by omega⟩))) + M (ix2 ⟨R.val / 4096, by omega⟩ ⟨6144 + d.val, by omega⟩)

/-- A row's product with column `n` of the projection into the hidden layer. -/
def proj (h : Fin 2048 → EReal) (Wi : Vec Ideal S2048x11264 .f32) (n : ℕ) : EReal :=
  ∑ d, h d * Wi (ix2 d ⟨n % 11264, Nat.mod_lt _ (by decide)⟩)

/-- Hidden unit `n` times its weight for output column `e`. -/
def unit (h : Fin 2048 → EReal) (Wi : Vec Ideal S2048x11264 .f32) (Wo : Vec Ideal S5632x2048 .f32) (e : Fin 2048) (n : ℕ) : EReal :=
  swish (proj h Wi n) * proj h Wi (5632 + n) * Wo (ix2 ⟨n % 5632, Nat.mod_lt _ (by decide)⟩ e)

/-- The first `N` hidden units' part of output column `e`. -/
def mix (h : Fin 2048 → EReal) (Wi : Vec Ideal S2048x11264 .f32) (Wo : Vec Ideal S5632x2048 .f32) (N : ℕ) (e : Fin 2048) : EReal :=
  ∑ n ∈ Finset.range N, unit h Wi Wo e n

/-- The feed-forward layer, element by element. -/
def G (X : Vec Ideal S17408x2048 .f32) (M : Vec Ideal S8x12288 .f32) (gp gq : Vec Ideal S2048 .f32) (Wi : Vec Ideal S2048x11264 .f32)
    (Wo : Vec Ideal S5632x2048 .f32) : Vec Ideal S17408x2048 .f32 := fun i =>
  X (ix2 (i 0) (i 1)) + M (ix2 ⟨(i 0).val / 4096, by have h : (i 0).val < 17408 := (i 0).isLt; omega⟩
      ⟨10240 + (i 1).val, by have h : (i 1).val < 2048 := (i 1).isLt; omega⟩)
    * (mix (hin X M gp (i 0)) Wi Wo 5632 (i 1) * irms (mix (hin X M gp (i 0)) Wi Wo 5632) * gq (ix1 (i 1)))

/-- The block each window takes at a grid point. -/
theorem idx : ∀ t : Fin cfg0.N,
    win0_0.index t = ![t.val / 11, 0] ∧ win0_1.index t = ![0, 0] ∧ win0_2.index t = ![t.val / 88, 0, 3]
    ∧ win0_3.index t = ![t.val / 88, 0, 4] ∧ win0_4.index t = ![t.val / 88, 0, 5] ∧ win0_5.index t = ![0, 0]
    ∧ win0_6.index t = ![0, t.val % 11] ∧ win0_7.index t = ![0, 11 + t.val % 11] ∧ win0_8.index t = ![t.val % 11, 0]
    ∧ win0_9.index t = ![t.val / 11, 0] :=
  (by decide +kernel : ∀ t : Fin grid0.N, _)

section
variable (m : (ℓ : Loc nD τ sig) → Buf (Elt Ideal) ℓ) (c : Dev nD) (t : Fin cfg0.N)

theorem t_lt : t.val < 374 := lt_of_lt_of_eq t.isLt N_0

theorem blk0 (i : Fin 512) (e : Fin 2048) (h0) : (iblk m c 0 t : Vec Ideal S512x2048 .f32) (ix2 i e)
    = (m ((c : Thread nD τ).loc main_arg0) : Vec Ideal S17408x2048 .f32) (ix2 ⟨t.val / 11 * 512 + i.val, h0⟩ e) := by
  obtain ⟨e0, -⟩ := idx t
  blk_ext [iblk, V_main_arg0, e0]

theorem blk1 (e : Fin 2048) : (iblk m c 1 t : Vec Ideal S1x2048 .f32) (ix2 0 e)
    = (m ((c : Thread nD τ).loc main_arg2) : Vec Ideal S2048 .f32) (ix1 e) := by
  obtain ⟨-, e0, -⟩ := idx t
  blk_ext! [iblk, V, e0]

theorem blk6 (i : Fin 2048) (e : Fin 512) (h0) : (iblk m c 6 t : Vec Ideal S2048x512 .bf16) (ix2 i e)
    = (m ((c : Thread nD τ).loc main_arg4) : Vec Ideal S2048x11264 .f32) (ix2 i ⟨t.val % 11 * 512 + e.val, h0⟩) := by
  obtain ⟨-, -, -, -, -, -, e0, -⟩ := idx t
  blk_ext! [iblk, V, e0]

theorem blk2 (e : Fin 2048) (h0 h1) : (iblk m c 2 t : Vec Ideal S1x1x2048 .f32) (ix3 0 0 e)
    = (m ((c : Thread nD τ).loc main_arg1) : Vec Ideal S8x12288 .f32) (ix2 ⟨t.val / 88, h0⟩ ⟨6144 + e.val, h1⟩) := by
  obtain ⟨-, -, e0, -⟩ := idx t
  blk_ext! [iblk, V, e0]
theorem blk3 (e : Fin 2048) (h0 h1) : (iblk m c 3 t : Vec Ideal S1x1x2048 .f32) (ix3 0 0 e)
    = (m ((c : Thread nD τ).loc main_arg1) : Vec Ideal S8x12288 .f32) (ix2 ⟨t.val / 88, h0⟩ ⟨8192 + e.val, h1⟩) := by
  obtain ⟨-, -, -, e0, -⟩ := idx t
  blk_ext! [iblk, V, e0]

theorem blk4 (e : Fin 2048) (h0 h1) : (iblk m c 4 t : Vec Ideal S1x1x2048 .f32) (ix3 0 0 e)
    = (m ((c : Thread nD τ).loc main_arg1) : Vec Ideal S8x12288 .f32) (ix2 ⟨t.val / 88, h0⟩ ⟨10240 + e.val, h1⟩) := by
  obtain ⟨-, -, -, -, e0, -⟩ := idx t
  blk_ext! [iblk, V, e0]

theorem blk5 (e : Fin 2048) : (iblk m c 5 t : Vec Ideal S1x2048 .f32) (ix2 0 e)
    = (m ((c : Thread nD τ).loc main_arg3) : Vec Ideal S2048 .f32) (ix1 e) := by
  obtain ⟨-, -, -, -, -, e0, -⟩ := idx t
  blk_ext! [iblk, V, e0]

theorem blk7 (i : Fin 2048) (e : Fin 512) (h0) : (iblk m c 7 t : Vec Ideal S2048x512 .bf16) (ix2 i e)
    = (m ((c : Thread nD τ).loc main_arg4) : Vec Ideal S2048x11264 .f32) (ix2 i ⟨(11 + t.val % 11) * 512 + e.val, h0⟩) := by
  obtain ⟨-, -, -, -, -, -, -, e0, -⟩ := idx t
  blk_ext! [iblk, V, e0]

theorem blk8 (i : Fin 512) (e : Fin 2048) (h0) : (iblk m c 8 t : Vec Ideal S512x2048 .bf16) (ix2 i e)
    = (m ((c : Thread nD τ).loc main_arg5) : Vec Ideal S5632x2048 .f32) (ix2 ⟨t.val % 11 * 512 + i.val, h0⟩ e) := by
  obtain ⟨-, -, -, -, -, -, -, -, e0, -⟩ := idx t
  blk_ext! [iblk, V, e0]

/-- The modulated norm a grid point stores is that of its rows. -/
theorem hin_at (r : Fin 512) (R : Fin 17408) (hR : R.val = t.val / 11 * 512 + r.val) (d : Fin 2048) :
    k0_pay1 (F := Ideal) (iblk m c 0 t) (iblk m c 1 t) (iblk m c 2 t) (iblk m c 3 t) (ix2 r d)
      = hin (m ((c : Thread nD τ).loc main_arg0)) (m ((c : Thread nD τ).loc main_arg1)) (m ((c : Thread nD τ).loc main_arg2)) R d := by
  have ht := t_lt t
  have hr := r.isLt
  have hb : R.val / 4096 = t.val / 88 := by omega
  have hx : ∀ k : Fin 2048, (iblk m c 0 t : Vec Ideal S512x2048 .f32) (ix2 r k)
      = (m ((c : Thread nD τ).loc main_arg0) : Vec Ideal S17408x2048 .f32) (ix2 R k) := fun k =>
    (blk0 m c t r k (by omega)).trans (congrArg (fun R' : Fin 17408 => (m ((c : Thread nD τ).loc main_arg0) : Vec Ideal S17408x2048 .f32) (ix2 R' k))
      (Fin.ext hR.symm))
  rw [pay1, blk1, blk2 m c t d (by omega) (by omega), blk3 m c t d (by omega) (by omega)]
  unfold hin
  simp only [hx, hb]

/-- One grid point adds its 512 hidden units. -/
theorem acc_at (r : Fin 512) (H : Vec Ideal S512x2048 .bf16) (A : Vec Ideal S512x2048 .f32) (h : Fin 2048 → EReal)
    (hh : ∀ d, H (ix2 r d) = h d) (e : Fin 2048)
    (ha : A (ix2 r e) = mix h (m ((c : Thread nD τ).loc main_arg4)) (m ((c : Thread nD τ).loc main_arg5)) (512 * (t.val % 11)) e) :
    k0_pay3 (F := Ideal) H (iblk m c 6 t) (iblk m c 7 t) A (iblk m c 8 t) (ix2 r e)
      = mix h (m ((c : Thread nD τ).loc main_arg4)) (m ((c : Thread nD τ).loc main_arg5)) (512 * (t.val % 11 + 1)) e := by
  have ht : t.val % 11 < 11 := Nat.mod_lt _ (by decide)
  rw [pay3, ha]
  unfold mix
  rw [Nat.mul_add, Nat.mul_one, Finset.sum_range_add, Finset.sum_range (fun x => unit h _ _ e (512 * (t.val % 11) + x))]
  refine congrArg _ (Finset.sum_congr rfl fun j _ => ?_)
  have hj := j.isLt
  rw [blk8 m c t j e (by omega)]
  simp only [hh, blk6 m c t _ j (by omega), blk7 m c t _ j (by omega)]
  unfold unit proj
  refine congr (congrArg HMul.hMul (congr (congrArg HMul.hMul (congrArg swish ?_)) ?_)) ?_
  · refine Finset.sum_congr rfl fun d _ => congrArg _ (congrArg _ (congrArg (ix2 d) (Fin.ext ?_)))
    dsimp only; omega
  · refine Finset.sum_congr rfl fun d _ => congrArg _ (congrArg _ (congrArg (ix2 d) (Fin.ext ?_)))
    dsimp only; omega
  · refine congrArg _ (congrArg (fun z => ix2 z e) (Fin.ext ?_))
    dsimp only; omega

/-- The scratch arrays after a grid point that is not the last of its block of rows. -/
theorem state : ∀ (n : ℕ) (hn : n < cfg0.N), ¬n % 11 = 10 → ∀ (r : Fin 512) (R : Fin 17408), R.val = n / 11 * 512 + r.val →
    (∀ d, (outsAt0 m c n hn).2.1 (ix2 r d)
      = hin (m ((c : Thread nD τ).loc main_arg0)) (m ((c : Thread nD τ).loc main_arg1)) (m ((c : Thread nD τ).loc main_arg2)) R d)
    ∧ ∀ e, (outsAt0 m c n hn).2.2 (ix2 r e)
      = mix (hin (m ((c : Thread nD τ).loc main_arg0)) (m ((c : Thread nD τ).loc main_arg1)) (m ((c : Thread nD τ).loc main_arg2)) R)
        (m ((c : Thread nD τ).loc main_arg4)) (m ((c : Thread nD τ).loc main_arg5)) (512 * (n % 11 + 1)) e := by
  intro n
  induction n with
  | zero =>
    intro hn h1 r R hR
    refine ⟨fun d => ?_, fun e => ?_⟩
    · exact (congrFun (first_h m c ⟨0, hn⟩ rfl h1) (ix2 r d)).trans (hin_at m c ⟨0, hn⟩ r R hR d)
    · refine (congrFun (first_acc m c ⟨0, hn⟩ rfl h1) (ix2 r e)).trans
        (acc_at m c ⟨0, hn⟩ r _ _ _ (fun d => hin_at m c ⟨0, hn⟩ r R hR d) e ((pay2 _).trans ?_))
      unfold mix; rfl
  | succ n ih =>
    intro hn h1 r R hR
    by_cases h0 : (n + 1) % 11 = 0
    · refine ⟨fun d => ?_, fun e => ?_⟩
      · exact (congrFun (first_h m c ⟨n + 1, hn⟩ h0 h1) (ix2 r d)).trans (hin_at m c ⟨n + 1, hn⟩ r R hR d)
      · refine (congrFun (first_acc m c ⟨n + 1, hn⟩ h0 h1) (ix2 r e)).trans
          (acc_at m c ⟨n + 1, hn⟩ r _ _ _ (fun d => hin_at m c ⟨n + 1, hn⟩ r R hR d) e ((pay2 _).trans ?_))
        dsimp only; rw [h0]; unfold mix; rfl
    · obtain ⟨hh, ha⟩ := ih (Nat.lt_of_succ_lt hn) (by omega) r R (by omega)
      refine ⟨fun d => ?_, fun e => ?_⟩
      · exact (congrFun (mid_h m c ⟨n + 1, hn⟩ h0 h1) (ix2 r d)).trans (hh d)
      · refine (congrFun (mid_acc m c ⟨n + 1, hn⟩ h0 h1) (ix2 r e)).trans
          (acc_at m c ⟨n + 1, hn⟩ r _ _ _ hh e ((ha e).trans ?_))
        dsimp only
        rw [show n % 11 + 1 = (n + 1) % 11 by omega]

/-- The block the last grid point of a block of rows stores. -/
theorem out_at (h1 : t.val % 11 = 10) (r : Fin 512) (e : Fin 2048) (R : Fin 17408) (hR : R.val = t.val / 11 * 512 + r.val) :
    (outsAt0 m c t.val t.isLt).1 (ix2 r e)
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R e) := by
  have ht := t_lt t
  have hr := r.isLt
  have hb : R.val / 4096 = t.val / 88 := by omega
  obtain ⟨hh, ha⟩ := state m c (t.val - 1) (Nat.lt_of_le_of_lt (Nat.sub_le _ _) t.isLt) (by omega) r R (by omega)
  have acc := fun e => acc_at m c t r _ _ _ hh e ((ha e).trans (by rw [show (t.val - 1) % 11 + 1 = t.val % 11 by omega]))
  rw [last_out m c t (by omega) h1, pay4, blk5, blk4 m c t e (by omega) (by omega), blk0 m c t r e (by omega)]
  simp only [acc]
  rw [h1]
  unfold G
  have hRe : (⟨t.val / 11 * 512 + r.val, by omega⟩ : Fin 17408) = R := Fin.ext hR.symm
  rw [hRe]
  simp only [ix2, hb]

/-- The array the kernel leaves. -/
theorem arr_eq : (dats m 0 c).arrAt 9 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  have ht := t_lt t
  obtain ⟨-, -, -, -, -, -, -, -, -, e9⟩ := idx t
  have e0 : ((((cfg0.win 9).blk t).view.emb y) (0 : Fin 2) : ℕ) = t.val / 11 * 512 + (y (0 : Fin 2)).val := by
    blk_simp [e9]
  have e1 : ((((cfg0.win 9).blk t).view.emb y) (1 : Fin 2) : ℕ) = (y (1 : Fin 2)).val := by
    blk_simp [e9]
  have h0 : (y (0 : Fin 2)).val < 512 := (y 0).isLt
  have h1 : (y (1 : Fin 2)).val < 2048 := (y 1).isLt
  blk_simp
  rw [after0_9]
  have key := out_at m c t ((flush0_9 t).1 hf) ⟨(y (0 : Fin 2)).val, h0⟩ ⟨(y (1 : Fin 2)).val, h1⟩
    ⟨t.val / 11 * 512 + (y (0 : Fin 2)).val, by omega⟩ rfl
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

end
end Cert.FfnAllIdeal.Arr
-- ==== Proof.FfnAllRef.lean ====
module
public import proofs.«01_k».proof.Proof.FfnAllArr
public import proofs.«01_k».proof.Proof.Gen.FfnAllRefIdeal.Read
@[expose] public section
set_option maxRecDepth 16384
noncomputable section

/-! The result of the first layer's feed-forward reference, element by element: latent rows, then context rows. -/

namespace Cert.FfnAllRefIdeal.Val
open Cert.FfnAllRefIdeal Cert.FfnAllRefIdeal.Gen Cert.FfnAllRefIdeal.Read Idealize.ShloMosaic Idealize.ShloMosaic.TcCoe Idealize.SL.Sem
open Cert.FfnAllIdeal.Arr (hin proj unit mix G)
open Cert.FfnAllIdeal.Blk (irms swish)

variable (x0 : Vec Ideal S17408x2048 .f32) (x1 : Vec Ideal S8x12288 .f32) (x2 x3 : Vec Ideal S2048 .f32)
  (x4 : Vec Ideal S2048x11264 .f32) (x5 : Vec Ideal S5632x2048 .f32)

theorem rows_lat (b : Fin 4) (s : Fin 4096) (d : Fin 2048) (R : Fin 17408) (hR : R.val = b.val * 4096 + s.val) :
    val_main_v1 (F := Ideal) x0 (ix3 b s d) = x0 (ix2 R d) := by
  rw [val_main_v1_apply, val_main_v0_apply]
  refine congrArg x0 (funext fun a => Fin.ext ?_)
  match a with
  | ⟨0, _⟩ => simp only [ix2, ix3]; dsimp; omega
  | ⟨1, _⟩ => simp only [ix2, ix3]; dsimp; omega

theorem shift_lat (b : Fin 4) (d : Fin 2048) (R : Fin 17408) (hR : R.val / 4096 = b.val) :
    val_main_v9 (F := Ideal) x1 (ix3 b 0 d) = x1 (ix2 ⟨R.val / 4096, by omega⟩ ⟨6144 + d.val, by omega⟩) := by
  rw [val_main_v9_apply, val_main_v5_apply, val_main_v4_apply]
  refine congrArg x1 (funext fun a => Fin.ext ?_)
  match a with
  | ⟨0, _⟩ => exact hR.symm
  | ⟨1, _⟩ => simp only [ix2, ix3]

theorem scale_lat (b : Fin 4) (d : Fin 2048) (R : Fin 17408) (hR : R.val / 4096 = b.val) :
    val_main_v10 (F := Ideal) x1 (ix3 b 0 d) = x1 (ix2 ⟨R.val / 4096, by omega⟩ ⟨8192 + d.val, by omega⟩) := by
  rw [val_main_v10_apply, val_main_v5_apply, val_main_v4_apply]
  refine congrArg x1 (funext fun a => Fin.ext ?_)
  match a with
  | ⟨0, _⟩ => exact hR.symm
  | ⟨1, _⟩ => simp only [ix2, ix3]

theorem gate_lat (b : Fin 4) (d : Fin 2048) (R : Fin 17408) (hR : R.val / 4096 = b.val) :
    val_main_v11 (F := Ideal) x1 (ix3 b 0 d) = x1 (ix2 ⟨R.val / 4096, by omega⟩ ⟨10240 + d.val, by omega⟩) := by
  rw [val_main_v11_apply, val_main_v5_apply, val_main_v4_apply]
  refine congrArg x1 (funext fun a => Fin.ext ?_)
  match a with
  | ⟨0, _⟩ => exact hR.symm
  | ⟨1, _⟩ => simp only [ix2, ix3]

/-- The inverse root mean square of a latent row. -/
theorem norm_lat (b : Fin 4) (s : Fin 4096) (R : Fin 17408) (hR : R.val = b.val * 4096 + s.val) :
    val_main_v27 (F := Ideal) x0 (ix3 b s 0) = irms (fun k => x0 (ix2 R k)) := by
  have h0 := fun d => rows_lat x0 b s d R hR
  unfold val_main_v27 val_main_v26 val_main_v25 val_main_v24 val_main_v23 val_main_v22 val_main_v21 val_main_v20 irms
  generalize val_main_v1 (F := Ideal) x0 = p at h0
  pointwise [h0, val_main_cst, val_main_cst_0, val_main_cst_1, Ideal.ofBits_zero_f32, zero_add]

/-- The modulated norm of a latent row. -/
theorem input_lat (b : Fin 4) (s : Fin 4096) (d : Fin 2048) (R : Fin 17408) (hR : R.val = b.val * 4096 + s.val) :
    val_main_v38 (F := Ideal) x0 x1 x2 (ix3 b s d) = hin x0 x1 x2 R d := by
  have h0 := rows_lat x0 b s d R hR
  have hn := norm_lat x0 b s R hR
  have hs := shift_lat x1 b d R (by omega)
  have hc := scale_lat x1 b d R (by omega)
  unfold val_main_v38 val_main_v37 val_main_v36 val_main_v35 val_main_v34 val_main_v33 val_main_v32 val_main_v31 val_main_v30 val_main_v29 val_main_v28 hin
  generalize val_main_v1 (F := Ideal) x0 = p at h0
  generalize val_main_v27 (F := Ideal) x0 = q at hn
  generalize val_main_v9 (F := Ideal) x1 = u at hs
  generalize val_main_v10 (F := Ideal) x1 = v at hc
  pointwise [h0, hn, hs, hc, val_main_cst_2, Ideal.ofBits_one_f32]
  rw [← mul_assoc]

/-- The projection of a latent row into the hidden layer. -/
theorem hidden_lat (b : Fin 4) (s : Fin 4096) (n : Fin 11264) (R : Fin 17408) (hR : R.val = b.val * 4096 + s.val) :
    val_main_v39 (F := Ideal) x0 x1 x2 x4 (ix3 b s n) = proj (hin x0 x1 x2 R) x4 n.val := by
  have h0 := fun d => input_lat x0 x1 x2 b s d R hR
  unfold val_main_v39 proj
  generalize val_main_v38 (F := Ideal) x0 x1 x2 = p at h0
  pointwise [h0, Nat.mod_eq_of_lt n.isLt]

/-- The hidden units of a latent row. -/
theorem units_lat (b : Fin 4) (s : Fin 4096) (n : Fin 5632) (R : Fin 17408) (hR : R.val = b.val * 4096 + s.val) :
    val_main_v43 (F := Ideal) x0 x1 x2 x4 (ix3 b s n)
      = swish (proj (hin x0 x1 x2 R) x4 n.val) * proj (hin x0 x1 x2 R) x4 (5632 + n.val) := by
  have h0 := hidden_lat x0 x1 x2 x4 b s ⟨n.val, by omega⟩ R hR
  have h1 := hidden_lat x0 x1 x2 x4 b s ⟨5632 + n.val, by omega⟩ R hR
  unfold val_main_v43 val_main_v42 val_main_call0_v5 val_main_call0_v4 val_main_call0_v3 val_main_call0_v2 val_main_call0_v1 val_main_call0_v0 val_main_v41 val_main_v40 swish
  generalize val_main_v39 (F := Ideal) x0 x1 x2 x4 = p at h0 h1
  pointwise [h0, h1, val_main_call0_cst, val_main_call0_cst_0, Ideal.ofBits_one_f32]

/-- The product of a latent row with the output weights. -/
theorem mixed_lat (b : Fin 4) (s : Fin 4096) (e : Fin 2048) (R : Fin 17408) (hR : R.val = b.val * 4096 + s.val) :
    val_main_v44 (F := Ideal) x0 x1 x2 x4 x5 (ix3 b s e) = mix (hin x0 x1 x2 R) x4 x5 5632 e := by
  have h0 := fun n => units_lat x0 x1 x2 x4 b s n R hR
  unfold val_main_v44 mix
  generalize val_main_v43 (F := Ideal) x0 x1 x2 x4 = p at h0
  rw [Finset.sum_range]
  pointwise [h0]
  refine Finset.sum_congr rfl fun n _ => ?_
  unfold unit
  simp only [Nat.mod_eq_of_lt n.isLt]

/-- The inverse root mean square of that product. -/
theorem norm_mixed_lat (b : Fin 4) (s : Fin 4096) (R : Fin 17408) (hR : R.val = b.val * 4096 + s.val) :
    val_main_v79 (F := Ideal) x0 x1 x2 x4 x5 (ix3 b s 0) = irms (mix (hin x0 x1 x2 R) x4 x5 5632) := by
  have h0 := fun d => mixed_lat x0 x1 x2 x4 x5 b s d R hR
  unfold val_main_v79 val_main_v78 val_main_v77 val_main_v76 val_main_v75 val_main_v74 val_main_v73 val_main_v72 irms
  generalize val_main_v44 (F := Ideal) x0 x1 x2 x4 x5 = p at h0
  pointwise [h0, val_main_cst_7, val_main_cst_8, val_main_cst_9, Ideal.ofBits_zero_f32, zero_add]

/-- The layer on a latent row. -/
theorem out_lat (b : Fin 4) (s : Fin 4096) (e : Fin 2048) (R : Fin 17408) (hR : R.val = b.val * 4096 + s.val) :
    val_main_v87 (F := Ideal) x0 x1 x2 x3 x4 x5 (ix3 b s e) = G x0 x1 x2 x3 x4 x5 (ix2 R e) := by
  have h0 := rows_lat x0 b s e R hR
  have hm := mixed_lat x0 x1 x2 x4 x5 b s e R hR
  have hn := norm_mixed_lat x0 x1 x2 x4 x5 b s R hR
  have hg := gate_lat x1 b e R (by omega)
  unfold val_main_v87 val_main_v86 val_main_v85 val_main_v84 val_main_v83 val_main_v82 val_main_v81 val_main_v80 G
  generalize val_main_v1 (F := Ideal) x0 = p at h0
  generalize val_main_v44 (F := Ideal) x0 x1 x2 x4 x5 = q at hm
  generalize val_main_v79 (F := Ideal) x0 x1 x2 x4 x5 = u at hn
  generalize val_main_v11 (F := Ideal) x1 = v at hg
  pointwise [h0, hm, hn, hg]

theorem rows_ctx (b : Fin 4) (s : Fin 256) (d : Fin 2048) (R : Fin 17408) (hR : R.val = 16384 + b.val * 256 + s.val) :
    val_main_v3 (F := Ideal) x0 (ix3 b s d) = x0 (ix2 R d) := by
  rw [val_main_v3_apply, val_main_v2_apply]
  refine congrArg x0 (funext fun a => Fin.ext ?_)
  match a with
  | ⟨0, _⟩ => simp only [ix2, ix3]; dsimp; omega
  | ⟨1, _⟩ => simp only [ix2, ix3]; dsimp; omega

theorem shift_ctx (d : Fin 2048) (R : Fin 17408) (hR : R.val / 4096 = 4) :
    val_main_v17 (F := Ideal) x1 (ix1 d) = x1 (ix2 ⟨R.val / 4096, by omega⟩ ⟨6144 + d.val, by omega⟩) := by
  rw [val_main_v17_apply, val_main_v13_apply, val_main_v12_apply]
  refine congrArg x1 (funext fun a => Fin.ext ?_)
  match a with
  | ⟨0, _⟩ => simp only [ix1, ix2]; dsimp; omega
  | ⟨1, _⟩ => simp only [ix1, ix2]; dsimp; omega

theorem scale_ctx (d : Fin 2048) (R : Fin 17408) (hR : R.val / 4096 = 4) :
    val_main_v18 (F := Ideal) x1 (ix1 d) = x1 (ix2 ⟨R.val / 4096, by omega⟩ ⟨8192 + d.val, by omega⟩) := by
  rw [val_main_v18_apply, val_main_v13_apply, val_main_v12_apply]
  refine congrArg x1 (funext fun a => Fin.ext ?_)
  match a with
  | ⟨0, _⟩ => simp only [ix1, ix2]; dsimp; omega
  | ⟨1, _⟩ => simp only [ix1, ix2]; dsimp; omega

theorem gate_ctx (d : Fin 2048) (R : Fin 17408) (hR : R.val / 4096 = 4) :
    val_main_v19 (F := Ideal) x1 (ix1 d) = x1 (ix2 ⟨R.val / 4096, by omega⟩ ⟨10240 + d.val, by omega⟩) := by
  rw [val_main_v19_apply, val_main_v13_apply, val_main_v12_apply]
  refine congrArg x1 (funext fun a => Fin.ext ?_)
  match a with
  | ⟨0, _⟩ => simp only [ix1, ix2]; dsimp; omega
  | ⟨1, _⟩ => simp only [ix1, ix2]; dsimp; omega

/-- The inverse root mean square of a context row. -/
theorem norm_ctx (b : Fin 4) (s : Fin 256) (R : Fin 17408) (hR : R.val = 16384 + b.val * 256 + s.val) :
    val_main_v52 (F := Ideal) x0 (ix3 b s 0) = irms (fun k => x0 (ix2 R k)) := by
  have h0 := fun d => rows_ctx x0 b s d R hR
  unfold val_main_v52 val_main_v51 val_main_v50 val_main_v49 val_main_v48 val_main_v47 val_main_v46 val_main_v45 irms
  generalize val_main_v3 (F := Ideal) x0 = p at h0
  pointwise [h0, val_main_cst_3, val_main_cst_4, val_main_cst_5, Ideal.ofBits_zero_f32, zero_add]

/-- The modulated norm of a context row. -/
theorem input_ctx (b : Fin 4) (s : Fin 256) (d : Fin 2048) (R : Fin 17408) (hR : R.val = 16384 + b.val * 256 + s.val) :
    val_main_v65 (F := Ideal) x0 x1 x2 (ix3 b s d) = hin x0 x1 x2 R d := by
  have h0 := rows_ctx x0 b s d R hR
  have hn := norm_ctx x0 b s R hR
  have hs := shift_ctx x1 d R (by omega)
  have hc := scale_ctx x1 d R (by omega)
  unfold val_main_v65 val_main_v64 val_main_v63 val_main_v62 val_main_v61 val_main_v60 val_main_v59 val_main_v58 val_main_v57 val_main_v56 val_main_v55 val_main_v54 val_main_v53 hin
  generalize val_main_v3 (F := Ideal) x0 = p at h0
  generalize val_main_v52 (F := Ideal) x0 = q at hn
  generalize val_main_v17 (F := Ideal) x1 = u at hs
  generalize val_main_v18 (F := Ideal) x1 = v at hc
  pointwise [h0, hn, hs, hc, val_main_cst_6, Ideal.ofBits_one_f32]
  rw [← mul_assoc]

/-- The projection of a context row into the hidden layer. -/
theorem hidden_ctx (b : Fin 4) (s : Fin 256) (n : Fin 11264) (R : Fin 17408) (hR : R.val = 16384 + b.val * 256 + s.val) :
    val_main_v66 (F := Ideal) x0 x1 x2 x4 (ix3 b s n) = proj (hin x0 x1 x2 R) x4 n.val := by
  have h0 := fun d => input_ctx x0 x1 x2 b s d R hR
  unfold val_main_v66 proj
  generalize val_main_v65 (F := Ideal) x0 x1 x2 = p at h0
  pointwise [h0, Nat.mod_eq_of_lt n.isLt]

/-- The hidden units of a context row. -/
theorem units_ctx (b : Fin 4) (s : Fin 256) (n : Fin 5632) (R : Fin 17408) (hR : R.val = 16384 + b.val * 256 + s.val) :
    val_main_v70 (F := Ideal) x0 x1 x2 x4 (ix3 b s n)
      = swish (proj (hin x0 x1 x2 R) x4 n.val) * proj (hin x0 x1 x2 R) x4 (5632 + n.val) := by
  have h0 := hidden_ctx x0 x1 x2 x4 b s ⟨n.val, by omega⟩ R hR
  have h1 := hidden_ctx x0 x1 x2 x4 b s ⟨5632 + n.val, by omega⟩ R hR
  unfold val_main_v70 val_main_v69 val_main_call1_v5 val_main_call1_v4 val_main_call1_v3 val_main_call1_v2 val_main_call1_v1 val_main_call1_v0 val_main_v68 val_main_v67 swish
  generalize val_main_v66 (F := Ideal) x0 x1 x2 x4 = p at h0 h1
  pointwise [h0, h1, val_main_call1_cst, val_main_call1_cst_0, Ideal.ofBits_one_f32]

/-- The product of a context row with the output weights. -/
theorem mixed_ctx (b : Fin 4) (s : Fin 256) (e : Fin 2048) (R : Fin 17408) (hR : R.val = 16384 + b.val * 256 + s.val) :
    val_main_v71 (F := Ideal) x0 x1 x2 x4 x5 (ix3 b s e) = mix (hin x0 x1 x2 R) x4 x5 5632 e := by
  have h0 := fun n => units_ctx x0 x1 x2 x4 b s n R hR
  unfold val_main_v71 mix
  generalize val_main_v70 (F := Ideal) x0 x1 x2 x4 = p at h0
  rw [Finset.sum_range]
  pointwise [h0]
  refine Finset.sum_congr rfl fun n _ => ?_
  unfold unit
  simp only [Nat.mod_eq_of_lt n.isLt]

/-- The inverse root mean square of that product. -/
theorem norm_mixed_ctx (b : Fin 4) (s : Fin 256) (R : Fin 17408) (hR : R.val = 16384 + b.val * 256 + s.val) :
    val_main_v95 (F := Ideal) x0 x1 x2 x4 x5 (ix3 b s 0) = irms (mix (hin x0 x1 x2 R) x4 x5 5632) := by
  have h0 := fun d => mixed_ctx x0 x1 x2 x4 x5 b s d R hR
  unfold val_main_v95 val_main_v94 val_main_v93 val_main_v92 val_main_v91 val_main_v90 val_main_v89 val_main_v88 irms
  generalize val_main_v71 (F := Ideal) x0 x1 x2 x4 x5 = p at h0
  pointwise [h0, val_main_cst_10, val_main_cst_11, val_main_cst_12, Ideal.ofBits_zero_f32, zero_add]

/-- The layer on a context row. -/
theorem out_ctx (b : Fin 4) (s : Fin 256) (e : Fin 2048) (R : Fin 17408) (hR : R.val = 16384 + b.val * 256 + s.val) :
    val_main_v104 (F := Ideal) x0 x1 x2 x3 x4 x5 (ix3 b s e) = G x0 x1 x2 x3 x4 x5 (ix2 R e) := by
  have h0 := rows_ctx x0 b s e R hR
  have hm := mixed_ctx x0 x1 x2 x4 x5 b s e R hR
  have hn := norm_mixed_ctx x0 x1 x2 x4 x5 b s R hR
  have hg := gate_ctx x1 e R (by omega)
  unfold val_main_v104 val_main_v103 val_main_v102 val_main_v101 val_main_v100 val_main_v99 val_main_v98 val_main_v97 val_main_v96 G
  generalize val_main_v3 (F := Ideal) x0 = p at h0
  generalize val_main_v71 (F := Ideal) x0 x1 x2 x4 x5 = q at hm
  generalize val_main_v95 (F := Ideal) x0 x1 x2 x4 x5 = u at hn
  generalize val_main_v19 (F := Ideal) x1 = v at hg
  pointwise [h0, hm, hn, hg]

/-- The reference's result is the layer on every row. -/
theorem result : val_main_v107 (F := Ideal) x0 x1 x2 x3 x4 x5 = G x0 x1 x2 x3 x4 x5 := by
  funext i
  obtain ⟨R, e, rfl⟩ : ∃ (R : Fin 17408) (e : Fin 2048), i = ix2 R e := ⟨i 0, i 1, funext fun a => by match a with | ⟨0, _⟩ => rfl | ⟨1, _⟩ => rfl⟩
  have hl := fun b s => out_lat x0 x1 x2 x3 x4 x5 b s e R
  have hc := fun b s => out_ctx x0 x1 x2 x3 x4 x5 b s e R
  unfold val_main_v107 val_main_v106 val_main_v105
  generalize val_main_v87 (F := Ideal) x0 x1 x2 x3 x4 x5 = p at hl
  generalize val_main_v104 (F := Ideal) x0 x1 x2 x3 x4 x5 = q at hc
  have hR' := R.isLt
  pointwise
  split
  · next h =>
    refine Eq.trans (congrArg p (funext fun a => Fin.ext ?_)) (hl ⟨R.val / 4096, by omega⟩ ⟨R.val % 4096, by omega⟩ (by dsimp only; omega))
    match a with
    | ⟨0, _⟩ => simp only [ix3]
    | ⟨1, _⟩ => simp only [ix3]
    | ⟨2, _⟩ => simp only [ix3]
  · next h =>
    refine Eq.trans (congrArg q (funext fun a => Fin.ext ?_)) (hc ⟨(R.val - 16384) / 256, by omega⟩ ⟨R.val % 256, by omega⟩ (by dsimp only; omega))
    match a with
    | ⟨0, _⟩ => simp only [ix3]
    | ⟨1, _⟩ => simp only [ix3]; omega
    | ⟨2, _⟩ => simp only [ix3]

end Cert.FfnAllRefIdeal.Val
-- ==== Proof.FfnAllClaim.lean ====
module
public import proofs.«01_k».proof.Defs
public import proofs.«01_k».proof.Proof.FfnAllRef
public import proofs.«01_k».proof.Proof.Gen.FfnAllRefIdeal.Run
@[expose] public section
set_option maxRecDepth 16384
noncomputable section

/-! The first layer's feed-forward call and its reference leave equal results. -/

namespace Cert.FfnAllProof
open Idealize.ShloMosaic Idealize.ShloMosaic.TcCoe Idealize.SL.Sem

/-- From memories with equal arguments, the kernel and the reference run and leave the same array, the feed-forward layer of the
    arguments, with the arguments kept. -/
theorem algebraic : Cert.algebraic_FfnAllIdeal_FfnAllRefIdeal
    (hFfnAllIdeal := Cert.FfnAllIdeal.Gen.facts) (hFfnAllRefIdeal := Cert.FfnAllRefIdeal.Gen.facts) := by
  intro m g m' g' _ hm
  refine ⟨fun c => Cert.FfnAllIdeal.Arr.G (m ((c : Thread Cert.FfnAllIdeal.nD Cert.FfnAllIdeal.τ).loc Cert.FfnAllIdeal.main_arg0))
    (m ((c : Thread Cert.FfnAllIdeal.nD Cert.FfnAllIdeal.τ).loc Cert.FfnAllIdeal.main_arg1))
    (m ((c : Thread Cert.FfnAllIdeal.nD Cert.FfnAllIdeal.τ).loc Cert.FfnAllIdeal.main_arg2))
    (m ((c : Thread Cert.FfnAllIdeal.nD Cert.FfnAllIdeal.τ).loc Cert.FfnAllIdeal.main_arg3))
    (m ((c : Thread Cert.FfnAllIdeal.nD Cert.FfnAllIdeal.τ).loc Cert.FfnAllIdeal.main_arg4))
    (m ((c : Thread Cert.FfnAllIdeal.nD Cert.FfnAllIdeal.τ).loc Cert.FfnAllIdeal.main_arg5)), ?_, ?_⟩
  · exact (θ_run _ _ _).mono (fun r h c => ⟨((h.1 c).1 9).trans (Cert.FfnAllIdeal.Arr.arr_eq m c), h.2 c⟩)
      (θ_run_and (Cert.FfnAllIdeal.Gen.run_main m g) (Cert.FfnAllIdeal.Gen.unchanged m g))
  · refine (θ_run _ _ _).mono (fun r h c => ⟨(h c).1.trans ?_, (h c).2⟩) (Cert.FfnAllRefIdeal.Value.run m' g')
    obtain ⟨e0, e1, e2, e3, e4, e5⟩ := hm c
    rw [Cert.FfnAllRefIdeal.Read.val_main_v107_eq, Cert.FfnAllRefIdeal.Val.result]
    exact congr (congr (congr (congr (congr (congrArg Cert.FfnAllIdeal.Arr.G e0) e1) e2) e3) e4) e5

end Cert.FfnAllProof
-- ==== Proof.AttnOutArr.lean ====
module
public import proofs.«01_k».proof.Proof.FfnPay
public import proofs.«01_k».proof.Proof.Gen.AttnOutIdeal.Value
public import Idealize.ShloMosaic.Lib.Pipeline.ReadBack
@[expose] public section
set_option maxRecDepth 16384
noncomputable section

/-! The array the attention's output kernel leaves, as a function of its arguments. -/

namespace Cert.AttnOutIdeal.Arr
open Cert.AttnOutIdeal Cert.AttnOutIdeal.Gen Idealize.ShloMosaic Idealize.ShloMosaic.TcCoe Idealize.SL.Sem
open Cert.FfnIdeal.Blk (irms)

/-- A row of the attention times column `e` of the output weights. -/
def mix (O : Vec Ideal S16384x2048 .bf16) (W : Vec Ideal S2048x2048 .f32) (R : Fin 16384) (e : Fin 2048) : EReal :=
  ∑ d : Fin 2048, O (ix2 R d) * W (ix2 d e)

/-- The attention's output, its norm and its gated residual, element by element. -/
def G (O : Vec Ideal S16384x2048 .bf16) (X : Vec Ideal S17408x2048 .f32) (M : Vec Ideal S8x12288 .f32) (gq : Vec Ideal S2048 .f32)
    (W : Vec Ideal S2048x2048 .f32) : Vec Ideal S16384x2048 .f32 := fun i =>
  X (ix2 ⟨(i 0).val, by have h : (i 0).val < 16384 := (i 0).isLt; omega⟩ (i 1))
    + M (ix2 ⟨(i 0).val / 4096, by have h : (i 0).val < 16384 := (i 0).isLt; omega⟩
      ⟨4096 + (i 1).val, by have h : (i 1).val < 2048 := (i 1).isLt; omega⟩)
    * (mix O W (i 0) (i 1) * irms (mix O W (i 0)) * gq (ix1 (i 1)))

/-- The arithmetic of one grid point. -/
theorem pay (v0 : Vec Ideal S256x2048 .bf16) (v1 : Vec Ideal S2048x2048 .bf16) (v4 : Vec Ideal S256x2048 .f32) (v5 : Vec Ideal S1x2048 .f32)
    (v7 : Vec Ideal S1x1x2048 .f32) (r : Fin 256) (e : Fin 2048) :
    k0_pay1 (F := Ideal) v0 v1 v4 v5 v7 (ix2 r e)
      = v4 (ix2 r e) + v7 (ix3 0 0 e) * ((∑ d : Fin 2048, v0 (ix2 r d) * v1 (ix2 d e))
        * irms (fun k => ∑ d : Fin 2048, v0 (ix2 r d) * v1 (ix2 d k)) * v5 (ix2 0 e)) := by
  unfold k0_pay1 irms
  pointwise [Ideal.ofBits_one_f32, Ideal.ofBits_zero_f32]

/-- The block each window takes at a grid point. -/
theorem idx : ∀ t : Fin cfg0.N,
    win0_0.index t = ![t.val, 0] ∧ win0_1.index t = ![t.val, 0] ∧ win0_2.index t = ![0, 0]
    ∧ win0_3.index t = ![t.val / 16, 0, 2] ∧ win0_4.index t = ![0, 0] ∧ win0_5.index t = ![t.val, 0] :=
  (by decide +kernel : ∀ t : Fin grid0.N, _)

section
variable (m : (ℓ : Loc nD τ sig) → Buf (Elt Ideal) ℓ) (c : Dev nD) (t : Fin cfg0.N)

theorem t_lt : t.val < 64 := lt_of_lt_of_eq t.isLt N_0

theorem blk0 (i : Fin 256) (e : Fin 2048) (h0) : (iblk m c 0 t : Vec Ideal S256x2048 .bf16) (ix2 i e)
    = (m ((c : Thread nD τ).loc main_arg0) : Vec Ideal S16384x2048 .bf16) (ix2 ⟨t.val * 256 + i.val, h0⟩ e) := by
  obtain ⟨e0, -⟩ := idx t
  blk_ext [iblk, V_main_arg0, e0]

theorem blk1 (i : Fin 256) (e : Fin 2048) (h0) : (iblk m c 1 t : Vec Ideal S256x2048 .f32) (ix2 i e)
    = (m ((c : Thread nD τ).loc main_arg1) : Vec Ideal S17408x2048 .f32) (ix2 ⟨t.val * 256 + i.val, h0⟩ e) := by
  obtain ⟨-, e0, -⟩ := idx t
  blk_ext [iblk, V_main_arg1, e0]

theorem blk2 (e : Fin 2048) : (iblk m c 2 t : Vec Ideal S1x2048 .f32) (ix2 0 e)
    = (m ((c : Thread nD τ).loc main_arg3) : Vec Ideal S2048 .f32) (ix1 e) := by
  obtain ⟨-, -, e0, -⟩ := idx t
  blk_ext! [iblk, V, e0]

theorem blk3 (e : Fin 2048) (h0 h1) : (iblk m c 3 t : Vec Ideal S1x1x2048 .f32) (ix3 0 0 e)
    = (m ((c : Thread nD τ).loc main_arg2) : Vec Ideal S8x12288 .f32) (ix2 ⟨t.val / 16, h0⟩ ⟨4096 + e.val, h1⟩) := by
  obtain ⟨-, -, -, e0, -⟩ := idx t
  blk_ext! [iblk, V, e0]

theorem blk4 (i e : Fin 2048) : (iblk m c 4 t : Vec Ideal S2048x2048 .bf16) (ix2 i e)
    = (m ((c : Thread nD τ).loc main_arg4) : Vec Ideal S2048x2048 .f32) (ix2 i e) := by
  obtain ⟨-, -, -, -, e0, -⟩ := idx t
  blk_ext! [iblk, V, e0]

/-- The block a grid point stores. -/
theorem out_at (r : Fin 256) (e : Fin 2048) (R : Fin 16384) (hR : R.val = t.val * 256 + r.val) :
    ((dats m 0 c).after 5 t : Vec Ideal S256x2048 .f32) (ix2 r e)
      = G (m ((c : Thread nD τ).loc main_arg0)) (m ((c : Thread nD τ).loc main_arg1)) (m ((c : Thread nD τ).loc main_arg2))
        (m ((c : Thread nD τ).loc main_arg3)) (m ((c : Thread nD τ).loc main_arg4)) (ix2 R e) := by
  have ht := t_lt t
  have hr := r.isLt
  have hb : (t.val * 256 + r.val) / 4096 = t.val / 16 := by omega
  have ho : ((dats m 0 c).after 5 t : Vec Ideal S256x2048 .f32)
      = k0_pay1 (F := Ideal) (iblk m c 0 t) (iblk m c 4 t) (iblk m c 1 t) (iblk m c 2 t) (iblk m c 3 t) := by
    rw [after0_5]
    unfold out0_5
    frame_out
  have hx : ∀ k : Fin 2048, (iblk m c 0 t : Vec Ideal S256x2048 .bf16) (ix2 r k)
      = (m ((c : Thread nD τ).loc main_arg0) : Vec Ideal S16384x2048 .bf16) (ix2 R k) := fun k =>
    (blk0 m c t r k (by omega)).trans (congrArg (fun R' : Fin 16384 => (m ((c : Thread nD τ).loc main_arg0) : Vec Ideal S16384x2048 .bf16) (ix2 R' k))
      (Fin.ext hR.symm))
  rw [ho, pay, blk2, blk3 m c t e (by omega) (by omega), blk1 m c t r e (by omega)]
  simp only [hx, blk4]
  unfold G mix
  simp only [ix2, hR, hb]

/-- The array the kernel leaves. -/
theorem arr_eq : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have ht := t_lt t
  obtain ⟨-, -, -, -, -, e5⟩ := idx t
  have e0 : ((((cfg0.win 5).blk t).view.emb y) (0 : Fin 2) : ℕ) = t.val * 256 + (y (0 : Fin 2)).val := by
    blk_simp [e5]
  have e1 : ((((cfg0.win 5).blk t).view.emb y) (1 : Fin 2) : ℕ) = (y (1 : Fin 2)).val := by
    blk_simp [e5]
  have h0 : (y (0 : Fin 2)).val < 256 := (y 0).isLt
  have h1 : (y (1 : Fin 2)).val < 2048 := (y 1).isLt
  blk_simp
  have key := out_at m c t ⟨(y (0 : Fin 2)).val, h0⟩ ⟨(y (1 : Fin 2)).val, h1⟩
    ⟨t.val * 256 + (y (0 : Fin 2)).val, by omega⟩ rfl
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

end
end Cert.AttnOutIdeal.Arr
-- ==== Proof.AttnOutRef.lean ====
module
public import proofs.«01_k».proof.Proof.AttnOutArr
public import proofs.«01_k».proof.Proof.Gen.AttnOutRefIdeal.Read
@[expose] public section
set_option maxRecDepth 16384
noncomputable section

/-! The result of the reference of the attention's output, element by element. -/

namespace Cert.AttnOutRefIdeal.Val
open Cert.AttnOutRefIdeal Cert.AttnOutRefIdeal.Gen Cert.AttnOutRefIdeal.Read Idealize.ShloMosaic Idealize.ShloMosaic.TcCoe Idealize.SL.Sem
open Cert.AttnOutIdeal.Arr (mix G)
open Cert.FfnIdeal.Blk (irms)

variable (x0 : Vec Ideal S16384x2048 .bf16) (x1 : Vec Ideal S17408x2048 .f32) (x2 : Vec Ideal S8x12288 .f32) (x3 : Vec Ideal S2048 .f32)
  (x4 : Vec Ideal S2048x2048 .f32)

theorem rows (b : Fin 4) (s : Fin 4096) (d : Fin 2048) (R : Fin 16384) (hR : R.val = b.val * 4096 + s.val) :
    val_main_v9 (F := Ideal) x0 (ix3 b s d) = x0 (ix2 R d) := by
  rw [val_main_v9_apply]
  refine congrArg x0 (funext fun a => Fin.ext ?_)
  match a with
  | ⟨0, _⟩ => simp only [ix2, ix3]; dsimp; omega
  | ⟨1, _⟩ => simp only [ix2, ix3]; dsimp; omega

theorem residual (b : Fin 4) (s : Fin 4096) (d : Fin 2048) (R : Fin 17408) (hR : R.val = b.val * 4096 + s.val) :
    val_main_v12 (F := Ideal) x1 (ix3 b s d) = x1 (ix2 R d) := by
  rw [val_main_v12_apply, val_main_v11_apply]
  refine congrArg x1 (funext fun a => Fin.ext ?_)
  match a with
  | ⟨0, _⟩ => simp only [ix2, ix3]; dsimp; omega
  | ⟨1, _⟩ => simp only [ix2, ix3]; dsimp; omega

theorem gate (b : Fin 4) (d : Fin 2048) (B : Fin 8) (hB : B.val = b.val) :
    val_main_v4 (F := Ideal) x2 (ix3 b 0 d) = x2 (ix2 B ⟨4096 + d.val, by omega⟩) := by
  rw [val_main_v4_apply, val_main_v1_apply, val_main_v0_apply]
  refine congrArg x2 (funext fun a => Fin.ext ?_)
  match a with
  | ⟨0, _⟩ => exact hB.symm
  | ⟨1, _⟩ => simp only [ix2, ix3]

/-- The product with the output weights. -/
theorem mixed (b : Fin 4) (s : Fin 4096) (e : Fin 2048) (R : Fin 16384) (hR : R.val = b.val * 4096 + s.val) :
    val_main_v10 (F := Ideal) x0 x4 (ix3 b s e) = mix x0 x4 R e := by
  have h0 := fun d => rows x0 b s d R hR
  unfold val_main_v10 mix
  generalize val_main_v9 (F := Ideal) x0 = p at h0
  pointwise [h0]

/-- The inverse root mean square of a row of the product. -/
theorem norm_mixed (b : Fin 4) (s : Fin 4096) (R : Fin 16384) (hR : R.val = b.val * 4096 + s.val) :
    val_main_v20 (F := Ideal) x0 x4 (ix3 b s 0) = irms (mix x0 x4 R) := by
  have h0 := fun d => mixed x0 x4 b s d R hR
  unfold val_main_v20 val_main_v19 val_main_v18 val_main_v17 val_main_v16 val_main_v15 val_main_v14 val_main_v13 irms
  generalize val_main_v10 (F := Ideal) x0 x4 = p at h0
  pointwise [h0, val_main_cst, val_main_cst_0, val_main_cst_1, Ideal.ofBits_zero_f32, zero_add]

/-- The reference's result is the gated residual of the normed product. -/
theorem result : val_main_v29 (F := Ideal) x0 x1 x2 x3 x4 = G x0 x1 x2 x3 x4 := by
  funext i
  have i0 : (i 0).val < 16384 := (i 0).isLt
  have i1 : (i 1).val < 2048 := (i 1).isLt
  have hR : (i 0).val = (i 0).val / 4096 * 4096 + (i 0).val % 4096 := by omega
  have h0 := residual x1 ⟨(i 0).val / 4096, by omega⟩ ⟨(i 0).val % 4096, by omega⟩ (i 1) ⟨(i 0).val, by omega⟩ hR
  have hm := mixed x0 x4 ⟨(i 0).val / 4096, by omega⟩ ⟨(i 0).val % 4096, by omega⟩ (i 1) (i 0) hR
  have hn := norm_mixed x0 x4 ⟨(i 0).val / 4096, by omega⟩ ⟨(i 0).val % 4096, by omega⟩ (i 0) hR
  have hg := gate x2 ⟨(i 0).val / 4096, by omega⟩ (i 1) ⟨(i 0).val / 4096, by omega⟩ rfl
  rw [val_main_v29_apply]
  refine Eq.trans (congrArg _ (show _ = ix3 (⟨(i 0).val / 4096, by omega⟩ : Fin 4) (⟨(i 0).val % 4096, by omega⟩ : Fin 4096) (i 1) from
    funext fun a => Fin.ext ?_)) ?_
  · match a with
    | ⟨0, _⟩ => simp only [ix3]; dsimp; omega
    | ⟨1, _⟩ => simp only [ix3]; dsimp; omega
    | ⟨2, _⟩ => simp only [ix3]; dsimp; omega
  unfold val_main_v28 val_main_v27 val_main_v26 val_main_v25 val_main_v24 val_main_v23 val_main_v22 val_main_v21 G
  generalize val_main_v12 (F := Ideal) x1 = p at h0
  generalize val_main_v10 (F := Ideal) x0 x4 = q at hm
  generalize val_main_v20 (F := Ideal) x0 x4 = u at hn
  generalize val_main_v4 (F := Ideal) x2 = v at hg
  pointwise [h0, hm, hn, hg]

end Cert.AttnOutRefIdeal.Val
-- ==== Proof.AttnOutClaim.lean ====
module
public import proofs.«01_k».proof.Defs
public import proofs.«01_k».proof.Proof.AttnOutRef
public import proofs.«01_k».proof.Proof.Gen.AttnOutRefIdeal.Run
@[expose] public section
set_option maxRecDepth 16384
noncomputable section

/-! The attention's output call and its reference leave equal results. -/

namespace Cert.AttnOutProof
open Idealize.ShloMosaic Idealize.ShloMosaic.TcCoe Idealize.SL.Sem

/-- From memories with equal arguments, the kernel and the reference run and leave the same array, the gated residual of the normed
    product, with the arguments kept. -/
theorem algebraic : Cert.algebraic_AttnOutIdeal_AttnOutRefIdeal
    (hAttnOutIdeal := Cert.AttnOutIdeal.Gen.facts) (hAttnOutRefIdeal := Cert.AttnOutRefIdeal.Gen.facts) := by
  intro m g m' g' _ hm
  refine ⟨fun c => Cert.AttnOutIdeal.Arr.G (m ((c : Thread Cert.AttnOutIdeal.nD Cert.AttnOutIdeal.τ).loc Cert.AttnOutIdeal.main_arg0))
    (m ((c : Thread Cert.AttnOutIdeal.nD Cert.AttnOutIdeal.τ).loc Cert.AttnOutIdeal.main_arg1))
    (m ((c : Thread Cert.AttnOutIdeal.nD Cert.AttnOutIdeal.τ).loc Cert.AttnOutIdeal.main_arg2))
    (m ((c : Thread Cert.AttnOutIdeal.nD Cert.AttnOutIdeal.τ).loc Cert.AttnOutIdeal.main_arg3))
    (m ((c : Thread Cert.AttnOutIdeal.nD Cert.AttnOutIdeal.τ).loc Cert.AttnOutIdeal.main_arg4)), ?_, ?_⟩
  · exact (θ_run _ _ _).mono (fun r h c => ⟨((h.1 c).1 5).trans (Cert.AttnOutIdeal.Arr.arr_eq m c), h.2 c⟩)
      (θ_run_and (Cert.AttnOutIdeal.Gen.run_main m g) (Cert.AttnOutIdeal.Gen.unchanged m g))
  · refine (θ_run _ _ _).mono (fun r h c => ⟨(h c).1.trans ?_, (h c).2⟩) (Cert.AttnOutRefIdeal.Value.run m' g')
    obtain ⟨e0, e1, e2, e3, e4⟩ := hm c
    rw [Cert.AttnOutRefIdeal.Read.val_main_v29_eq, Cert.AttnOutRefIdeal.Val.result]
    exact congr (congr (congr (congr (congrArg Cert.AttnOutIdeal.Arr.G e0) e1) e2) e3) e4

end Cert.AttnOutProof
-- ==== Proof.InprojIdealBody.lean ====
module

public import proofs.«01_k».proof.Proof.Gen.InprojIdeal.Frame
public import proofs.«01_k».proof.Proof.Gen.InprojIdeal.Skeleton
public import Idealize.ShloMosaic.Lib.Pipeline.TableIdle
public import Idealize.ShloMosaic.Lib.Pipeline.ValueKit.Acc
public import Idealize.ShloMosaic.Lib.Claim

@[expose] public section

set_option maxRecDepth 16384

noncomputable section

/-! The frame of the input projection, by hand: the gates are stored at the first of the three column steps of a row
block and written back at the third, and the normalised rows stay in scratch over the three steps. -/

namespace Cert.InprojIdeal.Body

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store that covers a whole buffer leaves the stored value, whatever the buffer held. -/
theorem read_whole {S : Shape} {e : EltTy} (v : View sig .tc .vmem S e) (f : v.ty.Contents (Elt F))
    {off : Fin S.rank → Nat} (inb : ∀ a, off a + S.size a ≤ S.size a) (h : ∀ a, off a = 0) (w : S.Idx → Elt F e) :
    v.read (Elt F) (v.writes (Elt F) f [⟨Rect.unit off S.size inb, w⟩]) = w :=
  (View.read_writes_eq_canon v f _ fun y =>
    ⟨_, List.mem_singleton_self _, View.mem_set_unit_zero (funext h) inb y⟩).trans (View.canon_unit_zero (funext h) inb w)

/-! ### The body once, at either kind of point -/

/-- At the second and third column step the body multiplies the kept rows by the block of the weights, and leaves the
gates and the rows alone. -/
theorem run_rest (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x128 .bf16) (harg8 : arg8.IsWhole) (arg9 : Memref sig .tc .vmem S512x2048 .bf16) (harg9 : arg9.IsWhole) (arg10 : Memref sig .tc .vmem S512x128 .f32) (harg10 : arg10.IsWhole) (arg11 : Memref sig .tc .vmem S512x2048 .bf16) (harg11 : arg11.IsWhole) (hc : ¬k0_cond1 i = 1#1)
    (x0 : Vec F S512x2048 .f32) (x1 : Vec F S512x2048 .f32) (x2 : Vec F S1x2048 .f32) (x3 : Vec F S1x1x2048 .f32) (x4 : Vec F S1x1x2048 .f32) (x5 : Vec F S2048x2048 .bf16) (x6 : Vec F S2048x128 .bf16) (g : Vec F S512x128 .f32) (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare g ∗ owns (c : Thread nD τ) arg11 fullShare h
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 h x5) ∗ owns (c : Thread nD τ) arg10 fullShare g ∗ owns (c : Thread nD τ) arg11 fullShare h) -∗ K ⟨⟩))
    ⊢ wp frame (wpE (defs₀ (F := F)) Variants.none c none) E (cc0_mlstm_inproj i arg2 harg2 arg3 harg3 arg4 harg4 arg5 harg5 arg6 harg6 arg7 harg7 arg8 harg8 arg9 harg9 arg10 harg10 arg11 harg11) K := by
  simp only [cc0_mlstm_inproj_eq_skeleton]; unfold cc0_mlstm_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
  sl_exec (disch := sl_exact hc)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap; · iexact H7
    ipureintro; refine (read_whole _ _ _ ?_ _).trans ?_; · decide
    frame_out
  isplitl [H8]
  · iexists _; isplitr
    · ipureintro; exact harg10.read_unread _
    iexact H8
  · iexists _; isplitr
    · ipureintro; exact harg11.read_unread _
    iexact H9

/-- At the first column step it also normalises the rows, keeps them, and computes the gates from them. -/
theorem run_first (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x128 .bf16) (harg8 : arg8.IsWhole) (arg9 : Memref sig .tc .vmem S512x2048 .bf16) (harg9 : arg9.IsWhole) (arg10 : Memref sig .tc .vmem S512x128 .f32) (harg10 : arg10.IsWhole) (arg11 : Memref sig .tc .vmem S512x2048 .bf16) (harg11 : arg11.IsWhole) (hc : k0_cond1 i = 1#1)
    (x0 : Vec F S512x2048 .f32) (x1 : Vec F S512x2048 .f32) (x2 : Vec F S1x2048 .f32) (x3 : Vec F S1x1x2048 .f32) (x4 : Vec F S1x1x2048 .f32) (x5 : Vec F S2048x2048 .bf16) (x6 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 (k0_pay3 (BitVec.ofNat 32 (i 0).val) x0 x1 x2 x3 x4) x5) ∗ owns (c : Thread nD τ) arg10 fullShare (k0_pay1 (k0_pay3 (BitVec.ofNat 32 (i 0).val) x0 x1 x2 x3 x4) (k0_pay4 x6)) ∗ owns (c : Thread nD τ) arg11 fullShare (k0_pay3 (BitVec.ofNat 32 (i 0).val) x0 x1 x2 x3 x4)) -∗ K ⟨⟩))
    ⊢ wp frame (wpE (defs₀ (F := F)) Variants.none c none) E (cc0_mlstm_inproj i arg2 harg2 arg3 harg3 arg4 harg4 arg5 harg5 arg6 harg6 arg7 harg7 arg8 harg8 arg9 harg9 arg10 harg10 arg11 harg11) K := by
  simp only [cc0_mlstm_inproj_eq_skeleton, k0_part1_eq_skeleton]; unfold cc0_mlstm_inproj_skel; simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := sl_exact hc)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap; · iexact H7
    ipureintro; refine (read_whole _ _ _ ?_ _).trans ?_; · decide
    frame_out
  isplitl [H8]
  · iexists _; isplitr
    swap; · iexact H8
    ipureintro; refine (read_whole _ _ _ ?_ _).trans ?_; · decide
    frame_out
  · iexists _; isplitr
    swap; · iexact H9
    ipureintro; refine (read_whole _ _ _ ?_ _).trans ?_; · decide
    frame_out

/-! ### What every point leaves -/

/-- The first column step of the row block that point `t` works on. -/
def first (t : Fin cfg0.N) : Fin cfg0.N := ⟨t.val - t.val % 3, lt_of_le_of_lt (Nat.sub_le _ _) t.isLt⟩

theorem first_of (t : Fin cfg0.N) (h : t.val % 3 = 0) : first t = t := Fin.ext (by show t.val - t.val % 3 = t.val; omega)

theorem first_pred (t s : Fin cfg0.N) (h : ¬t.val % 3 = 0) (hs : s.val = t.val - 1) : first s = first t :=
  Fin.ext (by show s.val - s.val % 3 = t.val - t.val % 3; omega)

/-- The normalised rows of the row block of point `t`. -/
def rows (c : Dev nD) (t : Fin cfg0.N) : Vec F S512x2048 .bf16 :=
  k0_pay3 (BitVec.ofNat 32 ((grid0.coords (first t)) 0).val) (iblk m c 0 (first t)) (iblk m c 1 (first t)) (iblk m c 2 (first t)) (iblk m c 3 (first t)) (iblk m c 4 (first t))

/-- Their gates. -/
def gates (c : Dev nD) (t : Fin cfg0.N) : Vec F S512x128 .f32 :=
  k0_pay1 (rows m c t) (k0_pay4 (iblk m c 6 (first t)))

/-- Their projection by the block of the weights of point `t`. -/
def proj (c : Dev nD) (t : Fin cfg0.N) : Vec F S512x2048 .bf16 := k0_pay2 (rows m c t) (iblk m c 5 t)

theorem rows_pred (c : Dev nD) (t s : Fin cfg0.N) (h : ¬t.val % 3 = 0) (hs : s.val = t.val - 1) : rows m c s = rows m c t := by
  unfold rows; rw [first_pred t s h hs]

theorem gates_pred (c : Dev nD) (t s : Fin cfg0.N) (h : ¬t.val % 3 = 0) (hs : s.val = t.val - 1) : gates m c s = gates m c t := by
  unfold gates; rw [rows_pred m c t s h hs, first_pred t s h hs]

/-- The scratch as a buffer. -/
abbrev keptRows : Memref sig .tc .vmem S512x2048 .bf16 := Memref.whole cc0_scratch0

/-- Before the first point the scratch holds anything, after a point the rows of that point. -/
def Inv (c : Dev nD) : (n : ℕ) → n ≤ cfg0.N → sProp 𝕄
  | 0, _ => Pipeline.ΦA spec0 c
  | n + 1, hn => iprop(owns (c : Thread nD τ) keptRows fullShare (rows m c ⟨n, hn⟩) ∗ (∃ r, prngReg c r))

theorem Inv_start (c : Dev nD) :
    (Pipeline.ΦA spec0 c : sProp 𝕄) = iprop((∃ d, owns (c : Thread nD τ) keptRows fullShare d) ∗ (∃ r, prngReg c r)) := by
  unfold Pipeline.ΦA; rw [scopedRest0_eq]; simp only [keptRows, owns_whole]; try rfl

theorem Inv_pos (c : Dev nD) (n : ℕ) (h : n ≤ cfg0.N) (hz : n ≠ 0) :
    Inv m c n h = iprop(owns (c : Thread nD τ) keptRows fullShare (rows m c ⟨n - 1, by omega⟩) ∗ (∃ r, prngReg c r)) := by
  cases n with
  | zero => exact absurd rfl hz
  | succ n => rfl

/-- The invariant at any point gives the scratch at some contents. -/
theorem Inv_any (c : Dev nD) (n : ℕ) (h : n ≤ cfg0.N) :
    Inv m c n h ⊢ iprop((∃ d, owns (c : Thread nD τ) keptRows fullShare d) ∗ (∃ r, prngReg c r)) := by
  by_cases hz : n = 0
  · subst hz; exact Eq.subst (motive := fun P => Inv m c 0 h ⊢ P) (Inv_start c) (Idealize.SL.BI.Entails.refl _)
  · rw [Inv_pos m c n h hz]
    iintro ⟨HS, Hg⟩
    isplitl [HS]
    · iexists _; iexact HS
    iexact Hg

/-- The proof data of the pipeline: every input's buffer at its block, the outputs at `proj` and `gates`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => proj m c t
    | ⟨8, _⟩ => gates m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = proj m c t := by dsimp only [dats]
theorem after_8 (c : Dev nD) (t : Fin cfg0.N) : (dats m 0 c).after 8 t = gates m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]

theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]

theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after_2]

theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after_3]

theorem leaves_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after_4]

theorem leaves_5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl, after_5]

theorem leaves_6 (c : Dev nD) (t : Fin cfg0.N) :
    (dats m 0 c).leavesExact 6 t = owns (c : Thread nD τ) (st0_6 t) fullShare (iblk m c 6 t) := by
  unfold Dat.leavesExact; rw [show cfg0.idle 6 (grid0.coords t) = false from rfl, after_6]

theorem leaves_7 (c : Dev nD) (t : Fin cfg0.N) :
    (dats m 0 c).leavesExact 7 t = owns (c : Thread nD τ) (st0_7 t) fullShare (proj m c t) := by
  unfold Dat.leavesExact; rw [show cfg0.idle 7 (grid0.coords t) = false from rfl, after_7]

/-- The body takes its first branch at the points that are multiples of three. -/
theorem cond_iff : ∀ t : Fin cfg0.N, k0_cond1 (grid0.coords t) = 1#1 ↔ t.val % 3 = 0 :=
  (by decide +kernel : ∀ t : Fin grid0.N, k0_cond1 (grid0.coords t) = 1#1 ↔ t.val % 3 = 0)

theorem idle_iff (t : Fin cfg0.N) : cfg0.idle 8 (grid0.coords t) = true ↔ ¬t.val % 3 = 0 := by
  rw [← cond_iff t, show cfg0.idle 8 (grid0.coords t) = !(k0_cond1 (grid0.coords t) == 1#1) from rfl]
  simp

/-- The gates' buffer is free at the multiples of three. -/
theorem fresh_iff : ∀ n, n ≤ cfg0.N → cfg0.fresh 8 n = (n % 3 == 0) :=
  Cfg.fresh_tab _ _ _ rfl fun t => by
    have hf := flush0_8 t
    have hi := idle_iff t
    rcases hF : (cfg0.win 8).flush t <;> rcases hI : cfg0.idle 8 (grid0.coords t) <;> rw [hF] at hf <;> rw [hI] at hi <;>
      simp at hf hi <;> simp <;> omega

/-- Between two stores the gates' buffer holds what the first step left. -/
theorem before_8 (c : Dev nD) (t : Fin cfg0.N) (h : ¬t.val % 3 = 0) (d) : (dats m 0 c).before 8 t d = gates m c t := by
  refine (Dat.before_out_traj (dats m 0 c) 8 rfl (fun _ _ => rfl) (fun s hs hi _ => ?_) _ t rfl d).trans ?_
  · rw [after_8, after_8]; exact (gates_pred m c s _ ((idle_iff s).1 hi) rfl).symm
  · rw [fresh_iff _ (Nat.le_of_lt t.isLt), if_neg (by simpa using h), after_8]
    exact gates_pred m c t _ h rfl

theorem leaves_8_first (c : Dev nD) (t : Fin cfg0.N) (h : t.val % 3 = 0) :
    (dats m 0 c).leavesExact 8 t = owns (c : Thread nD τ) (st0_8 t) fullShare (gates m c t) := by
  unfold Dat.leavesExact
  rw [show cfg0.idle 8 (grid0.coords t) = false from Bool.eq_false_iff.2 fun hi => (idle_iff t).1 hi h, after_8]

/-- At the later steps the gates are handed on as they were found. -/
theorem leaves_8_rest (c : Dev nD) (t : Fin cfg0.N) (h : ¬t.val % 3 = 0) :
    owns (c : Thread nD τ) (st0_8 t) fullShare (gates m c t) ⊢ (dats m 0 c).leavesExact 8 t := by
  rcases hf : (cfg0.win 8).flush t with _ | _
  · rw [Dat.leavesExact_idle (dats m 0 c) 8 t ((idle_iff t).2 h) hf]
    iintro H
    iexists (gates m c t)
    rw [before_8 m c t h]
    iexact H
  · unfold Dat.leavesExact
    rw [(idle_iff t).2 h, hf, after_8]

/-- What the body is called with at point `t`. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point. -/
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, leaves_0, leaves_1, leaves_2, leaves_3, leaves_4, leaves_5, leaves_6, leaves_7]
  rw [show (dats m 0 c).owesAt () t.succ = (dats m 0 c).owesAt () t.castSucc from rfl, inv_castSucc]
  rw [show (dats m 0 c).Φ t.succ = iprop(owns (c : Thread nD τ) keptRows fullShare (rows m c t) ∗ (∃ r, prngReg c r)) from rfl]
  by_cases h : t.val % 3 = 0
  · rw [leaves_8_first m c t h]
    have hr : rows m c t = k0_pay3 (BitVec.ofNat 32 ((grid0.coords t) 0).val) (iblk m c 0 t) (iblk m c 1 t) (iblk m c 2 t) (iblk m c 3 t) (iblk m c 4 t) := by
      unfold rows; rw [first_of t h]
    have hg : gates m c t = k0_pay1 (rows m c t) (k0_pay4 (iblk m c 6 t)) := by unfold gates; rw [first_of t h]
    unfold proj
    rw [hg, hr]
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HI := (Inv_any m c t.val _) $$ HI
    icases HI with ⟨HS, Hg⟩
    iapply (run_first c (grid0.coords t) _ _ _ _ _ _ _ _ _ _ _ _ _ _ _ _ _ _ _ _ ((cond_iff t).2 h) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Inv_pos m c _ _ (fun hz => h (by rw [hz]))]
    simp only [before_8 m c t h]
    rw [rows_pred m c t ⟨t.val - 1, lt_of_le_of_lt (Nat.sub_le _ _) t.isLt⟩ h rfl]
    unfold proj
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_rest c (grid0.coords t) _ _ _ _ _ _ _ _ _ _ _ _ _ _ _ _ _ _ _ _ (fun hc => h ((cond_iff t).1 hc)) (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves_8_rest m c t h)
    iexact H8

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem enters (c : Dev nD) : Pipeline.ΦA spec0 c ⊢ (dats m 0 c).Φ 0 := by
  rw [show (dats m 0 c).Φ 0 = Pipeline.ΦA spec0 c from rfl]

theorem exits (c : Dev nD) : (dats m 0 c).Φ (Fin.last cfg0.N) ⊢ Pipeline.ΦA spec0 c := by
  rw [Inv_start c, show (dats m 0 c).Φ (Fin.last cfg0.N) = Inv m c cfg0.N le_rfl from rfl]; exact Inv_any m c _ _

set_option backward.isDefEq.respectTransparency.types false in
/-- The whole run: the arrays end at what the proof data say, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enters m) (hout := exits m)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.InprojIdeal.Body

end
-- ==== Proof.InprojPay.lean ====
module
public import proofs.«01_k».proof.Proof.FfnPay
public import proofs.«01_k».proof.Proof.InprojIdealBody
public import Idealize.ShloMosaic.Lib.Pipeline.ReadBack
@[expose] public section
set_option maxRecDepth 16384
noncomputable section

/-! The arithmetic of the input projection at one grid point. -/

namespace Cert.InprojIdeal.Arr
open Cert.InprojIdeal Cert.InprojIdeal.Gen Cert.InprojIdeal.Body Idealize.ShloMosaic Idealize.ShloMosaic.TcCoe Idealize.SL.Sem
open Cert.FfnIdeal.Blk (irms)

section
variable (n : BitVec 32) (x y : Vec Ideal S512x2048 .f32) (g : Vec Ideal S1x2048 .f32) (sh sc : Vec Ideal S1x1x2048 .f32) (r : Fin 512) (d : Fin 2048)

/-- The modulated norm of a block of latent rows. -/
theorem pay3_lat (h : Scalar.cmpi .slt n 32#32 = 1#1) : k0_pay3 (F := Ideal) n x y g sh sc (ix2 r d)
    = x (ix2 r d) * irms (fun k => x (ix2 r k)) * (g (ix2 0 d) * (1 + sc (ix3 0 0 d))) + sh (ix3 0 0 d) := by
  have hs : ∀ a b : Vec Ideal S512x2048 .f32, Scalar.select (Scalar.cmpi .slt n 32#32) a b = a := fun a b => by rw [h]; rfl
  unfold k0_pay3 irms
  dsimp only
  rw [hs]
  pointwise [Ideal.ofBits_one_f32, Ideal.ofBits_zero_f32]

/-- The modulated norm of a block of context rows. -/
theorem pay3_ctx (h : Scalar.cmpi .slt n 32#32 = 0#1) : k0_pay3 (F := Ideal) n x y g sh sc (ix2 r d)
    = y (ix2 r d) * irms (fun k => y (ix2 r k)) * (g (ix2 0 d) * (1 + sc (ix3 0 0 d))) + sh (ix3 0 0 d) := by
  have hs : ∀ a b : Vec Ideal S512x2048 .f32, Scalar.select (Scalar.cmpi .slt n 32#32) a b = b := fun a b => by rw [h]; rfl
  unfold k0_pay3 irms
  dsimp only
  rw [hs]
  pointwise [Ideal.ofBits_one_f32, Ideal.ofBits_zero_f32]

end

/-- The product with a block of the weights. -/
theorem pay2 (h : Vec Ideal S512x2048 .bf16) (w : Vec Ideal S2048x2048 .bf16) (r : Fin 512) (e : Fin 2048) :
    k0_pay2 (F := Ideal) h w (ix2 r e) = ∑ d : Fin 2048, h (ix2 r d) * w (ix2 d e) := by
  unfold k0_pay2
  pointwise [Ideal.ofBits_zero_f32]

/-- The product with the weights of the gates. -/
theorem pay1 (h : Vec Ideal S512x2048 .bf16) (w : Vec Ideal S2048x128 .bf16) (r : Fin 512) (e : Fin 128) :
    k0_pay1 (F := Ideal) h (k0_pay4 (F := Ideal) w) (ix2 r e) = ∑ d : Fin 2048, h (ix2 r d) * w (ix2 d e) := by
  unfold k0_pay1 k0_pay4
  pointwise [Ideal.ofBits_zero_f32]

/-- Which source a grid point takes its rows from. -/
theorem sel : ∀ t : Fin cfg0.N, Scalar.cmpi .slt (BitVec.ofNat 32 (grid0.coords t 0).val) 32#32 = if t.val < 96 then 1#1 else 0#1 :=
  (by decide +kernel : ∀ t : Fin grid0.N, _)

end Cert.InprojIdeal.Arr
-- ==== Proof.InprojEntry.lean ====
module
public import proofs.«01_k».proof.Proof.InprojPay
public import Idealize.ShloMosaic.Lib.KernelVsHost
@[expose] public section
set_option maxRecDepth 16384
noncomputable section

/-! What the host lines in front of the input projection leave in the buffers its windows read. -/

namespace Cert.InprojIdeal.Arr
open Cert.InprojIdeal Cert.InprojIdeal.Gen Cert.InprojIdeal.Body Idealize.ShloMosaic Idealize.ShloMosaic.TcCoe Idealize.SL.Sem

variable (m : (ℓ : Loc nD τ sig) → Buf (Elt Ideal) ℓ) (c : Dev nD)

/-- The latent rows, one below the other. -/
theorem V_v5 : (V m c main_v5 : Vec Ideal S16384x2048 .f32)
    = shapeCast S16384x2048 (m ((c : Thread nD τ).loc main_arg0) : Vec Ideal S4x4096x2048 .f32) shapeCasts_S4x4096x2048_S16384x2048 := by
  unfold V
  simp only [hostOps0, hostOps0_1, hostOps0_2, List.flatten_cons, List.flatten_nil, List.append_nil, List.cons_append, List.nil_append]
  entry_read
  first | done | rfl

/-- The context rows, one below the other. -/
theorem V_v6 : (V m c main_v6 : Vec Ideal S1024x2048 .f32)
    = shapeCast S1024x2048 (m ((c : Thread nD τ).loc main_arg1) : Vec Ideal S4x256x2048 .f32) shapeCasts_S4x256x2048_S1024x2048 := by
  unfold V
  simp only [hostOps0, hostOps0_1, hostOps0_2, List.flatten_cons, List.flatten_nil, List.append_nil, List.cons_append, List.nil_append]
  entry_read
  first | done | rfl

/-- The gain. -/
theorem V_v7 : (V m c main_v7 : Vec Ideal S1x2048 .f32)
    = shapeCast S1x2048 (m ((c : Thread nD τ).loc main_arg3) : Vec Ideal S2048 .f32) shapeCasts_S2048_S1x2048 := by
  unfold V
  simp only [hostOps0, hostOps0_1, hostOps0_2, List.flatten_cons, List.flatten_nil, List.append_nil, List.cons_append, List.nil_append]
  entry_read
  first | done | rfl

/-- The modulation. -/
theorem V_v8 : (V m c main_v8 : Vec Ideal S8x1x12288 .f32)
    = shapeCast S8x1x12288 (m ((c : Thread nD τ).loc main_arg2) : Vec Ideal S8x12288 .f32) shapeCasts_S8x12288_S8x1x12288 := by
  unfold V
  simp only [hostOps0, hostOps0_1, hostOps0_2, List.flatten_cons, List.flatten_nil, List.append_nil, List.cons_append, List.nil_append]
  entry_read
  first | done | rfl

/-- The weights of the queries, keys, values and output gates. -/
theorem V_v1 : (V m c main_v1 : Vec Ideal S2048x6144 .bf16)
    = (truncf (F := Ideal) .bf16 (extractStridedSlice (α := Elt Ideal .f32) S2048x6144 ![0, 0] (m ((c : Thread nD τ).loc main_arg4)) slices_S2048x6176_S2048x6144_0_0)
        bitsLt_bf16_f32 : Vec Ideal S2048x6144 .bf16) := by
  unfold V
  simp only [hostOps0, hostOps0_1, hostOps0_2, List.flatten_cons, List.flatten_nil, List.append_nil, List.cons_append, List.nil_append]
  entry_read
  first | done | rfl

/-- The weights of the gates, padded with zeros. -/
theorem V_v4 : (V m c main_v4 : Vec Ideal S2048x128 .bf16)
    = (truncf (F := Ideal) .bf16 (pad S2048x128 ![0, 0] ![0, 96] ![0, 0]
        (extractStridedSlice (α := Elt Ideal .f32) S2048x32 ![0, 6144] (m ((c : Thread nD τ).loc main_arg4)) slices_S2048x6176_S2048x32_0_6144)
        (sitofp (F := Ideal) .f32 (constantI S_ 32 0#32)) pads_S2048x32_S2048x128_000_0960 h_S_) bitsLt_bf16_f32 : Vec Ideal S2048x128 .bf16) := by
  unfold V
  simp only [hostOps0, hostOps0_1, hostOps0_2, List.flatten_cons, List.flatten_nil, List.append_nil, List.cons_append, List.nil_append]
  entry_read
  first | done | rfl

section
/-- A row of the stacked latent rows. -/
theorem cast_lat (x : Vec Ideal S4x4096x2048 .f32) (i : Fin 16384) (e : Fin 2048) :
    shapeCast S16384x2048 x shapeCasts_S4x4096x2048_S16384x2048 (ix2 i e) = x (ix3 ⟨i.val / 4096, by omega⟩ ⟨i.val % 4096, by omega⟩ e) := by
  pointwise

/-- A row of the stacked context rows. -/
theorem cast_ctx (x : Vec Ideal S4x256x2048 .f32) (i : Fin 1024) (e : Fin 2048) :
    shapeCast S1024x2048 x shapeCasts_S4x256x2048_S1024x2048 (ix2 i e) = x (ix3 ⟨i.val / 256, by omega⟩ ⟨i.val % 256, by omega⟩ e) := by
  pointwise

/-- The gain as a row. -/
theorem cast_gain (x : Vec Ideal S2048 .f32) (e : Fin 2048) : shapeCast S1x2048 x shapeCasts_S2048_S1x2048 (ix2 0 e) = x (ix1 e) := by
  pointwise

/-- The modulation with a unit axis. -/
theorem cast_mod (x : Vec Ideal S8x12288 .f32) (i : Fin 8) (e : Fin 12288) :
    shapeCast S8x1x12288 x shapeCasts_S8x12288_S8x1x12288 (ix3 i 0 e) = x (ix2 i e) := by
  pointwise

/-- The first 6144 columns of the weights. -/
theorem cast_main (x : Vec Ideal S2048x6176 .f32) (i : Fin 2048) (e : Fin 6144) :
    (truncf (F := Ideal) .bf16 (extractStridedSlice (α := Elt Ideal .f32) S2048x6144 ![0, 0] x slices_S2048x6176_S2048x6144_0_0) bitsLt_bf16_f32
      : Vec Ideal S2048x6144 .bf16) (ix2 i e) = x (ix2 i ⟨e.val, by omega⟩) := by
  pointwise

/-- The last 32 columns of the weights, with 96 zero columns after them. -/
theorem cast_gates (x : Vec Ideal S2048x6176 .f32) (i : Fin 2048) (e : Fin 128) :
    (truncf (F := Ideal) .bf16 (pad S2048x128 ![0, 0] ![0, 96] ![0, 0]
        (extractStridedSlice (α := Elt Ideal .f32) S2048x32 ![0, 6144] x slices_S2048x6176_S2048x32_0_6144)
        (sitofp (F := Ideal) .f32 (constantI S_ 32 0#32)) pads_S2048x32_S2048x128_000_0960 h_S_) bitsLt_bf16_f32 : Vec Ideal S2048x128 .bf16) (ix2 i e)
      = if h : e.val < 32 then x (ix2 i ⟨6144 + e.val, by omega⟩) else (0 : EReal) := by
  have hz : (FloatOps.sitofp (F := Ideal) FTy.f32 0#32 : EReal) = 0 := sitofp_zero
  pointwise [hz]
end

/-- The same, read at an index. -/
theorem at_v5 (i : Fin 16384) (e : Fin 2048) : (V m c main_v5 : Vec Ideal S16384x2048 .f32) (ix2 i e)
    = (m ((c : Thread nD τ).loc main_arg0) : Vec Ideal S4x4096x2048 .f32) (ix3 ⟨i.val / 4096, by omega⟩ ⟨i.val % 4096, by omega⟩ e) :=
  (congrFun (V_v5 m c) _).trans (cast_lat _ i e)

/-- The same, read at an index. -/
theorem at_v6 (i : Fin 1024) (e : Fin 2048) : (V m c main_v6 : Vec Ideal S1024x2048 .f32) (ix2 i e)
    = (m ((c : Thread nD τ).loc main_arg1) : Vec Ideal S4x256x2048 .f32) (ix3 ⟨i.val / 256, by omega⟩ ⟨i.val % 256, by omega⟩ e) :=
  (congrFun (V_v6 m c) _).trans (cast_ctx _ i e)

/-- The same, read at an index. -/
theorem at_v7 (e : Fin 2048) : (V m c main_v7 : Vec Ideal S1x2048 .f32) (ix2 0 e)
    = (m ((c : Thread nD τ).loc main_arg3) : Vec Ideal S2048 .f32) (ix1 e) :=
  (congrFun (V_v7 m c) _).trans (cast_gain _ e)

/-- The same, read at an index. -/
theorem at_v8 (i : Fin 8) (e : Fin 12288) : (V m c main_v8 : Vec Ideal S8x1x12288 .f32) (ix3 i 0 e)
    = (m ((c : Thread nD τ).loc main_arg2) : Vec Ideal S8x12288 .f32) (ix2 i e) :=
  (congrFun (V_v8 m c) _).trans (cast_mod _ i e)

/-- The same, read at an index. -/
theorem at_v1 (i : Fin 2048) (e : Fin 6144) : (V m c main_v1 : Vec Ideal S2048x6144 .bf16) (ix2 i e)
    = (m ((c : Thread nD τ).loc main_arg4) : Vec Ideal S2048x6176 .f32) (ix2 i ⟨e.val, by omega⟩) :=
  (congrFun (V_v1 m c) _).trans (cast_main _ i e)

/-- The same, read at an index. -/
theorem at_v4 (i : Fin 2048) (e : Fin 128) : (V m c main_v4 : Vec Ideal S2048x128 .bf16) (ix2 i e)
    = if h : e.val < 32 then (m ((c : Thread nD τ).loc main_arg4) : Vec Ideal S2048x6176 .f32) (ix2 i ⟨6144 + e.val, by omega⟩) else (0 : EReal) :=
  (congrFun (V_v4 m c) _).trans (cast_gates _ i e)

end Cert.InprojIdeal.Arr
-- ==== Proof.InprojArr.lean ====
module
public import proofs.«01_k».proof.Proof.InprojEntry
@[expose] public section
set_option maxRecDepth 16384
noncomputable section

/-! The two arrays the input projection leaves, as functions of its arguments. -/

namespace Cert.InprojIdeal.Arr
open Cert.InprojIdeal Cert.InprojIdeal.Gen Cert.InprojIdeal.Body Idealize.ShloMosaic Idealize.ShloMosaic.TcCoe Idealize.SL.Sem
open Cert.FfnIdeal.Blk (irms)

/-- A row of the input: the latent rows first, then the context rows. -/
def src (X : Vec Ideal S4x4096x2048 .f32) (C : Vec Ideal S4x256x2048 .f32) (R : Fin 17408) (e : Fin 2048) : EReal :=
  if R.val < 16384 then X (ix3 ⟨R.val / 4096 % 4, by omega⟩ ⟨R.val % 4096, by omega⟩ e)
  else C (ix3 ⟨(R.val - 16384) / 256, by omega⟩ ⟨(R.val - 16384) % 256, by omega⟩ e)

/-- A row from the context. -/
theorem src_hi (X : Vec Ideal S4x4096x2048 .f32) (C : Vec Ideal S4x256x2048 .f32) (R : Fin 17408) (e : Fin 2048) (b : Fin 4) (s : Fin 256)
    (h : R.val = 16384 + b.val * 256 + s.val) : src X C R e = C (ix3 b s e) := by
  unfold src
  rw [if_neg (by omega)]
  have h0 : ∀ p, (⟨(R.val - 16384) / 256, p⟩ : Fin 4) = b := fun p => Fin.ext (by show (R.val - 16384) / 256 = b.val; omega)
  have h1 : ∀ p, (⟨(R.val - 16384) % 256, p⟩ : Fin 256) = s := fun p => Fin.ext (by show (R.val - 16384) % 256 = s.val; omega)
  rw [h0, h1]

/-- The modulated norm of a row. -/
def hin (X : Vec Ideal S4x4096x2048 .f32) (C : Vec Ideal S4x256x2048 .f32) (M : Vec Ideal S8x12288 .f32) (g : Vec Ideal S2048 .f32)
    (R : Fin 17408) (d : Fin 2048) : EReal :=
  src X C R d * irms (src X C R) * (g (ix1 d) * (1 + M (ix2 ⟨R.val / 4096, by omega⟩ ⟨2048 + d.val, by omega⟩)))
    + M (ix2 ⟨R.val / 4096, by omega⟩ ⟨d.val, by omega⟩)

/-- Its product with column `n` of the weights. -/
def mix (X : Vec Ideal S4x4096x2048 .f32) (C : Vec Ideal S4x256x2048 .f32) (M : Vec Ideal S8x12288 .f32) (g : Vec Ideal S2048 .f32)
    (W : Vec Ideal S2048x6176 .f32) (R : Fin 17408) (n : Fin 6176) : EReal :=
  ∑ d : Fin 2048, hin X C M g R d * W (ix2 d n)

/-- The queries, keys, values and output gates, element by element. -/
def G (X : Vec Ideal S4x4096x2048 .f32) (C : Vec Ideal S4x256x2048 .f32) (M : Vec Ideal S8x12288 .f32) (g : Vec Ideal S2048 .f32)
    (W : Vec Ideal S2048x6176 .f32) : Vec Ideal S17408x6144 .bf16 := fun i =>
  mix X C M g W (i 0) ⟨(i 1).val, by have h : (i 1).val < 6144 := (i 1).isLt; omega⟩

/-- The gates of the recurrence, element by element: 32 columns, then zeros. -/
def H (X : Vec Ideal S4x4096x2048 .f32) (C : Vec Ideal S4x256x2048 .f32) (M : Vec Ideal S8x12288 .f32) (g : Vec Ideal S2048 .f32)
    (W : Vec Ideal S2048x6176 .f32) : Vec Ideal S17408x128 .f32 := fun i =>
  if h : (i 1).val < 32 then mix X C M g W (i 0) ⟨6144 + (i 1).val, by omega⟩ else 0

/-- The second result, read at an index. -/
theorem H_at (X : Vec Ideal S4x4096x2048 .f32) (C : Vec Ideal S4x256x2048 .f32) (M : Vec Ideal S8x12288 .f32) (g : Vec Ideal S2048 .f32)
    (W : Vec Ideal S2048x6176 .f32) (R : Fin 17408) (e : Fin 128) :
    H X C M g W (ix2 R e) = if h : e.val < 32 then mix X C M g W R ⟨6144 + e.val, by omega⟩ else 0 := rfl

/-- The block each window takes at a grid point. -/
theorem idx : ∀ t : Fin cfg0.N,
    (t.val < 96 → win0_0.index t = ![t.val / 3, 0]) ∧ (96 ≤ t.val → win0_1.index t = ![t.val / 3 - 32, 0]) ∧ win0_2.index t = ![0, 0]
    ∧ win0_3.index t = ![t.val / 24, 0, 0] ∧ win0_4.index t = ![t.val / 24, 0, 1] ∧ win0_5.index t = ![0, t.val % 3]
    ∧ win0_6.index t = ![0, 0] ∧ win0_7.index t = ![t.val / 3, t.val % 3] ∧ win0_8.index t = ![t.val / 3, 0] :=
  (by decide +kernel : ∀ t : Fin grid0.N, _)

section
variable (m : (ℓ : Loc nD τ sig) → Buf (Elt Ideal) ℓ) (c : Dev nD) (t : Fin cfg0.N)

/-- The number of grid points. -/
theorem t_lt : t.val < 102 := lt_of_lt_of_eq t.isLt N_0

/-- The point at which a row block begins. -/
theorem first_val : (first t).val = t.val - t.val % 3 := rfl

/-- The latent rows a grid point reads. -/
theorem blk0 (ht : t.val < 96) (i : Fin 512) (e : Fin 2048) (h0 h1) : (iblk m c 0 t : Vec Ideal S512x2048 .f32) (ix2 i e)
    = (m ((c : Thread nD τ).loc main_arg0) : Vec Ideal S4x4096x2048 .f32)
      (ix3 ⟨(t.val / 3 * 512 + i.val) / 4096, h0⟩ ⟨(t.val / 3 * 512 + i.val) % 4096, h1⟩ e) := by
  obtain ⟨e0, -⟩ := idx t
  have e0 := e0 ht
  refine Eq.trans ?_ (at_v5 m c ⟨t.val / 3 * 512 + i.val, by omega⟩ e)
  blk_ext [iblk, e0]

/-- The context rows a grid point reads. -/
theorem blk1 (ht : 96 ≤ t.val) (i : Fin 512) (e : Fin 2048) (h0 h1) : (iblk m c 1 t : Vec Ideal S512x2048 .f32) (ix2 i e)
    = (m ((c : Thread nD τ).loc main_arg1) : Vec Ideal S4x256x2048 .f32)
      (ix3 ⟨((t.val / 3 - 32) * 512 + i.val) / 256, h0⟩ ⟨((t.val / 3 - 32) * 512 + i.val) % 256, h1⟩ e) := by
  obtain ⟨-, e0, -⟩ := idx t
  have e0 := e0 ht
  have := t_lt t
  refine Eq.trans ?_ (at_v6 m c ⟨(t.val / 3 - 32) * 512 + i.val, by omega⟩ e)
  blk_ext [iblk, e0]

/-- The gain. -/
theorem blk2 (e : Fin 2048) : (iblk m c 2 t : Vec Ideal S1x2048 .f32) (ix2 0 e)
    = (m ((c : Thread nD τ).loc main_arg3) : Vec Ideal S2048 .f32) (ix1 e) := by
  obtain ⟨-, -, e0, -⟩ := idx t
  refine Eq.trans ?_ (at_v7 m c e)
  blk_ext [iblk, e0]

/-- The shift of the batch entry a grid point works on. -/
theorem blk3 (e : Fin 2048) (h0 h1) : (iblk m c 3 t : Vec Ideal S1x1x2048 .f32) (ix3 0 0 e)
    = (m ((c : Thread nD τ).loc main_arg2) : Vec Ideal S8x12288 .f32) (ix2 ⟨t.val / 24, h0⟩ ⟨e.val, h1⟩) := by
  obtain ⟨-, -, -, e0, -⟩ := idx t
  refine Eq.trans ?_ (at_v8 m c ⟨t.val / 24, h0⟩ ⟨e.val, h1⟩)
  blk_ext [iblk, e0]

/-- The scale of the batch entry a grid point works on. -/
theorem blk4 (e : Fin 2048) (h0 h1) : (iblk m c 4 t : Vec Ideal S1x1x2048 .f32) (ix3 0 0 e)
    = (m ((c : Thread nD τ).loc main_arg2) : Vec Ideal S8x12288 .f32) (ix2 ⟨t.val / 24, h0⟩ ⟨2048 + e.val, h1⟩) := by
  obtain ⟨-, -, -, -, e0, -⟩ := idx t
  refine Eq.trans ?_ (at_v8 m c ⟨t.val / 24, h0⟩ ⟨2048 + e.val, h1⟩)
  blk_ext [iblk, e0]

/-- The columns of the weights a grid point reads. -/
theorem blk5 (i e : Fin 2048) (h1) : (iblk m c 5 t : Vec Ideal S2048x2048 .bf16) (ix2 i e)
    = (m ((c : Thread nD τ).loc main_arg4) : Vec Ideal S2048x6176 .f32) (ix2 i ⟨t.val % 3 * 2048 + e.val, h1⟩) := by
  obtain ⟨-, -, -, -, -, e0, -⟩ := idx t
  refine Eq.trans ?_ (at_v1 m c i ⟨t.val % 3 * 2048 + e.val, by omega⟩)
  blk_ext [iblk, e0]

/-- The weights of the gates, padded with zeros. -/
theorem blk6 (i : Fin 2048) (e : Fin 128) : (iblk m c 6 t : Vec Ideal S2048x128 .bf16) (ix2 i e)
    = if h : e.val < 32 then (m ((c : Thread nD τ).loc main_arg4) : Vec Ideal S2048x6176 .f32) (ix2 i ⟨6144 + e.val, by omega⟩) else (0 : EReal) := by
  obtain ⟨-, -, -, -, -, -, e0, -⟩ := idx t
  refine Eq.trans ?_ (at_v4 m c i e)
  blk_ext [iblk, e0]

/-- The normalised rows of a grid point. -/
theorem rows_at (r : Fin 512) (d : Fin 2048) (R : Fin 17408) (hR : R.val = t.val / 3 * 512 + r.val) :
    (rows m c t : Vec Ideal S512x2048 .bf16) (ix2 r d)
      = hin (m ((c : Thread nD τ).loc main_arg0)) (m ((c : Thread nD τ).loc main_arg1)) (m ((c : Thread nD τ).loc main_arg2))
        (m ((c : Thread nD τ).loc main_arg3)) R d := by
  have ht := t_lt t
  have hr := r.isLt
  have hf := first_val t
  have h3 : (first t).val / 3 = t.val / 3 := by omega
  have hb : R.val / 4096 = (first t).val / 24 := by omega
  unfold rows hin
  by_cases h : (first t).val < 96
  · have hx : ∀ k : Fin 2048, (iblk m c 0 (first t) : Vec Ideal S512x2048 .f32) (ix2 r k)
        = src (m ((c : Thread nD τ).loc main_arg0)) (m ((c : Thread nD τ).loc main_arg1)) R k := fun k => by
      unfold src
      rw [if_pos (by omega)]
      refine (blk0 m c (first t) h r k (by omega) (by omega)).trans (congrArg _ (funext fun a => Fin.ext ?_))
      match a with
      | ⟨0, _⟩ => simp only [ix3]; omega
      | ⟨1, _⟩ => simp only [ix3]; omega
      | ⟨2, _⟩ => rfl
    rw [pay3_lat _ _ _ _ _ _ _ _ ((sel (first t)).trans (if_pos h))]
    rw [blk2, blk3 m c (first t) d (by omega) (by omega), blk4 m c (first t) d (by omega) (by omega)]
    simp only [hx, hb]
  · have hx : ∀ k : Fin 2048, (iblk m c 1 (first t) : Vec Ideal S512x2048 .f32) (ix2 r k)
        = src (m ((c : Thread nD τ).loc main_arg0)) (m ((c : Thread nD τ).loc main_arg1)) R k := fun k => by
      exact (blk1 m c (first t) (by omega) r k (by omega) (by omega)).trans
        (src_hi _ _ R k ⟨(((first t).val / 3 - 32) * 512 + r.val) / 256, by omega⟩ ⟨(((first t).val / 3 - 32) * 512 + r.val) % 256, by omega⟩ (by dsimp only; omega)).symm
    rw [pay3_ctx _ _ _ _ _ _ _ _ ((sel (first t)).trans (if_neg h))]
    rw [blk2, blk3 m c (first t) d (by omega) (by omega), blk4 m c (first t) d (by omega) (by omega)]
    simp only [hx, hb]

/-- The block of the first result that a grid point stores. -/
theorem out_at (r : Fin 512) (e : Fin 2048) (R : Fin 17408) (hR : R.val = t.val / 3 * 512 + r.val) (n : Fin 6144) (hn : n.val = t.val % 3 * 2048 + e.val) :
    ((dats m 0 c).after 7 t : Vec Ideal S512x2048 .bf16) (ix2 r e)
      = G (m ((c : Thread nD τ).loc main_arg0)) (m ((c : Thread nD τ).loc main_arg1)) (m ((c : Thread nD τ).loc main_arg2))
        (m ((c : Thread nD τ).loc main_arg3)) (m ((c : Thread nD τ).loc main_arg4)) (ix2 R n) := by
  rw [after_7]
  unfold Body.proj G mix
  rw [pay2]
  simp only [fun d => rows_at m c t r d R hR, fun d => blk5 m c t d e (by omega)]
  simp only [ix2, hn]

/-- The block of the second result that a row block leaves. -/
theorem gates_at (r : Fin 512) (e : Fin 128) (R : Fin 17408) (hR : R.val = t.val / 3 * 512 + r.val) :
    ((dats m 0 c).after 8 t : Vec Ideal S512x128 .f32) (ix2 r e)
      = H (m ((c : Thread nD τ).loc main_arg0)) (m ((c : Thread nD τ).loc main_arg1)) (m ((c : Thread nD τ).loc main_arg2))
        (m ((c : Thread nD τ).loc main_arg3)) (m ((c : Thread nD τ).loc main_arg4)) (ix2 R e) := by
  rw [after_8]
  rw [H_at]
  unfold Body.gates mix
  rw [pay1]
  simp only [fun d => rows_at m c t r d R hR, fun d => blk6 m c (first t) d e]
  by_cases h : e.val < 32
  · simp only [h, dif_pos]
  · simp only [h, dif_neg, not_false_eq_true, mul_zero, Finset.sum_const_zero]

/-- The first array the kernel leaves. -/
theorem arr_eq : (dats m 0 c).arrAt 7 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  have ht := t_lt t
  obtain ⟨-, -, -, -, -, -, -, e7, -⟩ := idx t
  have e0 : ((((cfg0.win 7).blk t).view.emb y) (0 : Fin 2) : ℕ) = t.val / 3 * 512 + (y (0 : Fin 2)).val := by
    blk_simp [e7]
  have e1 : ((((cfg0.win 7).blk t).view.emb y) (1 : Fin 2) : ℕ) = t.val % 3 * 2048 + (y (1 : Fin 2)).val := by
    blk_simp [e7]
  have h0 : (y (0 : Fin 2)).val < 512 := (y 0).isLt
  have h1 : (y (1 : Fin 2)).val < 2048 := (y 1).isLt
  blk_simp
  have key := out_at m c t ⟨(y (0 : Fin 2)).val, h0⟩ ⟨(y (1 : Fin 2)).val, h1⟩
    ⟨t.val / 3 * 512 + (y (0 : Fin 2)).val, by omega⟩ rfl ⟨t.val % 3 * 2048 + (y (1 : Fin 2)).val, by omega⟩ rfl
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

/-- The second array the kernel leaves. -/
theorem arr_eq_gates : (dats m 0 c).arrAt 8 cfg0.N
    = H (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have ht := t_lt t
  obtain ⟨-, -, -, -, -, -, -, -, e8⟩ := idx t
  have e0 : ((((cfg0.win 8).blk t).view.emb y) (0 : Fin 2) : ℕ) = t.val / 3 * 512 + (y (0 : Fin 2)).val := by
    blk_simp [e8]
  have e1 : ((((cfg0.win 8).blk t).view.emb y) (1 : Fin 2) : ℕ) = (y (1 : Fin 2)).val := by
    blk_simp [e8]
  have h0 : (y (0 : Fin 2)).val < 512 := (y 0).isLt
  have h1 : (y (1 : Fin 2)).val < 128 := (y 1).isLt
  blk_simp
  have key := gates_at m c t ⟨(y (0 : Fin 2)).val, h0⟩ ⟨(y (1 : Fin 2)).val, h1⟩
    ⟨t.val / 3 * 512 + (y (0 : Fin 2)).val, by omega⟩ rfl
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

end
end Cert.InprojIdeal.Arr
-- ==== Proof.InprojRef.lean ====
module
public import proofs.«01_k».proof.Proof.InprojArr
public import proofs.«01_k».proof.Proof.Gen.InprojRefIdeal.Read
@[expose] public section
set_option maxRecDepth 16384
noncomputable section

/-! The results of the reference of the input projection, element by element. -/

namespace Cert.InprojRefIdeal.Val
open Cert.InprojRefIdeal Cert.InprojRefIdeal.Gen Cert.InprojRefIdeal.Read Idealize.ShloMosaic Idealize.ShloMosaic.TcCoe Idealize.SL.Sem
open Cert.InprojIdeal.Arr (src hin mix G H)
open Cert.FfnIdeal.Blk (irms)

variable (x0 : Vec Ideal S4x4096x2048 .f32) (x1 : Vec Ideal S4x256x2048 .f32) (x2 : Vec Ideal S8x12288 .f32) (x3 : Vec Ideal S2048 .f32)
  (x4 : Vec Ideal S2048x6176 .f32)

/-- A latent row. -/
theorem src_lat (b : Fin 4) (s : Fin 4096) (d : Fin 2048) (R : Fin 17408) (hR : R.val = b.val * 4096 + s.val) :
    src x0 x1 R d = x0 (ix3 b s d) := by
  unfold src
  rw [if_pos (by omega)]
  refine congrArg x0 (funext fun a => Fin.ext ?_)
  match a with
  | ⟨0, _⟩ => simp only [ix3]; omega
  | ⟨1, _⟩ => simp only [ix3]; omega
  | ⟨2, _⟩ => rfl

/-- A context row. -/
theorem src_ctx (b : Fin 4) (s : Fin 256) (d : Fin 2048) (R : Fin 17408) (hR : R.val = 16384 + b.val * 256 + s.val) :
    src x0 x1 R d = x1 (ix3 b s d) := Cert.InprojIdeal.Arr.src_hi x0 x1 R d b s hR

/-- The shift of a latent row. -/
theorem shift_lat (b : Fin 4) (d : Fin 2048) (R : Fin 17408) (hR : R.val / 4096 = b.val) :
    val_main_v2 (F := Ideal) x2 (ix3 b 0 d) = x2 (ix2 ⟨R.val / 4096, by omega⟩ ⟨d.val, by omega⟩) := by
  rw [val_main_v2_apply, val_main_v1_apply, val_main_v0_apply]
  refine congrArg x2 (funext fun a => Fin.ext ?_)
  match a with
  | ⟨0, _⟩ => exact hR.symm
  | ⟨1, _⟩ => simp only [ix2, ix3]

/-- The scale of a latent row. -/
theorem scale_lat (b : Fin 4) (d : Fin 2048) (R : Fin 17408) (hR : R.val / 4096 = b.val) :
    val_main_v3 (F := Ideal) x2 (ix3 b 0 d) = x2 (ix2 ⟨R.val / 4096, by omega⟩ ⟨2048 + d.val, by omega⟩) := by
  rw [val_main_v3_apply, val_main_v1_apply, val_main_v0_apply]
  refine congrArg x2 (funext fun a => Fin.ext ?_)
  match a with
  | ⟨0, _⟩ => exact hR.symm
  | ⟨1, _⟩ => simp only [ix2, ix3]

/-- The inverse root mean square of a latent row. -/
theorem norm_lat (b : Fin 4) (s : Fin 4096) : val_main_v23 (F := Ideal) x0 (ix3 b s 0) = irms (fun k => x0 (ix3 b s k)) := by
  unfold val_main_v23 val_main_v22 val_main_v21 val_main_v20 val_main_v19 val_main_v18 val_main_v17 val_main_v16 irms
  pointwise [val_main_cst, val_main_cst_0, val_main_cst_1, Ideal.ofBits_zero_f32, zero_add]

/-- The modulated norm of a latent row. -/
theorem input_lat (b : Fin 4) (s : Fin 4096) (d : Fin 2048) (R : Fin 17408) (hR : R.val = b.val * 4096 + s.val) :
    val_main_v34 (F := Ideal) x0 x2 x3 (ix3 b s d) = hin x0 x1 x2 x3 R d := by
  have hn := norm_lat x0 b s
  have hs := shift_lat x2 b d R (by omega)
  have hc := scale_lat x2 b d R (by omega)
  have h1 := fun d => src_lat x0 x1 b s d R hR
  have h2 : src x0 x1 R = fun k => x0 (ix3 b s k) := funext h1
  unfold hin
  rw [h2]
  unfold val_main_v34 val_main_v33 val_main_v32 val_main_v31 val_main_v30 val_main_v29 val_main_v28 val_main_v27 val_main_v26 val_main_v25 val_main_v24
  generalize val_main_v23 (F := Ideal) x0 = q at hn
  generalize val_main_v2 (F := Ideal) x2 = u at hs
  generalize val_main_v3 (F := Ideal) x2 = v at hc
  pointwise [hn, hs, hc, val_main_cst_2, Ideal.ofBits_one_f32]
  rw [← mul_assoc]

/-- The projection of a latent row. -/
theorem mixed_lat (b : Fin 4) (s : Fin 4096) (n : Fin 6176) (R : Fin 17408) (hR : R.val = b.val * 4096 + s.val) :
    val_main_v35 (F := Ideal) x0 x2 x3 x4 (ix3 b s n) = mix x0 x1 x2 x3 x4 R n := by
  have h0 := fun d => input_lat x0 x1 x2 x3 b s d R hR
  unfold val_main_v35 mix
  generalize val_main_v34 (F := Ideal) x0 x2 x3 = p at h0
  pointwise [h0]

/-- The shift of the context rows. -/
theorem shift_ctx (d : Fin 2048) (R : Fin 17408) (hR : R.val / 4096 = 4) :
    val_main_v10 (F := Ideal) x2 (ix1 d) = x2 (ix2 ⟨R.val / 4096, by omega⟩ ⟨d.val, by omega⟩) := by
  rw [val_main_v10_apply, val_main_v9_apply, val_main_v8_apply]
  refine congrArg x2 (funext fun a => Fin.ext ?_)
  match a with
  | ⟨0, _⟩ => simp only [ix1, ix2]; dsimp; omega
  | ⟨1, _⟩ => simp only [ix1, ix2]; dsimp; omega

/-- The scale of the context rows. -/
theorem scale_ctx (d : Fin 2048) (R : Fin 17408) (hR : R.val / 4096 = 4) :
    val_main_v11 (F := Ideal) x2 (ix1 d) = x2 (ix2 ⟨R.val / 4096, by omega⟩ ⟨2048 + d.val, by omega⟩) := by
  rw [val_main_v11_apply, val_main_v9_apply, val_main_v8_apply]
  refine congrArg x2 (funext fun a => Fin.ext ?_)
  match a with
  | ⟨0, _⟩ => simp only [ix1, ix2]; dsimp; omega
  | ⟨1, _⟩ => simp only [ix1, ix2]; dsimp; omega

/-- The inverse root mean square of a context row. -/
theorem norm_ctx (b : Fin 4) (s : Fin 256) : val_main_v43 (F := Ideal) x1 (ix3 b s 0) = irms (fun k => x1 (ix3 b s k)) := by
  unfold val_main_v43 val_main_v42 val_main_v41 val_main_v40 val_main_v39 val_main_v38 val_main_v37 val_main_v36 irms
  pointwise [val_main_cst_3, val_main_cst_4, val_main_cst_5, Ideal.ofBits_zero_f32, zero_add]

/-- The modulated norm of a context row. -/
theorem input_ctx (b : Fin 4) (s : Fin 256) (d : Fin 2048) (R : Fin 17408) (hR : R.val = 16384 + b.val * 256 + s.val) :
    val_main_v56 (F := Ideal) x1 x2 x3 (ix3 b s d) = hin x0 x1 x2 x3 R d := by
  have hn := norm_ctx x1 b s
  have hs := shift_ctx x2 d R (by omega)
  have hc := scale_ctx x2 d R (by omega)
  have h1 := fun d => src_ctx x0 x1 b s d R hR
  have h2 : src x0 x1 R = fun k => x1 (ix3 b s k) := funext h1
  unfold hin
  rw [h2]
  unfold val_main_v56 val_main_v55 val_main_v54 val_main_v53 val_main_v52 val_main_v51 val_main_v50 val_main_v49 val_main_v48 val_main_v47 val_main_v46 val_main_v45 val_main_v44
  generalize val_main_v43 (F := Ideal) x1 = q at hn
  generalize val_main_v10 (F := Ideal) x2 = u at hs
  generalize val_main_v11 (F := Ideal) x2 = v at hc
  pointwise [hn, hs, hc, val_main_cst_6, Ideal.ofBits_one_f32]
  rw [← mul_assoc]

/-- The projection of a context row. -/
theorem mixed_ctx (b : Fin 4) (s : Fin 256) (n : Fin 6176) (R : Fin 17408) (hR : R.val = 16384 + b.val * 256 + s.val) :
    val_main_v57 (F := Ideal) x1 x2 x3 x4 (ix3 b s n) = mix x0 x1 x2 x3 x4 R n := by
  have h0 := fun d => input_ctx x0 x1 x2 x3 b s d R hR
  unfold val_main_v57 mix
  generalize val_main_v56 (F := Ideal) x1 x2 x3 = p at h0
  pointwise [h0]

/-- The projection of every row. -/
theorem mixed (R : Fin 17408) (n : Fin 6176) : val_main_v60 (F := Ideal) x0 x1 x2 x3 x4 (ix2 R n) = mix x0 x1 x2 x3 x4 R n := by
  have hl := fun b s => mixed_lat x0 x1 x2 x3 x4 b s n R
  have hc := fun b s => mixed_ctx x0 x1 x2 x3 x4 b s n R
  unfold val_main_v60 val_main_v59 val_main_v58
  generalize val_main_v35 (F := Ideal) x0 x2 x3 x4 = p at hl
  generalize val_main_v57 (F := Ideal) x1 x2 x3 x4 = q at hc
  have hR' := R.isLt
  pointwise
  split
  · next h =>
    refine Eq.trans (congrArg p (funext fun a => Fin.ext ?_)) (hl ⟨R.val / 4096, by omega⟩ ⟨R.val % 4096, by omega⟩ (by dsimp only; omega))
    match a with
    | ⟨0, _⟩ => simp only [ix3]
    | ⟨1, _⟩ => simp only [ix3]
    | ⟨2, _⟩ => simp only [ix3]
  · next h =>
    refine Eq.trans (congrArg q (funext fun a => Fin.ext ?_)) (hc ⟨(R.val - 16384) / 256, by omega⟩ ⟨R.val % 256, by omega⟩ (by dsimp only; omega))
    match a with
    | ⟨0, _⟩ => simp only [ix3]
    | ⟨1, _⟩ => simp only [ix3]; omega
    | ⟨2, _⟩ => simp only [ix3]

/-- The reference's first result. -/
theorem result : val_main_v63 (F := Ideal) x0 x1 x2 x3 x4 = G x0 x1 x2 x3 x4 := by
  funext i
  obtain ⟨R, e, rfl⟩ : ∃ (R : Fin 17408) (e : Fin 6144), i = ix2 R e := ⟨i 0, i 1, funext fun a => by match a with | ⟨0, _⟩ => rfl | ⟨1, _⟩ => rfl⟩
  have h0 := mixed x0 x1 x2 x3 x4 R
  unfold val_main_v63 val_main_v61 G
  generalize val_main_v60 (F := Ideal) x0 x1 x2 x3 x4 = p at h0
  pointwise [h0]

/-- The reference's second result. -/
theorem result_gates : val_main_v64 (F := Ideal) x0 x1 x2 x3 x4 = H x0 x1 x2 x3 x4 := by
  funext i
  obtain ⟨R, e, rfl⟩ : ∃ (R : Fin 17408) (e : Fin 128), i = ix2 R e := ⟨i 0, i 1, funext fun a => by match a with | ⟨0, _⟩ => rfl | ⟨1, _⟩ => rfl⟩
  have h0 := mixed x0 x1 x2 x3 x4 R
  unfold val_main_v64 val_main_v62 H
  generalize val_main_v60 (F := Ideal) x0 x1 x2 x3 x4 = p at h0
  have hz : (FloatOps.sitofp (F := Ideal) FTy.f32 0#32 : EReal) = 0 := sitofp_zero
  pointwise [h0, val_main_call0_v0, val_main_c, hz]

end Cert.InprojRefIdeal.Val
-- ==== Proof.InprojClaim.lean ====
module
public import proofs.«01_k».proof.Defs
public import proofs.«01_k».proof.Proof.InprojRef
public import proofs.«01_k».proof.Proof.Gen.InprojRefIdeal.Run
@[expose] public section
set_option maxRecDepth 16384
noncomputable section

/-! The matrix memory's input projection and its reference leave equal results. -/

namespace Cert.InprojProof
open Idealize.ShloMosaic Idealize.ShloMosaic.TcCoe Idealize.SL.Sem

/-- From memories with equal arguments, the kernel and the reference run and leave the same two arrays, the projection of the
    modulated norms and its gate columns, with the arguments kept. -/
theorem algebraic : Cert.algebraic_InprojIdeal_InprojRefIdeal
    (hInprojIdeal := Cert.InprojIdeal.Gen.facts) (hInprojRefIdeal := Cert.InprojRefIdeal.Gen.facts) := by
  intro m g m' g' _ hm
  refine ⟨fun c => Cert.InprojIdeal.Arr.G (m ((c : Thread Cert.InprojIdeal.nD Cert.InprojIdeal.τ).loc Cert.InprojIdeal.main_arg0))
      (m ((c : Thread Cert.InprojIdeal.nD Cert.InprojIdeal.τ).loc Cert.InprojIdeal.main_arg1))
      (m ((c : Thread Cert.InprojIdeal.nD Cert.InprojIdeal.τ).loc Cert.InprojIdeal.main_arg2))
      (m ((c : Thread Cert.InprojIdeal.nD Cert.InprojIdeal.τ).loc Cert.InprojIdeal.main_arg3))
      (m ((c : Thread Cert.InprojIdeal.nD Cert.InprojIdeal.τ).loc Cert.InprojIdeal.main_arg4)), fun c => Cert.InprojIdeal.Arr.H (m ((c : Thread Cert.InprojIdeal.nD Cert.InprojIdeal.τ).loc Cert.InprojIdeal.main_arg0))
      (m ((c : Thread Cert.InprojIdeal.nD Cert.InprojIdeal.τ).loc Cert.InprojIdeal.main_arg1))
      (m ((c : Thread Cert.InprojIdeal.nD Cert.InprojIdeal.τ).loc Cert.InprojIdeal.main_arg2))
      (m ((c : Thread Cert.InprojIdeal.nD Cert.InprojIdeal.τ).loc Cert.InprojIdeal.main_arg3))
      (m ((c : Thread Cert.InprojIdeal.nD Cert.InprojIdeal.τ).loc Cert.InprojIdeal.main_arg4)), ?_, ?_⟩
  · exact (θ_run _ _ _).mono (fun r h c => ⟨((h.1 c).1 7).trans (Cert.InprojIdeal.Arr.arr_eq m c), ((h.1 c).1 8).trans (Cert.InprojIdeal.Arr.arr_eq_gates m c), h.2 c⟩)
      (θ_run_and (Cert.InprojIdeal.Body.run_main m g) (Cert.InprojIdeal.Gen.frame_of m g (Cert.InprojIdeal.Body.dats m) (Cert.InprojIdeal.Body.A_eq m) (Cert.InprojIdeal.Body.run_main m g)))
  · refine (θ_run _ _ _).mono (fun r h c => ⟨(h c).1.trans ?_, (h c).2.1.trans ?_, (h c).2.2⟩) (Cert.InprojRefIdeal.Value.run m' g')
    · obtain ⟨e0, e1, e2, e3, e4⟩ := hm c
      rw [Cert.InprojRefIdeal.Read.val_main_v63_eq, Cert.InprojRefIdeal.Val.result]
      exact congr (congr (congr (congr (congrArg Cert.InprojIdeal.Arr.G e0) e1) e2) e3) e4
    · obtain ⟨e0, e1, e2, e3, e4⟩ := hm c
      rw [Cert.InprojRefIdeal.Read.val_main_v64_eq, Cert.InprojRefIdeal.Val.result_gates]
      exact congr (congr (congr (congr (congrArg Cert.InprojIdeal.Arr.H e0) e1) e2) e3) e4

end Cert.InprojProof
-- ==== Proof.MlstmOutPay.lean ====
module
public import proofs.«01_k».proof.Proof.FfnPay
public import proofs.«01_k».proof.Proof.Gen.MlstmOutIdeal.Frame
public import Idealize.ShloMosaic.Lib.Pipeline.ReadBack
@[expose] public section
set_option maxRecDepth 16384
noncomputable section

/-! The arithmetic of the matrix memory's output kernel at one grid point. -/

namespace Cert.MlstmOutIdeal.Arr
open Cert.MlstmOutIdeal Cert.MlstmOutIdeal.Gen Idealize.ShloMosaic Idealize.ShloMosaic.TcCoe Idealize.SL.Sem
open Cert.FfnIdeal.Blk (irms)

/-- The inverse root mean square of the 256 numbers of a head. -/
def irmsHead (f : Fin 256 → EReal) : EReal :=
  Ideal.rsqrt (Ideal.div (∑ k, f k * f k) (Ideal.ofBits .f32 0x43800000#32) + Ideal.ofBits .f32 0x358637BD#32)

/-- The logistic of a number. -/
def sigm (x : EReal) : EReal := Ideal.div 1 (1 + Ideal.exp (-x))

/-- One head's normed sum of the two directions, gated by the logistic of the output gate. -/
def head (a b : Vec Ideal S256x256 .f32) (g : Vec Ideal S1x256 .f32) (o : Vec Ideal S256x256 .bf16) (r j : Fin 256) : EReal :=
  sigm (o (ix2 r j)) * ((a (ix2 r j) + b (ix2 r j)) * irmsHead (fun k => a (ix2 r k) + b (ix2 r k)) * g (ix2 0 j))

section
variable (a b : Vec Ideal S256x256 .f32) (g : Vec Ideal S1x256 .f32) (o : Vec Ideal S256x256 .bf16) (r j : Fin 256)

theorem pay2 : k0_pay2 (F := Ideal) a b g o (ix2 r j) = head a b g o r j := by
  unfold k0_pay2 head irmsHead sigm
  pointwise [Ideal.ofBits_one_f32, Ideal.ofBits_zero_f32, zero_sub]

theorem pay5 : k0_pay5 (F := Ideal) (k0_pay3 (F := Ideal) a b) (k0_pay4 (F := Ideal) a b) g o (ix2 r j) = head a b g o r j := by
  unfold k0_pay5 k0_pay4 k0_pay3 head irmsHead sigm
  pointwise [Ideal.ofBits_one_f32, Ideal.ofBits_zero_f32, zero_sub]

theorem pay7 : k0_pay7 (F := Ideal) (k0_pay6 (F := Ideal) a b) g o (ix2 r j) = head a b g o r j := by
  unfold k0_pay7 k0_pay6 head irmsHead sigm
  pointwise [Ideal.ofBits_one_f32, Ideal.ofBits_zero_f32, zero_sub]

theorem pay10 : k0_pay10 (F := Ideal) (k0_pay8 (F := Ideal) a b g) (k0_pay9 (F := Ideal) o) (FloatOps.ofBits FTy.f32 1065353216#32) (ix2 r j)
    = head a b g o r j := by
  unfold k0_pay10 k0_pay9 k0_pay8 head irmsHead sigm
  pointwise [Ideal.ofBits_one_f32, Ideal.ofBits_zero_f32, zero_sub]

theorem pay11 : k0_pay11 (F := Ideal) a b g o (ix2 r j) = head a b g o r j := by
  unfold k0_pay11 head irmsHead sigm
  pointwise [Ideal.ofBits_one_f32, Ideal.ofBits_zero_f32, zero_sub]

theorem pay12 : k0_pay12 (F := Ideal) a b g o (ix2 r j) = head a b g o r j := by
  unfold k0_pay12 head irmsHead sigm
  pointwise [Ideal.ofBits_one_f32, Ideal.ofBits_zero_f32, zero_sub]

theorem pay15 : k0_pay15 (F := Ideal) (k0_pay13 (F := Ideal) a b) (k0_pay14 (F := Ideal) a b) g o (ix2 r j) = head a b g o r j := by
  unfold k0_pay15 k0_pay14 k0_pay13 head irmsHead sigm
  pointwise [Ideal.ofBits_one_f32, Ideal.ofBits_zero_f32, zero_sub]

theorem pay17 : k0_pay17 (F := Ideal) (k0_pay16 (F := Ideal) a b) g o (ix2 r j) = head a b g o r j := by
  unfold k0_pay17 k0_pay16 head irmsHead sigm
  pointwise [Ideal.ofBits_one_f32, Ideal.ofBits_zero_f32, zero_sub]

end

/-- The gated, normed sum of the two directions on a block of rows: column `d` lies in the head of number `d / 256`. -/
def act (A B : Vec Ideal S256x2048 .f32) (g : Vec Ideal S1x2048 .f32) (o : Vec Ideal S256x2048 .bf16) : Vec Ideal S256x2048 .bf16 := fun y =>
  sigm (o (ix2 (y 0) (y 1)))
    * ((A (ix2 (y 0) (y 1)) + B (ix2 (y 0) (y 1)))
      * irmsHead (fun k => A (ix2 (y 0) ⟨(y 1).val / 256 * 256 + k.val, by have h : (y 1).val < 2048 := (y 1).isLt; omega⟩)
        + B (ix2 (y 0) ⟨(y 1).val / 256 * 256 + k.val, by have h : (y 1).val < 2048 := (y 1).isLt; omega⟩))
      * g (ix2 0 (y 1)))

theorem act_apply (A B : Vec Ideal S256x2048 .f32) (g : Vec Ideal S1x2048 .f32) (o : Vec Ideal S256x2048 .bf16) (r : Fin 256) (d : Fin 2048) :
    act A B g o (ix2 r d) = sigm (o (ix2 r d)) * ((A (ix2 r d) + B (ix2 r d))
      * irmsHead (fun k => A (ix2 r ⟨d.val / 256 * 256 + k.val, by omega⟩) + B (ix2 r ⟨d.val / 256 * 256 + k.val, by omega⟩)) * g (ix2 0 d)) := rfl

/-- The head cut out of the blocks at column `n * 256` is those columns of `act`. -/
theorem head_ld (A B : Vec Ideal S256x2048 .f32) (g : Vec Ideal S1x2048 .f32) (o : Vec Ideal S256x2048 .bf16) (q : ℕ) (n : ℕ) (hq : q = n * 256)
    (hi : ∀ a, (![0, q] : Fin 2 → ℕ) a + (![256, 256] : Fin 2 → ℕ) a ≤ S256x2048.size a)
    (hg : ∀ a, (![0, q] : Fin 2 → ℕ) a + (![1, 256] : Fin 2 → ℕ) a ≤ S1x2048.size a) (r j : Fin 256) :
    head (View.ld A (Rect.unit ![0, q] ![256, 256] hi)) (View.ld B (Rect.unit ![0, q] ![256, 256] hi))
      (View.ld g (Rect.unit ![0, q] ![1, 256] hg)) (View.ld o (Rect.unit ![0, q] ![256, 256] hi)) r j
      = act A B g o ((Rect.unit (s := S256x2048) ![0, q] ![256, 256] hi).emb (ix2 r j)) := by
  subst hq
  have hn : n * 256 + 256 ≤ 2048 := hi 1
  have hj := j.isLt
  have c : ∀ k : Fin 256, (Rect.unit ![0, n * 256] ![256, 256] hi).idx (ix2 r k)
      = (ix2 r (⟨n * 256 + k.val, by omega⟩ : Fin 2048) : S256x2048.Idx) := fun k => funext fun a => Fin.ext <| by
    match a with
    | ⟨0, _⟩ => show 0 + 1 * r.val = r.val; omega
    | ⟨1, _⟩ => show n * 256 + 1 * k.val = n * 256 + k.val; omega
  have cg : (Rect.unit ![0, n * 256] ![1, 256] hg).idx (ix2 (0 : Fin 1) j)
      = (ix2 (0 : Fin 1) (⟨n * 256 + j.val, by omega⟩ : Fin 2048) : S1x2048.Idx) := funext fun a => Fin.ext <| by
    match a with
    | ⟨0, _⟩ => rfl
    | ⟨1, _⟩ => show n * 256 + 1 * j.val = n * 256 + j.val; omega
  have ce : (Rect.unit ![0, n * 256] ![256, 256] hi).emb (ix2 r j)
      = (ix2 r (⟨n * 256 + j.val, by omega⟩ : Fin 2048) : S256x2048.Idx) := c j
  have hd : (n * 256 + j.val) / 256 = n := by omega
  rw [ce]
  show sigm (o _) * ((A _ + B _) * irmsHead (fun k => A _ + B _) * g _) = _
  simp only [c, cg]
  unfold act
  simp only [ix2, hd]

/-- A piece of the scratch array, from the head it holds. -/
theorem piece (A B : Vec Ideal S256x2048 .f32) (g : Vec Ideal S1x2048 .f32) (o : Vec Ideal S256x2048 .bf16) (q : ℕ) (n : ℕ) (hq : q = n * 256)
    (hi : ∀ a, (![0, q] : Fin 2 → ℕ) a + (![256, 256] : Fin 2 → ℕ) a ≤ S256x2048.size a)
    (hg : ∀ a, (![0, q] : Fin 2 → ℕ) a + (![1, 256] : Fin 2 → ℕ) a ≤ S1x2048.size a) (p : Vec Ideal S256x256 .bf16)
    (hp : ∀ r j : Fin 256, p (ix2 r j) = head (View.ld A (Rect.unit ![0, q] ![256, 256] hi)) (View.ld B (Rect.unit ![0, q] ![256, 256] hi))
      (View.ld g (Rect.unit ![0, q] ![1, 256] hg)) (View.ld o (Rect.unit ![0, q] ![256, 256] hi)) r j) (x : S256x256.Idx) :
    p x = act A B g o ((Rect.unit (s := S256x2048) ![0, q] ![256, 256] hi).emb x) := by
  rw [eq_ix2 x]
  exact (hp (x 0) (x 1)).trans (head_ld A B g o q n hq hi hg (x 0) (x 1))

/-- Which source of the residual a grid point takes. -/
theorem sel : ∀ t : Fin cfg0.N, Scalar.cmpi .slt (BitVec.ofNat 32 (grid0.coords t 0).val) 64#32 = if t.val < 64 then 1#1 else 0#1 :=
  (by decide +kernel : ∀ t : Fin grid0.N, _)

/-- The product, its norm and the gated residual. -/
theorem pay1 (S : Vec Ideal S256x2048 .bf16) (w : Vec Ideal S2048x2048 .bf16) (x : Vec Ideal S256x2048 .f32) (gp : Vec Ideal S1x2048 .f32)
    (gt : Vec Ideal S1x1x2048 .f32) (r : Fin 256) (e : Fin 2048) :
    k0_pay1 (F := Ideal) (k0_pay18 (F := Ideal) S w) x (k0_pay20 (F := Ideal) gp) (k0_pay21 (F := Ideal) gt) (k0_pay22 (F := Ideal) S w)
        (k0_pay23 (F := Ideal)) (ix2 r e)
      = x (ix2 r e) + gt (ix3 0 0 e) * ((∑ d : Fin 2048, S (ix2 r d) * w (ix2 d e))
        * irms (fun k => ∑ d : Fin 2048, S (ix2 r d) * w (ix2 d k)) * gp (ix2 0 e)) := by
  unfold k0_pay1 k0_pay22 k0_pay23 k0_pay21 k0_pay20 k0_pay18 irms
  pointwise [Ideal.ofBits_one_f32, Ideal.ofBits_zero_f32]

variable (m : (ℓ : Loc nD τ sig) → Buf (Elt Ideal) ℓ) (c : Dev nD) (t : Fin cfg0.N)

/-- What a grid point stores. -/
theorem out_eq : (outsAt0 m c t : Vec Ideal S256x2048 .f32)
    = k0_pay1 (F := Ideal) (k0_pay18 (F := Ideal) (act (iblk m c 0 t) (iblk m c 1 t) (iblk m c 5 t) (iblk m c 2 t)) (iblk m c 8 t))
      (k0_pay19 (F := Ideal) (BitVec.ofNat 32 (grid0.coords t 0).val) (iblk m c 3 t) (iblk m c 4 t)) (k0_pay20 (F := Ideal) (iblk m c 6 t))
      (k0_pay21 (F := Ideal) (iblk m c 7 t))
      (k0_pay22 (F := Ideal) (act (iblk m c 0 t) (iblk m c 1 t) (iblk m c 5 t) (iblk m c 2 t)) (iblk m c 8 t)) (k0_pay23 (F := Ideal)) := by
  unfold outsAt0 out0_A_9
  frame_out
  generalize hS : View.readCov (Val := Elt Ideal) (View.whole cc0_scratch0) _ _ = S
  have hA : S = act (iblk m c 0 t) (iblk m c 1 t) (iblk m c 5 t) (iblk m c 2 t) := by
    rw [← hS, View.readCov_eq_canon']
    funext y
    have h0 : (y 0).val < 256 := (y 0).isLt
    have h1 : (y 1).val < 2048 := (y 1).isLt
    have mem : ∀ (o : ℕ) (inb : ∀ a, (![0, o] : Fin 2 → ℕ) a + S256x256.size a ≤ S256x2048.size a), (y 1).val / 256 * 256 = o →
        y ∈ (Rect.unit (s := S256x2048) ![0, o] S256x256.size inb).set := fun o inb e => by
      refine Rect.mem_set_unit.mpr fun a => ?_
      match a with
      | ⟨0, _⟩ => exact ⟨Nat.zero_le _, by show (y 0).val < 0 + 256; omega⟩
      | ⟨1, _⟩ => exact ⟨by show o ≤ (y 1).val; omega, by show (y 1).val < o + 256; omega⟩
    refine (congrArg _ (show _ = y from funext fun a => Fin.ext ?_)).trans
      (View.canon_apply_of_pieces (act (iblk m c 0 t) (iblk m c 1 t) (iblk m c 5 t) (iblk m c 2 t)) _ ?_ y ?_)
    · match a with
      | ⟨0, _⟩ => show 0 + 1 * (y 0).val = (y 0).val; omega
      | ⟨1, _⟩ => show 0 + 1 * (y 1).val = (y 1).val; omega
    · intro p hp
      simp only [List.mem_cons, List.not_mem_nil, or_false] at hp
      rcases hp with rfl | rfl | rfl | rfl | rfl | rfl | rfl | rfl
      · exact piece _ _ _ _ 1792 7 rfl _ inb_S1x2048_S1x256_0_1792 _ (pay17 _ _ _ _)
      · exact piece _ _ _ _ 1536 6 rfl _ inb_S1x2048_S1x256_0_1536 _ (pay15 _ _ _ _)
      · exact piece _ _ _ _ 1280 5 rfl _ inb_S1x2048_S1x256_0_1280 _ (pay12 _ _ _ _)
      · exact piece _ _ _ _ 1024 4 rfl _ inb_S1x2048_S1x256_0_1024 _ (pay11 _ _ _ _)
      · exact piece _ _ _ _ 768 3 rfl _ inb_S1x2048_S1x256_0_768 _ (pay10 _ _ _ _)
      · exact piece _ _ _ _ 512 2 rfl _ inb_S1x2048_S1x256_0_512 _ (pay7 _ _ _ _)
      · exact piece _ _ _ _ 256 1 rfl _ inb_S1x2048_S1x256_0_256 _ (pay5 _ _ _ _)
      · exact piece _ _ _ _ 0 0 rfl _ inb_S1x2048_S1x256_0_0 _ (pay2 _ _ _ _)
    · have hq : (y 1).val / 256 = 7 ∨ (y 1).val / 256 = 6 ∨ (y 1).val / 256 = 5 ∨ (y 1).val / 256 = 4 ∨ (y 1).val / 256 = 3
        ∨ (y 1).val / 256 = 2 ∨ (y 1).val / 256 = 1 ∨ (y 1).val / 256 = 0 := by omega
      rcases hq with h | h | h | h | h | h | h | h
      · exact ⟨_, List.mem_cons_self,
          mem 1792 inb_S256x2048_S256x256_0_1792 (by rw [h])⟩
      · exact ⟨_, List.mem_cons_of_mem _ List.mem_cons_self,
          mem 1536 inb_S256x2048_S256x256_0_1536 (by rw [h])⟩
      · exact ⟨_, List.mem_cons_of_mem _ (List.mem_cons_of_mem _ List.mem_cons_self),
          mem 1280 inb_S256x2048_S256x256_0_1280 (by rw [h])⟩
      · exact ⟨_, List.mem_cons_of_mem _ (List.mem_cons_of_mem _ (List.mem_cons_of_mem _ List.mem_cons_self)),
          mem 1024 inb_S256x2048_S256x256_0_1024 (by rw [h])⟩
      · exact ⟨_, List.mem_cons_of_mem _ (List.mem_cons_of_mem _ (List.mem_cons_of_mem _ (List.mem_cons_of_mem _ List.mem_cons_self))),
          mem 768 inb_S256x2048_S256x256_0_768 (by rw [h])⟩
      · exact ⟨_, List.mem_cons_of_mem _ (List.mem_cons_of_mem _ (List.mem_cons_of_mem _ (List.mem_cons_of_mem _ (List.mem_cons_of_mem _ List.mem_cons_self)))),
          mem 512 inb_S256x2048_S256x256_0_512 (by rw [h])⟩
      · exact ⟨_, List.mem_cons_of_mem _ (List.mem_cons_of_mem _ (List.mem_cons_of_mem _ (List.mem_cons_of_mem _ (List.mem_cons_of_mem _ (List.mem_cons_of_mem _ List.mem_cons_self))))),
          mem 256 inb_S256x2048_S256x256_0_256 (by rw [h])⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))),
          mem 0 inb_S256x2048_S256x256_0_0 (by rw [h])⟩
  rw [hA]

end Cert.MlstmOutIdeal.Arr
-- ==== Proof.MlstmOutArr.lean ====
module
public import proofs.«01_k».proof.Proof.MlstmOutPay
@[expose] public section
set_option maxRecDepth 16384
noncomputable section

/-! The array the matrix memory's output kernel leaves, as a function of its arguments. -/

namespace Cert.MlstmOutIdeal.Arr
open Cert.MlstmOutIdeal Cert.MlstmOutIdeal.Gen Idealize.ShloMosaic Idealize.ShloMosaic.TcCoe Idealize.SL.Sem
open Cert.FfnIdeal.Blk (irms)

/-- The sum of the two directions, normed over its head and gated by the logistic of the output gate. -/
def gated (A B : Vec Ideal S17408x2048 .f32) (P : Vec Ideal S17408x6144 .bf16) (g : Vec Ideal S2048 .f32) (R : Fin 17408) (d : Fin 2048) : EReal :=
  sigm (P (ix2 R ⟨4096 + d.val, by omega⟩))
    * ((A (ix2 R d) + B (ix2 R d))
      * irmsHead (fun k => A (ix2 R ⟨d.val / 256 * 256 + k.val, by omega⟩) + B (ix2 R ⟨d.val / 256 * 256 + k.val, by omega⟩))
      * g (ix1 d))

/-- A row of the gated sum times column `e` of the output weights. -/
def mix (A B : Vec Ideal S17408x2048 .f32) (P : Vec Ideal S17408x6144 .bf16) (g : Vec Ideal S2048 .f32) (W : Vec Ideal S2048x2048 .f32)
    (R : Fin 17408) (e : Fin 2048) : EReal :=
  ∑ d : Fin 2048, gated A B P g R d * W (ix2 d e)

/-- A row of the residual stream: the latent rows first, then the context rows. -/
def src (X : Vec Ideal S4x4096x2048 .f32) (C : Vec Ideal S4x256x2048 .f32) (R : Fin 17408) (e : Fin 2048) : EReal :=
  if R.val < 16384 then X (ix3 ⟨R.val / 4096 % 4, by omega⟩ ⟨R.val % 4096, by omega⟩ e)
  else C (ix3 ⟨(R.val - 16384) / 256, by omega⟩ ⟨(R.val - 16384) % 256, by omega⟩ e)

/-- The layer's output, its norm and its gated residual, element by element. -/
def G (A B : Vec Ideal S17408x2048 .f32) (P : Vec Ideal S17408x6144 .bf16) (X : Vec Ideal S4x4096x2048 .f32) (C : Vec Ideal S4x256x2048 .f32)
    (M : Vec Ideal S8x12288 .f32) (g gq : Vec Ideal S2048 .f32) (W : Vec Ideal S2048x2048 .f32) : Vec Ideal S17408x2048 .f32 := fun i =>
  src X C (i 0) (i 1)
    + M (ix2 ⟨(i 0).val / 4096, by have h : (i 0).val < 17408 := (i 0).isLt; omega⟩
      ⟨4096 + (i 1).val, by have h : (i 1).val < 2048 := (i 1).isLt; omega⟩)
    * (mix A B P g W (i 0) (i 1) * irms (mix A B P g W (i 0)) * gq (ix1 (i 1)))

/-- The block each window takes at a grid point. -/
theorem idx : ∀ t : Fin cfg0.N,
    win0_0.index t = ![t.val, 0] ∧ win0_1.index t = ![t.val, 0] ∧ win0_2.index t = ![t.val, 2]
    ∧ (t.val < 64 → win0_3.index t = ![t.val, 0]) ∧ (64 ≤ t.val → win0_4.index t = ![t.val - 64, 0])
    ∧ win0_5.index t = ![0, 0] ∧ win0_6.index t = ![0, 0]
    ∧ win0_7.index t = ![t.val / 16, 0, 2] ∧ win0_8.index t = ![0, 0] ∧ win0_9.index t = ![t.val, 0] :=
  (by decide +kernel : ∀ t : Fin grid0.N, _)

section
variable (m : (ℓ : Loc nD τ sig) → Buf (Elt Ideal) ℓ) (c : Dev nD) (t : Fin cfg0.N)

theorem t_lt : t.val < 68 := lt_of_lt_of_eq t.isLt N_0

theorem blk0 (i : Fin 256) (e : Fin 2048) (h0) : (iblk m c 0 t : Vec Ideal S256x2048 .f32) (ix2 i e)
    = (m ((c : Thread nD τ).loc main_arg0) : Vec Ideal S17408x2048 .f32) (ix2 ⟨t.val * 256 + i.val, h0⟩ e) := by
  obtain ⟨e0, -⟩ := idx t
  blk_ext [iblk, V_main_arg0, e0]

theorem blk1 (i : Fin 256) (e : Fin 2048) (h0) : (iblk m c 1 t : Vec Ideal S256x2048 .f32) (ix2 i e)
    = (m ((c : Thread nD τ).loc main_arg1) : Vec Ideal S17408x2048 .f32) (ix2 ⟨t.val * 256 + i.val, h0⟩ e) := by
  obtain ⟨-, e0, -⟩ := idx t
  blk_ext [iblk, V_main_arg1, e0]

theorem blk2 (i : Fin 256) (e : Fin 2048) (h0 h1) : (iblk m c 2 t : Vec Ideal S256x2048 .bf16) (ix2 i e)
    = (m ((c : Thread nD τ).loc main_arg2) : Vec Ideal S17408x6144 .bf16) (ix2 ⟨t.val * 256 + i.val, h0⟩ ⟨4096 + e.val, h1⟩) := by
  obtain ⟨-, -, e0, -⟩ := idx t
  blk_ext [iblk, V_main_arg2, e0]

theorem blk3 (ht : t.val < 64) (i : Fin 256) (e : Fin 2048) (h0 h1) : (iblk m c 3 t : Vec Ideal S256x2048 .f32) (ix2 i e)
    = (m ((c : Thread nD τ).loc main_arg3) : Vec Ideal S4x4096x2048 .f32)
      (ix3 ⟨(t.val * 256 + i.val) / 4096 % 4, h0⟩ ⟨(t.val * 256 + i.val) % 4096, h1⟩ e) := by
  obtain ⟨-, -, -, e0, -⟩ := idx t
  have e0 := e0 ht
  blk_ext! [iblk, V, e0]

theorem blk4 (ht : 64 ≤ t.val) (i : Fin 256) (e : Fin 2048) (h0 h1) : (iblk m c 4 t : Vec Ideal S256x2048 .f32) (ix2 i e)
    = (m ((c : Thread nD τ).loc main_arg4) : Vec Ideal S4x256x2048 .f32)
      (ix3 ⟨(t.val * 256 + i.val - 16384) / 256, h0⟩ ⟨(t.val * 256 + i.val - 16384) % 256, h1⟩ e) := by
  obtain ⟨-, -, -, -, e0, -⟩ := idx t
  have e0 := e0 ht
  have := t_lt t
  blk_ext! [iblk, V, e0]

theorem blk5 (e : Fin 2048) : (iblk m c 5 t : Vec Ideal S1x2048 .f32) (ix2 0 e)
    = (m ((c : Thread nD τ).loc main_arg6) : Vec Ideal S2048 .f32) (ix1 e) := by
  obtain ⟨-, -, -, -, -, e0, -⟩ := idx t
  blk_ext! [iblk, V, e0]

theorem blk6 (e : Fin 2048) : (iblk m c 6 t : Vec Ideal S1x2048 .f32) (ix2 0 e)
    = (m ((c : Thread nD τ).loc main_arg7) : Vec Ideal S2048 .f32) (ix1 e) := by
  obtain ⟨-, -, -, -, -, -, e0, -⟩ := idx t
  blk_ext! [iblk, V, e0]

theorem blk7 (e : Fin 2048) (h0 h1) : (iblk m c 7 t : Vec Ideal S1x1x2048 .f32) (ix3 0 0 e)
    = (m ((c : Thread nD τ).loc main_arg5) : Vec Ideal S8x12288 .f32) (ix2 ⟨t.val / 16, h0⟩ ⟨4096 + e.val, h1⟩) := by
  obtain ⟨-, -, -, -, -, -, -, e0, -⟩ := idx t
  blk_ext! [iblk, V, e0]

theorem blk8 (i e : Fin 2048) : (iblk m c 8 t : Vec Ideal S2048x2048 .bf16) (ix2 i e)
    = (m ((c : Thread nD τ).loc main_arg8) : Vec Ideal S2048x2048 .f32) (ix2 i e) := by
  obtain ⟨-, -, -, -, -, -, -, -, e0, -⟩ := idx t
  blk_ext! [iblk, V, e0]

/-- The residual rows of a grid point. -/
theorem source (r : Fin 256) (e : Fin 2048) (R : Fin 17408) (hR : R.val = t.val * 256 + r.val) :
    k0_pay19 (F := Ideal) (BitVec.ofNat 32 (grid0.coords t 0).val) (iblk m c 3 t) (iblk m c 4 t) (ix2 r e)
      = src (m ((c : Thread nD τ).loc main_arg3)) (m ((c : Thread nD τ).loc main_arg4)) R e := by
  have ht := t_lt t
  have hr := r.isLt
  unfold k0_pay19 src
  dsimp only
  rw [sel]
  by_cases h : t.val < 64
  · rw [if_pos h, if_pos (by omega), shapeCast_self, shapeCast_self]
    refine (blk3 m c t h r e (by omega) (by omega)).trans ?_
    simp only [hR]
  · rw [if_neg h, if_neg (by omega), shapeCast_self, shapeCast_self]
    refine (blk4 m c t (by omega) r e (by omega) (by omega)).trans ?_
    simp only [hR]

/-- The scratch array a grid point fills. -/
theorem act_at (r : Fin 256) (d : Fin 2048) (R : Fin 17408) (hR : R.val = t.val * 256 + r.val) :
    act (iblk m c 0 t) (iblk m c 1 t) (iblk m c 5 t) (iblk m c 2 t) (ix2 r d)
      = gated (m ((c : Thread nD τ).loc main_arg0)) (m ((c : Thread nD τ).loc main_arg1)) (m ((c : Thread nD τ).loc main_arg2))
        (m ((c : Thread nD τ).loc main_arg6)) R d := by
  have h0 : ∀ k : Fin 2048, (iblk m c 0 t : Vec Ideal S256x2048 .f32) (ix2 r k)
      = (m ((c : Thread nD τ).loc main_arg0) : Vec Ideal S17408x2048 .f32) (ix2 R k) := fun k =>
    (blk0 m c t r k (by omega)).trans (congrArg (fun R' : Fin 17408 => (m ((c : Thread nD τ).loc main_arg0) : Vec Ideal S17408x2048 .f32) (ix2 R' k))
      (Fin.ext hR.symm))
  have h1 : ∀ k : Fin 2048, (iblk m c 1 t : Vec Ideal S256x2048 .f32) (ix2 r k)
      = (m ((c : Thread nD τ).loc main_arg1) : Vec Ideal S17408x2048 .f32) (ix2 R k) := fun k =>
    (blk1 m c t r k (by omega)).trans (congrArg (fun R' : Fin 17408 => (m ((c : Thread nD τ).loc main_arg1) : Vec Ideal S17408x2048 .f32) (ix2 R' k))
      (Fin.ext hR.symm))
  have h2 : (iblk m c 2 t : Vec Ideal S256x2048 .bf16) (ix2 r d)
      = (m ((c : Thread nD τ).loc main_arg2) : Vec Ideal S17408x6144 .bf16) (ix2 R ⟨4096 + d.val, by omega⟩) :=
    (blk2 m c t r d (by omega) (by omega)).trans
      (congrArg (fun R' : Fin 17408 => (m ((c : Thread nD τ).loc main_arg2) : Vec Ideal S17408x6144 .bf16) (ix2 R' ⟨4096 + d.val, by omega⟩))
        (Fin.ext hR.symm))
  unfold gated
  refine (act_apply _ _ _ _ r d).trans ?_
  simp only [h0, h1, h2, blk5]

/-- The block a grid point stores. -/
theorem out_at (r : Fin 256) (e : Fin 2048) (R : Fin 17408) (hR : R.val = t.val * 256 + r.val) :
    ((dats m 0 c).after 9 t : Vec Ideal S256x2048 .f32) (ix2 r e)
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (ix2 R e) := by
  have ht := t_lt t
  have hr := r.isLt
  have hb : (t.val * 256 + r.val) / 4096 = t.val / 16 := by omega
  rw [after0_9, out_eq, pay1, source m c t r e R hR, blk6, blk7 m c t e (by omega) (by omega)]
  simp only [act_at m c t r _ R hR, blk8]
  unfold G mix
  simp only [ix2, hR, hb]

/-- The array the kernel leaves. -/
theorem arr_eq : (dats m 0 c).arrAt 9 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t hf y => ?_
  have ht := t_lt t
  obtain ⟨-, -, -, -, -, -, -, -, -, e9⟩ := idx t
  have e0 : ((((cfg0.win 9).blk t).view.emb y) (0 : Fin 2) : ℕ) = t.val * 256 + (y (0 : Fin 2)).val := by
    blk_simp [e9]
  have e1 : ((((cfg0.win 9).blk t).view.emb y) (1 : Fin 2) : ℕ) = (y (1 : Fin 2)).val := by
    blk_simp [e9]
  have h0 : (y (0 : Fin 2)).val < 256 := (y 0).isLt
  have h1 : (y (1 : Fin 2)).val < 2048 := (y 1).isLt
  blk_simp
  have key := out_at m c t ⟨(y (0 : Fin 2)).val, h0⟩ ⟨(y (1 : Fin 2)).val, h1⟩
    ⟨t.val * 256 + (y (0 : Fin 2)).val, by omega⟩ rfl
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

end
end Cert.MlstmOutIdeal.Arr
-- ==== Proof.MlstmOutRef.lean ====
module
public import proofs.«01_k».proof.Proof.MlstmOutArr
public import proofs.«01_k».proof.Proof.Gen.MlstmOutRefIdeal.Read
@[expose] public section
set_option maxRecDepth 16384
noncomputable section

/-! The result of the reference of the matrix memory's output, element by element. -/

namespace Cert.MlstmOutRefIdeal.Val
open Cert.MlstmOutRefIdeal Cert.MlstmOutRefIdeal.Gen Cert.MlstmOutRefIdeal.Read Idealize.ShloMosaic Idealize.ShloMosaic.TcCoe Idealize.SL.Sem
open Cert.MlstmOutIdeal.Arr (gated mix src G sigm irmsHead)
open Cert.FfnIdeal.Blk (irms)

variable (x0 x1 : Vec Ideal S17408x2048 .f32) (x2 : Vec Ideal S17408x6144 .bf16) (x3 : Vec Ideal S4x4096x2048 .f32)
  (x4 : Vec Ideal S4x256x2048 .f32) (x5 : Vec Ideal S8x12288 .f32) (x6 x7 : Vec Ideal S2048 .f32) (x8 : Vec Ideal S2048x2048 .f32)

/-- The two directions of a latent row, cut into heads, are summed. -/
theorem dirs_lat (b : Fin 4) (h : Fin 8) (s : Fin 4096) (k : Fin 256) (d : Fin 2048) (hd : d.val = h.val * 256 + k.val)
    (R : Fin 17408) (hR : R.val = b.val * 4096 + s.val) :
    val_main_v24 (F := Ideal) x0 x1 (ix4 b h s k) = x0 (ix2 R d) + x1 (ix2 R d) := by
  have hi : idx_main_v19 (idx_main_v20 (idx_main_v23 (idx_main_v24 (ix4 b h s k)))) = ix2 R d := funext fun a => Fin.ext <| by
    match a with
    | ⟨0, _⟩ => simp only [ix2, ix4]; dsimp; omega
    | ⟨1, _⟩ => simp only [ix2, ix4]; dsimp; omega
  rw [val_main_v24_apply, val_main_v23_apply, val_main_v20_apply, val_main_v19_apply, val_main_v16_apply, hi]
  rfl

/-- The output gate of a latent row. -/
theorem ogate_lat (b : Fin 4) (s : Fin 4096) (d : Fin 2048) (R : Fin 17408) (hR : R.val = b.val * 4096 + s.val) :
    val_main_v22 (F := Ideal) x2 (ix3 b s d) = x2 (ix2 R ⟨4096 + d.val, by omega⟩) := by
  rw [val_main_v22_apply, val_main_v21_apply, val_main_v18_apply, val_main_v17_apply]
  refine congrArg x2 (funext fun a => Fin.ext ?_)
  match a with
  | ⟨0, _⟩ => simp only [ix2, ix3]; dsimp; omega
  | ⟨1, _⟩ => simp only [ix2, ix3]; dsimp; omega

theorem gate_lat (b : Fin 4) (d : Fin 2048) (R : Fin 17408) (hR : R.val / 4096 = b.val) :
    val_main_v4 (F := Ideal) x5 (ix3 b 0 d) = x5 (ix2 ⟨R.val / 4096, by omega⟩ ⟨4096 + d.val, by omega⟩) := by
  rw [val_main_v4_apply, val_main_v1_apply, val_main_v0_apply]
  refine congrArg x5 (funext fun a => Fin.ext ?_)
  match a with
  | ⟨0, _⟩ => exact hR.symm
  | ⟨1, _⟩ => simp only [ix2, ix3]

/-- The inverse root mean square of a head of a latent row. -/
theorem norm_lat (b : Fin 4) (h : Fin 8) (s : Fin 4096) (R : Fin 17408) (hR : R.val = b.val * 4096 + s.val) :
    val_main_v32 (F := Ideal) x0 x1 (ix4 b h s 0)
      = irmsHead (fun k => x0 (ix2 R ⟨h.val * 256 + k.val, by omega⟩) + x1 (ix2 R ⟨h.val * 256 + k.val, by omega⟩)) := by
  have h0 := fun k => dirs_lat x0 x1 b h s k ⟨h.val * 256 + k.val, by omega⟩ rfl R hR
  unfold val_main_v32 val_main_v31 val_main_v30 val_main_v29 val_main_v28 val_main_v27 val_main_v26 val_main_v25 irmsHead
  generalize val_main_v24 (F := Ideal) x0 x1 = p at h0
  pointwise [h0, val_main_cst, val_main_cst_0, val_main_cst_1, Ideal.ofBits_zero_f32, zero_add]

theorem gain_lat (h : Fin 8) (k : Fin 256) (d : Fin 2048) (hd : d.val = h.val * 256 + k.val) :
    val_main_v35 (F := Ideal) x6 (ix4 0 h 0 k) = x6 (ix1 d) := by
  rw [val_main_v35_apply]
  refine congrArg x6 (funext fun a => Fin.ext ?_)
  match a with
  | ⟨0, _⟩ => simp only [ix1, ix4]; dsimp; omega

/-- A head of a latent row, normed. -/
theorem head_lat (b : Fin 4) (h : Fin 8) (s : Fin 4096) (k : Fin 256) (d : Fin 2048) (hd : d.val = h.val * 256 + k.val)
    (R : Fin 17408) (hR : R.val = b.val * 4096 + s.val) :
    val_main_v37 (F := Ideal) x0 x1 x6 (ix4 b h s k) = (x0 (ix2 R d) + x1 (ix2 R d))
      * irmsHead (fun k => x0 (ix2 R ⟨h.val * 256 + k.val, by omega⟩) + x1 (ix2 R ⟨h.val * 256 + k.val, by omega⟩)) * x6 (ix1 d) := by
  have h0 := dirs_lat x0 x1 b h s k d hd R hR
  have h1 := norm_lat x0 x1 b h s R hR
  have h2 := gain_lat x6 h k d hd
  unfold val_main_v37 val_main_v36 val_main_v34 val_main_v33
  generalize val_main_v24 (F := Ideal) x0 x1 = p at h0
  generalize val_main_v32 (F := Ideal) x0 x1 = q at h1
  generalize val_main_v35 (F := Ideal) x6 = u at h2
  pointwise [h0, h1, h2]

/-- The normed heads of a latent row side by side. -/
theorem heads_lat (b : Fin 4) (s : Fin 4096) (d : Fin 2048) (R : Fin 17408) (hR : R.val = b.val * 4096 + s.val) :
    val_main_v39 (F := Ideal) x0 x1 x6 (ix3 b s d) = (x0 (ix2 R d) + x1 (ix2 R d))
      * irmsHead (fun k => x0 (ix2 R ⟨d.val / 256 * 256 + k.val, by omega⟩) + x1 (ix2 R ⟨d.val / 256 * 256 + k.val, by omega⟩)) * x6 (ix1 d) := by
  rw [val_main_v39_apply, val_main_v38_apply]
  refine Eq.trans (congrArg _ (funext fun a => Fin.ext ?_)) (head_lat x0 x1 x6 b ⟨d.val / 256, by omega⟩ s ⟨d.val % 256, by omega⟩ d (by dsimp only; omega) R hR)
  match a with
  | ⟨0, _⟩ => simp only [ix3, ix4]; dsimp; omega
  | ⟨1, _⟩ => simp only [ix3, ix4]; dsimp; omega
  | ⟨2, _⟩ => simp only [ix3, ix4]; dsimp; omega
  | ⟨3, _⟩ => simp only [ix3, ix4]; dsimp; omega

/-- The gated heads of a latent row. -/
theorem gated_lat (b : Fin 4) (s : Fin 4096) (d : Fin 2048) (R : Fin 17408) (hR : R.val = b.val * 4096 + s.val) :
    val_main_v46 (F := Ideal) x0 x1 x2 x6 (ix3 b s d) = gated x0 x1 x2 x6 R d := by
  have h0 := ogate_lat x2 b s d R hR
  have h1 := heads_lat x0 x1 x6 b s d R hR
  unfold val_main_v46 val_main_v45 val_main_v44 val_main_v43 val_main_v42 val_main_v41 val_main_v40 gated sigm
  generalize val_main_v22 (F := Ideal) x2 = p at h0
  generalize val_main_v39 (F := Ideal) x0 x1 x6 = q at h1
  pointwise [h0, h1, val_main_cst_2, val_main_cst_3, Ideal.ofBits_one_f32]

/-- The product of a latent row with the output weights. -/
theorem mixed_lat (b : Fin 4) (s : Fin 4096) (e : Fin 2048) (R : Fin 17408) (hR : R.val = b.val * 4096 + s.val) :
    val_main_v47 (F := Ideal) x0 x1 x2 x6 x8 (ix3 b s e) = mix x0 x1 x2 x6 x8 R e := by
  have h0 := fun d => gated_lat x0 x1 x2 x6 b s d R hR
  unfold val_main_v47 mix
  generalize val_main_v46 (F := Ideal) x0 x1 x2 x6 = p at h0
  pointwise [h0]

/-- The inverse root mean square of that product. -/
theorem norm_mixed_lat (b : Fin 4) (s : Fin 4096) (R : Fin 17408) (hR : R.val = b.val * 4096 + s.val) :
    val_main_v84 (F := Ideal) x0 x1 x2 x6 x8 (ix3 b s 0) = irms (mix x0 x1 x2 x6 x8 R) := by
  have h0 := fun d => mixed_lat x0 x1 x2 x6 x8 b s d R hR
  unfold val_main_v84 val_main_v83 val_main_v82 val_main_v81 val_main_v80 val_main_v79 val_main_v78 val_main_v77 irms
  generalize val_main_v47 (F := Ideal) x0 x1 x2 x6 x8 = p at h0
  pointwise [h0, val_main_cst_9, val_main_cst_10, val_main_cst_11, Ideal.ofBits_zero_f32, zero_add]

/-- The layer on a latent row. -/
theorem out_lat (b : Fin 4) (s : Fin 4096) (e : Fin 2048) (R : Fin 17408) (hR : R.val = b.val * 4096 + s.val) :
    val_main_v92 (F := Ideal) x0 x1 x2 x3 x5 x6 x7 x8 (ix3 b s e) = G x0 x1 x2 x3 x4 x5 x6 x7 x8 (ix2 R e) := by
  have hx : src x3 x4 R e = x3 (ix3 b s e) := by
    unfold src
    rw [if_pos (by omega)]
    refine congrArg x3 (funext fun a => Fin.ext ?_)
    match a with
    | ⟨0, _⟩ => simp only [ix3]; omega
    | ⟨1, _⟩ => simp only [ix3]; omega
    | ⟨2, _⟩ => rfl
  have hm := mixed_lat x0 x1 x2 x6 x8 b s e R hR
  have hn := norm_mixed_lat x0 x1 x2 x6 x8 b s R hR
  have hg := gate_lat x5 b e R (by omega)
  show _ = src x3 x4 R e + x5 (ix2 ⟨R.val / 4096, _⟩ ⟨4096 + e.val, _⟩) * (mix x0 x1 x2 x6 x8 R e * irms (mix x0 x1 x2 x6 x8 R) * x7 (ix1 e))
  rw [hx]
  unfold val_main_v92 val_main_v91 val_main_v90 val_main_v89 val_main_v88 val_main_v87 val_main_v86 val_main_v85
  generalize val_main_v47 (F := Ideal) x0 x1 x2 x6 x8 = q at hm
  generalize val_main_v84 (F := Ideal) x0 x1 x2 x6 x8 = u at hn
  generalize val_main_v4 (F := Ideal) x5 = v at hg
  pointwise [hm, hn, hg]

/-- The two directions of a context row, cut into heads, are summed. -/
theorem dirs_ctx (b : Fin 4) (h : Fin 8) (s : Fin 256) (k : Fin 256) (d : Fin 2048) (hd : d.val = h.val * 256 + k.val)
    (R : Fin 17408) (hR : R.val = 16384 + b.val * 256 + s.val) :
    val_main_v53 (F := Ideal) x0 x1 (ix4 b h s k) = x0 (ix2 R d) + x1 (ix2 R d) := by
  have hi : idx_main_v48 (idx_main_v49 (idx_main_v52 (idx_main_v53 (ix4 b h s k)))) = ix2 R d := funext fun a => Fin.ext <| by
    match a with
    | ⟨0, _⟩ => simp only [ix2, ix4]; dsimp; omega
    | ⟨1, _⟩ => simp only [ix2, ix4]; dsimp; omega
  rw [val_main_v53_apply, val_main_v52_apply, val_main_v49_apply, val_main_v48_apply, val_main_v16_apply, hi]
  rfl

/-- The output gate of a context row. -/
theorem ogate_ctx (b : Fin 4) (s : Fin 256) (d : Fin 2048) (R : Fin 17408) (hR : R.val = 16384 + b.val * 256 + s.val) :
    val_main_v51 (F := Ideal) x2 (ix3 b s d) = x2 (ix2 R ⟨4096 + d.val, by omega⟩) := by
  rw [val_main_v51_apply, val_main_v50_apply, val_main_v18_apply, val_main_v17_apply]
  refine congrArg x2 (funext fun a => Fin.ext ?_)
  match a with
  | ⟨0, _⟩ => simp only [ix2, ix3]; dsimp; omega
  | ⟨1, _⟩ => simp only [ix2, ix3]; dsimp; omega

theorem gate_ctx (d : Fin 2048) (R : Fin 17408) (hR : R.val / 4096 = 4) :
    val_main_v12 (F := Ideal) x5 (ix1 d) = x5 (ix2 ⟨R.val / 4096, by omega⟩ ⟨4096 + d.val, by omega⟩) := by
  rw [val_main_v12_apply, val_main_v9_apply, val_main_v8_apply]
  refine congrArg x5 (funext fun a => Fin.ext ?_)
  match a with
  | ⟨0, _⟩ => simp only [ix1, ix2]; dsimp; omega
  | ⟨1, _⟩ => simp only [ix1, ix2]; dsimp; omega

/-- The inverse root mean square of a head of a context row. -/
theorem norm_ctx (b : Fin 4) (h : Fin 8) (s : Fin 256) (R : Fin 17408) (hR : R.val = 16384 + b.val * 256 + s.val) :
    val_main_v61 (F := Ideal) x0 x1 (ix4 b h s 0)
      = irmsHead (fun k => x0 (ix2 R ⟨h.val * 256 + k.val, by omega⟩) + x1 (ix2 R ⟨h.val * 256 + k.val, by omega⟩)) := by
  have h0 := fun k => dirs_ctx x0 x1 b h s k ⟨h.val * 256 + k.val, by omega⟩ rfl R hR
  unfold val_main_v61 val_main_v60 val_main_v59 val_main_v58 val_main_v57 val_main_v56 val_main_v55 val_main_v54 irmsHead
  generalize val_main_v53 (F := Ideal) x0 x1 = p at h0
  pointwise [h0, val_main_cst_4, val_main_cst_5, val_main_cst_6, Ideal.ofBits_zero_f32, zero_add]

theorem gain_ctx (h : Fin 8) (k : Fin 256) (d : Fin 2048) (hd : d.val = h.val * 256 + k.val) :
    val_main_v64 (F := Ideal) x6 (ix4 0 h 0 k) = x6 (ix1 d) := by
  rw [val_main_v64_apply]
  refine congrArg x6 (funext fun a => Fin.ext ?_)
  match a with
  | ⟨0, _⟩ => simp only [ix1, ix4]; dsimp; omega

/-- A head of a context row, normed. -/
theorem head_ctx (b : Fin 4) (h : Fin 8) (s : Fin 256) (k : Fin 256) (d : Fin 2048) (hd : d.val = h.val * 256 + k.val)
    (R : Fin 17408) (hR : R.val = 16384 + b.val * 256 + s.val) :
    val_main_v66 (F := Ideal) x0 x1 x6 (ix4 b h s k) = (x0 (ix2 R d) + x1 (ix2 R d))
      * irmsHead (fun k => x0 (ix2 R ⟨h.val * 256 + k.val, by omega⟩) + x1 (ix2 R ⟨h.val * 256 + k.val, by omega⟩)) * x6 (ix1 d) := by
  have h0 := dirs_ctx x0 x1 b h s k d hd R hR
  have h1 := norm_ctx x0 x1 b h s R hR
  have h2 := gain_ctx x6 h k d hd
  unfold val_main_v66 val_main_v65 val_main_v63 val_main_v62
  generalize val_main_v53 (F := Ideal) x0 x1 = p at h0
  generalize val_main_v61 (F := Ideal) x0 x1 = q at h1
  generalize val_main_v64 (F := Ideal) x6 = u at h2
  pointwise [h0, h1, h2]

/-- The normed heads of a context row side by side. -/
theorem heads_ctx (b : Fin 4) (s : Fin 256) (d : Fin 2048) (R : Fin 17408) (hR : R.val = 16384 + b.val * 256 + s.val) :
    val_main_v68 (F := Ideal) x0 x1 x6 (ix3 b s d) = (x0 (ix2 R d) + x1 (ix2 R d))
      * irmsHead (fun k => x0 (ix2 R ⟨d.val / 256 * 256 + k.val, by omega⟩) + x1 (ix2 R ⟨d.val / 256 * 256 + k.val, by omega⟩)) * x6 (ix1 d) := by
  rw [val_main_v68_apply, val_main_v67_apply]
  refine Eq.trans (congrArg _ (funext fun a => Fin.ext ?_)) (head_ctx x0 x1 x6 b ⟨d.val / 256, by omega⟩ s ⟨d.val % 256, by omega⟩ d (by dsimp only; omega) R hR)
  match a with
  | ⟨0, _⟩ => simp only [ix3, ix4]; dsimp; omega
  | ⟨1, _⟩ => simp only [ix3, ix4]; dsimp; omega
  | ⟨2, _⟩ => simp only [ix3, ix4]; dsimp; omega
  | ⟨3, _⟩ => simp only [ix3, ix4]; dsimp; omega

/-- The gated heads of a context row. -/
theorem gated_ctx (b : Fin 4) (s : Fin 256) (d : Fin 2048) (R : Fin 17408) (hR : R.val = 16384 + b.val * 256 + s.val) :
    val_main_v75 (F := Ideal) x0 x1 x2 x6 (ix3 b s d) = gated x0 x1 x2 x6 R d := by
  have h0 := ogate_ctx x2 b s d R hR
  have h1 := heads_ctx x0 x1 x6 b s d R hR
  unfold val_main_v75 val_main_v74 val_main_v73 val_main_v72 val_main_v71 val_main_v70 val_main_v69 gated sigm
  generalize val_main_v51 (F := Ideal) x2 = p at h0
  generalize val_main_v68 (F := Ideal) x0 x1 x6 = q at h1
  pointwise [h0, h1, val_main_cst_7, val_main_cst_8, Ideal.ofBits_one_f32]

/-- The product of a context row with the output weights. -/
theorem mixed_ctx (b : Fin 4) (s : Fin 256) (e : Fin 2048) (R : Fin 17408) (hR : R.val = 16384 + b.val * 256 + s.val) :
    val_main_v76 (F := Ideal) x0 x1 x2 x6 x8 (ix3 b s e) = mix x0 x1 x2 x6 x8 R e := by
  have h0 := fun d => gated_ctx x0 x1 x2 x6 b s d R hR
  unfold val_main_v76 mix
  generalize val_main_v75 (F := Ideal) x0 x1 x2 x6 = p at h0
  pointwise [h0]

/-- The inverse root mean square of that product. -/
theorem norm_mixed_ctx (b : Fin 4) (s : Fin 256) (R : Fin 17408) (hR : R.val = 16384 + b.val * 256 + s.val) :
    val_main_v100 (F := Ideal) x0 x1 x2 x6 x8 (ix3 b s 0) = irms (mix x0 x1 x2 x6 x8 R) := by
  have h0 := fun d => mixed_ctx x0 x1 x2 x6 x8 b s d R hR
  unfold val_main_v100 val_main_v99 val_main_v98 val_main_v97 val_main_v96 val_main_v95 val_main_v94 val_main_v93 irms
  generalize val_main_v76 (F := Ideal) x0 x1 x2 x6 x8 = p at h0
  pointwise [h0, val_main_cst_12, val_main_cst_13, val_main_cst_14, Ideal.ofBits_zero_f32, zero_add]

/-- The layer on a context row. -/
theorem out_ctx (b : Fin 4) (s : Fin 256) (e : Fin 2048) (R : Fin 17408) (hR : R.val = 16384 + b.val * 256 + s.val) :
    val_main_v109 (F := Ideal) x0 x1 x2 x4 x5 x6 x7 x8 (ix3 b s e) = G x0 x1 x2 x3 x4 x5 x6 x7 x8 (ix2 R e) := by
  have hx : src x3 x4 R e = x4 (ix3 b s e) := by
    unfold src
    rw [if_neg (by omega)]
    refine congrArg x4 (funext fun a => Fin.ext ?_)
    match a with
    | ⟨0, _⟩ => simp only [ix3]; omega
    | ⟨1, _⟩ => simp only [ix3]; omega
    | ⟨2, _⟩ => rfl
  have hm := mixed_ctx x0 x1 x2 x6 x8 b s e R hR
  have hn := norm_mixed_ctx x0 x1 x2 x6 x8 b s R hR
  have hg := gate_ctx x5 e R (by omega)
  show _ = src x3 x4 R e + x5 (ix2 ⟨R.val / 4096, _⟩ ⟨4096 + e.val, _⟩) * (mix x0 x1 x2 x6 x8 R e * irms (mix x0 x1 x2 x6 x8 R) * x7 (ix1 e))
  rw [hx]
  unfold val_main_v109 val_main_v108 val_main_v107 val_main_v106 val_main_v105 val_main_v104 val_main_v103 val_main_v102 val_main_v101
  generalize val_main_v76 (F := Ideal) x0 x1 x2 x6 x8 = q at hm
  generalize val_main_v100 (F := Ideal) x0 x1 x2 x6 x8 = u at hn
  generalize val_main_v12 (F := Ideal) x5 = v at hg
  pointwise [hm, hn, hg]

/-- The reference's result is the layer on every row. -/
theorem result : val_main_v112 (F := Ideal) x0 x1 x2 x3 x4 x5 x6 x7 x8 = G x0 x1 x2 x3 x4 x5 x6 x7 x8 := by
  funext i
  obtain ⟨R, e, rfl⟩ : ∃ (R : Fin 17408) (e : Fin 2048), i = ix2 R e := ⟨i 0, i 1, funext fun a => by match a with | ⟨0, _⟩ => rfl | ⟨1, _⟩ => rfl⟩
  have hl := fun b s => out_lat x0 x1 x2 x3 x4 x5 x6 x7 x8 b s e R
  have hc := fun b s => out_ctx x0 x1 x2 x3 x4 x5 x6 x7 x8 b s e R
  unfold val_main_v112 val_main_v111 val_main_v110
  generalize val_main_v92 (F := Ideal) x0 x1 x2 x3 x5 x6 x7 x8 = p at hl
  generalize val_main_v109 (F := Ideal) x0 x1 x2 x4 x5 x6 x7 x8 = q at hc
  have hR' := R.isLt
  pointwise
  split
  · next h =>
    refine Eq.trans (congrArg p (funext fun a => Fin.ext ?_)) (hl ⟨R.val / 4096, by omega⟩ ⟨R.val % 4096, by omega⟩ (by dsimp only; omega))
    match a with
    | ⟨0, _⟩ => simp only [ix3]
    | ⟨1, _⟩ => simp only [ix3]
    | ⟨2, _⟩ => simp only [ix3]
  · next h =>
    refine Eq.trans (congrArg q (funext fun a => Fin.ext ?_)) (hc ⟨(R.val - 16384) / 256, by omega⟩ ⟨R.val % 256, by omega⟩ (by dsimp only; omega))
    match a with
    | ⟨0, _⟩ => simp only [ix3]
    | ⟨1, _⟩ => simp only [ix3]; omega
    | ⟨2, _⟩ => simp only [ix3]

end Cert.MlstmOutRefIdeal.Val
-- ==== Proof.MlstmOutClaim.lean ====
module
public import proofs.«01_k».proof.Defs
public import proofs.«01_k».proof.Proof.MlstmOutRef
public import proofs.«01_k».proof.Proof.Gen.MlstmOutRefIdeal.Run
@[expose] public section
set_option maxRecDepth 16384
noncomputable section

/-! The matrix memory's output call and its reference leave equal results. -/

namespace Cert.MlstmOutProof
open Idealize.ShloMosaic Idealize.ShloMosaic.TcCoe Idealize.SL.Sem

/-- From memories with equal arguments, the kernel and the reference run and leave the same array, the gated residual of the normed
    product, with the arguments kept. -/
theorem algebraic : Cert.algebraic_MlstmOutIdeal_MlstmOutRefIdeal
    (hMlstmOutIdeal := Cert.MlstmOutIdeal.Gen.facts) (hMlstmOutRefIdeal := Cert.MlstmOutRefIdeal.Gen.facts) := by
  intro m g m' g' _ hm
  refine ⟨fun c => Cert.MlstmOutIdeal.Arr.G (m ((c : Thread Cert.MlstmOutIdeal.nD Cert.MlstmOutIdeal.τ).loc Cert.MlstmOutIdeal.main_arg0))
    (m ((c : Thread Cert.MlstmOutIdeal.nD Cert.MlstmOutIdeal.τ).loc Cert.MlstmOutIdeal.main_arg1))
    (m ((c : Thread Cert.MlstmOutIdeal.nD Cert.MlstmOutIdeal.τ).loc Cert.MlstmOutIdeal.main_arg2))
    (m ((c : Thread Cert.MlstmOutIdeal.nD Cert.MlstmOutIdeal.τ).loc Cert.MlstmOutIdeal.main_arg3))
    (m ((c : Thread Cert.MlstmOutIdeal.nD Cert.MlstmOutIdeal.τ).loc Cert.MlstmOutIdeal.main_arg4))
    (m ((c : Thread Cert.MlstmOutIdeal.nD Cert.MlstmOutIdeal.τ).loc Cert.MlstmOutIdeal.main_arg5))
    (m ((c : Thread Cert.MlstmOutIdeal.nD Cert.MlstmOutIdeal.τ).loc Cert.MlstmOutIdeal.main_arg6))
    (m ((c : Thread Cert.MlstmOutIdeal.nD Cert.MlstmOutIdeal.τ).loc Cert.MlstmOutIdeal.main_arg7))
    (m ((c : Thread Cert.MlstmOutIdeal.nD Cert.MlstmOutIdeal.τ).loc Cert.MlstmOutIdeal.main_arg8)), ?_, ?_⟩
  · exact (θ_run _ _ _).mono (fun r h c => ⟨((h.1 c).1 9).trans (Cert.MlstmOutIdeal.Arr.arr_eq m c), h.2 c⟩)
      (θ_run_and (Cert.MlstmOutIdeal.Gen.run_main m g) (Cert.MlstmOutIdeal.Gen.unchanged m g))
  · refine (θ_run _ _ _).mono (fun r h c => ⟨(h c).1.trans ?_, (h c).2⟩) (Cert.MlstmOutRefIdeal.Value.run m' g')
    obtain ⟨e0, e1, e2, e3, e4, e5, e6, e7, e8⟩ := hm c
    rw [Cert.MlstmOutRefIdeal.Read.val_main_v112_eq, Cert.MlstmOutRefIdeal.Val.result]
    exact congr (congr (congr (congr (congr (congr (congr (congr (congrArg Cert.MlstmOutIdeal.Arr.G e0) e1) e2) e3) e4) e5) e6) e7) e8

end Cert.MlstmOutProof
-- ==== Proof.QkvIdealBody.lean ====
module

public import proofs.«01_k».proof.Proof.Gen.QkvIdeal.Frame
public import proofs.«01_k».proof.Proof.Gen.QkvIdeal.Skeleton
public import Idealize.ShloMosaic.Lib.Pipeline.TableIdle
public import Idealize.ShloMosaic.Lib.Pipeline.ValueKit.Acc
public import Idealize.ShloMosaic.Lib.Claim

@[expose] public section

set_option maxRecDepth 16384

noncomputable section

/-! The frame of the queries, keys and values, by hand. The six column steps of a row block share the normalised rows,
kept in scratch; the first four store the queries, the fifth the keys, the sixth the values. -/

namespace Cert.QkvIdeal.Body

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store that covers a whole buffer leaves the stored value, whatever the buffer held. -/
theorem read_whole {S : Shape} {e : EltTy} (v : View sig .tc .vmem S e) (f : v.ty.Contents (Elt F))
    {off : Fin S.rank → Nat} (inb : ∀ a, off a + S.size a ≤ S.size a) (h : ∀ a, off a = 0) (w : S.Idx → Elt F e) :
    v.read (Elt F) (v.writes (Elt F) f [⟨Rect.unit off S.size inb, w⟩]) = w :=
  (View.read_writes_eq_canon v f _ fun y =>
    ⟨_, List.mem_singleton_self _, View.mem_set_unit_zero (funext h) inb y⟩).trans (View.canon_unit_zero (funext h) inb w)

/-! ### The body once, at each kind of point -/

/-- Four heads of queries: normed, rotated and scaled. -/
def queryBlock (y : FVec F S512x512 .f32) (g : Vec F S1x128 .f32) (cs sn : Vec F S512x128 .f32) : FVec F S512x512 .bf16 :=
  k0_pay3 (k0_pay7 cs) (k0_pay8 sn) k0_pay9 (k0_pay10 y g cs sn)
    (k0_pay13 (k0_pay6 g) (k0_pay7 cs) (k0_pay8 sn) k0_pay9 (k0_pay11 y) (k0_pay12 y))
    (k0_pay14 y (k0_pay6 g) (k0_pay7 cs) (k0_pay8 sn) k0_pay9) (k0_pay15 y (k0_pay6 g)) 127#32

/-- Four heads of keys: normed and rotated. -/
def keyBlock (y : FVec F S512x512 .f32) (g : Vec F S1x128 .f32) (cs sn : Vec F S512x128 .f32) : FVec F S512x512 .bf16 :=
  k0_pay4 (k0_pay17 cs) (k0_pay18 sn) k0_pay19 (k0_pay20 y g cs sn)
    (k0_pay23 (k0_pay16 g) (k0_pay17 cs) (k0_pay18 sn) k0_pay19 (k0_pay21 y) (k0_pay22 y))
    (k0_pay24 y (k0_pay16 g) (k0_pay17 cs) (k0_pay18 sn) k0_pay19) (k0_pay25 y (k0_pay16 g)) 127#32

set_option maxHeartbeats 4000000 in
/-- At the second to fourth column step the body stores a block of queries. -/
theorem run_query (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S2048x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x2048 .bf16) (harg14 : arg14.IsWhole) (h1 : ¬Scalar.cmpi .ne (Scalar.extui (Scalar.cmpi .eq (BitVec.ofNat 32 (i 1).val) 0#32) : BitVec 32) 0#32 = 1#1) (h2 : k0_cond2 i = 1#1) (h3 : ¬k0_cond3 i = 1#1) (h4 : ¬k0_cond4 i = 1#1)
    (x0 : Vec F S512x2048 .f32) (x1 : Vec F S1x2048 .f32) (x2 : Vec F S1x1x2048 .f32) (x3 : Vec F S1x1x2048 .f32) (x4 : Vec F S1x128 .f32) (x5 : Vec F S1x128 .f32) (x6 : Vec F S512x128 .f32) (x7 : Vec F S512x128 .f32) (x8 : Vec F S2048x512 .bf16) (g10 : Vec F S512x512 .bf16) (g11 : Vec F S512x512 .bf16) (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare g10 ∗ owns (c : Thread nD τ) arg13 fullShare g11 ∗ owns (c : Thread nD τ) arg14 fullShare h
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (queryBlock (k0_pay2 h x8) x4 x6 x7) ∗ owns (c : Thread nD τ) arg12 fullShare g10 ∗ owns (c : Thread nD τ) arg13 fullShare g11 ∗ owns (c : Thread nD τ) arg14 fullShare h) -∗ K ⟨⟩))
    ⊢ wp frame (wpE (defs₀ (F := F)) Variants.none c none) E (cc0_attn_qkv i arg2 harg2 arg3 harg3 arg4 harg4 arg5 harg5 arg6 harg6 arg7 harg7 arg8 harg8 arg9 harg9 arg10 harg10 arg11 harg11 arg12 harg12 arg13 harg13 arg14 harg14) K := by
  simp only [cc0_attn_qkv_eq_skeleton]; unfold cc0_attn_qkv_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12
  sl_exec (disch := first | sl_exact h1 | sl_exact h2 | sl_exact h3 | sl_exact h4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    swap; · iexact H9
    ipureintro; refine (read_whole _ _ _ ?_ _).trans ?_; · decide
    frame_out
    try rfl
  isplitl [H10]
  · iexists _; isplitr
    · ipureintro; exact harg12.read_unread _
    iexact H10
  isplitl [H11]
  · iexists _; isplitr
    · ipureintro; exact harg13.read_unread _
    iexact H11
  · iexists _; isplitr
    · ipureintro; exact harg14.read_unread _
    iexact H12

set_option maxHeartbeats 4000000 in
/-- At the fifth it stores the keys. -/
theorem run_key (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S2048x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x2048 .bf16) (harg14 : arg14.IsWhole) (h1 : ¬Scalar.cmpi .ne (Scalar.extui (Scalar.cmpi .eq (BitVec.ofNat 32 (i 1).val) 0#32) : BitVec 32) 0#32 = 1#1) (h2 : ¬k0_cond2 i = 1#1) (h3 : k0_cond3 i = 1#1) (h4 : ¬k0_cond4 i = 1#1)
    (x0 : Vec F S512x2048 .f32) (x1 : Vec F S1x2048 .f32) (x2 : Vec F S1x1x2048 .f32) (x3 : Vec F S1x1x2048 .f32) (x4 : Vec F S1x128 .f32) (x5 : Vec F S1x128 .f32) (x6 : Vec F S512x128 .f32) (x7 : Vec F S512x128 .f32) (x8 : Vec F S2048x512 .bf16) (g9 : Vec F S512x512 .bf16) (g11 : Vec F S512x512 .bf16) (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare g9 ∗ (∃ d, owns (c : Thread nD τ) arg12 fullShare d) ∗ owns (c : Thread nD τ) arg13 fullShare g11 ∗ owns (c : Thread nD τ) arg14 fullShare h
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare g9 ∗ owns (c : Thread nD τ) arg12 fullShare (keyBlock (k0_pay2 h x8) x5 x6 x7) ∗ owns (c : Thread nD τ) arg13 fullShare g11 ∗ owns (c : Thread nD τ) arg14 fullShare h) -∗ K ⟨⟩))
    ⊢ wp frame (wpE (defs₀ (F := F)) Variants.none c none) E (cc0_attn_qkv i arg2 harg2 arg3 harg3 arg4 harg4 arg5 harg5 arg6 harg6 arg7 harg7 arg8 harg8 arg9 harg9 arg10 harg10 arg11 harg11 arg12 harg12 arg13 harg13 arg14 harg14) K := by
  simp only [cc0_attn_qkv_eq_skeleton]; unfold cc0_attn_qkv_skel
  simp only [k0_part3_eq_skeleton, k0_part4_eq_skeleton]; unfold k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12
  sl_exec (disch := first | sl_exact h1 | sl_exact h2 | sl_exact h3 | sl_exact h4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    swap; · iexact H10
    ipureintro; refine (read_whole _ _ _ ?_ _).trans ?_; · decide
    frame_out
    try rfl
  isplitl [H11]
  · iexists _; isplitr
    · ipureintro; exact harg13.read_unread _
    iexact H11
  · iexists _; isplitr
    · ipureintro; exact harg14.read_unread _
    iexact H12

set_option maxHeartbeats 4000000 in
/-- At the sixth it stores the values. -/
theorem run_value (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S2048x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x2048 .bf16) (harg14 : arg14.IsWhole) (h1 : ¬Scalar.cmpi .ne (Scalar.extui (Scalar.cmpi .eq (BitVec.ofNat 32 (i 1).val) 0#32) : BitVec 32) 0#32 = 1#1) (h2 : ¬k0_cond2 i = 1#1) (h3 : ¬k0_cond3 i = 1#1) (h4 : k0_cond4 i = 1#1)
    (x0 : Vec F S512x2048 .f32) (x1 : Vec F S1x2048 .f32) (x2 : Vec F S1x1x2048 .f32) (x3 : Vec F S1x1x2048 .f32) (x4 : Vec F S1x128 .f32) (x5 : Vec F S1x128 .f32) (x6 : Vec F S512x128 .f32) (x7 : Vec F S512x128 .f32) (x8 : Vec F S2048x512 .bf16) (g9 : Vec F S512x512 .bf16) (g10 : Vec F S512x512 .bf16) (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare g9 ∗ owns (c : Thread nD τ) arg12 fullShare g10 ∗ (∃ d, owns (c : Thread nD τ) arg13 fullShare d) ∗ owns (c : Thread nD τ) arg14 fullShare h
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare g9 ∗ owns (c : Thread nD τ) arg12 fullShare g10 ∗ owns (c : Thread nD τ) arg13 fullShare (k0_pay5 h x8) ∗ owns (c : Thread nD τ) arg14 fullShare h) -∗ K ⟨⟩))
    ⊢ wp frame (wpE (defs₀ (F := F)) Variants.none c none) E (cc0_attn_qkv i arg2 harg2 arg3 harg3 arg4 harg4 arg5 harg5 arg6 harg6 arg7 harg7 arg8 harg8 arg9 harg9 arg10 harg10 arg11 harg11 arg12 harg12 arg13 harg13 arg14 harg14) K := by
  simp only [cc0_attn_qkv_eq_skeleton]; unfold cc0_attn_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12
  sl_exec (disch := first | sl_exact h1 | sl_exact h2 | sl_exact h3 | sl_exact h4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    swap; · iexact H11
    ipureintro; refine (read_whole _ _ _ ?_ _).trans ?_; · decide
    frame_out
    try rfl
  · iexists _; isplitr
    · ipureintro; exact harg14.read_unread _
    iexact H12

set_option maxHeartbeats 4000000 in
/-- At the first it normalises the rows, keeps them, and stores a block of queries. -/
theorem run_first (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S2048x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x2048 .bf16) (harg14 : arg14.IsWhole) (h1 : Scalar.cmpi .ne (Scalar.extui (Scalar.cmpi .eq (BitVec.ofNat 32 (i 1).val) 0#32) : BitVec 32) 0#32 = 1#1) (h2 : k0_cond2 i = 1#1) (h3 : ¬k0_cond3 i = 1#1) (h4 : ¬k0_cond4 i = 1#1)
    (x0 : Vec F S512x2048 .f32) (x1 : Vec F S1x2048 .f32) (x2 : Vec F S1x1x2048 .f32) (x3 : Vec F S1x1x2048 .f32) (x4 : Vec F S1x128 .f32) (x5 : Vec F S1x128 .f32) (x6 : Vec F S512x128 .f32) (x7 : Vec F S512x128 .f32) (x8 : Vec F S2048x512 .bf16) (g10 : Vec F S512x512 .bf16) (g11 : Vec F S512x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare g10 ∗ owns (c : Thread nD τ) arg13 fullShare g11 ∗ (∃ d, owns (c : Thread nD τ) arg14 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (queryBlock (k0_pay2 (k0_pay1 x0 x1 x2 x3) x8) x4 x6 x7) ∗ owns (c : Thread nD τ) arg12 fullShare g10 ∗ owns (c : Thread nD τ) arg13 fullShare g11 ∗ owns (c : Thread nD τ) arg14 fullShare (k0_pay1 x0 x1 x2 x3)) -∗ K ⟨⟩))
    ⊢ wp frame (wpE (defs₀ (F := F)) Variants.none c none) E (cc0_attn_qkv i arg2 harg2 arg3 harg3 arg4 harg4 arg5 harg5 arg6 harg6 arg7 harg7 arg8 harg8 arg9 harg9 arg10 harg10 arg11 harg11 arg12 harg12 arg13 harg13 arg14 harg14) K := by
  simp only [cc0_attn_qkv_eq_skeleton]; unfold cc0_attn_qkv_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11
  sl_exec (disch := first | sl_exact h1 | sl_exact h2 | sl_exact h3 | sl_exact h4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    swap; · iexact H9
    ipureintro; refine (read_whole _ _ _ ?_ _).trans ?_; · decide
    frame_out
    try rfl
  isplitl [H10]
  · iexists _; isplitr
    · ipureintro; exact harg12.read_unread _
    iexact H10
  isplitl [H11]
  · iexists _; isplitr
    · ipureintro; exact harg13.read_unread _
    iexact H11
  · iexists _; isplitr
    swap; · iexact H12
    ipureintro; refine (read_whole _ _ _ ?_ _).trans ?_; · decide
    frame_out
    try rfl

/-! ### What every point leaves -/

theorem t_lt (t : Fin cfg0.N) : t.val < 204 := lt_of_lt_of_eq t.isLt N_0

/-- Column step `j` of the row block that point `t` works on. -/
def step (j : ℕ) (hj : j < 6) (t : Fin cfg0.N) : Fin cfg0.N := ⟨t.val - t.val % 6 + j, lt_of_lt_of_eq (by have := t_lt t; omega) N_0.symm⟩

theorem step_val (j : ℕ) (hj : j < 6) (t : Fin cfg0.N) : (step j hj t).val = t.val - t.val % 6 + j := rfl

theorem step_of (j : ℕ) (hj : j < 6) (t : Fin cfg0.N) (h : t.val % 6 = j) : step j hj t = t := Fin.ext (by rw [step_val]; omega)

theorem step_pred (j : ℕ) (hj : j < 6) (t s : Fin cfg0.N) (h : ¬t.val % 6 = 0) (hs : s.val = t.val - 1) : step j hj s = step j hj t :=
  Fin.ext (by rw [step_val, step_val]; omega)

/-- The point that stores the queries which point `t` leaves. -/
def atQuery (t : Fin cfg0.N) : Fin cfg0.N := step (min (t.val % 6) 3) (by omega) t

theorem atQuery_val (t : Fin cfg0.N) : (atQuery t).val = t.val - t.val % 6 + min (t.val % 6) 3 := rfl

theorem atQuery_of (t : Fin cfg0.N) (h : t.val % 6 < 4) : atQuery t = t := Fin.ext (by rw [atQuery_val]; omega)

theorem atQuery_pred (t s : Fin cfg0.N) (h : 4 ≤ t.val % 6) (hs : s.val = t.val - 1) : atQuery s = atQuery t :=
  Fin.ext (by rw [atQuery_val, atQuery_val]; omega)

/-- The normalised rows of the row block of point `t`. -/
def rows (c : Dev nD) (t : Fin cfg0.N) : Vec F S512x2048 .bf16 :=
  k0_pay1 (iblk m c 0 (step 0 (by omega) t)) (iblk m c 1 (step 0 (by omega) t)) (iblk m c 2 (step 0 (by omega) t)) (iblk m c 3 (step 0 (by omega) t))

theorem rows_of (c : Dev nD) (t : Fin cfg0.N) (h : t.val % 6 = 0) :
    rows m c t = k0_pay1 (iblk m c 0 t) (iblk m c 1 t) (iblk m c 2 t) (iblk m c 3 t) := by
  unfold rows; rw [step_of 0 _ t h]

theorem rows_pred (c : Dev nD) (t s : Fin cfg0.N) (h : ¬t.val % 6 = 0) (hs : s.val = t.val - 1) : rows m c s = rows m c t := by
  unfold rows; rw [step_pred 0 _ t s h hs]

/-- The queries computed at a point. -/
def queryAt (c : Dev nD) (t : Fin cfg0.N) : Vec F S512x512 .bf16 :=
  queryBlock (k0_pay2 (rows m c t) (iblk m c 8 t)) (iblk m c 4 t) (iblk m c 6 t) (iblk m c 7 t)

/-- The keys computed at a point. -/
def keyAt (c : Dev nD) (t : Fin cfg0.N) : Vec F S512x512 .bf16 :=
  keyBlock (k0_pay2 (rows m c t) (iblk m c 8 t)) (iblk m c 5 t) (iblk m c 6 t) (iblk m c 7 t)

/-- The queries point `t` leaves: those of the last point that stored some. -/
def query (c : Dev nD) (t : Fin cfg0.N) : Vec F S512x512 .bf16 := queryAt m c (atQuery t)

/-- The keys of the row block of point `t`. -/
def key (c : Dev nD) (t : Fin cfg0.N) : Vec F S512x512 .bf16 := keyAt m c (step 4 (by omega) t)

/-- The values of the row block of point `t`, at its last point. -/
def value (c : Dev nD) (t : Fin cfg0.N) : Vec F S512x512 .bf16 := k0_pay5 (rows m c t) (iblk m c 8 t)

theorem query_of (c : Dev nD) (t : Fin cfg0.N) (h : t.val % 6 < 4) : query m c t = queryAt m c t := by
  unfold query; rw [atQuery_of t h]

theorem key_of (c : Dev nD) (t : Fin cfg0.N) (h : t.val % 6 = 4) : key m c t = keyAt m c t := by
  unfold key; rw [step_of 4 _ t h]

theorem query_pred (c : Dev nD) (t s : Fin cfg0.N) (h : 4 ≤ t.val % 6) (hs : s.val = t.val - 1) : query m c s = query m c t := by
  unfold query; rw [atQuery_pred t s h hs]

theorem key_pred (c : Dev nD) (t s : Fin cfg0.N) (h : 5 ≤ t.val % 6) (hs : s.val = t.val - 1) : key m c s = key m c t := by
  unfold key; rw [step_pred 4 _ t s (by omega) hs]

/-- The scratch as a buffer. -/
abbrev keptRows : Memref sig .tc .vmem S512x2048 .bf16 := Memref.whole cc0_scratch0

/-- Before the first point the scratch holds anything, after a point the rows of that point. -/
def Inv (c : Dev nD) : (n : ℕ) → n ≤ cfg0.N → sProp 𝕄
  | 0, _ => Pipeline.ΦA spec0 c
  | n + 1, hn => iprop(owns (c : Thread nD τ) keptRows fullShare (rows m c ⟨n, hn⟩) ∗ (∃ r, prngReg c r))

theorem Inv_start (c : Dev nD) :
    (Pipeline.ΦA spec0 c : sProp 𝕄) = iprop((∃ d, owns (c : Thread nD τ) keptRows fullShare d) ∗ (∃ r, prngReg c r)) := by
  unfold Pipeline.ΦA; rw [scopedRest0_eq]; simp only [keptRows, owns_whole]; try rfl

theorem Inv_pos (c : Dev nD) (n : ℕ) (h : n ≤ cfg0.N) (hz : n ≠ 0) :
    Inv m c n h = iprop(owns (c : Thread nD τ) keptRows fullShare (rows m c ⟨n - 1, by omega⟩) ∗ (∃ r, prngReg c r)) := by
  cases n with
  | zero => exact absurd rfl hz
  | succ n => rfl

/-- The invariant at any point gives the scratch at some contents. -/
theorem Inv_any (c : Dev nD) (n : ℕ) (h : n ≤ cfg0.N) :
    Inv m c n h ⊢ iprop((∃ d, owns (c : Thread nD τ) keptRows fullShare d) ∗ (∃ r, prngReg c r)) := by
  by_cases hz : n = 0
  · subst hz; exact Eq.subst (motive := fun P => Inv m c 0 h ⊢ P) (Inv_start c) (Idealize.SL.BI.Entails.refl _)
  · rw [Inv_pos m c n h hz]
    iintro ⟨HS, Hg⟩
    isplitl [HS]
    · iexists _; iexact HS
    iexact Hg

/-- The proof data of the pipeline: every input's buffer at its block, the outputs at `query`, `key` and `value`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => query m c t
    | ⟨10, _⟩ => key m c t
    | ⟨11, _⟩ => value m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = query m c t := by dsimp only [dats]
theorem after_10 (c : Dev nD) (t : Fin cfg0.N) : (dats m 0 c).after 10 t = key m c t := by dsimp only [dats]
theorem after_11 (c : Dev nD) (t : Fin cfg0.N) : (dats m 0 c).after 11 t = value m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]

theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]

theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after_2]

theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after_3]

theorem leaves_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after_4]

theorem leaves_5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl, after_5]

theorem leaves_6 (c : Dev nD) (t : Fin cfg0.N) :
    (dats m 0 c).leavesExact 6 t = owns (c : Thread nD τ) (st0_6 t) fullShare (iblk m c 6 t) := by
  unfold Dat.leavesExact; rw [show cfg0.idle 6 (grid0.coords t) = false from rfl, after_6]

theorem leaves_7 (c : Dev nD) (t : Fin cfg0.N) :
    (dats m 0 c).leavesExact 7 t = owns (c : Thread nD τ) (st0_7 t) fullShare (iblk m c 7 t) := by
  unfold Dat.leavesExact; rw [show cfg0.idle 7 (grid0.coords t) = false from rfl, after_7]

theorem leaves_8 (c : Dev nD) (t : Fin cfg0.N) :
    (dats m 0 c).leavesExact 8 t = owns (c : Thread nD τ) (st0_8 t) fullShare (iblk m c 8 t) := by
  unfold Dat.leavesExact; rw [show cfg0.idle 8 (grid0.coords t) = false from rfl, after_8]

/-- The body normalises the rows at the multiples of six. -/
theorem cond1_iff : ∀ t : Fin cfg0.N, Scalar.cmpi .ne (Scalar.extui (Scalar.cmpi .eq (BitVec.ofNat 32 (grid0.coords t 1).val) 0#32) : BitVec 32) 0#32 = 1#1 ↔ t.val % 6 = 0 :=
  (by decide +kernel : ∀ t : Fin grid0.N, Scalar.cmpi .ne (Scalar.extui (Scalar.cmpi .eq (BitVec.ofNat 32 (grid0.coords t 1).val) 0#32) : BitVec 32) 0#32 = 1#1 ↔ t.val % 6 = 0)

/-- The queries are written back at these points. -/
theorem flush9 : ∀ t : Fin cfg0.N, (cfg0.win 9).flush t = true ↔ (t.val % 6 < 3 ∨ t.val % 6 = 5) :=
  (by decide +kernel : ∀ t : Fin grid0.N, win0_9.flush t = true ↔ (t.val % 6 < 3 ∨ t.val % 6 = 5))

/-- The body stores the queries at these points. -/
theorem cond2_iff : ∀ t : Fin cfg0.N, k0_cond2 (grid0.coords t) = 1#1 ↔ t.val % 6 < 4 :=
  (by decide +kernel : ∀ t : Fin grid0.N, k0_cond2 (grid0.coords t) = 1#1 ↔ t.val % 6 < 4)

theorem idle_9 (t : Fin cfg0.N) : cfg0.idle 9 (grid0.coords t) = true ↔ ¬t.val % 6 < 4 := by
  rw [← cond2_iff t, show cfg0.idle 9 (grid0.coords t) = !(k0_cond2 (grid0.coords t) == 1#1) from rfl]
  simp

/-- Where the buffer of the queries is free. -/
theorem fresh_9 : ∀ n, n ≤ cfg0.N → cfg0.fresh 9 n = decide (n % 6 < 4) :=
  Cfg.fresh_tab _ _ _ rfl fun t => by
    have hf := flush9 t
    have hi := idle_9 t
    rcases hF : (cfg0.win 9).flush t <;> rcases hI : cfg0.idle 9 (grid0.coords t) <;> rw [hF] at hf <;> rw [hI] at hi <;>
      simp at hf hi <;> simp <;> omega

theorem leaves_9 (c : Dev nD) (t : Fin cfg0.N) (h : t.val % 6 < 4) :
    (dats m 0 c).leavesExact 9 t = owns (c : Thread nD τ) (st0_9 t) fullShare (query m c t) := by
  unfold Dat.leavesExact
  rw [show cfg0.idle 9 (grid0.coords t) = false from Bool.eq_false_iff.2 fun hi => (idle_9 t).1 hi h, after_9]

/-- After the store the buffer holds the queries. -/
theorem before_9 (c : Dev nD) (t : Fin cfg0.N) (h : ¬t.val % 6 < 4) (d) : (dats m 0 c).before 9 t d = query m c t := by
  have hN := t_lt t
  refine (Dat.before_out_traj (dats m 0 c) 9 rfl (fun _ _ => rfl) (fun s hs hi hfr => ?_) _ t rfl d).trans ?_
  · rw [fresh_9 _ (Nat.le_of_lt (by omega))] at hfr
    have hi := (idle_9 _).1 hi
    simp at hfr hi
    rw [after_9, after_9]; exact (query_pred m c _ _ (by omega) (by first | rfl | (dsimp only; omega))).symm
  · rw [fresh_9 _ (Nat.le_of_lt t.isLt), if_neg (by simpa using h), after_9]
    exact query_pred m c t _ (by omega) rfl

/-- At the other points the buffer is handed on as it was found. -/
theorem pass_9 (c : Dev nD) (t : Fin cfg0.N) (h : ¬t.val % 6 < 4) (d) :
    owns (c : Thread nD τ) (st0_9 t) fullShare ((dats m 0 c).before 9 t d) ⊢ (dats m 0 c).leavesExact 9 t := by
  rcases hf : (cfg0.win 9).flush t with _ | _
  · rw [Dat.leavesExact_idle (dats m 0 c) 9 t ((idle_9 t).2 h) hf]
    iintro H
    iexists d
    iexact H
  · have h5 := (flush9 t).1 hf
    rw [before_9 m c t (by omega)]
    unfold Dat.leavesExact
    rw [(idle_9 t).2 h, hf, after_9]

/-- The body stores the keys at these points. -/
theorem cond3_iff : ∀ t : Fin cfg0.N, k0_cond3 (grid0.coords t) = 1#1 ↔ t.val % 6 = 4 :=
  (by decide +kernel : ∀ t : Fin grid0.N, k0_cond3 (grid0.coords t) = 1#1 ↔ t.val % 6 = 4)

theorem idle_10 (t : Fin cfg0.N) : cfg0.idle 10 (grid0.coords t) = true ↔ ¬t.val % 6 = 4 := by
  rw [← cond3_iff t, show cfg0.idle 10 (grid0.coords t) = !(k0_cond3 (grid0.coords t) == 1#1) from rfl]
  simp

/-- Where the buffer of the keys is free. -/
theorem fresh_10 : ∀ n, n ≤ cfg0.N → cfg0.fresh 10 n = decide (n % 6 < 5) :=
  Cfg.fresh_tab _ _ _ rfl fun t => by
    have hf := flush0_10 t
    have hi := idle_10 t
    rcases hF : (cfg0.win 10).flush t <;> rcases hI : cfg0.idle 10 (grid0.coords t) <;> rw [hF] at hf <;> rw [hI] at hi <;>
      simp at hf hi <;> simp <;> omega

theorem leaves_10 (c : Dev nD) (t : Fin cfg0.N) (h : t.val % 6 = 4) :
    (dats m 0 c).leavesExact 10 t = owns (c : Thread nD τ) (st0_10 t) fullShare (key m c t) := by
  unfold Dat.leavesExact
  rw [show cfg0.idle 10 (grid0.coords t) = false from Bool.eq_false_iff.2 fun hi => (idle_10 t).1 hi h, after_10]

/-- After the store the buffer holds the keys. -/
theorem before_10 (c : Dev nD) (t : Fin cfg0.N) (h : ¬t.val % 6 < 5) (d) : (dats m 0 c).before 10 t d = key m c t := by
  have hN := t_lt t
  refine (Dat.before_out_traj (dats m 0 c) 10 rfl (fun _ _ => rfl) (fun s hs hi hfr => ?_) _ t rfl d).trans ?_
  · rw [fresh_10 _ (Nat.le_of_lt (by omega))] at hfr
    have hi := (idle_10 _).1 hi
    simp at hfr hi
    rw [after_10, after_10]; exact (key_pred m c _ _ (by omega) (by first | rfl | (dsimp only; omega))).symm
  · rw [fresh_10 _ (Nat.le_of_lt t.isLt), if_neg (by simpa using h), after_10]
    exact key_pred m c t _ (by omega) rfl

/-- At the other points the buffer is handed on as it was found. -/
theorem pass_10 (c : Dev nD) (t : Fin cfg0.N) (h : ¬t.val % 6 = 4) (d) :
    owns (c : Thread nD τ) (st0_10 t) fullShare ((dats m 0 c).before 10 t d) ⊢ (dats m 0 c).leavesExact 10 t := by
  rcases hf : (cfg0.win 10).flush t with _ | _
  · rw [Dat.leavesExact_idle (dats m 0 c) 10 t ((idle_10 t).2 h) hf]
    iintro H
    iexists d
    iexact H
  · have h5 := (flush0_10 t).1 hf
    rw [before_10 m c t (by omega)]
    unfold Dat.leavesExact
    rw [(idle_10 t).2 h, hf, after_10]

/-- The body stores the values at these points. -/
theorem cond4_iff : ∀ t : Fin cfg0.N, k0_cond4 (grid0.coords t) = 1#1 ↔ t.val % 6 = 5 :=
  (by decide +kernel : ∀ t : Fin grid0.N, k0_cond4 (grid0.coords t) = 1#1 ↔ t.val % 6 = 5)

theorem idle_11 (t : Fin cfg0.N) : cfg0.idle 11 (grid0.coords t) = true ↔ ¬t.val % 6 = 5 := by
  rw [← cond4_iff t, show cfg0.idle 11 (grid0.coords t) = !(k0_cond4 (grid0.coords t) == 1#1) from rfl]
  simp

/-- Where the buffer of the values is free. -/
theorem fresh_11 : ∀ n, n ≤ cfg0.N → cfg0.fresh 11 n = true :=
  Cfg.fresh_tab _ _ _ rfl fun t => by
    have hf := flush0_11 t
    have hi := idle_11 t
    rcases hF : (cfg0.win 11).flush t <;> rcases hI : cfg0.idle 11 (grid0.coords t) <;> rw [hF] at hf <;> rw [hI] at hi <;>
      simp at hf hi <;> simp <;> omega

theorem leaves_11 (c : Dev nD) (t : Fin cfg0.N) (h : t.val % 6 = 5) :
    (dats m 0 c).leavesExact 11 t = owns (c : Thread nD τ) (st0_11 t) fullShare (value m c t) := by
  unfold Dat.leavesExact
  rw [show cfg0.idle 11 (grid0.coords t) = false from Bool.eq_false_iff.2 fun hi => (idle_11 t).1 hi h, after_11]

/-- At the other points the buffer is handed on as it was found. -/
theorem pass_11 (c : Dev nD) (t : Fin cfg0.N) (h : ¬t.val % 6 = 5) (d) :
    owns (c : Thread nD τ) (st0_11 t) fullShare ((dats m 0 c).before 11 t d) ⊢ (dats m 0 c).leavesExact 11 t := by
  rcases hf : (cfg0.win 11).flush t with _ | _
  · rw [Dat.leavesExact_idle (dats m 0 c) 11 t ((idle_11 t).2 h) hf]
    iintro H
    iexists d
    iexact H
  · exact absurd ((flush0_11 t).1 hf) h

/-- What the body is called with at point `t`. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at a first column step. -/
theorem sound_first (c : Dev nD) (t : Fin cfg0.N) (h : t.val % 6 = 0) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, leaves_0, leaves_1, leaves_2, leaves_3, leaves_4, leaves_5, leaves_6, leaves_7, leaves_8]
  rw [show (dats m 0 c).owesAt () t.succ = (dats m 0 c).owesAt () t.castSucc from rfl, inv_castSucc]
  rw [show (dats m 0 c).Φ t.succ = iprop(owns (c : Thread nD τ) keptRows fullShare (rows m c t) ∗ (∃ r, prngReg c r)) from rfl]
  rw [leaves_9 m c t (by omega)]
  rw [query_of m c t (by omega)]; unfold queryAt
  rw [rows_of m c t h]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HI := (Inv_any m c t.val _) $$ HI
  icases HI with ⟨HS, Hg⟩
  iapply (run_first c (grid0.coords t) _ _ _ _ _ _ _ _ _ _ _ _ _ _ _ _ _ _ _ _ _ _ _ _ _ _ ((cond1_iff t).2 (by omega)) ((cond2_iff t).2 (by omega)) (fun hc => absurd ((cond3_iff t).1 hc) (by omega)) (fun hc => absurd ((cond4_iff t).1 hc) (by omega)) (iblk m c 0 t) (iblk m c 1 t) (iblk m c 2 t) (iblk m c 3 t) (iblk m c 4 t) (iblk m c 5 t) (iblk m c 6 t) (iblk m c 7 t) (iblk m c 8 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (pass_10 m c t (by omega) d10); iexact H10
  iapply (pass_11 m c t (by omega) d11); iexact H11

set_option maxHeartbeats 4000000 in
/-- The body at the further column steps of the queries. -/
theorem sound_query (c : Dev nD) (t : Fin cfg0.N) (h : 0 < t.val % 6 ∧ t.val % 6 < 4) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, leaves_0, leaves_1, leaves_2, leaves_3, leaves_4, leaves_5, leaves_6, leaves_7, leaves_8]
  rw [show (dats m 0 c).owesAt () t.succ = (dats m 0 c).owesAt () t.castSucc from rfl, inv_castSucc]
  rw [show (dats m 0 c).Φ t.succ = iprop(owns (c : Thread nD τ) keptRows fullShare (rows m c t) ∗ (∃ r, prngReg c r)) from rfl]
  rw [leaves_9 m c t (by omega)]
  rw [query_of m c t (by omega)]; unfold queryAt
  rw [Inv_pos m c _ _ (by omega)]
  rw [rows_pred m c t ⟨t.val - 1, lt_of_le_of_lt (Nat.sub_le _ _) t.isLt⟩ (by omega) rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_query c (grid0.coords t) _ _ _ _ _ _ _ _ _ _ _ _ _ _ _ _ _ _ _ _ _ _ _ _ _ _ (fun hc => absurd ((cond1_iff t).1 hc) (by omega)) ((cond2_iff t).2 (by omega)) (fun hc => absurd ((cond3_iff t).1 hc) (by omega)) (fun hc => absurd ((cond4_iff t).1 hc) (by omega)) (iblk m c 0 t) (iblk m c 1 t) (iblk m c 2 t) (iblk m c 3 t) (iblk m c 4 t) (iblk m c 5 t) (iblk m c 6 t) (iblk m c 7 t) (iblk m c 8 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (pass_10 m c t (by omega) d10); iexact H10
  iapply (pass_11 m c t (by omega) d11); iexact H11

set_option maxHeartbeats 4000000 in
/-- The body at the keys. -/
theorem sound_key (c : Dev nD) (t : Fin cfg0.N) (h : t.val % 6 = 4) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, leaves_0, leaves_1, leaves_2, leaves_3, leaves_4, leaves_5, leaves_6, leaves_7, leaves_8]
  rw [show (dats m 0 c).owesAt () t.succ = (dats m 0 c).owesAt () t.castSucc from rfl, inv_castSucc]
  rw [show (dats m 0 c).Φ t.succ = iprop(owns (c : Thread nD τ) keptRows fullShare (rows m c t) ∗ (∃ r, prngReg c r)) from rfl]
  rw [leaves_10 m c t (by omega)]
  rw [key_of m c t h]; unfold keyAt
  rw [Inv_pos m c _ _ (by omega)]
  rw [rows_pred m c t ⟨t.val - 1, lt_of_le_of_lt (Nat.sub_le _ _) t.isLt⟩ (by omega) rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_key c (grid0.coords t) _ _ _ _ _ _ _ _ _ _ _ _ _ _ _ _ _ _ _ _ _ _ _ _ _ _ (fun hc => absurd ((cond1_iff t).1 hc) (by omega)) (fun hc => absurd ((cond2_iff t).1 hc) (by omega)) ((cond3_iff t).2 (by omega)) (fun hc => absurd ((cond4_iff t).1 hc) (by omega)) (iblk m c 0 t) (iblk m c 1 t) (iblk m c 2 t) (iblk m c 3 t) (iblk m c 4 t) (iblk m c 5 t) (iblk m c 6 t) (iblk m c 7 t) (iblk m c 8 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (pass_9 m c t (by omega) d9); iexact H9
  isplitl [H10]; · iexact H10
  iapply (pass_11 m c t (by omega) d11); iexact H11

set_option maxHeartbeats 4000000 in
/-- The body at the values. -/
theorem sound_value (c : Dev nD) (t : Fin cfg0.N) (h : t.val % 6 = 5) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, leaves_0, leaves_1, leaves_2, leaves_3, leaves_4, leaves_5, leaves_6, leaves_7, leaves_8]
  rw [show (dats m 0 c).owesAt () t.succ = (dats m 0 c).owesAt () t.castSucc from rfl, inv_castSucc]
  rw [show (dats m 0 c).Φ t.succ = iprop(owns (c : Thread nD τ) keptRows fullShare (rows m c t) ∗ (∃ r, prngReg c r)) from rfl]
  rw [leaves_11 m c t (by omega)]
  unfold value
  rw [Inv_pos m c _ _ (by omega)]
  rw [rows_pred m c t ⟨t.val - 1, lt_of_le_of_lt (Nat.sub_le _ _) t.isLt⟩ (by omega) rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_value c (grid0.coords t) _ _ _ _ _ _ _ _ _ _ _ _ _ _ _ _ _ _ _ _ _ _ _ _ _ _ (fun hc => absurd ((cond1_iff t).1 hc) (by omega)) (fun hc => absurd ((cond2_iff t).1 hc) (by omega)) (fun hc => absurd ((cond3_iff t).1 hc) (by omega)) ((cond4_iff t).2 (by omega)) (iblk m c 0 t) (iblk m c 1 t) (iblk m c 2 t) (iblk m c 3 t) (iblk m c 4 t) (iblk m c 5 t) (iblk m c 6 t) (iblk m c 7 t) (iblk m c 8 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (pass_9 m c t (by omega) d9); iexact H9
  isplitl [H10]
  · iapply (pass_10 m c t (by omega) d10); iexact H10
  iexact H11

/-- The body at any point. -/
theorem sound (c : Dev nD) (t : Fin cfg0.N) :
    given m c t ⊢ wp frame (wpE (defs₀ (F := F)) Variants.none c none) Set.univ (bodyAt0 t) (fun _ => returned m c t) := by
  by_cases h0 : t.val % 6 = 0
  · exact sound_first m c t h0
  by_cases h3 : t.val % 6 < 4
  · exact sound_query m c t ⟨by omega, h3⟩
  by_cases h4 : t.val % 6 = 4
  · exact sound_key m c t h4
  exact sound_value m c t (by omega)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem enters (c : Dev nD) : Pipeline.ΦA spec0 c ⊢ (dats m 0 c).Φ 0 := by
  rw [show (dats m 0 c).Φ 0 = Pipeline.ΦA spec0 c from rfl]

theorem exits (c : Dev nD) : (dats m 0 c).Φ (Fin.last cfg0.N) ⊢ Pipeline.ΦA spec0 c := by
  rw [Inv_start c, show (dats m 0 c).Φ (Fin.last cfg0.N) = Inv m c cfg0.N le_rfl from rfl]; exact Inv_any m c _ _

set_option backward.isDefEq.respectTransparency.types false in
/-- The whole run: the arrays end at what the proof data say, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enters m) (hout := exits m)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.QkvIdeal.Body

end
-- ==== Proof.QkvPay.lean ====
module
public import proofs.«01_k».proof.Proof.FfnPay
public import proofs.«01_k».proof.Proof.QkvIdealBody
public import Idealize.ShloMosaic.Lib.Pipeline.ReadBack
@[expose] public section
set_option maxRecDepth 16384
noncomputable section

/-! The arithmetic of the queries, keys and values at one grid point. -/

namespace Cert.QkvIdeal.Arr
open Cert.QkvIdeal Cert.QkvIdeal.Gen Cert.QkvIdeal.Body Idealize.ShloMosaic Idealize.ShloMosaic.TcCoe Idealize.SL.Sem
open Cert.FfnIdeal.Blk (irms)

/-- The inverse root mean square of a head of 128 entries. -/
def irh (f : Fin 128 → EReal) : EReal :=
  Ideal.rsqrt (Ideal.div (∑ k, f k * f k) (Ideal.ofBits .f32 0x43000000#32) + Ideal.ofBits .f32 0x358637BD#32)

/-- A head normed and multiplied by its gain. -/
def unit (y g : Fin 128 → EReal) (l : Fin 128) : EReal := y l * irh y * g l

/-- The other lane of the pair that a lane belongs to. -/
def mate (l : Fin 128) : Fin 128 := if l.val % 2 = 0 then ⟨(l.val + 1) % 128, by omega⟩ else ⟨(l.val + 127) % 128, by omega⟩

/-- A head rotated: every lane times its cosine, and its mate times its signed sine. -/
def turn (u cs sn : Fin 128 → EReal) (l : Fin 128) : EReal := u l * cs l + u (mate l) * sn l

/-- The modulated norm of a block of rows. -/
theorem pay1 (x : Vec Ideal S512x2048 .f32) (g : Vec Ideal S1x2048 .f32) (sh sc : Vec Ideal S1x1x2048 .f32) (r : Fin 512) (d : Fin 2048) :
    k0_pay1 (F := Ideal) x g sh sc (ix2 r d)
      = x (ix2 r d) * irms (fun k => x (ix2 r k)) * (g (ix2 0 d) * (1 + sc (ix3 0 0 d))) + sh (ix3 0 0 d) := by
  unfold k0_pay1 irms
  pointwise [Ideal.ofBits_one_f32, Ideal.ofBits_zero_f32]

/-- The product with a block of the weights. -/
theorem pay2 (h : Vec Ideal S512x2048 .bf16) (w : Vec Ideal S2048x512 .bf16) (r : Fin 512) (e : Fin 512) :
    k0_pay2 (F := Ideal) h w (ix2 r e) = ∑ d : Fin 2048, h (ix2 r d) * w (ix2 d e) := by
  unfold k0_pay2
  pointwise [Ideal.ofBits_zero_f32]

/-- The same, as the values are stored. -/
theorem pay5 (h : Vec Ideal S512x2048 .bf16) (w : Vec Ideal S2048x512 .bf16) (r : Fin 512) (e : Fin 512) :
    k0_pay5 (F := Ideal) h w (ix2 r e) = ∑ d : Fin 2048, h (ix2 r d) * w (ix2 d e) := by
  refine Eq.trans ?_ (pay2 h w r e)
  unfold k0_pay5
  generalize k0_pay2 (F := Ideal) h w = y
  pointwise

/-- The mask of the even lanes. -/
theorem lane : ∀ l : Fin 128, Scalar.cmpi .eq (Scalar.andi (BitVec.ofNat 32 l.val) 1#32) 0#32 = if l.val % 2 = 0 then 1#1 else 0#1 := by
  decide +kernel

/-- The mask of the even lanes, read at an index. -/
theorem mask_at (i : S512x128.Idx) : k0_pay9 i = if (i 1).val % 2 = 0 then 1#1 else 0#1 := by
  obtain ⟨r, l, rfl⟩ : ∃ (r : Fin 512) (l : Fin 128), i = ix2 r l := ⟨i 0, i 1, funext fun a => by match a with | ⟨0, _⟩ => rfl | ⟨1, _⟩ => rfl⟩
  refine Eq.trans ?_ (lane l)
  unfold k0_pay9
  pointwise
  rfl

/-- The two rotations and the choice between them read the mate of every lane. -/
theorem swapped (x : FVec Ideal S512x128 .f32) (h) : select k0_pay9 (dynamicRotate 1 127#32 none x h) (dynamicRotate 1 1#32 none x h)
    = (fun i => x (ix2 (i 0) (mate (i 1))) : FVec Ideal S512x128 .f32) := by
  funext i
  have hm := mask_at i
  obtain ⟨r, l, rfl⟩ : ∃ (r : Fin 512) (l : Fin 128), i = ix2 r l := ⟨i 0, i 1, funext fun a => by match a with | ⟨0, _⟩ => rfl | ⟨1, _⟩ => rfl⟩
  generalize k0_pay9 = q at hm
  have hm : q (ix2 r l) = if l.val % 2 = 0 then 1#1 else 0#1 := hm
  pointwise [hm]
  show _ = x (ix2 r (mate l))
  unfold mate
  split <;> simp <;> rfl

section
variable (y : FVec Ideal S512x512 .f32) (g : Vec Ideal S1x128 .f32) (cs sn : Vec Ideal S512x128 .f32) (r : Fin 512)

/-- A head of a block of 512 columns, normed and rotated. -/
def head (h : Fin 4) (l : Fin 128) : EReal :=
  turn (unit (fun k => y (ix2 r ⟨h.val * 128 + k.val, by omega⟩)) (fun k => g (ix2 0 k))) (fun k => cs (ix2 r k)) (fun k => sn (ix2 r k)) l

/-- Head 0 of the queries. -/
theorem qhead0 (l : Fin 128) : k0_pay10 (F := Ideal) y g cs sn (ix2 r l) = head y g cs sn r 0 l * Ideal.ofBits .f32 0x3DB504F3#32 := by
  unfold k0_pay10 k0_pay6 k0_pay7 k0_pay8
  dsimp only
  rw [swapped]
  unfold head turn unit irh
  pointwise [Ideal.ofBits_one_f32, Ideal.ofBits_zero_f32, mul_one]

/-- Head 1 of the queries. -/
theorem qhead1 (l : Fin 128) : k0_pay13 (F := Ideal) (k0_pay6 g) (k0_pay7 cs) (k0_pay8 sn) k0_pay9 (k0_pay11 y) (k0_pay12 y) (ix2 r l) = head y g cs sn r 1 l * Ideal.ofBits .f32 0x3DB504F3#32 := by
  unfold k0_pay13 k0_pay12 k0_pay11 k0_pay6 k0_pay7 k0_pay8
  dsimp only
  rw [swapped]
  unfold head turn unit irh
  pointwise [Ideal.ofBits_one_f32, Ideal.ofBits_zero_f32, mul_one]

/-- Head 2 of the queries. -/
theorem qhead2 (l : Fin 128) : k0_pay14 (F := Ideal) y (k0_pay6 g) (k0_pay7 cs) (k0_pay8 sn) k0_pay9 (ix2 r l) = head y g cs sn r 2 l * Ideal.ofBits .f32 0x3DB504F3#32 := by
  unfold k0_pay14 k0_pay6 k0_pay7 k0_pay8
  dsimp only
  rw [swapped]
  unfold head turn unit irh
  pointwise [Ideal.ofBits_one_f32, Ideal.ofBits_zero_f32, mul_one]

/-- The last head of the queries, and the four side by side. -/
theorem qblock (h : Fin 4) (l : Fin 128) (e : Fin 512) (he : e.val = h.val * 128 + l.val) :
    queryBlock (F := Ideal) y g cs sn (ix2 r e) = head y g cs sn r h l * Ideal.ofBits .f32 0x3DB504F3#32 := by
  have h0 := fun l => qhead0 y g cs sn r l
  have h1 := fun l => qhead1 y g cs sn r l
  have h2 := fun l => qhead2 y g cs sn r l
  unfold queryBlock
  generalize k0_pay10 (F := Ideal) y g cs sn = p0 at h0
  generalize k0_pay13 (F := Ideal) (k0_pay6 g) (k0_pay7 cs) (k0_pay8 sn) k0_pay9 (k0_pay11 y) (k0_pay12 y) = p1 at h1
  generalize k0_pay14 (F := Ideal) y (k0_pay6 g) (k0_pay7 cs) (k0_pay8 sn) k0_pay9 = p2 at h2
  unfold k0_pay3 k0_pay15 k0_pay6 k0_pay7 k0_pay8
  dsimp only
  rw [swapped]
  pointwise
  obtain ⟨h, hh⟩ := h
  have h4 : h = 0 ∨ h = 1 ∨ h = 2 ∨ h = 3 := by omega
  have hl := l.isLt
  rcases h4 with rfl | rfl | rfl | rfl <;> dsimp only at he
  · rw [dif_pos (by omega)]
    exact (congrArg p0 (congrArg (ix2 r) (Fin.ext (by dsimp only; omega)))).trans (h0 l)
  · rw [dif_neg (by omega), dif_pos (by omega)]
    exact (congrArg p1 (congrArg (ix2 r) (Fin.ext (by dsimp only; omega)))).trans (h1 l)
  · rw [dif_neg (by omega), dif_neg (by omega), dif_pos (by omega)]
    exact (congrArg p2 (congrArg (ix2 r) (Fin.ext (by dsimp only; omega)))).trans (h2 l)
  · rw [dif_neg (by omega), dif_neg (by omega), dif_neg (by omega)]
    have hy : e.val - 128 - 128 - 128 = l.val := by omega
    simp only [hy]
    unfold head turn unit irh
    rfl

/-- Head 0 of the keys. -/
theorem khead0 (l : Fin 128) : k0_pay20 (F := Ideal) y g cs sn (ix2 r l) = head y g cs sn r 0 l := by
  unfold k0_pay20 k0_pay16 k0_pay17 k0_pay18
  dsimp only
  rw [show k0_pay19 = k0_pay9 from rfl]
  rw [swapped]
  unfold head turn unit irh
  pointwise [Ideal.ofBits_one_f32, Ideal.ofBits_zero_f32, mul_one]

/-- Head 1 of the keys. -/
theorem khead1 (l : Fin 128) : k0_pay23 (F := Ideal) (k0_pay16 g) (k0_pay17 cs) (k0_pay18 sn) k0_pay19 (k0_pay21 y) (k0_pay22 y) (ix2 r l) = head y g cs sn r 1 l := by
  unfold k0_pay23 k0_pay22 k0_pay21 k0_pay16 k0_pay17 k0_pay18
  dsimp only
  rw [show k0_pay19 = k0_pay9 from rfl]
  rw [swapped]
  unfold head turn unit irh
  pointwise [Ideal.ofBits_one_f32, Ideal.ofBits_zero_f32, mul_one]

/-- Head 2 of the keys. -/
theorem khead2 (l : Fin 128) : k0_pay24 (F := Ideal) y (k0_pay16 g) (k0_pay17 cs) (k0_pay18 sn) k0_pay19 (ix2 r l) = head y g cs sn r 2 l := by
  unfold k0_pay24 k0_pay16 k0_pay17 k0_pay18
  dsimp only
  rw [show k0_pay19 = k0_pay9 from rfl]
  rw [swapped]
  unfold head turn unit irh
  pointwise [Ideal.ofBits_one_f32, Ideal.ofBits_zero_f32, mul_one]

/-- The last head of the keys, and the four side by side. -/
theorem kblock (h : Fin 4) (l : Fin 128) (e : Fin 512) (he : e.val = h.val * 128 + l.val) :
    keyBlock (F := Ideal) y g cs sn (ix2 r e) = head y g cs sn r h l := by
  have h0 := fun l => khead0 y g cs sn r l
  have h1 := fun l => khead1 y g cs sn r l
  have h2 := fun l => khead2 y g cs sn r l
  unfold keyBlock
  generalize k0_pay20 (F := Ideal) y g cs sn = p0 at h0
  generalize k0_pay23 (F := Ideal) (k0_pay16 g) (k0_pay17 cs) (k0_pay18 sn) k0_pay19 (k0_pay21 y) (k0_pay22 y) = p1 at h1
  generalize k0_pay24 (F := Ideal) y (k0_pay16 g) (k0_pay17 cs) (k0_pay18 sn) k0_pay19 = p2 at h2
  unfold k0_pay4 k0_pay25 k0_pay16 k0_pay17 k0_pay18
  dsimp only
  rw [show k0_pay19 = k0_pay9 from rfl]
  rw [swapped]
  pointwise
  obtain ⟨h, hh⟩ := h
  have h4 : h = 0 ∨ h = 1 ∨ h = 2 ∨ h = 3 := by omega
  have hl := l.isLt
  rcases h4 with rfl | rfl | rfl | rfl <;> dsimp only at he
  · rw [dif_pos (by omega)]
    exact (congrArg p0 (congrArg (ix2 r) (Fin.ext (by dsimp only; omega)))).trans (h0 l)
  · rw [dif_neg (by omega), dif_pos (by omega)]
    exact (congrArg p1 (congrArg (ix2 r) (Fin.ext (by dsimp only; omega)))).trans (h1 l)
  · rw [dif_neg (by omega), dif_neg (by omega), dif_pos (by omega)]
    exact (congrArg p2 (congrArg (ix2 r) (Fin.ext (by dsimp only; omega)))).trans (h2 l)
  · rw [dif_neg (by omega), dif_neg (by omega), dif_neg (by omega)]
    have hy : e.val - 128 - 128 - 128 = l.val := by omega
    simp only [hy, Ideal.ofBits_one_f32, mul_one]
    unfold head turn unit irh
    rfl

end
end Cert.QkvIdeal.Arr
-- ==== Proof.QkvEntry.lean ====
module
public import proofs.«01_k».proof.Proof.QkvPay
public import Idealize.ShloMosaic.Lib.KernelVsHost
@[expose] public section
set_option maxRecDepth 16384
noncomputable section

/-! What the host lines in front of the queries, keys and values leave in the buffers the windows read. -/

namespace Cert.QkvIdeal.Arr
open Cert.QkvIdeal Cert.QkvIdeal.Gen Cert.QkvIdeal.Body Idealize.ShloMosaic Idealize.ShloMosaic.TcCoe Idealize.SL.Sem

variable (m : (ℓ : Loc nD τ sig) → Buf (Elt Ideal) ℓ) (c : Dev nD)

/-- Minus one and one, the signs of a pair of sines. -/
def signs : FVec Ideal S2 .f32 := fun i => FloatOps.ofBits (F := Ideal) .f32 (lit0 (S2.rowMajor i))

/-- The table of the cosines as the host builds it. -/
def cosTable (x : Vec Ideal S4096x64 .f32) : Vec Ideal S4608x128 .f32 :=
  concatenate S4608x128 0 [⟨S4096x128, shapeCast S4096x128 (broadcastInDim S4096x64x2 ![0, 1] bcast_S4096x64_S4096x64x2_0_1 x) shapeCasts_S4096x64x2_S4096x128⟩, ⟨S512x128, broadcastInDim S512x128 ![] bcast_S_S512x128 (constant (F := Ideal) S_ .f32 0x3F800000#32)⟩] concatenates_S4096x128_S512x128_S4608x128_d0

/-- The table of the signed sines as the host builds it. -/
def sinTable (x : Vec Ideal S4096x64 .f32) (z : Vec Ideal S2 .f32) : Vec Ideal S4608x128 .f32 :=
  concatenate S4608x128 0 [⟨S4096x128, (mulf (shapeCast S4096x128 (broadcastInDim S4096x64x2 ![0, 1] bcast_S4096x64_S4096x64x2_0_1 x) shapeCasts_S4096x64x2_S4096x128 : FVec Ideal S4096x128 .f32) (broadcastInDim S4096x128 ![0, 1] bcast_S1x128_S4096x128_0_1 (broadcastInDim S1x128 ![1] bcast_S128_S1x128_1 (shapeCast S128 (broadcastInDim S64x2 ![0, 1] bcast_S1x2_S64x2_0_1 (shapeCast S1x2 z shapeCasts_S2_S1x2)) shapeCasts_S64x2_S128)) : FVec Ideal S4096x128 .f32) : FVec Ideal S4096x128 .f32)⟩, ⟨S512x128, broadcastInDim S512x128 ![] bcast_S_S512x128 (constant (F := Ideal) S_ .f32 0x00000000#32)⟩] concatenates_S4096x128_S512x128_S4608x128_d0

/-- The gain. -/
theorem V_v14 : (V m c main_v14 : Vec Ideal S1x2048 .f32)
    = shapeCast S1x2048 (m ((c : Thread nD τ).loc main_arg2) : Vec Ideal S2048 .f32) shapeCasts_S2048_S1x2048 := by
  unfold V
  entry_read
  first | done | rfl

/-- The modulation. -/
theorem V_v15 : (V m c main_v15 : Vec Ideal S8x1x12288 .f32)
    = shapeCast S8x1x12288 (m ((c : Thread nD τ).loc main_arg1) : Vec Ideal S8x12288 .f32) shapeCasts_S8x12288_S8x1x12288 := by
  unfold V
  entry_read
  first | done | rfl

/-- The gain of the queries. -/
theorem V_v16 : (V m c main_v16 : Vec Ideal S1x128 .f32)
    = shapeCast S1x128 (m ((c : Thread nD τ).loc main_arg3) : Vec Ideal S128 .f32) shapeCasts_S128_S1x128 := by
  unfold V
  entry_read
  first | done | rfl

/-- The gain of the keys. -/
theorem V_v17 : (V m c main_v17 : Vec Ideal S1x128 .f32)
    = shapeCast S1x128 (m ((c : Thread nD τ).loc main_arg4) : Vec Ideal S128 .f32) shapeCasts_S128_S1x128 := by
  unfold V
  entry_read
  first | done | rfl

/-- The table of the cosines. -/
theorem V_v11 : (V m c main_v11 : Vec Ideal S4608x128 .f32)
    = cosTable (m ((c : Thread nD τ).loc main_arg5) : Vec Ideal S4096x64 .f32) := by
  unfold V
  entry_read
  first | done | rfl

/-- The table of the signed sines. -/
theorem V_v13 : (V m c main_v13 : Vec Ideal S4608x128 .f32)
    = sinTable (m ((c : Thread nD τ).loc main_arg6) : Vec Ideal S4096x64 .f32) signs := by
  unfold V
  entry_read
  first | done | rfl

/-- The weights. -/
theorem V_v18 : (V m c main_v18 : Vec Ideal S2048x3072 .bf16)
    = (truncf (F := Ideal) .bf16 (m ((c : Thread nD τ).loc main_arg7) : Vec Ideal S2048x3072 .f32) bitsLt_bf16_f32 : Vec Ideal S2048x3072 .bf16) := by
  unfold V
  entry_read
  first | done | rfl

/-- The rows. -/
theorem V_arg0 : (V m c main_arg0 : Vec Ideal S17408x2048 .f32) = (m ((c : Thread nD τ).loc main_arg0) : Vec Ideal S17408x2048 .f32) := by
  unfold V
  entry_read
  first | done | rfl

/-- The cosine of a lane at a position, and one after the positions. -/
def cosAt (x : Vec Ideal S4096x64 .f32) (i : Fin 4608) (l : Fin 128) : EReal :=
  if h : i.val < 4096 then x (ix2 ⟨i.val, h⟩ ⟨l.val / 2, by omega⟩) else 1

/-- The signed sine of a lane at a position, and zero after the positions. -/
def sinAt (x : Vec Ideal S4096x64 .f32) (i : Fin 4608) (l : Fin 128) : EReal :=
  if h : i.val < 4096 then x (ix2 ⟨i.val, h⟩ ⟨l.val / 2, by omega⟩) * (if l.val % 2 = 0 then -1 else 1) else 0

section
/-- The gain as a row. -/
theorem cast_gain (x : Vec Ideal S2048 .f32) (e : Fin 2048) : shapeCast S1x2048 x shapeCasts_S2048_S1x2048 (ix2 0 e) = x (ix1 e) := by
  pointwise

/-- The gain of a head as a row. -/
theorem cast_hgain (x : Vec Ideal S128 .f32) (e : Fin 128) : shapeCast S1x128 x shapeCasts_S128_S1x128 (ix2 0 e) = x (ix1 e) := by
  pointwise

/-- The modulation with a unit axis. -/
theorem cast_mod (x : Vec Ideal S8x12288 .f32) (i : Fin 8) (e : Fin 12288) :
    shapeCast S8x1x12288 x shapeCasts_S8x12288_S8x1x12288 (ix3 i 0 e) = x (ix2 i e) := by
  pointwise

/-- The weights rounded: nothing changes at the ideal arithmetic. -/
theorem cast_w (x : Vec Ideal S2048x3072 .f32) (i : Fin 2048) (e : Fin 3072) :
    (truncf (F := Ideal) .bf16 x bitsLt_bf16_f32 : Vec Ideal S2048x3072 .bf16) (ix2 i e) = x (ix2 i e) := by
  pointwise

/-- The cosines, one for each pair of lanes, and ones after the positions. -/
theorem cast_cos (x : Vec Ideal S4096x64 .f32) (i : Fin 4608) (l : Fin 128) :
    cosTable x (ix2 i l)
      = if h : i.val < 4096 then x (ix2 ⟨i.val, h⟩ ⟨l.val / 2, by omega⟩) else (1 : EReal) := by
  unfold cosTable
  pointwise [Ideal.ofBits_one_f32]

/-- The sines, one for each pair of lanes and signed, and zeros after the positions. -/
theorem cast_sin (x : Vec Ideal S4096x64 .f32) (z : Vec Ideal S2 .f32) (i : Fin 4608) (l : Fin 128) :
    sinTable x z (ix2 i l)
      = if h : i.val < 4096 then x (ix2 ⟨i.val, h⟩ ⟨l.val / 2, by omega⟩) * z (ix1 ⟨l.val % 2, by omega⟩) else (0 : EReal) := by
  unfold sinTable
  pointwise [Ideal.ofBits_zero_f32]

/-- The pattern of minus one. -/
theorem neg_one : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The sign of a lane. -/
theorem signs_at (l : Fin 2) : signs (ix1 l) = if l.val = 0 then (-1 : EReal) else 1 := by
  match l with
  | ⟨0, _⟩ => exact neg_one
  | ⟨1, _⟩ => exact Ideal.ofBits_one_f32
end

/-- The same, read at an index. -/
theorem at_v14 (e : Fin 2048) : (V m c main_v14 : Vec Ideal S1x2048 .f32) (ix2 0 e) = (m ((c : Thread nD τ).loc main_arg2) : Vec Ideal S2048 .f32) (ix1 e) :=
  (congrFun (V_v14 m c) _).trans (cast_gain _ e)

/-- The same, read at an index. -/
theorem at_v15 (i : Fin 8) (e : Fin 12288) : (V m c main_v15 : Vec Ideal S8x1x12288 .f32) (ix3 i 0 e) = (m ((c : Thread nD τ).loc main_arg1) : Vec Ideal S8x12288 .f32) (ix2 i e) :=
  (congrFun (V_v15 m c) _).trans (cast_mod _ i e)

/-- The same, read at an index. -/
theorem at_v16 (e : Fin 128) : (V m c main_v16 : Vec Ideal S1x128 .f32) (ix2 0 e) = (m ((c : Thread nD τ).loc main_arg3) : Vec Ideal S128 .f32) (ix1 e) :=
  (congrFun (V_v16 m c) _).trans (cast_hgain _ e)

/-- The same, read at an index. -/
theorem at_v17 (e : Fin 128) : (V m c main_v17 : Vec Ideal S1x128 .f32) (ix2 0 e) = (m ((c : Thread nD τ).loc main_arg4) : Vec Ideal S128 .f32) (ix1 e) :=
  (congrFun (V_v17 m c) _).trans (cast_hgain _ e)

/-- The same, read at an index. -/
theorem at_v11 (i : Fin 4608) (l : Fin 128) : (V m c main_v11 : Vec Ideal S4608x128 .f32) (ix2 i l) = cosAt (m ((c : Thread nD τ).loc main_arg5) : Vec Ideal S4096x64 .f32) i l :=
  (congrFun (V_v11 m c) _).trans (cast_cos _ i l)

/-- The same, read at an index. -/
theorem at_v13 (i : Fin 4608) (l : Fin 128) : (V m c main_v13 : Vec Ideal S4608x128 .f32) (ix2 i l) = sinAt (m ((c : Thread nD τ).loc main_arg6) : Vec Ideal S4096x64 .f32) i l :=
  (congrFun (V_v13 m c) _).trans ((cast_sin _ _ i l).trans (by unfold sinAt; simp only [signs_at]))

/-- The same, read at an index. -/
theorem at_v18 (i : Fin 2048) (e : Fin 3072) : (V m c main_v18 : Vec Ideal S2048x3072 .bf16) (ix2 i e) = (m ((c : Thread nD τ).loc main_arg7) : Vec Ideal S2048x3072 .f32) (ix2 i e) :=
  (congrFun (V_v18 m c) _).trans (cast_w _ i e)

end Cert.QkvIdeal.Arr
-- ==== Proof.QkvArr.lean ====
module
public import proofs.«01_k».proof.Proof.QkvEntry
@[expose] public section
set_option maxRecDepth 16384
noncomputable section

/-! The three arrays the kernel leaves, as functions of its arguments. -/

namespace Cert.QkvIdeal.Arr
open Cert.QkvIdeal Cert.QkvIdeal.Gen Cert.QkvIdeal.Body Idealize.ShloMosaic Idealize.ShloMosaic.TcCoe Idealize.SL.Sem
open Cert.FfnIdeal.Blk (irms)

/-- The modulated norm of a row. -/
def hin (X : Vec Ideal S17408x2048 .f32) (M : Vec Ideal S8x12288 .f32) (g : Vec Ideal S2048 .f32) (R : Fin 17408) (d : Fin 2048) : EReal :=
  X (ix2 R d) * irms (fun k => X (ix2 R k)) * (g (ix1 d) * (1 + M (ix2 ⟨R.val / 4096, by omega⟩ ⟨2048 + d.val, by omega⟩)))
    + M (ix2 ⟨R.val / 4096, by omega⟩ ⟨d.val, by omega⟩)

/-- Its product with column `n` of the weights. -/
def mix (X : Vec Ideal S17408x2048 .f32) (M : Vec Ideal S8x12288 .f32) (g : Vec Ideal S2048 .f32) (W : Vec Ideal S2048x3072 .f32) (R : Fin 17408) (n : Fin 3072) : EReal :=
  ∑ d : Fin 2048, hin X M g R d * W (ix2 d n)

/-- The row of the rotation tables for a row of the input: its position in the sequence, or a row after the positions. -/
def pos (R : Fin 17408) : Fin 4608 := if R.val < 16384 then ⟨R.val % 4096, by omega⟩ else ⟨4096 + R.val % 512, by omega⟩

/-- A head of columns `a`, normed by the gain `G` and rotated. -/
def hd (X : Vec Ideal S17408x2048 .f32) (M : Vec Ideal S8x12288 .f32) (g : Vec Ideal S2048 .f32) (W : Vec Ideal S2048x3072 .f32) (G : Vec Ideal S128 .f32) (C S : Vec Ideal S4096x64 .f32) (R : Fin 17408) (a : Fin 24) (l : Fin 128) : EReal :=
  turn (unit (fun k => mix X M g W R ⟨a.val * 128 + k.val, by omega⟩) (fun k => G (ix1 k))) (cosAt C (pos R)) (sinAt S (pos R)) l

/-- The queries: sixteen heads, scaled. -/
def Q (X : Vec Ideal S17408x2048 .f32) (M : Vec Ideal S8x12288 .f32) (g : Vec Ideal S2048 .f32) (W : Vec Ideal S2048x3072 .f32) (G : Vec Ideal S128 .f32) (C S : Vec Ideal S4096x64 .f32) : Vec Ideal S17408x2048 .bf16 := fun i =>
  hd X M g W G C S (i 0) ⟨(i 1).val / 128, by have h : (i 1).val < 2048 := (i 1).isLt; omega⟩ ⟨(i 1).val % 128, by omega⟩ * Ideal.ofBits .f32 0x3DB504F3#32

/-- The keys: four heads. -/
def K (X : Vec Ideal S17408x2048 .f32) (M : Vec Ideal S8x12288 .f32) (g : Vec Ideal S2048 .f32) (W : Vec Ideal S2048x3072 .f32) (G : Vec Ideal S128 .f32) (C S : Vec Ideal S4096x64 .f32) : Vec Ideal S17408x512 .bf16 := fun i =>
  hd X M g W G C S (i 0) ⟨16 + (i 1).val / 128, by have h : (i 1).val < 512 := (i 1).isLt; omega⟩ ⟨(i 1).val % 128, by omega⟩

/-- The values. -/
def U (X : Vec Ideal S17408x2048 .f32) (M : Vec Ideal S8x12288 .f32) (g : Vec Ideal S2048 .f32) (W : Vec Ideal S2048x3072 .f32) : Vec Ideal S17408x512 .bf16 := fun i =>
  mix X M g W (i 0) ⟨2560 + (i 1).val, by have h : (i 1).val < 512 := (i 1).isLt; omega⟩

/-- The block each window takes at a grid point. -/
theorem idx : ∀ t : Fin cfg0.N,
    win0_0.index t = ![t.val / 6, 0] ∧ win0_1.index t = ![0, 0] ∧ win0_2.index t = ![t.val / 48, 0, 0] ∧ win0_3.index t = ![t.val / 48, 0, 1]
    ∧ win0_4.index t = ![0, 0] ∧ win0_5.index t = ![0, 0] ∧ win0_6.index t = ![if t.val < 192 then t.val / 6 % 8 else 8, 0]
    ∧ win0_7.index t = ![if t.val < 192 then t.val / 6 % 8 else 8, 0] ∧ win0_8.index t = ![0, t.val % 6]
    ∧ win0_9.index t = ![t.val / 6, min (t.val % 6) 3] ∧ win0_10.index t = ![t.val / 6, 0] ∧ win0_11.index t = ![t.val / 6, 0] :=
  (by decide +kernel : ∀ t : Fin grid0.N, _)

section
variable (m : (ℓ : Loc nD τ sig) → Buf (Elt Ideal) ℓ) (c : Dev nD) (t : Fin cfg0.N)

/-- The rows a grid point reads. -/
theorem blk0 (i : Fin 512) (e : Fin 2048) (h0) : (iblk m c 0 t : Vec Ideal S512x2048 .f32) (ix2 i e) = ((m ((c : Thread nD τ).loc main_arg0)) : Vec Ideal S17408x2048 .f32) (ix2 ⟨t.val / 6 * 512 + i.val, h0⟩ e) := by
  obtain ⟨e0, -⟩ := idx t
  refine Eq.trans ?_ (congrFun (V_arg0 m c) (ix2 ⟨t.val / 6 * 512 + i.val, h0⟩ e))
  blk_ext [iblk, e0]

/-- The gain. -/
theorem blk1 (e : Fin 2048) : (iblk m c 1 t : Vec Ideal S1x2048 .f32) (ix2 0 e) = ((m ((c : Thread nD τ).loc main_arg2)) : Vec Ideal S2048 .f32) (ix1 e) := by
  obtain ⟨-, e0, -⟩ := idx t
  refine Eq.trans ?_ (at_v14 m c e)
  blk_ext [iblk, e0]

/-- The shift of the batch entry a grid point works on. -/
theorem blk2 (e : Fin 2048) (h0 h1) : (iblk m c 2 t : Vec Ideal S1x1x2048 .f32) (ix3 0 0 e) = ((m ((c : Thread nD τ).loc main_arg1)) : Vec Ideal S8x12288 .f32) (ix2 ⟨t.val / 48, h0⟩ ⟨e.val, h1⟩) := by
  obtain ⟨-, -, e0, -⟩ := idx t
  refine Eq.trans ?_ (at_v15 m c ⟨t.val / 48, h0⟩ ⟨e.val, h1⟩)
  blk_ext [iblk, e0]

/-- The scale of the batch entry a grid point works on. -/
theorem blk3 (e : Fin 2048) (h0 h1) : (iblk m c 3 t : Vec Ideal S1x1x2048 .f32) (ix3 0 0 e) = ((m ((c : Thread nD τ).loc main_arg1)) : Vec Ideal S8x12288 .f32) (ix2 ⟨t.val / 48, h0⟩ ⟨2048 + e.val, h1⟩) := by
  obtain ⟨-, -, -, e0, -⟩ := idx t
  refine Eq.trans ?_ (at_v15 m c ⟨t.val / 48, h0⟩ ⟨2048 + e.val, h1⟩)
  blk_ext [iblk, e0]

/-- The gain of the queries. -/
theorem blk4 (e : Fin 128) : (iblk m c 4 t : Vec Ideal S1x128 .f32) (ix2 0 e) = ((m ((c : Thread nD τ).loc main_arg3)) : Vec Ideal S128 .f32) (ix1 e) := by
  obtain ⟨-, -, -, -, e0, -⟩ := idx t
  refine Eq.trans ?_ (at_v16 m c e)
  blk_ext [iblk, e0]

/-- The gain of the keys. -/
theorem blk5 (e : Fin 128) : (iblk m c 5 t : Vec Ideal S1x128 .f32) (ix2 0 e) = ((m ((c : Thread nD τ).loc main_arg4)) : Vec Ideal S128 .f32) (ix1 e) := by
  obtain ⟨-, -, -, -, -, e0, -⟩ := idx t
  refine Eq.trans ?_ (at_v17 m c e)
  blk_ext [iblk, e0]

/-- The rows of the table that a grid point reads. -/
theorem blk6 (i : Fin 512) (l : Fin 128) (R : Fin 17408) (hR : R.val = t.val / 6 * 512 + i.val) :
    (iblk m c 6 t : Vec Ideal S512x128 .f32) (ix2 i l) = cosAt (m ((c : Thread nD τ).loc main_arg5)) (pos R) l := by
  obtain ⟨-, -, -, -, -, -, e0, -⟩ := idx t
  have hi := i.isLt
  refine Eq.trans ?_ (at_v11 m c (pos R) l)
  have hp : (pos R).val = (if t.val < 192 then t.val / 6 % 8 else 8) * 512 + i.val := by
    unfold pos
    split <;> split <;> dsimp only <;> omega
  generalize pos R = p at hp
  generalize (if t.val < 192 then t.val / 6 % 8 else 8) = b at e0 hp
  blk_ext [iblk, e0, hp]

/-- The rows of the table that a grid point reads. -/
theorem blk7 (i : Fin 512) (l : Fin 128) (R : Fin 17408) (hR : R.val = t.val / 6 * 512 + i.val) :
    (iblk m c 7 t : Vec Ideal S512x128 .f32) (ix2 i l) = sinAt (m ((c : Thread nD τ).loc main_arg6)) (pos R) l := by
  obtain ⟨-, -, -, -, -, -, -, e0, -⟩ := idx t
  have hi := i.isLt
  refine Eq.trans ?_ (at_v13 m c (pos R) l)
  have hp : (pos R).val = (if t.val < 192 then t.val / 6 % 8 else 8) * 512 + i.val := by
    unfold pos
    split <;> split <;> dsimp only <;> omega
  generalize pos R = p at hp
  generalize (if t.val < 192 then t.val / 6 % 8 else 8) = b at e0 hp
  blk_ext [iblk, e0, hp]

/-- The columns of the weights a grid point reads. -/
theorem blk8 (i : Fin 2048) (e : Fin 512) (h1) : (iblk m c 8 t : Vec Ideal S2048x512 .bf16) (ix2 i e) = ((m ((c : Thread nD τ).loc main_arg7)) : Vec Ideal S2048x3072 .f32) (ix2 i ⟨t.val % 6 * 512 + e.val, h1⟩) := by
  obtain ⟨-, -, -, -, -, -, -, -, e0, -⟩ := idx t
  refine Eq.trans ?_ (at_v18 m c i ⟨t.val % 6 * 512 + e.val, h1⟩)
  blk_ext [iblk, e0]

/-- The normalised rows of a grid point. -/
theorem rows_at (r : Fin 512) (d : Fin 2048) (R : Fin 17408) (hR : R.val = t.val / 6 * 512 + r.val) :
    (rows m c t : Vec Ideal S512x2048 .bf16) (ix2 r d) = hin (m ((c : Thread nD τ).loc main_arg0)) (m ((c : Thread nD τ).loc main_arg1)) (m ((c : Thread nD τ).loc main_arg2)) R d := by
  have ht := t_lt t
  have hr := r.isLt
  have hf := step_val 0 (by omega) t
  have h6 : (step 0 (by omega) t).val / 6 * 512 + r.val = R.val := by omega
  have hb : (step 0 (by omega) t).val / 48 = R.val / 4096 := by omega
  unfold rows hin
  rw [pay1]
  simp only [fun k => blk0 m c (step 0 (by omega) t) r k (by omega), blk1, fun d => blk2 m c (step 0 (by omega) t) d (by omega) (by omega),
    fun d => blk3 m c (step 0 (by omega) t) d (by omega) (by omega), h6, hb]

/-- The product of the normalised rows with the columns of a grid point. -/
theorem prod_at (r e : Fin 512) (R : Fin 17408) (hR : R.val = t.val / 6 * 512 + r.val) (n : Fin 3072) (hn : n.val = t.val % 6 * 512 + e.val) :
    k0_pay2 (F := Ideal) (rows m c t) (iblk m c 8 t) (ix2 r e) = mix (m ((c : Thread nD τ).loc main_arg0)) (m ((c : Thread nD τ).loc main_arg1)) (m ((c : Thread nD τ).loc main_arg2)) (m ((c : Thread nD τ).loc main_arg7)) R n := by
  have hb : t.val % 6 * 512 + e.val < 3072 := by omega
  obtain rfl : n = ⟨t.val % 6 * 512 + e.val, hb⟩ := Fin.ext hn
  rw [pay2]
  unfold mix
  simp only [fun d => rows_at m c t r d R hR, fun d => blk8 m c t d e (by omega)]

/-- A head computed at a grid point. -/
theorem head_at (g : Vec Ideal S1x128 .f32) (G : Vec Ideal S128 .f32) (hg : ∀ k, g (ix2 0 k) = G (ix1 k)) (r : Fin 512) (h : Fin 4) (l : Fin 128)
    (R : Fin 17408) (hR : R.val = t.val / 6 * 512 + r.val) (a : Fin 24) (ha : a.val = t.val % 6 * 4 + h.val) :
    head (k0_pay2 (F := Ideal) (rows m c t) (iblk m c 8 t)) g (iblk m c 6 t) (iblk m c 7 t) r h l
      = hd (m ((c : Thread nD τ).loc main_arg0)) (m ((c : Thread nD τ).loc main_arg1)) (m ((c : Thread nD τ).loc main_arg2)) (m ((c : Thread nD τ).loc main_arg7)) G (m ((c : Thread nD τ).loc main_arg5)) (m ((c : Thread nD τ).loc main_arg6)) R a l := by
  have hp := fun k : Fin 128 => prod_at m c t r ⟨h.val * 128 + k.val, by omega⟩ R hR ⟨a.val * 128 + k.val, by omega⟩ (by dsimp only; omega)
  unfold head hd
  simp only [hp, hg, fun k => blk6 m c t r k R hR, fun k => blk7 m c t r k R hR]

/-- The queries a grid point computes. -/
theorem query_at (ht : t.val % 6 < 4) (r e : Fin 512) (R : Fin 17408) (hR : R.val = t.val / 6 * 512 + r.val) (n : Fin 2048) (hn : n.val = t.val % 6 * 512 + e.val) :
    (queryAt m c t : Vec Ideal S512x512 .bf16) (ix2 r e) = Q (m ((c : Thread nD τ).loc main_arg0)) (m ((c : Thread nD τ).loc main_arg1)) (m ((c : Thread nD τ).loc main_arg2)) (m ((c : Thread nD τ).loc main_arg7)) (m ((c : Thread nD τ).loc main_arg3)) (m ((c : Thread nD τ).loc main_arg5)) (m ((c : Thread nD τ).loc main_arg6)) (ix2 R n) := by
  unfold queryAt
  rw [qblock _ _ _ _ r ⟨e.val / 128, by omega⟩ ⟨e.val % 128, by omega⟩ e (by dsimp only; omega),
    head_at m c t _ _ (blk4 m c t) r _ _ R hR ⟨n.val / 128, by omega⟩ (by dsimp only; omega)]
  have hl : e.val % 128 = n.val % 128 := by omega
  simp only [hl]
  rfl

/-- The keys a grid point computes. -/
theorem key_at (ht : t.val % 6 = 4) (r e : Fin 512) (R : Fin 17408) (hR : R.val = t.val / 6 * 512 + r.val) :
    (keyAt m c t : Vec Ideal S512x512 .bf16) (ix2 r e) = K (m ((c : Thread nD τ).loc main_arg0)) (m ((c : Thread nD τ).loc main_arg1)) (m ((c : Thread nD τ).loc main_arg2)) (m ((c : Thread nD τ).loc main_arg7)) (m ((c : Thread nD τ).loc main_arg4)) (m ((c : Thread nD τ).loc main_arg5)) (m ((c : Thread nD τ).loc main_arg6)) (ix2 R e) := by
  unfold keyAt
  rw [kblock _ _ _ _ r ⟨e.val / 128, by omega⟩ ⟨e.val % 128, by omega⟩ e (by dsimp only; omega),
    head_at m c t _ _ (blk5 m c t) r _ _ R hR ⟨16 + e.val / 128, by omega⟩ (by dsimp only; omega)]
  rfl

/-- The values a grid point computes. -/
theorem value_at (ht : t.val % 6 = 5) (r e : Fin 512) (R : Fin 17408) (hR : R.val = t.val / 6 * 512 + r.val) :
    (value m c t : Vec Ideal S512x512 .bf16) (ix2 r e) = U (m ((c : Thread nD τ).loc main_arg0)) (m ((c : Thread nD τ).loc main_arg1)) (m ((c : Thread nD τ).loc main_arg2)) (m ((c : Thread nD τ).loc main_arg7)) (ix2 R e) := by
  unfold value
  exact (pay5 _ _ r e).trans ((pay2 _ _ r e).symm.trans (prod_at m c t r e R hR ⟨2560 + e.val, by omega⟩ (by dsimp only; omega)))

/-- The array of the queries. -/
theorem arr_query : (dats m 0 c).arrAt 9 cfg0.N = Q (m ((c : Thread nD τ).loc main_arg0)) (m ((c : Thread nD τ).loc main_arg1)) (m ((c : Thread nD τ).loc main_arg2)) (m ((c : Thread nD τ).loc main_arg7)) (m ((c : Thread nD τ).loc main_arg3)) (m ((c : Thread nD τ).loc main_arg5)) (m ((c : Thread nD τ).loc main_arg6)) := by
  refine (dats m 0 c).arrAt_eq_of_covers 9 _ (by decide +kernel) fun t hf y => ?_
  have ht := t_lt t
  obtain ⟨-, -, -, -, -, -, -, -, -, e9, -⟩ := idx t
  have e0 : ((((cfg0.win 9).blk t).view.emb y) (0 : Fin 2) : ℕ) = t.val / 6 * 512 + (y (0 : Fin 2)).val := by
    blk_simp [e9]
  have e1 : ((((cfg0.win 9).blk t).view.emb y) (1 : Fin 2) : ℕ) = min (t.val % 6) 3 * 512 + (y (1 : Fin 2)).val := by
    blk_simp [e9]
  have h0 : (y (0 : Fin 2)).val < 512 := (y 0).isLt
  have h1 : (y (1 : Fin 2)).val < 512 := (y 1).isLt
  blk_simp
  have ht' := t_lt t
  have hs := atQuery_val t
  have key := query_at m c (atQuery t) (by omega) ⟨(y (0 : Fin 2)).val, h0⟩ ⟨(y (1 : Fin 2)).val, h1⟩
    ⟨t.val / 6 * 512 + (y (0 : Fin 2)).val, by omega⟩ (by dsimp only; omega) ⟨min (t.val % 6) 3 * 512 + (y (1 : Fin 2)).val, by omega⟩ (by dsimp only; omega)
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

/-- The array of the keys. -/
theorem arr_key : (dats m 0 c).arrAt 10 cfg0.N = K (m ((c : Thread nD τ).loc main_arg0)) (m ((c : Thread nD τ).loc main_arg1)) (m ((c : Thread nD τ).loc main_arg2)) (m ((c : Thread nD τ).loc main_arg7)) (m ((c : Thread nD τ).loc main_arg4)) (m ((c : Thread nD τ).loc main_arg5)) (m ((c : Thread nD τ).loc main_arg6)) := by
  refine (dats m 0 c).arrAt_eq_of_covers 10 _ (by decide +kernel) fun t hf y => ?_
  have ht := t_lt t
  obtain ⟨-, -, -, -, -, -, -, -, -, -, e9, -⟩ := idx t
  have e0 : ((((cfg0.win 10).blk t).view.emb y) (0 : Fin 2) : ℕ) = t.val / 6 * 512 + (y (0 : Fin 2)).val := by
    blk_simp [e9]
  have e1 : ((((cfg0.win 10).blk t).view.emb y) (1 : Fin 2) : ℕ) = (y (1 : Fin 2)).val := by
    blk_simp [e9]
  have h0 : (y (0 : Fin 2)).val < 512 := (y 0).isLt
  have h1 : (y (1 : Fin 2)).val < 512 := (y 1).isLt
  blk_simp
  have hs := step_val 4 (by omega) t
  have key := key_at m c (step 4 (by omega) t) (by omega) ⟨(y (0 : Fin 2)).val, h0⟩ ⟨(y (1 : Fin 2)).val, h1⟩
    ⟨t.val / 6 * 512 + (y (0 : Fin 2)).val, by omega⟩ (by dsimp only; omega)
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

/-- The array of the values. -/
theorem arr_value : (dats m 0 c).arrAt 11 cfg0.N = U (m ((c : Thread nD τ).loc main_arg0)) (m ((c : Thread nD τ).loc main_arg1)) (m ((c : Thread nD τ).loc main_arg2)) (m ((c : Thread nD τ).loc main_arg7)) := by
  refine (dats m 0 c).arrAt_eq_of_covers 11 _ (by decide +kernel) fun t hf y => ?_
  have ht := t_lt t
  obtain ⟨-, -, -, -, -, -, -, -, -, -, -, e9⟩ := idx t
  have e0 : ((((cfg0.win 11).blk t).view.emb y) (0 : Fin 2) : ℕ) = t.val / 6 * 512 + (y (0 : Fin 2)).val := by
    blk_simp [e9]
  have e1 : ((((cfg0.win 11).blk t).view.emb y) (1 : Fin 2) : ℕ) = (y (1 : Fin 2)).val := by
    blk_simp [e9]
  have h0 : (y (0 : Fin 2)).val < 512 := (y 0).isLt
  have h1 : (y (1 : Fin 2)).val < 512 := (y 1).isLt
  blk_simp
  have key := value_at m c t ((flush0_11 t).1 hf) ⟨(y (0 : Fin 2)).val, h0⟩ ⟨(y (1 : Fin 2)).val, h1⟩
    ⟨t.val / 6 * 512 + (y (0 : Fin 2)).val, by omega⟩ rfl
  refine Eq.trans (congrArg _ (funext fun a => Fin.ext ?_)) (key.trans (congrArg _ (funext fun a => Fin.ext ?_)))
  · match a with
    | ⟨0, _⟩ => rfl
    | ⟨1, _⟩ => rfl
  · match a with
    | ⟨0, _⟩ => exact e0.symm
    | ⟨1, _⟩ => exact e1.symm

end
end Cert.QkvIdeal.Arr
-- ==== Proof.QkvRef.lean ====
module
public import proofs.«01_k».proof.Proof.QkvArr
public import proofs.«01_k».proof.Proof.Gen.QkvRefIdeal.Read
@[expose] public section
set_option maxRecDepth 16384
noncomputable section

/-! The results of the reference of the queries, keys and values, element by element. -/

namespace Cert.QkvRefIdeal.Val
open Cert.QkvRefIdeal Cert.QkvRefIdeal.Gen Cert.QkvRefIdeal.Read Idealize.ShloMosaic Idealize.ShloMosaic.TcCoe Idealize.SL.Sem
open Cert.QkvIdeal.Arr (hin mix hd pos unit irh turn mate cosAt sinAt Q K U)
open Cert.FfnIdeal.Blk (irms)

/-- A head rotated at a position of a sequence. -/
theorem turn_lat (u : Fin 128 → EReal) (C S : Vec Ideal S4096x64 .f32) (R : Fin 17408) (s : Fin 4096) (hR : R.val < 16384) (hs : R.val % 4096 = s.val)
    (l : Fin 128) : turn u (cosAt C (pos R)) (sinAt S (pos R)) l
      = if l.val % 2 = 0 then u ⟨l.val / 2 * 2, by omega⟩ * C (ix2 s ⟨l.val / 2, by omega⟩) - u ⟨l.val / 2 * 2 + 1, by omega⟩ * S (ix2 s ⟨l.val / 2, by omega⟩)
        else u ⟨l.val / 2 * 2, by omega⟩ * S (ix2 s ⟨l.val / 2, by omega⟩) + u ⟨l.val / 2 * 2 + 1, by omega⟩ * C (ix2 s ⟨l.val / 2, by omega⟩) := by
  have hp : pos R = ⟨s.val, by omega⟩ := by
    unfold pos
    rw [if_pos hR]
    exact Fin.ext hs
  have hl := l.isLt
  unfold turn cosAt sinAt mate
  rw [hp]
  simp only [s.isLt, dif_pos, Fin.eta]
  by_cases h : l.val % 2 = 0
  · rw [if_pos h, if_pos h, if_pos h]
    rw [show (⟨l.val / 2 * 2, by omega⟩ : Fin 128) = l from Fin.ext (by dsimp only; omega),
      show (⟨l.val / 2 * 2 + 1, by omega⟩ : Fin 128) = ⟨(l.val + 1) % 128, by omega⟩ from Fin.ext (by dsimp only; omega)]
    rw [sub_eq_add_neg, mul_neg, mul_one, mul_neg]
  · rw [if_neg h, if_neg h, if_neg h]
    rw [show (⟨l.val / 2 * 2 + 1, by omega⟩ : Fin 128) = l from Fin.ext (by dsimp only; omega),
      show (⟨l.val / 2 * 2, by omega⟩ : Fin 128) = ⟨(l.val + 127) % 128, by omega⟩ from Fin.ext (by dsimp only; omega)]
    rw [mul_one, add_comm]

/-- A head after the positions: the rotation does nothing. -/
theorem turn_ctx (u : Fin 128 → EReal) (C S : Vec Ideal S4096x64 .f32) (R : Fin 17408) (hR : ¬R.val < 16384) (l : Fin 128) :
    turn u (cosAt C (pos R)) (sinAt S (pos R)) l = u l := by
  have hp : ¬(pos R).val < 4096 := by
    unfold pos
    rw [if_neg hR]
    dsimp only
    omega
  unfold turn cosAt sinAt
  rw [dif_neg hp, dif_neg hp, mul_one, mul_zero, add_zero]

variable (x0 : Vec Ideal S17408x2048 .f32) (x1 : Vec Ideal S8x12288 .f32) (x2 : Vec Ideal S2048 .f32) (x3 x4 : Vec Ideal S128 .f32)
  (x5 x6 : Vec Ideal S4096x64 .f32) (x7 : Vec Ideal S2048x3072 .f32)

/-- A latent row. -/
theorem row_lat (b : Fin 4) (s : Fin 4096) (d : Fin 2048) (R : Fin 17408) (hR : R.val = b.val * 4096 + s.val) :
    val_main_v17 (F := Ideal) x0 (ix3 b s d) = x0 (ix2 R d) := by
  rw [val_main_v17_apply, val_main_v16_apply]
  refine congrArg x0 (funext fun a => Fin.ext ?_)
  match a with
  | ⟨0, _⟩ => simp only [ix2, ix3]; dsimp; omega
  | ⟨1, _⟩ => simp only [ix2, ix3]; dsimp; omega

/-- A context row. -/
theorem row_ctx (b : Fin 4) (s : Fin 256) (d : Fin 2048) (R : Fin 17408) (hR : R.val = 16384 + b.val * 256 + s.val) :
    val_main_v70 (F := Ideal) x0 (ix3 b s d) = x0 (ix2 R d) := by
  rw [val_main_v70_apply, val_main_v69_apply]
  refine congrArg x0 (funext fun a => Fin.ext ?_)
  match a with
  | ⟨0, _⟩ => simp only [ix2, ix3]; dsimp; omega
  | ⟨1, _⟩ => simp only [ix2, ix3]; dsimp; omega

/-- The shift of a latent row. -/
theorem shift_lat (b : Fin 4) (d : Fin 2048) (R : Fin 17408) (hR : R.val / 4096 = b.val) :
    val_main_v2 (F := Ideal) x1 (ix3 b 0 d) = x1 (ix2 ⟨R.val / 4096, by omega⟩ ⟨d.val, by omega⟩) := by
  rw [val_main_v2_apply, val_main_v1_apply, val_main_v0_apply]
  refine congrArg x1 (funext fun a => Fin.ext ?_)
  match a with
  | ⟨0, _⟩ => exact hR.symm
  | ⟨1, _⟩ => simp only [ix2, ix3]

/-- The scale of a latent row. -/
theorem scale_lat (b : Fin 4) (d : Fin 2048) (R : Fin 17408) (hR : R.val / 4096 = b.val) :
    val_main_v3 (F := Ideal) x1 (ix3 b 0 d) = x1 (ix2 ⟨R.val / 4096, by omega⟩ ⟨2048 + d.val, by omega⟩) := by
  rw [val_main_v3_apply, val_main_v1_apply, val_main_v0_apply]
  refine congrArg x1 (funext fun a => Fin.ext ?_)
  match a with
  | ⟨0, _⟩ => exact hR.symm
  | ⟨1, _⟩ => simp only [ix2, ix3]

/-- The shift of the context rows. -/
theorem shift_ctx (d : Fin 2048) (R : Fin 17408) (hR : R.val / 4096 = 4) :
    val_main_v10 (F := Ideal) x1 (ix1 d) = x1 (ix2 ⟨R.val / 4096, by omega⟩ ⟨d.val, by omega⟩) := by
  rw [val_main_v10_apply, val_main_v9_apply, val_main_v8_apply]
  refine congrArg x1 (funext fun a => Fin.ext ?_)
  match a with
  | ⟨0, _⟩ => simp only [ix1, ix2]; dsimp; omega
  | ⟨1, _⟩ => simp only [ix1, ix2]; dsimp; omega

/-- The scale of the context rows. -/
theorem scale_ctx (d : Fin 2048) (R : Fin 17408) (hR : R.val / 4096 = 4) :
    val_main_v11 (F := Ideal) x1 (ix1 d) = x1 (ix2 ⟨R.val / 4096, by omega⟩ ⟨2048 + d.val, by omega⟩) := by
  rw [val_main_v11_apply, val_main_v9_apply, val_main_v8_apply]
  refine congrArg x1 (funext fun a => Fin.ext ?_)
  match a with
  | ⟨0, _⟩ => simp only [ix1, ix2]; dsimp; omega
  | ⟨1, _⟩ => simp only [ix1, ix2]; dsimp; omega

/-- The inverse root mean square of a latent row. -/
theorem norm_lat (b : Fin 4) (s : Fin 4096) (R : Fin 17408) (hR : R.val = b.val * 4096 + s.val) :
    val_main_v25 (F := Ideal) x0 (ix3 b s 0) = irms (fun k => x0 (ix2 R k)) := by
  have hr := fun d => row_lat x0 b s d R hR
  unfold val_main_v25 val_main_v24 val_main_v23 val_main_v22 val_main_v21 val_main_v20 val_main_v19 val_main_v18 irms
  generalize val_main_v17 (F := Ideal) x0 = p at hr
  pointwise [hr, val_main_cst, val_main_cst_0, val_main_cst_1, Ideal.ofBits_zero_f32, zero_add]

/-- The modulated norm of a latent row. -/
theorem input_lat (b : Fin 4) (s : Fin 4096) (d : Fin 2048) (R : Fin 17408) (hR : R.val = b.val * 4096 + s.val) :
    val_main_v36 (F := Ideal) x0 x1 x2 (ix3 b s d) = hin x0 x1 x2 R d := by
  have hr := fun d => row_lat x0 b s d R hR
  have hn := norm_lat x0 b s R hR
  have hs := shift_lat x1 b d R (by omega)
  have hc := scale_lat x1 b d R (by omega)
  unfold hin
  unfold val_main_v36 val_main_v35 val_main_v34 val_main_v33 val_main_v32 val_main_v31 val_main_v30 val_main_v29 val_main_v28 val_main_v27 val_main_v26
  generalize val_main_v25 (F := Ideal) x0 = q at hn
  generalize val_main_v17 (F := Ideal) x0 = p at hr
  generalize val_main_v2 (F := Ideal) x1 = u at hs
  generalize val_main_v3 (F := Ideal) x1 = v at hc
  pointwise [hr, hn, hs, hc, val_main_cst_2, Ideal.ofBits_one_f32]
  rw [← mul_assoc]

/-- The projection of a latent row. -/
theorem mixed_lat (b : Fin 4) (s : Fin 4096) (n : Fin 3072) (R : Fin 17408) (hR : R.val = b.val * 4096 + s.val) :
    val_main_v37 (F := Ideal) x0 x1 x2 x7 (ix3 b s n) = mix x0 x1 x2 x7 R n := by
  have h0 := fun d => input_lat x0 x1 x2 b s d R hR
  unfold val_main_v37 mix
  generalize val_main_v36 (F := Ideal) x0 x1 x2 = p at h0
  pointwise [h0]

/-- The inverse root mean square of a context row. -/
theorem norm_ctx (b : Fin 4) (s : Fin 256) (R : Fin 17408) (hR : R.val = 16384 + b.val * 256 + s.val) :
    val_main_v78 (F := Ideal) x0 (ix3 b s 0) = irms (fun k => x0 (ix2 R k)) := by
  have hr := fun d => row_ctx x0 b s d R hR
  unfold val_main_v78 val_main_v77 val_main_v76 val_main_v75 val_main_v74 val_main_v73 val_main_v72 val_main_v71 irms
  generalize val_main_v70 (F := Ideal) x0 = p at hr
  pointwise [hr, val_main_cst_9, val_main_cst_10, val_main_cst_11, Ideal.ofBits_zero_f32, zero_add]

/-- The modulated norm of a context row. -/
theorem input_ctx (b : Fin 4) (s : Fin 256) (d : Fin 2048) (R : Fin 17408) (hR : R.val = 16384 + b.val * 256 + s.val) :
    val_main_v91 (F := Ideal) x0 x1 x2 (ix3 b s d) = hin x0 x1 x2 R d := by
  have hr := fun d => row_ctx x0 b s d R hR
  have hn := norm_ctx x0 b s R hR
  have hs := shift_ctx x1 d R (by omega)
  have hc := scale_ctx x1 d R (by omega)
  unfold hin
  unfold val_main_v91 val_main_v90 val_main_v89 val_main_v88 val_main_v87 val_main_v86 val_main_v85 val_main_v84 val_main_v83 val_main_v82 val_main_v81 val_main_v80 val_main_v79
  generalize val_main_v78 (F := Ideal) x0 = q at hn
  generalize val_main_v70 (F := Ideal) x0 = p at hr
  generalize val_main_v10 (F := Ideal) x1 = u at hs
  generalize val_main_v11 (F := Ideal) x1 = v at hc
  pointwise [hr, hn, hs, hc, val_main_cst_12, Ideal.ofBits_one_f32]
  rw [← mul_assoc]

/-- The projection of a context row. -/
theorem mixed_ctx (b : Fin 4) (s : Fin 256) (n : Fin 3072) (R : Fin 17408) (hR : R.val = 16384 + b.val * 256 + s.val) :
    val_main_v92 (F := Ideal) x0 x1 x2 x7 (ix3 b s n) = mix x0 x1 x2 x7 R n := by
  have h0 := fun d => input_ctx x0 x1 x2 b s d R hR
  unfold val_main_v92 mix
  generalize val_main_v91 (F := Ideal) x0 x1 x2 = p at h0
  pointwise [h0]

/-- The columns of a head of the queries. -/
theorem cols_q_lat (b : Fin 4) (s : Fin 4096) (h : Fin 16) (l : Fin 128) (R : Fin 17408) (hR : R.val = b.val * 4096 + s.val) :
    val_main_v41 (F := Ideal) x0 x1 x2 x7 (ix4 b s h l) = mix x0 x1 x2 x7 R ⟨(h.val) * 128 + l.val, by omega⟩ := by
  rw [val_main_v41_apply, val_main_v38_apply]
  refine (congrArg (val_main_v37 (F := Ideal) x0 x1 x2 x7) (funext fun a => Fin.ext ?_)).trans (mixed_lat x0 x1 x2 x7 b s ⟨(h.val) * 128 + l.val, by omega⟩ R hR)
  match a with
  | ⟨0, _⟩ => simp only [ix3, ix4]; dsimp; omega
  | ⟨1, _⟩ => simp only [ix3, ix4]; dsimp; omega
  | ⟨2, _⟩ => simp only [ix3, ix4]; dsimp; omega

/-- A head of the queries, normed. -/
theorem unit_q_lat (b : Fin 4) (s : Fin 4096) (h : Fin 16) (l : Fin 128) (R : Fin 17408) (hR : R.val = b.val * 4096 + s.val) :
    val_main_v54 (F := Ideal) x0 x1 x2 x3 x7 (ix4 b s h l)
      = unit (fun k => mix x0 x1 x2 x7 R ⟨(h.val) * 128 + k.val, by omega⟩) (fun k => x3 (ix1 k)) l := by
  have hc := fun l => cols_q_lat x0 x1 x2 x7 b s h l R hR
  unfold val_main_v54 val_main_v53 val_main_v52 val_main_v51 val_main_v50 val_main_v49 val_main_v48 val_main_v47 val_main_v46 val_main_v45 val_main_v44 val_main_v43 val_main_v42 unit irh
  generalize val_main_v41 (F := Ideal) x0 x1 x2 x7 = p at hc
  pointwise [hc, val_main_cst_3, val_main_cst_4, val_main_cst_5, Ideal.ofBits_zero_f32, zero_add]

/-- The columns of a head of the keys. -/
theorem cols_k_lat (b : Fin 4) (s : Fin 4096) (h : Fin 4) (l : Fin 128) (R : Fin 17408) (hR : R.val = b.val * 4096 + s.val) :
    val_main_v55 (F := Ideal) x0 x1 x2 x7 (ix4 b s h l) = mix x0 x1 x2 x7 R ⟨(16 + h.val) * 128 + l.val, by omega⟩ := by
  rw [val_main_v55_apply, val_main_v39_apply]
  refine (congrArg (val_main_v37 (F := Ideal) x0 x1 x2 x7) (funext fun a => Fin.ext ?_)).trans (mixed_lat x0 x1 x2 x7 b s ⟨(16 + h.val) * 128 + l.val, by omega⟩ R hR)
  match a with
  | ⟨0, _⟩ => simp only [ix3, ix4]; dsimp; omega
  | ⟨1, _⟩ => simp only [ix3, ix4]; dsimp; omega
  | ⟨2, _⟩ => simp only [ix3, ix4]; dsimp; omega

/-- A head of the keys, normed. -/
theorem unit_k_lat (b : Fin 4) (s : Fin 4096) (h : Fin 4) (l : Fin 128) (R : Fin 17408) (hR : R.val = b.val * 4096 + s.val) :
    val_main_v68 (F := Ideal) x0 x1 x2 x4 x7 (ix4 b s h l)
      = unit (fun k => mix x0 x1 x2 x7 R ⟨(16 + h.val) * 128 + k.val, by omega⟩) (fun k => x4 (ix1 k)) l := by
  have hc := fun l => cols_k_lat x0 x1 x2 x7 b s h l R hR
  unfold val_main_v68 val_main_v67 val_main_v66 val_main_v65 val_main_v64 val_main_v63 val_main_v62 val_main_v61 val_main_v60 val_main_v59 val_main_v58 val_main_v57 val_main_v56 unit irh
  generalize val_main_v55 (F := Ideal) x0 x1 x2 x7 = p at hc
  pointwise [hc, val_main_cst_6, val_main_cst_7, val_main_cst_8, Ideal.ofBits_zero_f32, zero_add]

/-- The columns of a head of the queries. -/
theorem cols_q_ctx (b : Fin 4) (s : Fin 256) (h : Fin 16) (l : Fin 128) (R : Fin 17408) (hR : R.val = 16384 + b.val * 256 + s.val) :
    val_main_v96 (F := Ideal) x0 x1 x2 x7 (ix4 b s h l) = mix x0 x1 x2 x7 R ⟨(h.val) * 128 + l.val, by omega⟩ := by
  rw [val_main_v96_apply, val_main_v93_apply]
  refine (congrArg (val_main_v92 (F := Ideal) x0 x1 x2 x7) (funext fun a => Fin.ext ?_)).trans (mixed_ctx x0 x1 x2 x7 b s ⟨(h.val) * 128 + l.val, by omega⟩ R hR)
  match a with
  | ⟨0, _⟩ => simp only [ix3, ix4]; dsimp; omega
  | ⟨1, _⟩ => simp only [ix3, ix4]; dsimp; omega
  | ⟨2, _⟩ => simp only [ix3, ix4]; dsimp; omega

/-- A head of the queries, normed. -/
theorem unit_q_ctx (b : Fin 4) (s : Fin 256) (h : Fin 16) (l : Fin 128) (R : Fin 17408) (hR : R.val = 16384 + b.val * 256 + s.val) :
    val_main_v109 (F := Ideal) x0 x1 x2 x3 x7 (ix4 b s h l)
      = unit (fun k => mix x0 x1 x2 x7 R ⟨(h.val) * 128 + k.val, by omega⟩) (fun k => x3 (ix1 k)) l := by
  have hc := fun l => cols_q_ctx x0 x1 x2 x7 b s h l R hR
  unfold val_main_v109 val_main_v108 val_main_v107 val_main_v106 val_main_v105 val_main_v104 val_main_v103 val_main_v102 val_main_v101 val_main_v100 val_main_v99 val_main_v98 val_main_v97 unit irh
  generalize val_main_v96 (F := Ideal) x0 x1 x2 x7 = p at hc
  pointwise [hc, val_main_cst_13, val_main_cst_14, val_main_cst_15, Ideal.ofBits_zero_f32, zero_add]

/-- The columns of a head of the keys. -/
theorem cols_k_ctx (b : Fin 4) (s : Fin 256) (h : Fin 4) (l : Fin 128) (R : Fin 17408) (hR : R.val = 16384 + b.val * 256 + s.val) :
    val_main_v110 (F := Ideal) x0 x1 x2 x7 (ix4 b s h l) = mix x0 x1 x2 x7 R ⟨(16 + h.val) * 128 + l.val, by omega⟩ := by
  rw [val_main_v110_apply, val_main_v94_apply]
  refine (congrArg (val_main_v92 (F := Ideal) x0 x1 x2 x7) (funext fun a => Fin.ext ?_)).trans (mixed_ctx x0 x1 x2 x7 b s ⟨(16 + h.val) * 128 + l.val, by omega⟩ R hR)
  match a with
  | ⟨0, _⟩ => simp only [ix3, ix4]; dsimp; omega
  | ⟨1, _⟩ => simp only [ix3, ix4]; dsimp; omega
  | ⟨2, _⟩ => simp only [ix3, ix4]; dsimp; omega

/-- A head of the keys, normed. -/
theorem unit_k_ctx (b : Fin 4) (s : Fin 256) (h : Fin 4) (l : Fin 128) (R : Fin 17408) (hR : R.val = 16384 + b.val * 256 + s.val) :
    val_main_v123 (F := Ideal) x0 x1 x2 x4 x7 (ix4 b s h l)
      = unit (fun k => mix x0 x1 x2 x7 R ⟨(16 + h.val) * 128 + k.val, by omega⟩) (fun k => x4 (ix1 k)) l := by
  have hc := fun l => cols_k_ctx x0 x1 x2 x7 b s h l R hR
  unfold val_main_v123 val_main_v122 val_main_v121 val_main_v120 val_main_v119 val_main_v118 val_main_v117 val_main_v116 val_main_v115 val_main_v114 val_main_v113 val_main_v112 val_main_v111 unit irh
  generalize val_main_v110 (F := Ideal) x0 x1 x2 x7 = p at hc
  pointwise [hc, val_main_cst_16, val_main_cst_17, val_main_cst_18, Ideal.ofBits_zero_f32, zero_add]

/-- The even and the odd lanes of a head of the queries. -/
theorem even_q (b : Fin 4) (s : Fin 4096) (h : Fin 16) (j : Fin 64) :
    val_main_v126 (F := Ideal) x0 x1 x2 x3 x7 (ix4 b s h j) = val_main_v54 (F := Ideal) x0 x1 x2 x3 x7 (ix4 b s h ⟨j.val * 2, by omega⟩) := by
  rw [val_main_v126_apply, val_main_v125_apply, val_main_v124_apply]
  refine congrArg _ (funext fun a => Fin.ext ?_)
  match a with
  | ⟨0, _⟩ => simp only [ix4]; dsimp; omega
  | ⟨1, _⟩ => simp only [ix4]; dsimp; omega
  | ⟨2, _⟩ => simp only [ix4]; dsimp; omega
  | ⟨3, _⟩ => simp only [ix4]; dsimp; omega

/-- The odd lanes. -/
theorem odd_q (b : Fin 4) (s : Fin 4096) (h : Fin 16) (j : Fin 64) :
    val_main_v128 (F := Ideal) x0 x1 x2 x3 x7 (ix4 b s h j) = val_main_v54 (F := Ideal) x0 x1 x2 x3 x7 (ix4 b s h ⟨j.val * 2 + 1, by omega⟩) := by
  rw [val_main_v128_apply, val_main_v127_apply, val_main_v124_apply]
  refine congrArg _ (funext fun a => Fin.ext ?_)
  match a with
  | ⟨0, _⟩ => simp only [ix4]; dsimp; omega
  | ⟨1, _⟩ => simp only [ix4]; dsimp; omega
  | ⟨2, _⟩ => simp only [ix4]; dsimp; omega
  | ⟨3, _⟩ => simp only [ix4]; dsimp; omega

/-- A head of the queries, rotated. -/
theorem rot_q (b : Fin 4) (s : Fin 4096) (h : Fin 16) (l : Fin 128) (R : Fin 17408) (hR : R.val = b.val * 4096 + s.val) :
    val_main_v144 (F := Ideal) x0 x1 x2 x3 x5 x6 x7 (ix4 b s h l) = hd x0 x1 x2 x7 x3 x5 x6 R ⟨h.val, by omega⟩ l := by
  have h0 := fun j => (even_q x0 x1 x2 x3 x7 b s h j).trans (unit_q_lat x0 x1 x2 x3 x7 b s h _ R hR)
  have h1 := fun j => (odd_q x0 x1 x2 x3 x7 b s h j).trans (unit_q_lat x0 x1 x2 x3 x7 b s h _ R hR)
  unfold hd
  rw [turn_lat _ x5 x6 R s (by omega) (by omega) l]
  generalize unit (fun k => mix x0 x1 x2 x7 R ⟨(h.val) * 128 + k.val, by omega⟩) (fun k => x3 (ix1 k)) = u at h0 h1 ⊢
  have hd : val_main_v135 (F := Ideal) x0 x1 x2 x3 x5 x6 x7 (ix4 b s h ⟨l.val / 2, by omega⟩)
      = u ⟨l.val / 2 * 2, by omega⟩ * x5 (ix2 s ⟨l.val / 2, by omega⟩) - u ⟨l.val / 2 * 2 + 1, by omega⟩ * x6 (ix2 s ⟨l.val / 2, by omega⟩) := by
    unfold val_main_v135 val_main_v134 val_main_v133 val_main_v132 val_main_v131 val_main_v130 val_main_v129
    generalize val_main_v126 (F := Ideal) x0 x1 x2 x3 x7 = p at h0
    generalize val_main_v128 (F := Ideal) x0 x1 x2 x3 x7 = q at h1
    pointwise [h0, h1]
  have hs : val_main_v140 (F := Ideal) x0 x1 x2 x3 x5 x6 x7 (ix4 b s h ⟨l.val / 2, by omega⟩)
      = u ⟨l.val / 2 * 2, by omega⟩ * x6 (ix2 s ⟨l.val / 2, by omega⟩) + u ⟨l.val / 2 * 2 + 1, by omega⟩ * x5 (ix2 s ⟨l.val / 2, by omega⟩) := by
    unfold val_main_v140 val_main_v139 val_main_v138 val_main_v137 val_main_v136 val_main_v130 val_main_v129
    generalize val_main_v126 (F := Ideal) x0 x1 x2 x3 x7 = p at h0
    generalize val_main_v128 (F := Ideal) x0 x1 x2 x3 x7 = q at h1
    pointwise [h0, h1]
  have hi : idx_main_v144 (ix4 b s h l) = ix5 b s h ⟨l.val / 2, by omega⟩ ⟨l.val % 2, by omega⟩ := by
    refine funext fun a => Fin.ext ?_
    match a with
    | ⟨0, _⟩ => simp only [ix4, ix5]; dsimp; omega
    | ⟨1, _⟩ => simp only [ix4, ix5]; dsimp; omega
    | ⟨2, _⟩ => simp only [ix4, ix5]; dsimp; omega
    | ⟨3, _⟩ => simp only [ix4, ix5]; dsimp; omega
    | ⟨4, _⟩ => simp only [ix4, ix5]; dsimp; omega
  rw [val_main_v144_apply, hi]
  unfold val_main_v143 val_main_v142 val_main_v141
  generalize val_main_v135 (F := Ideal) x0 x1 x2 x3 x5 x6 x7 = p at hd
  generalize val_main_v140 (F := Ideal) x0 x1 x2 x3 x5 x6 x7 = q at hs
  pointwise [hd, hs]
  by_cases h2 : l.val % 2 = 0
  · rw [dif_pos (by omega), if_pos h2]
  · rw [dif_neg (by omega), if_neg h2]

/-- The queries of every row, before the last rounding. -/
theorem all_q (R : Fin 17408) (n : Fin 2048) : val_main_v147 (F := Ideal) x0 x1 x2 x3 x5 x6 x7 (ix2 R n)
    = hd x0 x1 x2 x7 x3 x5 x6 R ⟨n.val / 128, by omega⟩ ⟨n.val % 128, by omega⟩ := by
  have hl := fun b s h l => rot_q x0 x1 x2 x3 x5 x6 x7 b s h l R
  have hc := fun b s h l => unit_q_ctx x0 x1 x2 x3 x7 b s h l R
  unfold val_main_v147 val_main_v145 val_main_v146
  generalize val_main_v144 (F := Ideal) x0 x1 x2 x3 x5 x6 x7 = p at hl
  generalize val_main_v109 (F := Ideal) x0 x1 x2 x3 x7 = q at hc
  have hR' := R.isLt
  pointwise
  split
  · next h =>
    refine Eq.trans (congrArg p (funext fun a => Fin.ext ?_)) (hl ⟨R.val / 4096, by omega⟩ ⟨R.val % 4096, by omega⟩ ⟨n.val / 128, by omega⟩ ⟨n.val % 128, by omega⟩ (by dsimp only; omega))
    match a with
    | ⟨0, _⟩ => simp only [ix4]; try omega
    | ⟨1, _⟩ => simp only [ix4]; try omega
    | ⟨2, _⟩ => simp only [ix4]; try omega
    | ⟨3, _⟩ => simp only [ix4]; try omega
  · next h =>
    unfold hd
    rw [turn_ctx _ _ _ _ h]
    refine Eq.trans (congrArg q (funext fun a => Fin.ext ?_)) (hc ⟨(R.val - 16384) / 256, by omega⟩ ⟨R.val % 256, by omega⟩ ⟨n.val / 128, by omega⟩ ⟨n.val % 128, by omega⟩ (by dsimp only; omega))
    match a with
    | ⟨0, _⟩ => simp only [ix4]; try omega
    | ⟨1, _⟩ => simp only [ix4]; try omega
    | ⟨2, _⟩ => simp only [ix4]; try omega
    | ⟨3, _⟩ => simp only [ix4]; try omega

/-- The even and the odd lanes of a head of the keys. -/
theorem even_k (b : Fin 4) (s : Fin 4096) (h : Fin 4) (j : Fin 64) :
    val_main_v153 (F := Ideal) x0 x1 x2 x4 x7 (ix4 b s h j) = val_main_v68 (F := Ideal) x0 x1 x2 x4 x7 (ix4 b s h ⟨j.val * 2, by omega⟩) := by
  rw [val_main_v153_apply, val_main_v152_apply, val_main_v151_apply]
  refine congrArg _ (funext fun a => Fin.ext ?_)
  match a with
  | ⟨0, _⟩ => simp only [ix4]; dsimp; omega
  | ⟨1, _⟩ => simp only [ix4]; dsimp; omega
  | ⟨2, _⟩ => simp only [ix4]; dsimp; omega
  | ⟨3, _⟩ => simp only [ix4]; dsimp; omega

/-- The odd lanes. -/
theorem odd_k (b : Fin 4) (s : Fin 4096) (h : Fin 4) (j : Fin 64) :
    val_main_v155 (F := Ideal) x0 x1 x2 x4 x7 (ix4 b s h j) = val_main_v68 (F := Ideal) x0 x1 x2 x4 x7 (ix4 b s h ⟨j.val * 2 + 1, by omega⟩) := by
  rw [val_main_v155_apply, val_main_v154_apply, val_main_v151_apply]
  refine congrArg _ (funext fun a => Fin.ext ?_)
  match a with
  | ⟨0, _⟩ => simp only [ix4]; dsimp; omega
  | ⟨1, _⟩ => simp only [ix4]; dsimp; omega
  | ⟨2, _⟩ => simp only [ix4]; dsimp; omega
  | ⟨3, _⟩ => simp only [ix4]; dsimp; omega

/-- A head of the keys, rotated. -/
theorem rot_k (b : Fin 4) (s : Fin 4096) (h : Fin 4) (l : Fin 128) (R : Fin 17408) (hR : R.val = b.val * 4096 + s.val) :
    val_main_v171 (F := Ideal) x0 x1 x2 x4 x5 x6 x7 (ix4 b s h l) = hd x0 x1 x2 x7 x4 x5 x6 R ⟨16 + h.val, by omega⟩ l := by
  have h0 := fun j => (even_k x0 x1 x2 x4 x7 b s h j).trans (unit_k_lat x0 x1 x2 x4 x7 b s h _ R hR)
  have h1 := fun j => (odd_k x0 x1 x2 x4 x7 b s h j).trans (unit_k_lat x0 x1 x2 x4 x7 b s h _ R hR)
  unfold hd
  rw [turn_lat _ x5 x6 R s (by omega) (by omega) l]
  generalize unit (fun k => mix x0 x1 x2 x7 R ⟨(16 + h.val) * 128 + k.val, by omega⟩) (fun k => x4 (ix1 k)) = u at h0 h1 ⊢
  have hd : val_main_v162 (F := Ideal) x0 x1 x2 x4 x5 x6 x7 (ix4 b s h ⟨l.val / 2, by omega⟩)
      = u ⟨l.val / 2 * 2, by omega⟩ * x5 (ix2 s ⟨l.val / 2, by omega⟩) - u ⟨l.val / 2 * 2 + 1, by omega⟩ * x6 (ix2 s ⟨l.val / 2, by omega⟩) := by
    unfold val_main_v162 val_main_v161 val_main_v160 val_main_v159 val_main_v158 val_main_v157 val_main_v156
    generalize val_main_v153 (F := Ideal) x0 x1 x2 x4 x7 = p at h0
    generalize val_main_v155 (F := Ideal) x0 x1 x2 x4 x7 = q at h1
    pointwise [h0, h1]
  have hs : val_main_v167 (F := Ideal) x0 x1 x2 x4 x5 x6 x7 (ix4 b s h ⟨l.val / 2, by omega⟩)
      = u ⟨l.val / 2 * 2, by omega⟩ * x6 (ix2 s ⟨l.val / 2, by omega⟩) + u ⟨l.val / 2 * 2 + 1, by omega⟩ * x5 (ix2 s ⟨l.val / 2, by omega⟩) := by
    unfold val_main_v167 val_main_v166 val_main_v165 val_main_v164 val_main_v163 val_main_v157 val_main_v156
    generalize val_main_v153 (F := Ideal) x0 x1 x2 x4 x7 = p at h0
    generalize val_main_v155 (F := Ideal) x0 x1 x2 x4 x7 = q at h1
    pointwise [h0, h1]
  have hi : idx_main_v171 (ix4 b s h l) = ix5 b s h ⟨l.val / 2, by omega⟩ ⟨l.val % 2, by omega⟩ := by
    refine funext fun a => Fin.ext ?_
    match a with
    | ⟨0, _⟩ => simp only [ix4, ix5]; dsimp; omega
    | ⟨1, _⟩ => simp only [ix4, ix5]; dsimp; omega
    | ⟨2, _⟩ => simp only [ix4, ix5]; dsimp; omega
    | ⟨3, _⟩ => simp only [ix4, ix5]; dsimp; omega
    | ⟨4, _⟩ => simp only [ix4, ix5]; dsimp; omega
  rw [val_main_v171_apply, hi]
  unfold val_main_v170 val_main_v169 val_main_v168
  generalize val_main_v162 (F := Ideal) x0 x1 x2 x4 x5 x6 x7 = p at hd
  generalize val_main_v167 (F := Ideal) x0 x1 x2 x4 x5 x6 x7 = q at hs
  pointwise [hd, hs]
  by_cases h2 : l.val % 2 = 0
  · rw [dif_pos (by omega), if_pos h2]
  · rw [dif_neg (by omega), if_neg h2]

/-- The keys of every row, before the last rounding. -/
theorem all_k (R : Fin 17408) (n : Fin 512) : val_main_v174 (F := Ideal) x0 x1 x2 x4 x5 x6 x7 (ix2 R n)
    = hd x0 x1 x2 x7 x4 x5 x6 R ⟨16 + n.val / 128, by omega⟩ ⟨n.val % 128, by omega⟩ := by
  have hl := fun b s h l => rot_k x0 x1 x2 x4 x5 x6 x7 b s h l R
  have hc := fun b s h l => unit_k_ctx x0 x1 x2 x4 x7 b s h l R
  unfold val_main_v174 val_main_v172 val_main_v173
  generalize val_main_v171 (F := Ideal) x0 x1 x2 x4 x5 x6 x7 = p at hl
  generalize val_main_v123 (F := Ideal) x0 x1 x2 x4 x7 = q at hc
  have hR' := R.isLt
  pointwise
  split
  · next h =>
    refine Eq.trans (congrArg p (funext fun a => Fin.ext ?_)) (hl ⟨R.val / 4096, by omega⟩ ⟨R.val % 4096, by omega⟩ ⟨n.val / 128, by omega⟩ ⟨n.val % 128, by omega⟩ (by dsimp only; omega))
    match a with
    | ⟨0, _⟩ => simp only [ix4]; try omega
    | ⟨1, _⟩ => simp only [ix4]; try omega
    | ⟨2, _⟩ => simp only [ix4]; try omega
    | ⟨3, _⟩ => simp only [ix4]; try omega
  · next h =>
    unfold hd
    rw [turn_ctx _ _ _ _ h]
    refine Eq.trans (congrArg q (funext fun a => Fin.ext ?_)) (hc ⟨(R.val - 16384) / 256, by omega⟩ ⟨R.val % 256, by omega⟩ ⟨n.val / 128, by omega⟩ ⟨n.val % 128, by omega⟩ (by dsimp only; omega))
    match a with
    | ⟨0, _⟩ => simp only [ix4]; try omega
    | ⟨1, _⟩ => simp only [ix4]; try omega
    | ⟨2, _⟩ => simp only [ix4]; try omega
    | ⟨3, _⟩ => simp only [ix4]; try omega

/-- The values of a latent row. -/
theorem cols_v_lat (b : Fin 4) (s : Fin 4096) (n : Fin 512) (R : Fin 17408) (hR : R.val = b.val * 4096 + s.val) :
    val_main_v40 (F := Ideal) x0 x1 x2 x7 (ix3 b s n) = mix x0 x1 x2 x7 R ⟨2560 + n.val, by omega⟩ := by
  rw [val_main_v40_apply]
  refine (congrArg (val_main_v37 (F := Ideal) x0 x1 x2 x7) (funext fun a => Fin.ext ?_)).trans (mixed_lat x0 x1 x2 x7 b s ⟨2560 + n.val, by omega⟩ R hR)
  match a with
  | ⟨0, _⟩ => simp only [ix3]
  | ⟨1, _⟩ => simp only [ix3]
  | ⟨2, _⟩ => simp only [ix3]

/-- The values of a context row. -/
theorem cols_v_ctx (b : Fin 4) (s : Fin 256) (n : Fin 512) (R : Fin 17408) (hR : R.val = 16384 + b.val * 256 + s.val) :
    val_main_v95 (F := Ideal) x0 x1 x2 x7 (ix3 b s n) = mix x0 x1 x2 x7 R ⟨2560 + n.val, by omega⟩ := by
  rw [val_main_v95_apply]
  refine (congrArg (val_main_v92 (F := Ideal) x0 x1 x2 x7) (funext fun a => Fin.ext ?_)).trans (mixed_ctx x0 x1 x2 x7 b s ⟨2560 + n.val, by omega⟩ R hR)
  match a with
  | ⟨0, _⟩ => simp only [ix3]
  | ⟨1, _⟩ => simp only [ix3]
  | ⟨2, _⟩ => simp only [ix3]

/-- The values of every row, before the last rounding. -/
theorem all_v (R : Fin 17408) (n : Fin 512) : val_main_v178 (F := Ideal) x0 x1 x2 x7 (ix2 R n) = mix x0 x1 x2 x7 R ⟨2560 + n.val, by omega⟩ := by
  have hl := fun b s => cols_v_lat x0 x1 x2 x7 b s n R
  have hc := fun b s => cols_v_ctx x0 x1 x2 x7 b s n R
  unfold val_main_v178 val_main_v177 val_main_v176
  generalize val_main_v40 (F := Ideal) x0 x1 x2 x7 = p at hl
  generalize val_main_v95 (F := Ideal) x0 x1 x2 x7 = q at hc
  generalize hw : mix x0 x1 x2 x7 R ⟨2560 + n.val, by omega⟩ = w
  have hR' := R.isLt
  pointwise
  split
  · next h =>
    refine Eq.trans (congrArg p (funext fun a => Fin.ext ?_)) (hl ⟨R.val / 4096, by omega⟩ ⟨R.val % 4096, by omega⟩ (by dsimp only; omega) |>.trans hw)
    match a with
    | ⟨0, _⟩ => simp only [ix3]; try omega
    | ⟨1, _⟩ => simp only [ix3]; try omega
    | ⟨2, _⟩ => simp only [ix3]; try omega
  · next h =>
    refine Eq.trans (congrArg q (funext fun a => Fin.ext ?_)) (hc ⟨(R.val - 16384) / 256, by omega⟩ ⟨R.val % 256, by omega⟩ (by dsimp only; omega) |>.trans hw)
    match a with
    | ⟨0, _⟩ => simp only [ix3]; try omega
    | ⟨1, _⟩ => simp only [ix3]; try omega
    | ⟨2, _⟩ => simp only [ix3]; try omega

/-- The reference's queries. -/
theorem result_q : val_main_v150 (F := Ideal) x0 x1 x2 x3 x5 x6 x7 = Q x0 x1 x2 x7 x3 x5 x6 := by
  funext i
  obtain ⟨R, e, rfl⟩ : ∃ (R : Fin 17408) (e : Fin 2048), i = ix2 R e := ⟨i 0, i 1, funext fun a => by match a with | ⟨0, _⟩ => rfl | ⟨1, _⟩ => rfl⟩
  have h0 := all_q x0 x1 x2 x3 x5 x6 x7 R e
  unfold val_main_v150 val_main_v149 val_main_v148 Q
  generalize val_main_v147 (F := Ideal) x0 x1 x2 x3 x5 x6 x7 = p at h0
  pointwise [h0, val_main_cst_19]

/-- The reference's keys. -/
theorem result_k : val_main_v175 (F := Ideal) x0 x1 x2 x4 x5 x6 x7 = K x0 x1 x2 x7 x4 x5 x6 := by
  funext i
  obtain ⟨R, e, rfl⟩ : ∃ (R : Fin 17408) (e : Fin 512), i = ix2 R e := ⟨i 0, i 1, funext fun a => by match a with | ⟨0, _⟩ => rfl | ⟨1, _⟩ => rfl⟩
  have h0 := all_k x0 x1 x2 x4 x5 x6 x7 R e
  unfold val_main_v175 K
  generalize val_main_v174 (F := Ideal) x0 x1 x2 x4 x5 x6 x7 = p at h0
  pointwise [h0]

/-- The reference's values. -/
theorem result_v : val_main_v179 (F := Ideal) x0 x1 x2 x7 = U x0 x1 x2 x7 := by
  funext i
  obtain ⟨R, e, rfl⟩ : ∃ (R : Fin 17408) (e : Fin 512), i = ix2 R e := ⟨i 0, i 1, funext fun a => by match a with | ⟨0, _⟩ => rfl | ⟨1, _⟩ => rfl⟩
  have h0 := all_v x0 x1 x2 x7 R e
  unfold val_main_v179 U
  generalize val_main_v178 (F := Ideal) x0 x1 x2 x7 = p at h0
  pointwise [h0]

end Cert.QkvRefIdeal.Val
-- ==== Proof.QkvClaim.lean ====
module
public import proofs.«01_k».proof.Defs
public import proofs.«01_k».proof.Proof.QkvRef
public import proofs.«01_k».proof.Proof.Gen.QkvRefIdeal.Run
@[expose] public section
set_option maxRecDepth 16384
noncomputable section

/-! The kernel of the queries, keys and values and its reference leave equal results. -/

namespace Cert.QkvProof
open Idealize.ShloMosaic Idealize.ShloMosaic.TcCoe Idealize.SL.Sem

/-- From memories with equal arguments, the kernel and the reference run and leave the same three arrays, the normed and rotated queries
    and keys and the values, with the arguments kept. -/
theorem algebraic : Cert.algebraic_QkvIdeal_QkvRefIdeal
    (hQkvIdeal := Cert.QkvIdeal.Gen.facts) (hQkvRefIdeal := Cert.QkvRefIdeal.Gen.facts) := by
  intro m g m' g' _ hm
  refine ⟨fun c => Cert.QkvIdeal.Arr.Q (m ((c : Thread Cert.QkvIdeal.nD Cert.QkvIdeal.τ).loc Cert.QkvIdeal.main_arg0))
      (m ((c : Thread Cert.QkvIdeal.nD Cert.QkvIdeal.τ).loc Cert.QkvIdeal.main_arg1))
      (m ((c : Thread Cert.QkvIdeal.nD Cert.QkvIdeal.τ).loc Cert.QkvIdeal.main_arg2))
      (m ((c : Thread Cert.QkvIdeal.nD Cert.QkvIdeal.τ).loc Cert.QkvIdeal.main_arg7))
      (m ((c : Thread Cert.QkvIdeal.nD Cert.QkvIdeal.τ).loc Cert.QkvIdeal.main_arg3))
      (m ((c : Thread Cert.QkvIdeal.nD Cert.QkvIdeal.τ).loc Cert.QkvIdeal.main_arg5))
      (m ((c : Thread Cert.QkvIdeal.nD Cert.QkvIdeal.τ).loc Cert.QkvIdeal.main_arg6)),
    fun c => Cert.QkvIdeal.Arr.K (m ((c : Thread Cert.QkvIdeal.nD Cert.QkvIdeal.τ).loc Cert.QkvIdeal.main_arg0))
      (m ((c : Thread Cert.QkvIdeal.nD Cert.QkvIdeal.τ).loc Cert.QkvIdeal.main_arg1))
      (m ((c : Thread Cert.QkvIdeal.nD Cert.QkvIdeal.τ).loc Cert.QkvIdeal.main_arg2))
      (m ((c : Thread Cert.QkvIdeal.nD Cert.QkvIdeal.τ).loc Cert.QkvIdeal.main_arg7))
      (m ((c : Thread Cert.QkvIdeal.nD Cert.QkvIdeal.τ).loc Cert.QkvIdeal.main_arg4))
      (m ((c : Thread Cert.QkvIdeal.nD Cert.QkvIdeal.τ).loc Cert.QkvIdeal.main_arg5))
      (m ((c : Thread Cert.QkvIdeal.nD Cert.QkvIdeal.τ).loc Cert.QkvIdeal.main_arg6)),
    fun c => Cert.QkvIdeal.Arr.U (m ((c : Thread Cert.QkvIdeal.nD Cert.QkvIdeal.τ).loc Cert.QkvIdeal.main_arg0))
      (m ((c : Thread Cert.QkvIdeal.nD Cert.QkvIdeal.τ).loc Cert.QkvIdeal.main_arg1))
      (m ((c : Thread Cert.QkvIdeal.nD Cert.QkvIdeal.τ).loc Cert.QkvIdeal.main_arg2))
      (m ((c : Thread Cert.QkvIdeal.nD Cert.QkvIdeal.τ).loc Cert.QkvIdeal.main_arg7)), ?_, ?_⟩
  · exact (θ_run _ _ _).mono (fun r h c => ⟨((h.1 c).1 9).trans (Cert.QkvIdeal.Arr.arr_query m c), ((h.1 c).1 10).trans (Cert.QkvIdeal.Arr.arr_key m c),
        ((h.1 c).1 11).trans (Cert.QkvIdeal.Arr.arr_value m c), h.2 c⟩)
      (θ_run_and (Cert.QkvIdeal.Body.run_main m g) (Cert.QkvIdeal.Gen.frame_of m g (Cert.QkvIdeal.Body.dats m) (Cert.QkvIdeal.Body.A_eq m) (Cert.QkvIdeal.Body.run_main m g)))
  · refine (θ_run _ _ _).mono (fun r h c => ⟨(h c).1.trans ?_, (h c).2.1.trans ?_, (h c).2.2.1.trans ?_, (h c).2.2.2⟩) (Cert.QkvRefIdeal.Value.run m' g')
    · obtain ⟨e0, e1, e2, e3, e4, e5, e6, e7⟩ := hm c
      rw [Cert.QkvRefIdeal.Read.val_main_v150_eq, Cert.QkvRefIdeal.Val.result_q]
      exact congr (congr (congr (congr (congr (congr (congrArg Cert.QkvIdeal.Arr.Q e0) e1) e2) e7) e3) e5) e6
    · obtain ⟨e0, e1, e2, e3, e4, e5, e6, e7⟩ := hm c
      rw [Cert.QkvRefIdeal.Read.val_main_v175_eq, Cert.QkvRefIdeal.Val.result_k]
      exact congr (congr (congr (congr (congr (congr (congrArg Cert.QkvIdeal.Arr.K e0) e1) e2) e7) e4) e5) e6
    · obtain ⟨e0, e1, e2, e3, e4, e5, e6, e7⟩ := hm c
      rw [Cert.QkvRefIdeal.Read.val_main_v179_eq, Cert.QkvRefIdeal.Val.result_v]
      exact congr (congr (congr (congrArg Cert.QkvIdeal.Arr.U e0) e1) e2) e7

end Cert.QkvProof
-- ==== Proof.lean ====
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.Gen.FfnAll.Frame
public import proofs.«01_k».proof.Proof.Gen.FfnAllIdeal.Frame
public import proofs.«01_k».proof.Proof.Gen.FfnAllRefIdeal.Run
public import proofs.«01_k».proof.Proof.Gen.FfnAllRefIdeal.Read
public import proofs.«01_k».proof.Proof.Gen.AttnOut.Frame
public import proofs.«01_k».proof.Proof.Gen.AttnOutIdeal.Frame
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.Gen.Inproj.Frame
public import proofs.«01_k».proof.Proof.Gen.InprojIdeal.Frame
public import proofs.«01_k».proof.Proof.Gen.InprojRefIdeal.Run
public import proofs.«01_k».proof.Proof.Gen.InprojRefIdeal.Read
public import proofs.«01_k».proof.Proof.Gen.MlstmOut.Frame
public import proofs.«01_k».proof.Proof.Gen.MlstmOutIdeal.Frame
public import proofs.«01_k».proof.Proof.Gen.MlstmOutRefIdeal.Run
public import proofs.«01_k».proof.Proof.Gen.MlstmOutRefIdeal.Read
public import proofs.«01_k».proof.Proof.Gen.Qkv.Frame
public import proofs.«01_k».proof.Proof.Gen.QkvIdeal.Frame
public import proofs.«01_k».proof.Proof.Gen.QkvRefIdeal.Run
public import proofs.«01_k».proof.Proof.Gen.QkvRefIdeal.Read
public import proofs.«01_k».proof.Proof.AttnClaim
public import proofs.«01_k».proof.Proof.FfnClaim
public import proofs.«01_k».proof.Proof.FfnAllClaim
public import proofs.«01_k».proof.Proof.AttnOutClaim
public import proofs.«01_k».proof.Proof.InprojClaim
public import proofs.«01_k».proof.Proof.MlstmOutClaim
public import proofs.«01_k».proof.Proof.QkvClaim
public import proofs.«01_k».proof.Proof.InprojBody
public import proofs.«01_k».proof.Proof.InprojIdealBody
public import proofs.«01_k».proof.Proof.QkvBody
public import proofs.«01_k».proof.Proof.QkvIdealBody
public import Idealize.ShloMosaic.Adequacy
public import Idealize.ShloMosaic.Init
public import Idealize.ShloMosaic.Lib.Quiescent

@[expose] public section

noncomputable section

namespace Cert.Proof

open Idealize.ShloMosaic Idealize.SL.Sem

/-- The attention reference runs and keeps its arguments; it declares no semaphore. -/
theorem frame_Attn_ref : Cert.quiescent_AttnRefIdeal (hAttnRefIdeal := Cert.AttnRefIdeal.Gen.facts) := fun m ρ _ =>
  (θ_run (Cert.AttnRefIdeal.defs (F := Ideal)) _ _).mono
    (fun r h => ⟨fun c => (h c).2, sem_eq_zero_of_no_sems (by decide) r.2⟩)
    (Cert.AttnRefIdeal.Value.run (F := Ideal) m ρ)

/-- The feed-forward reference runs and keeps its arguments; it declares no semaphore. -/
theorem frame_Ffn_ref : Cert.quiescent_FfnRefIdeal (hFfnRefIdeal := Cert.FfnRefIdeal.Gen.facts) := fun m ρ _ =>
  (θ_run (Cert.FfnRefIdeal.defs (F := Ideal)) _ _).mono
    (fun r h => ⟨fun c => (h c).2, sem_eq_zero_of_no_sems (by decide) r.2⟩)
    (Cert.FfnRefIdeal.Value.run (F := Ideal) m ρ)

/-- The first layer's feed-forward reference runs and keeps its arguments; it declares no semaphore. -/
theorem frame_FfnAll_ref : Cert.quiescent_FfnAllRefIdeal (hFfnAllRefIdeal := Cert.FfnAllRefIdeal.Gen.facts) := fun m ρ _ =>
  (θ_run (Cert.FfnAllRefIdeal.defs (F := Ideal)) _ _).mono
    (fun r h => ⟨fun c => (h c).2, sem_eq_zero_of_no_sems (by decide) r.2⟩)
    (Cert.FfnAllRefIdeal.Value.run (F := Ideal) m ρ)

/-- The attention output's reference runs and keeps its arguments; it declares no semaphore. -/
theorem frame_AttnOut_ref : Cert.quiescent_AttnOutRefIdeal (hAttnOutRefIdeal := Cert.AttnOutRefIdeal.Gen.facts) := fun m ρ _ =>
  (θ_run (Cert.AttnOutRefIdeal.defs (F := Ideal)) _ _).mono
    (fun r h => ⟨fun c => (h c).2, sem_eq_zero_of_no_sems (by decide) r.2⟩)
    (Cert.AttnOutRefIdeal.Value.run (F := Ideal) m ρ)

/-- The input projection's reference runs and keeps its arguments; it declares no semaphore. -/
theorem frame_Inproj_ref : Cert.quiescent_InprojRefIdeal (hInprojRefIdeal := Cert.InprojRefIdeal.Gen.facts) := fun m ρ _ =>
  (θ_run (Cert.InprojRefIdeal.defs (F := Ideal)) _ _).mono
    (fun r h => ⟨fun c => (h c).2.2, sem_eq_zero_of_no_sems (by decide) r.2⟩)
    (Cert.InprojRefIdeal.Value.run (F := Ideal) m ρ)

/-- The matrix memory output's reference runs and keeps its arguments; it declares no semaphore. -/
theorem frame_MlstmOut_ref : Cert.quiescent_MlstmOutRefIdeal (hMlstmOutRefIdeal := Cert.MlstmOutRefIdeal.Gen.facts) := fun m ρ _ =>
  (θ_run (Cert.MlstmOutRefIdeal.defs (F := Ideal)) _ _).mono
    (fun r h => ⟨fun c => (h c).2, sem_eq_zero_of_no_sems (by decide) r.2⟩)
    (Cert.MlstmOutRefIdeal.Value.run (F := Ideal) m ρ)

/-- The queries', keys' and values' reference runs and keeps its arguments; it declares no semaphore. -/
theorem frame_Qkv_ref : Cert.quiescent_QkvRefIdeal (hQkvRefIdeal := Cert.QkvRefIdeal.Gen.facts) := fun m ρ _ =>
  (θ_run (Cert.QkvRefIdeal.defs (F := Ideal)) _ _).mono
    (fun r h => ⟨fun c => (h c).2.2.2, sem_eq_zero_of_no_sems (by decide) r.2⟩)
    (Cert.QkvRefIdeal.Value.run (F := Ideal) m ρ)

theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.FfnAll.Gen.facts, Cert.FfnAllIdeal.Gen.facts, Cert.FfnAllRefIdeal.Gen.facts,
    Cert.AttnOut.Gen.facts, Cert.AttnOutIdeal.Gen.facts, Cert.AttnOutRefIdeal.Gen.facts,
    Cert.Inproj.Gen.facts, Cert.InprojIdeal.Gen.facts, Cert.InprojRefIdeal.Gen.facts,
    Cert.MlstmOut.Gen.facts, Cert.MlstmOutIdeal.Gen.facts, Cert.MlstmOutRefIdeal.Gen.facts,
    Cert.Qkv.Gen.facts, Cert.QkvIdeal.Gen.facts, Cert.QkvRefIdeal.Gen.facts,
    Cert.AttnProof.preFacts,
    fun m ρ _ => Cert.Attn.Gen.frame m ρ,
    fun m ρ _ => Cert.AttnIdeal.Gen.frame m ρ,
    fun m ρ _ => Cert.AttnIdeal.Gen.frame m ρ,
    frame_Attn_ref,
    fun m ρ _ => frame_Attn_ref m ρ trivial,
    fun m ρ _ => Cert.Ffn.Gen.frame m ρ,
    fun m ρ _ => Cert.FfnIdeal.Gen.frame m ρ,
    frame_Ffn_ref,
    fun m ρ _ => Cert.FfnAll.Gen.frame m ρ,
    fun m ρ _ => Cert.FfnAllIdeal.Gen.frame m ρ,
    frame_FfnAll_ref,
    fun m ρ _ => Cert.AttnOut.Gen.frame m ρ,
    fun m ρ _ => Cert.AttnOutIdeal.Gen.frame m ρ,
    frame_AttnOut_ref,
    fun m ρ _ => Cert.Inproj.Body.frame m ρ,
    fun m ρ _ => Cert.InprojIdeal.Body.frame m ρ,
    frame_Inproj_ref,
    fun m ρ _ => Cert.MlstmOut.Gen.frame m ρ,
    fun m ρ _ => Cert.MlstmOutIdeal.Gen.frame m ρ,
    frame_MlstmOut_ref,
    fun m ρ _ => Cert.Qkv.Body.frame m ρ,
    fun m ρ _ => Cert.QkvIdeal.Body.frame m ρ,
    frame_Qkv_ref,
    trivial,
    Cert.AttnProof.algebraic,
    trivial,
    Cert.FfnProof.algebraic,
    trivial,
    Cert.FfnAllProof.algebraic,
    trivial,
    Cert.AttnOutProof.algebraic,
    trivial,
    Cert.InprojProof.algebraic,
    trivial,
    Cert.MlstmOutProof.algebraic,
    trivial,
    Cert.QkvProof.algebraic⟩

end Cert.Proof

end
